-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).2.2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).2.2.2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).2.2.2.2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).2.2.2.2.2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10)) (m ((c.tc : Thread Cert.InIdeal.nD Cert.InIdeal.τ).loc Cert.InIdeal.main_arg11))).2.2.2.2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).2.2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).2.2.2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).2.2.2.2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).2.2.2.2.2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11))).2.2.2.2.2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_finite [hPre_out_finite : Cert.Pre_out_finite.Facts] (m : (ℓ : Loc Cert.OutIdeal.nD Cert.OutIdeal.τ Cert.OutIdeal.sig) → Buf (Elt Ideal) ℓ) : Prop :=
  ∀ c : Dev Cert.OutIdeal.nD,
    (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).2.2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).2.2.2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).2.2.2.2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).2.2.2.2.2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).2.2.2.2.2.2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))).2.2.2.2.2.2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).2.2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).2.2.2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).2.2.2.2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).2.2.2.2.2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))).2.2.2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))).2.2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))).2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))).2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))).2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))) = (fun _ => 1#1)

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2 = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10)
      ∧ r.2.mem ((c.tc : Thread Cert.In.nD Cert.In.τ).loc Cert.In.main_arg11) = m ((c.tc : Thread Cert.In.nD Cert.In.τ).loc Cert.In.main_arg11))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutIdeal_pre_out_finite [hOutIdeal : Cert.OutIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5)
      ∧ r.2.mem ((c.tc : Thread Cert.MlpFwd.nD Cert.MlpFwd.τ).loc Cert.MlpFwd.main_arg6) = m ((c.tc : Thread Cert.MlpFwd.nD Cert.MlpFwd.τ).loc Cert.MlpFwd.main_arg6)
      ∧ r.2.mem ((c.tc : Thread Cert.MlpFwd.nD Cert.MlpFwd.τ).loc Cert.MlpFwd.main_arg7) = m ((c.tc : Thread Cert.MlpFwd.nD Cert.MlpFwd.τ).loc Cert.MlpFwd.main_arg7))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
      ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6)
      ∧ r.2.mem ((c.tc : Thread Cert.MlpFwdRefIdeal.nD Cert.MlpFwdRefIdeal.τ).loc Cert.MlpFwdRefIdeal.main_arg7) = m ((c.tc : Thread Cert.MlpFwdRefIdeal.nD Cert.MlpFwdRefIdeal.τ).loc Cert.MlpFwdRefIdeal.main_arg7))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6)
      ∧ r.2.mem ((c.tc : Thread Cert.OutFwd.nD Cert.OutFwd.τ).loc Cert.OutFwd.main_arg7) = m ((c.tc : Thread Cert.OutFwd.nD Cert.OutFwd.τ).loc Cert.OutFwd.main_arg7)
      ∧ r.2.mem ((c.tc : Thread Cert.OutFwd.nD Cert.OutFwd.τ).loc Cert.OutFwd.main_arg8) = m ((c.tc : Thread Cert.OutFwd.nD Cert.OutFwd.τ).loc Cert.OutFwd.main_arg8)
      ∧ r.2.mem ((c.tc : Thread Cert.OutFwd.nD Cert.OutFwd.τ).loc Cert.OutFwd.main_arg9) = m ((c.tc : Thread Cert.OutFwd.nD Cert.OutFwd.τ).loc Cert.OutFwd.main_arg9)
      ∧ r.2.mem ((c.tc : Thread Cert.OutFwd.nD Cert.OutFwd.τ).loc Cert.OutFwd.main_arg10) = m ((c.tc : Thread Cert.OutFwd.nD Cert.OutFwd.τ).loc Cert.OutFwd.main_arg10)
      ∧ r.2.mem ((c.tc : Thread Cert.OutFwd.nD Cert.OutFwd.τ).loc Cert.OutFwd.main_arg11) = m ((c.tc : Thread Cert.OutFwd.nD Cert.OutFwd.τ).loc Cert.OutFwd.main_arg11)
      ∧ r.2.mem ((c.tc : Thread Cert.OutFwd.nD Cert.OutFwd.τ).loc Cert.OutFwd.main_arg12) = m ((c.tc : Thread Cert.OutFwd.nD Cert.OutFwd.τ).loc Cert.OutFwd.main_arg12))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
      ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7)
      ∧ r.2.mem ((c.tc : Thread Cert.OutFwdIdeal.nD Cert.OutFwdIdeal.τ).loc Cert.OutFwdIdeal.main_arg8) = m ((c.tc : Thread Cert.OutFwdIdeal.nD Cert.OutFwdIdeal.τ).loc Cert.OutFwdIdeal.main_arg8)
      ∧ r.2.mem ((c.tc : Thread Cert.OutFwdIdeal.nD Cert.OutFwdIdeal.τ).loc Cert.OutFwdIdeal.main_arg9) = m ((c.tc : Thread Cert.OutFwdIdeal.nD Cert.OutFwdIdeal.τ).loc Cert.OutFwdIdeal.main_arg9)
      ∧ r.2.mem ((c.tc : Thread Cert.OutFwdIdeal.nD Cert.OutFwdIdeal.τ).loc Cert.OutFwdIdeal.main_arg10) = m ((c.tc : Thread Cert.OutFwdIdeal.nD Cert.OutFwdIdeal.τ).loc Cert.OutFwdIdeal.main_arg10)
      ∧ r.2.mem ((c.tc : Thread Cert.OutFwdIdeal.nD Cert.OutFwdIdeal.τ).loc Cert.OutFwdIdeal.main_arg11) = m ((c.tc : Thread Cert.OutFwdIdeal.nD Cert.OutFwdIdeal.τ).loc Cert.OutFwdIdeal.main_arg11)
      ∧ r.2.mem ((c.tc : Thread Cert.OutFwdIdeal.nD Cert.OutFwdIdeal.τ).loc Cert.OutFwdIdeal.main_arg12) = m ((c.tc : Thread Cert.OutFwdIdeal.nD Cert.OutFwdIdeal.τ).loc Cert.OutFwdIdeal.main_arg12))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5)
      ∧ r.2.mem ((c.tc : Thread Cert.OutFwdRefIdeal.nD Cert.OutFwdRefIdeal.τ).loc Cert.OutFwdRefIdeal.main_arg6) = m ((c.tc : Thread Cert.OutFwdRefIdeal.nD Cert.OutFwdRefIdeal.τ).loc Cert.OutFwdRefIdeal.main_arg6)
      ∧ r.2.mem ((c.tc : Thread Cert.OutFwdRefIdeal.nD Cert.OutFwdRefIdeal.τ).loc Cert.OutFwdRefIdeal.main_arg7) = m ((c.tc : Thread Cert.OutFwdRefIdeal.nD Cert.OutFwdRefIdeal.τ).loc Cert.OutFwdRefIdeal.main_arg7)
      ∧ r.2.mem ((c.tc : Thread Cert.OutFwdRefIdeal.nD Cert.OutFwdRefIdeal.τ).loc Cert.OutFwdRefIdeal.main_arg8) = m ((c.tc : Thread Cert.OutFwdRefIdeal.nD Cert.OutFwdRefIdeal.τ).loc Cert.OutFwdRefIdeal.main_arg8)
      ∧ r.2.mem ((c.tc : Thread Cert.OutFwdRefIdeal.nD Cert.OutFwdRefIdeal.τ).loc Cert.OutFwdRefIdeal.main_arg9) = m ((c.tc : Thread Cert.OutFwdRefIdeal.nD Cert.OutFwdRefIdeal.τ).loc Cert.OutFwdRefIdeal.main_arg9)
      ∧ r.2.mem ((c.tc : Thread Cert.OutFwdRefIdeal.nD Cert.OutFwdRefIdeal.τ).loc Cert.OutFwdRefIdeal.main_arg10) = m ((c.tc : Thread Cert.OutFwdRefIdeal.nD Cert.OutFwdRefIdeal.τ).loc Cert.OutFwdRefIdeal.main_arg10)
      ∧ r.2.mem ((c.tc : Thread Cert.OutFwdRefIdeal.nD Cert.OutFwdRefIdeal.τ).loc Cert.OutFwdRefIdeal.main_arg11) = m ((c.tc : Thread Cert.OutFwdRefIdeal.nD Cert.OutFwdRefIdeal.τ).loc Cert.OutFwdRefIdeal.main_arg11)
      ∧ r.2.mem ((c.tc : Thread Cert.OutFwdRefIdeal.nD Cert.OutFwdRefIdeal.τ).loc Cert.OutFwdRefIdeal.main_arg12) = m ((c.tc : Thread Cert.OutFwdRefIdeal.nD Cert.OutFwdRefIdeal.τ).loc Cert.OutFwdRefIdeal.main_arg12))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4)
      ∧ r.2.mem ((c.tc : Thread Cert.InFwd.nD Cert.InFwd.τ).loc Cert.InFwd.main_arg5) = m ((c.tc : Thread Cert.InFwd.nD Cert.InFwd.τ).loc Cert.InFwd.main_arg5)
      ∧ r.2.mem ((c.tc : Thread Cert.InFwd.nD Cert.InFwd.τ).loc Cert.InFwd.main_arg6) = m ((c.tc : Thread Cert.InFwd.nD Cert.InFwd.τ).loc Cert.InFwd.main_arg6))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4)
      ∧ r.2.mem ((c.tc : Thread Cert.InFwdIdeal.nD Cert.InFwdIdeal.τ).loc Cert.InFwdIdeal.main_arg5) = m ((c.tc : Thread Cert.InFwdIdeal.nD Cert.InFwdIdeal.τ).loc Cert.InFwdIdeal.main_arg5)
      ∧ r.2.mem ((c.tc : Thread Cert.InFwdIdeal.nD Cert.InFwdIdeal.τ).loc Cert.InFwdIdeal.main_arg6) = m ((c.tc : Thread Cert.InFwdIdeal.nD Cert.InFwdIdeal.τ).loc Cert.InFwdIdeal.main_arg6))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4)
      ∧ r.2.mem ((c.tc : Thread Cert.InFwdRefIdeal.nD Cert.InFwdRefIdeal.τ).loc Cert.InFwdRefIdeal.main_arg5) = m ((c.tc : Thread Cert.InFwdRefIdeal.nD Cert.InFwdRefIdeal.τ).loc Cert.InFwdRefIdeal.main_arg5)
      ∧ r.2.mem ((c.tc : Thread Cert.InFwdRefIdeal.nD Cert.InFwdRefIdeal.τ).loc Cert.InFwdRefIdeal.main_arg6) = m ((c.tc : Thread Cert.InFwdRefIdeal.nD Cert.InFwdRefIdeal.τ).loc Cert.InFwdRefIdeal.main_arg6))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)
      ∧ m' ((c.tc : Thread Cert.InRefIdeal.nD Cert.InRefIdeal.τ).loc Cert.InRefIdeal.main_arg11) = m ((c.tc : Thread Cert.InIdeal.nD Cert.InIdeal.τ).loc Cert.InIdeal.main_arg11)) →
    ∃ (v0 : (c : Dev Cert.InIdeal.nD) → Buf (Elt Ideal) ((c.tc : Thread Cert.InIdeal.nD Cert.InIdeal.τ).loc Cert.InIdeal.main_v12_0)) (v1 : (c : Dev Cert.InIdeal.nD) → Buf (Elt Ideal) ((c.tc : Thread Cert.InIdeal.nD Cert.InIdeal.τ).loc Cert.InIdeal.main_v12_1)) (v2 : (c : Dev Cert.InIdeal.nD) → Buf (Elt Ideal) ((c.tc : Thread Cert.InIdeal.nD Cert.InIdeal.τ).loc Cert.InIdeal.main_v14)) (v3 : (c : Dev Cert.InIdeal.nD) → Buf (Elt Ideal) ((c.tc : Thread Cert.InIdeal.nD Cert.InIdeal.τ).loc Cert.InIdeal.main_v16)) (v4 : (c : Dev Cert.InIdeal.nD) → Buf (Elt Ideal) ((c.tc : Thread Cert.InIdeal.nD Cert.InIdeal.τ).loc Cert.InIdeal.main_v18)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v12_0) = v0 c
          ∧ r.2.mem ((c.tc : Thread Cert.InIdeal.nD Cert.InIdeal.τ).loc Cert.InIdeal.main_v12_1) = v1 c
          ∧ r.2.mem ((c.tc : Thread Cert.InIdeal.nD Cert.InIdeal.τ).loc Cert.InIdeal.main_v14) = v2 c
          ∧ r.2.mem ((c.tc : Thread Cert.InIdeal.nD Cert.InIdeal.τ).loc Cert.InIdeal.main_v16) = v3 c
          ∧ r.2.mem ((c.tc : Thread Cert.InIdeal.nD Cert.InIdeal.τ).loc Cert.InIdeal.main_v18) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10)
          ∧ r.2.mem ((c.tc : Thread Cert.InIdeal.nD Cert.InIdeal.τ).loc Cert.InIdeal.main_arg11) = m ((c.tc : Thread Cert.InIdeal.nD Cert.InIdeal.τ).loc Cert.InIdeal.main_arg11))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v70) = v0 c
          ∧ r.2.mem ((c.tc : Thread Cert.InRefIdeal.nD Cert.InRefIdeal.τ).loc Cert.InRefIdeal.main_v72) = v1 c
          ∧ r.2.mem ((c.tc : Thread Cert.InRefIdeal.nD Cert.InRefIdeal.τ).loc Cert.InRefIdeal.main_v43) = v2 c
          ∧ r.2.mem ((c.tc : Thread Cert.InRefIdeal.nD Cert.InRefIdeal.τ).loc Cert.InRefIdeal.main_v49) = v3 c
          ∧ r.2.mem ((c.tc : Thread Cert.InRefIdeal.nD Cert.InRefIdeal.τ).loc Cert.InRefIdeal.main_v55) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11))

def preserves_Out_OutIdeal : Prop :=
  True

def algebraic_OutIdeal_OutRefIdeal_pre_out_finite [hOutIdeal : Cert.OutIdeal.Facts] [hOutRefIdeal : Cert.OutRefIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v16_0)) (v1 : (c : Dev Cert.OutIdeal.nD) → Buf (Elt Ideal) ((c.tc : Thread Cert.OutIdeal.nD Cert.OutIdeal.τ).loc Cert.OutIdeal.main_v18)) (v2 : (c : Dev Cert.OutIdeal.nD) → Buf (Elt Ideal) ((c.tc : Thread Cert.OutIdeal.nD Cert.OutIdeal.τ).loc Cert.OutIdeal.main_v16_2)) (v3 : (c : Dev Cert.OutIdeal.nD) → Buf (Elt Ideal) ((c.tc : Thread Cert.OutIdeal.nD Cert.OutIdeal.τ).loc Cert.OutIdeal.main_v16_3)) (v4 : (c : Dev Cert.OutIdeal.nD) → Buf (Elt Ideal) ((c.tc : Thread Cert.OutIdeal.nD Cert.OutIdeal.τ).loc Cert.OutIdeal.main_v20)) (v5 : (c : Dev Cert.OutIdeal.nD) → Buf (Elt Ideal) ((c.tc : Thread Cert.OutIdeal.nD Cert.OutIdeal.τ).loc Cert.OutIdeal.main_v22)) (v6 : (c : Dev Cert.OutIdeal.nD) → Buf (Elt Ideal) ((c.tc : Thread Cert.OutIdeal.nD Cert.OutIdeal.τ).loc Cert.OutIdeal.main_v24)) (v7 : (c : Dev Cert.OutIdeal.nD) → Buf (Elt Ideal) ((c.tc : Thread Cert.OutIdeal.nD Cert.OutIdeal.τ).loc Cert.OutIdeal.main_v26)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v16_0) = v0 c
          ∧ r.2.mem ((c.tc : Thread Cert.OutIdeal.nD Cert.OutIdeal.τ).loc Cert.OutIdeal.main_v18) = v1 c
          ∧ r.2.mem ((c.tc : Thread Cert.OutIdeal.nD Cert.OutIdeal.τ).loc Cert.OutIdeal.main_v16_2) = v2 c
          ∧ r.2.mem ((c.tc : Thread Cert.OutIdeal.nD Cert.OutIdeal.τ).loc Cert.OutIdeal.main_v16_3) = v3 c
          ∧ r.2.mem ((c.tc : Thread Cert.OutIdeal.nD Cert.OutIdeal.τ).loc Cert.OutIdeal.main_v20) = v4 c
          ∧ r.2.mem ((c.tc : Thread Cert.OutIdeal.nD Cert.OutIdeal.τ).loc Cert.OutIdeal.main_v22) = v5 c
          ∧ r.2.mem ((c.tc : Thread Cert.OutIdeal.nD Cert.OutIdeal.τ).loc Cert.OutIdeal.main_v24) = v6 c
          ∧ r.2.mem ((c.tc : Thread Cert.OutIdeal.nD Cert.OutIdeal.τ).loc Cert.OutIdeal.main_v26) = v7 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v135) = v0 c
          ∧ r.2.mem ((c.tc : Thread Cert.OutRefIdeal.nD Cert.OutRefIdeal.τ).loc Cert.OutRefIdeal.main_v115) = v1 c
          ∧ r.2.mem ((c.tc : Thread Cert.OutRefIdeal.nD Cert.OutRefIdeal.τ).loc Cert.OutRefIdeal.main_v136) = v2 c
          ∧ r.2.mem ((c.tc : Thread Cert.OutRefIdeal.nD Cert.OutRefIdeal.τ).loc Cert.OutRefIdeal.main_v137) = v3 c
          ∧ r.2.mem ((c.tc : Thread Cert.OutRefIdeal.nD Cert.OutRefIdeal.τ).loc Cert.OutRefIdeal.main_v72) = v4 c
          ∧ r.2.mem ((c.tc : Thread Cert.OutRefIdeal.nD Cert.OutRefIdeal.τ).loc Cert.OutRefIdeal.main_v78) = v5 c
          ∧ r.2.mem ((c.tc : Thread Cert.OutRefIdeal.nD Cert.OutRefIdeal.τ).loc Cert.OutRefIdeal.main_v121) = v6 c
          ∧ r.2.mem ((c.tc : Thread Cert.OutRefIdeal.nD Cert.OutRefIdeal.τ).loc Cert.OutRefIdeal.main_v101) = v7 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v46_0)) (v1 : (c : Dev Cert.MlpIdeal.nD) → Buf (Elt Ideal) ((c.tc : Thread Cert.MlpIdeal.nD Cert.MlpIdeal.τ).loc Cert.MlpIdeal.main_v46_1)) (v2 : (c : Dev Cert.MlpIdeal.nD) → Buf (Elt Ideal) ((c.tc : Thread Cert.MlpIdeal.nD Cert.MlpIdeal.τ).loc Cert.MlpIdeal.main_v46_2)) (v3 : (c : Dev Cert.MlpIdeal.nD) → Buf (Elt Ideal) ((c.tc : Thread Cert.MlpIdeal.nD Cert.MlpIdeal.τ).loc Cert.MlpIdeal.main_v46_3)) (v4 : (c : Dev Cert.MlpIdeal.nD) → Buf (Elt Ideal) ((c.tc : Thread Cert.MlpIdeal.nD Cert.MlpIdeal.τ).loc Cert.MlpIdeal.main_v48)) (v5 : (c : Dev Cert.MlpIdeal.nD) → Buf (Elt Ideal) ((c.tc : Thread Cert.MlpIdeal.nD Cert.MlpIdeal.τ).loc Cert.MlpIdeal.main_v50)) (v6 : (c : Dev Cert.MlpIdeal.nD) → Buf (Elt Ideal) ((c.tc : Thread Cert.MlpIdeal.nD Cert.MlpIdeal.τ).loc Cert.MlpIdeal.main_v52)) (v7 : (c : Dev Cert.MlpIdeal.nD) → Buf (Elt Ideal) ((c.tc : Thread Cert.MlpIdeal.nD Cert.MlpIdeal.τ).loc Cert.MlpIdeal.main_v54)) (v8 : (c : Dev Cert.MlpIdeal.nD) → Buf (Elt Ideal) ((c.tc : Thread Cert.MlpIdeal.nD Cert.MlpIdeal.τ).loc Cert.MlpIdeal.main_v56)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v46_0) = v0 c
          ∧ r.2.mem ((c.tc : Thread Cert.MlpIdeal.nD Cert.MlpIdeal.τ).loc Cert.MlpIdeal.main_v46_1) = v1 c
          ∧ r.2.mem ((c.tc : Thread Cert.MlpIdeal.nD Cert.MlpIdeal.τ).loc Cert.MlpIdeal.main_v46_2) = v2 c
          ∧ r.2.mem ((c.tc : Thread Cert.MlpIdeal.nD Cert.MlpIdeal.τ).loc Cert.MlpIdeal.main_v46_3) = v3 c
          ∧ r.2.mem ((c.tc : Thread Cert.MlpIdeal.nD Cert.MlpIdeal.τ).loc Cert.MlpIdeal.main_v48) = v4 c
          ∧ r.2.mem ((c.tc : Thread Cert.MlpIdeal.nD Cert.MlpIdeal.τ).loc Cert.MlpIdeal.main_v50) = v5 c
          ∧ r.2.mem ((c.tc : Thread Cert.MlpIdeal.nD Cert.MlpIdeal.τ).loc Cert.MlpIdeal.main_v52) = v6 c
          ∧ r.2.mem ((c.tc : Thread Cert.MlpIdeal.nD Cert.MlpIdeal.τ).loc Cert.MlpIdeal.main_v54) = v7 c
          ∧ r.2.mem ((c.tc : Thread Cert.MlpIdeal.nD Cert.MlpIdeal.τ).loc Cert.MlpIdeal.main_v56) = v8 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v126) = v0 c
          ∧ r.2.mem ((c.tc : Thread Cert.MlpRefIdeal.nD Cert.MlpRefIdeal.τ).loc Cert.MlpRefIdeal.main_v127) = v1 c
          ∧ r.2.mem ((c.tc : Thread Cert.MlpRefIdeal.nD Cert.MlpRefIdeal.τ).loc Cert.MlpRefIdeal.main_v128) = v2 c
          ∧ r.2.mem ((c.tc : Thread Cert.MlpRefIdeal.nD Cert.MlpRefIdeal.τ).loc Cert.MlpRefIdeal.main_v129) = v3 c
          ∧ r.2.mem ((c.tc : Thread Cert.MlpRefIdeal.nD Cert.MlpRefIdeal.τ).loc Cert.MlpRefIdeal.main_v99) = v4 c
          ∧ r.2.mem ((c.tc : Thread Cert.MlpRefIdeal.nD Cert.MlpRefIdeal.τ).loc Cert.MlpRefIdeal.main_v105) = v5 c
          ∧ r.2.mem ((c.tc : Thread Cert.MlpRefIdeal.nD Cert.MlpRefIdeal.τ).loc Cert.MlpRefIdeal.main_v71) = v6 c
          ∧ r.2.mem ((c.tc : Thread Cert.MlpRefIdeal.nD Cert.MlpRefIdeal.τ).loc Cert.MlpRefIdeal.main_v111) = v7 c
          ∧ r.2.mem ((c.tc : Thread Cert.MlpRefIdeal.nD Cert.MlpRefIdeal.τ).loc Cert.MlpRefIdeal.main_v77) = v8 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v3_0)) (v1 : (c : Dev Cert.AttnIdeal.nD) → Buf (Elt Ideal) ((c.tc : Thread Cert.AttnIdeal.nD Cert.AttnIdeal.τ).loc Cert.AttnIdeal.main_v3_1)) (v2 : (c : Dev Cert.AttnIdeal.nD) → Buf (Elt Ideal) ((c.tc : Thread Cert.AttnIdeal.nD Cert.AttnIdeal.τ).loc Cert.AttnIdeal.main_v6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3_0) = v0 c
          ∧ r.2.mem ((c.tc : Thread Cert.AttnIdeal.nD Cert.AttnIdeal.τ).loc Cert.AttnIdeal.main_v3_1) = v1 c
          ∧ r.2.mem ((c.tc : Thread Cert.AttnIdeal.nD Cert.AttnIdeal.τ).loc Cert.AttnIdeal.main_v6) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v157) = v0 c
          ∧ r.2.mem ((c.tc : Thread Cert.AttnRefIdeal.nD Cert.AttnRefIdeal.τ).loc Cert.AttnRefIdeal.main_v158) = v1 c
          ∧ r.2.mem ((c.tc : Thread Cert.AttnRefIdeal.nD Cert.AttnRefIdeal.τ).loc Cert.AttnRefIdeal.main_v130) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v12)) (v1 : (c : Dev Cert.PrepIdeal.nD) → Buf (Elt Ideal) ((c.tc : Thread Cert.PrepIdeal.nD Cert.PrepIdeal.τ).loc Cert.PrepIdeal.main_v13)) (v2 : (c : Dev Cert.PrepIdeal.nD) → Buf (Elt Ideal) ((c.tc : Thread Cert.PrepIdeal.nD Cert.PrepIdeal.τ).loc Cert.PrepIdeal.main_v15)) (v3 : (c : Dev Cert.PrepIdeal.nD) → Buf (Elt Ideal) ((c.tc : Thread Cert.PrepIdeal.nD Cert.PrepIdeal.τ).loc Cert.PrepIdeal.main_v16)) (v4 : (c : Dev Cert.PrepIdeal.nD) → Buf (Elt Ideal) ((c.tc : Thread Cert.PrepIdeal.nD Cert.PrepIdeal.τ).loc Cert.PrepIdeal.main_v17)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v12) = v0 c
          ∧ r.2.mem ((c.tc : Thread Cert.PrepIdeal.nD Cert.PrepIdeal.τ).loc Cert.PrepIdeal.main_v13) = v1 c
          ∧ r.2.mem ((c.tc : Thread Cert.PrepIdeal.nD Cert.PrepIdeal.τ).loc Cert.PrepIdeal.main_v15) = v2 c
          ∧ r.2.mem ((c.tc : Thread Cert.PrepIdeal.nD Cert.PrepIdeal.τ).loc Cert.PrepIdeal.main_v16) = v3 c
          ∧ r.2.mem ((c.tc : Thread Cert.PrepIdeal.nD Cert.PrepIdeal.τ).loc Cert.PrepIdeal.main_v17) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v132) = v0 c
          ∧ r.2.mem ((c.tc : Thread Cert.PrepRefIdeal.nD Cert.PrepRefIdeal.τ).loc Cert.PrepRefIdeal.main_v124) = v1 c
          ∧ r.2.mem ((c.tc : Thread Cert.PrepRefIdeal.nD Cert.PrepRefIdeal.τ).loc Cert.PrepRefIdeal.main_v134) = v2 c
          ∧ r.2.mem ((c.tc : Thread Cert.PrepRefIdeal.nD Cert.PrepRefIdeal.τ).loc Cert.PrepRefIdeal.main_v72) = v3 c
          ∧ r.2.mem ((c.tc : Thread Cert.PrepRefIdeal.nD Cert.PrepRefIdeal.τ).loc Cert.PrepRefIdeal.main_v64) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)
      ∧ m' ((c.tc : Thread Cert.MlpFwdRefIdeal.nD Cert.MlpFwdRefIdeal.τ).loc Cert.MlpFwdRefIdeal.main_arg6) = m ((c.tc : Thread Cert.MlpFwdIdeal.nD Cert.MlpFwdIdeal.τ).loc Cert.MlpFwdIdeal.main_arg6)
      ∧ m' ((c.tc : Thread Cert.MlpFwdRefIdeal.nD Cert.MlpFwdRefIdeal.τ).loc Cert.MlpFwdRefIdeal.main_arg7) = m ((c.tc : Thread Cert.MlpFwdIdeal.nD Cert.MlpFwdIdeal.τ).loc Cert.MlpFwdIdeal.main_arg7)) →
    ∃ (v0 : (c : Dev Cert.MlpFwdIdeal.nD) → Buf (Elt Ideal) ((c.tc : Thread Cert.MlpFwdIdeal.nD Cert.MlpFwdIdeal.τ).loc Cert.MlpFwdIdeal.main_v10_0)) (v1 : (c : Dev Cert.MlpFwdIdeal.nD) → Buf (Elt Ideal) ((c.tc : Thread Cert.MlpFwdIdeal.nD Cert.MlpFwdIdeal.τ).loc Cert.MlpFwdIdeal.main_v10_1)) (v2 : (c : Dev Cert.MlpFwdIdeal.nD) → Buf (Elt Ideal) ((c.tc : Thread Cert.MlpFwdIdeal.nD Cert.MlpFwdIdeal.τ).loc Cert.MlpFwdIdeal.main_v10_2)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v10_0) = v0 c
          ∧ r.2.mem ((c.tc : Thread Cert.MlpFwdIdeal.nD Cert.MlpFwdIdeal.τ).loc Cert.MlpFwdIdeal.main_v10_1) = v1 c
          ∧ r.2.mem ((c.tc : Thread Cert.MlpFwdIdeal.nD Cert.MlpFwdIdeal.τ).loc Cert.MlpFwdIdeal.main_v10_2) = v2 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
          ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
          ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v53) = v0 c
          ∧ r.2.mem ((c.tc : Thread Cert.MlpFwdRefIdeal.nD Cert.MlpFwdRefIdeal.τ).loc Cert.MlpFwdRefIdeal.main_v54) = v1 c
          ∧ r.2.mem ((c.tc : Thread Cert.MlpFwdRefIdeal.nD Cert.MlpFwdRefIdeal.τ).loc Cert.MlpFwdRefIdeal.main_v34) = v2 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5)
          ∧ r.2.mem ((c.tc : Thread Cert.MlpFwdRefIdeal.nD Cert.MlpFwdRefIdeal.τ).loc Cert.MlpFwdRefIdeal.main_arg6) = m' ((c.tc : Thread Cert.MlpFwdRefIdeal.nD Cert.MlpFwdRefIdeal.τ).loc Cert.MlpFwdRefIdeal.main_arg6)
          ∧ r.2.mem ((c.tc : Thread Cert.MlpFwdRefIdeal.nD Cert.MlpFwdRefIdeal.τ).loc Cert.MlpFwdRefIdeal.main_arg7) = m' ((c.tc : Thread Cert.MlpFwdRefIdeal.nD Cert.MlpFwdRefIdeal.τ).loc Cert.MlpFwdRefIdeal.main_arg7))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v3)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v88) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)
      ∧ m' ((c.tc : Thread Cert.OutFwdRefIdeal.nD Cert.OutFwdRefIdeal.τ).loc Cert.OutFwdRefIdeal.main_arg6) = m ((c.tc : Thread Cert.OutFwdIdeal.nD Cert.OutFwdIdeal.τ).loc Cert.OutFwdIdeal.main_arg6)
      ∧ m' ((c.tc : Thread Cert.OutFwdRefIdeal.nD Cert.OutFwdRefIdeal.τ).loc Cert.OutFwdRefIdeal.main_arg7) = m ((c.tc : Thread Cert.OutFwdIdeal.nD Cert.OutFwdIdeal.τ).loc Cert.OutFwdIdeal.main_arg7)
      ∧ m' ((c.tc : Thread Cert.OutFwdRefIdeal.nD Cert.OutFwdRefIdeal.τ).loc Cert.OutFwdRefIdeal.main_arg8) = m ((c.tc : Thread Cert.OutFwdIdeal.nD Cert.OutFwdIdeal.τ).loc Cert.OutFwdIdeal.main_arg8)
      ∧ m' ((c.tc : Thread Cert.OutFwdRefIdeal.nD Cert.OutFwdRefIdeal.τ).loc Cert.OutFwdRefIdeal.main_arg9) = m ((c.tc : Thread Cert.OutFwdIdeal.nD Cert.OutFwdIdeal.τ).loc Cert.OutFwdIdeal.main_arg9)
      ∧ m' ((c.tc : Thread Cert.OutFwdRefIdeal.nD Cert.OutFwdRefIdeal.τ).loc Cert.OutFwdRefIdeal.main_arg10) = m ((c.tc : Thread Cert.OutFwdIdeal.nD Cert.OutFwdIdeal.τ).loc Cert.OutFwdIdeal.main_arg10)
      ∧ m' ((c.tc : Thread Cert.OutFwdRefIdeal.nD Cert.OutFwdRefIdeal.τ).loc Cert.OutFwdRefIdeal.main_arg11) = m ((c.tc : Thread Cert.OutFwdIdeal.nD Cert.OutFwdIdeal.τ).loc Cert.OutFwdIdeal.main_arg11)
      ∧ m' ((c.tc : Thread Cert.OutFwdRefIdeal.nD Cert.OutFwdRefIdeal.τ).loc Cert.OutFwdRefIdeal.main_arg12) = m ((c.tc : Thread Cert.OutFwdIdeal.nD Cert.OutFwdIdeal.τ).loc Cert.OutFwdIdeal.main_arg12)) →
    ∃ (v0 : (c : Dev Cert.OutFwdIdeal.nD) → Buf (Elt Ideal) ((c.tc : Thread Cert.OutFwdIdeal.nD Cert.OutFwdIdeal.τ).loc Cert.OutFwdIdeal.main_v16)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v16) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
          ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7)
          ∧ r.2.mem ((c.tc : Thread Cert.OutFwdIdeal.nD Cert.OutFwdIdeal.τ).loc Cert.OutFwdIdeal.main_arg8) = m ((c.tc : Thread Cert.OutFwdIdeal.nD Cert.OutFwdIdeal.τ).loc Cert.OutFwdIdeal.main_arg8)
          ∧ r.2.mem ((c.tc : Thread Cert.OutFwdIdeal.nD Cert.OutFwdIdeal.τ).loc Cert.OutFwdIdeal.main_arg9) = m ((c.tc : Thread Cert.OutFwdIdeal.nD Cert.OutFwdIdeal.τ).loc Cert.OutFwdIdeal.main_arg9)
          ∧ r.2.mem ((c.tc : Thread Cert.OutFwdIdeal.nD Cert.OutFwdIdeal.τ).loc Cert.OutFwdIdeal.main_arg10) = m ((c.tc : Thread Cert.OutFwdIdeal.nD Cert.OutFwdIdeal.τ).loc Cert.OutFwdIdeal.main_arg10)
          ∧ r.2.mem ((c.tc : Thread Cert.OutFwdIdeal.nD Cert.OutFwdIdeal.τ).loc Cert.OutFwdIdeal.main_arg11) = m ((c.tc : Thread Cert.OutFwdIdeal.nD Cert.OutFwdIdeal.τ).loc Cert.OutFwdIdeal.main_arg11)
          ∧ r.2.mem ((c.tc : Thread Cert.OutFwdIdeal.nD Cert.OutFwdIdeal.τ).loc Cert.OutFwdIdeal.main_arg12) = m ((c.tc : Thread Cert.OutFwdIdeal.nD Cert.OutFwdIdeal.τ).loc Cert.OutFwdIdeal.main_arg12))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v58) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5)
          ∧ r.2.mem ((c.tc : Thread Cert.OutFwdRefIdeal.nD Cert.OutFwdRefIdeal.τ).loc Cert.OutFwdRefIdeal.main_arg6) = m' ((c.tc : Thread Cert.OutFwdRefIdeal.nD Cert.OutFwdRefIdeal.τ).loc Cert.OutFwdRefIdeal.main_arg6)
          ∧ r.2.mem ((c.tc : Thread Cert.OutFwdRefIdeal.nD Cert.OutFwdRefIdeal.τ).loc Cert.OutFwdRefIdeal.main_arg7) = m' ((c.tc : Thread Cert.OutFwdRefIdeal.nD Cert.OutFwdRefIdeal.τ).loc Cert.OutFwdRefIdeal.main_arg7)
          ∧ r.2.mem ((c.tc : Thread Cert.OutFwdRefIdeal.nD Cert.OutFwdRefIdeal.τ).loc Cert.OutFwdRefIdeal.main_arg8) = m' ((c.tc : Thread Cert.OutFwdRefIdeal.nD Cert.OutFwdRefIdeal.τ).loc Cert.OutFwdRefIdeal.main_arg8)
          ∧ r.2.mem ((c.tc : Thread Cert.OutFwdRefIdeal.nD Cert.OutFwdRefIdeal.τ).loc Cert.OutFwdRefIdeal.main_arg9) = m' ((c.tc : Thread Cert.OutFwdRefIdeal.nD Cert.OutFwdRefIdeal.τ).loc Cert.OutFwdRefIdeal.main_arg9)
          ∧ r.2.mem ((c.tc : Thread Cert.OutFwdRefIdeal.nD Cert.OutFwdRefIdeal.τ).loc Cert.OutFwdRefIdeal.main_arg10) = m' ((c.tc : Thread Cert.OutFwdRefIdeal.nD Cert.OutFwdRefIdeal.τ).loc Cert.OutFwdRefIdeal.main_arg10)
          ∧ r.2.mem ((c.tc : Thread Cert.OutFwdRefIdeal.nD Cert.OutFwdRefIdeal.τ).loc Cert.OutFwdRefIdeal.main_arg11) = m' ((c.tc : Thread Cert.OutFwdRefIdeal.nD Cert.OutFwdRefIdeal.τ).loc Cert.OutFwdRefIdeal.main_arg11)
          ∧ r.2.mem ((c.tc : Thread Cert.OutFwdRefIdeal.nD Cert.OutFwdRefIdeal.τ).loc Cert.OutFwdRefIdeal.main_arg12) = m' ((c.tc : Thread Cert.OutFwdRefIdeal.nD Cert.OutFwdRefIdeal.τ).loc Cert.OutFwdRefIdeal.main_arg12))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)
      ∧ m' ((c.tc : Thread Cert.InFwdRefIdeal.nD Cert.InFwdRefIdeal.τ).loc Cert.InFwdRefIdeal.main_arg5) = m ((c.tc : Thread Cert.InFwdIdeal.nD Cert.InFwdIdeal.τ).loc Cert.InFwdIdeal.main_arg5)
      ∧ m' ((c.tc : Thread Cert.InFwdRefIdeal.nD Cert.InFwdRefIdeal.τ).loc Cert.InFwdRefIdeal.main_arg6) = m ((c.tc : Thread Cert.InFwdIdeal.nD Cert.InFwdIdeal.τ).loc Cert.InFwdIdeal.main_arg6)) →
    ∃ (v0 : (c : Dev Cert.InFwdIdeal.nD) → Buf (Elt Ideal) ((c.tc : Thread Cert.InFwdIdeal.nD Cert.InFwdIdeal.τ).loc Cert.InFwdIdeal.main_v9_0)) (v1 : (c : Dev Cert.InFwdIdeal.nD) → Buf (Elt Ideal) ((c.tc : Thread Cert.InFwdIdeal.nD Cert.InFwdIdeal.τ).loc Cert.InFwdIdeal.main_v9_1)) (v2 : (c : Dev Cert.InFwdIdeal.nD) → Buf (Elt Ideal) ((c.tc : Thread Cert.InFwdIdeal.nD Cert.InFwdIdeal.τ).loc Cert.InFwdIdeal.main_v11)) (v3 : (c : Dev Cert.InFwdIdeal.nD) → Buf (Elt Ideal) ((c.tc : Thread Cert.InFwdIdeal.nD Cert.InFwdIdeal.τ).loc Cert.InFwdIdeal.main_v9_3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v9_0) = v0 c
          ∧ r.2.mem ((c.tc : Thread Cert.InFwdIdeal.nD Cert.InFwdIdeal.τ).loc Cert.InFwdIdeal.main_v9_1) = v1 c
          ∧ r.2.mem ((c.tc : Thread Cert.InFwdIdeal.nD Cert.InFwdIdeal.τ).loc Cert.InFwdIdeal.main_v11) = v2 c
          ∧ r.2.mem ((c.tc : Thread Cert.InFwdIdeal.nD Cert.InFwdIdeal.τ).loc Cert.InFwdIdeal.main_v9_3) = v3 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4)
          ∧ r.2.mem ((c.tc : Thread Cert.InFwdIdeal.nD Cert.InFwdIdeal.τ).loc Cert.InFwdIdeal.main_arg5) = m ((c.tc : Thread Cert.InFwdIdeal.nD Cert.InFwdIdeal.τ).loc Cert.InFwdIdeal.main_arg5)
          ∧ r.2.mem ((c.tc : Thread Cert.InFwdIdeal.nD Cert.InFwdIdeal.τ).loc Cert.InFwdIdeal.main_arg6) = m ((c.tc : Thread Cert.InFwdIdeal.nD Cert.InFwdIdeal.τ).loc Cert.InFwdIdeal.main_arg6))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v36) = v0 c
          ∧ r.2.mem ((c.tc : Thread Cert.InFwdRefIdeal.nD Cert.InFwdRefIdeal.τ).loc Cert.InFwdRefIdeal.main_v38) = v1 c
          ∧ r.2.mem ((c.tc : Thread Cert.InFwdRefIdeal.nD Cert.InFwdRefIdeal.τ).loc Cert.InFwdRefIdeal.main_v35) = v2 c
          ∧ r.2.mem ((c.tc : Thread Cert.InFwdRefIdeal.nD Cert.InFwdRefIdeal.τ).loc Cert.InFwdRefIdeal.main_v39) = v3 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4)
          ∧ r.2.mem ((c.tc : Thread Cert.InFwdRefIdeal.nD Cert.InFwdRefIdeal.τ).loc Cert.InFwdRefIdeal.main_arg5) = m' ((c.tc : Thread Cert.InFwdRefIdeal.nD Cert.InFwdRefIdeal.τ).loc Cert.InFwdRefIdeal.main_arg5)
          ∧ r.2.mem ((c.tc : Thread Cert.InFwdRefIdeal.nD Cert.InFwdRefIdeal.τ).loc Cert.InFwdRefIdeal.main_arg6) = m' ((c.tc : Thread Cert.InFwdRefIdeal.nD Cert.InFwdRefIdeal.τ).loc Cert.InFwdRefIdeal.main_arg6))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v8)) (v1 : (c : Dev Cert.PrepFwdIdeal.nD) → Buf (Elt Ideal) ((c.tc : Thread Cert.PrepFwdIdeal.nD Cert.PrepFwdIdeal.τ).loc Cert.PrepFwdIdeal.main_v9)) (v2 : (c : Dev Cert.PrepFwdIdeal.nD) → Buf (Elt Ideal) ((c.tc : Thread Cert.PrepFwdIdeal.nD Cert.PrepFwdIdeal.τ).loc Cert.PrepFwdIdeal.main_v10)) (v3 : (c : Dev Cert.PrepFwdIdeal.nD) → Buf (Elt Ideal) ((c.tc : Thread Cert.PrepFwdIdeal.nD Cert.PrepFwdIdeal.τ).loc Cert.PrepFwdIdeal.main_v11)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v8) = v0 c
          ∧ r.2.mem ((c.tc : Thread Cert.PrepFwdIdeal.nD Cert.PrepFwdIdeal.τ).loc Cert.PrepFwdIdeal.main_v9) = v1 c
          ∧ r.2.mem ((c.tc : Thread Cert.PrepFwdIdeal.nD Cert.PrepFwdIdeal.τ).loc Cert.PrepFwdIdeal.main_v10) = v2 c
          ∧ r.2.mem ((c.tc : Thread Cert.PrepFwdIdeal.nD Cert.PrepFwdIdeal.τ).loc Cert.PrepFwdIdeal.main_v11) = v3 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v8) = v0 c
          ∧ r.2.mem ((c.tc : Thread Cert.PrepFwdRefIdeal.nD Cert.PrepFwdRefIdeal.τ).loc Cert.PrepFwdRefIdeal.main_v10) = v1 c
          ∧ r.2.mem ((c.tc : Thread Cert.PrepFwdRefIdeal.nD Cert.PrepFwdRefIdeal.τ).loc Cert.PrepFwdRefIdeal.main_v30) = v2 c
          ∧ r.2.mem ((c.tc : Thread Cert.PrepFwdRefIdeal.nD Cert.PrepFwdRefIdeal.τ).loc Cert.PrepFwdRefIdeal.main_v37) = v3 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg0) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v6) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def Claim : Prop :=
  ∃ (hLoss : Cert.Loss.Facts) (hLossIdeal : Cert.LossIdeal.Facts) (hLossRefIdeal : Cert.LossRefIdeal.Facts) (hAda : Cert.Ada.Facts) (hAdaIdeal : Cert.AdaIdeal.Facts) (hAdaRefIdeal : Cert.AdaRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hMlp : Cert.Mlp.Facts) (hMlpIdeal : Cert.MlpIdeal.Facts) (hMlpRefIdeal : Cert.MlpRefIdeal.Facts) (hAttn : Cert.Attn.Facts) (hAttnIdeal : Cert.AttnIdeal.Facts) (hAttnRefIdeal : Cert.AttnRefIdeal.Facts) (hPrep : Cert.Prep.Facts) (hPrepIdeal : Cert.PrepIdeal.Facts) (hPrepRefIdeal : Cert.PrepRefIdeal.Facts) (hMlpFwd : Cert.MlpFwd.Facts) (hMlpFwdIdeal : Cert.MlpFwdIdeal.Facts) (hMlpFwdRefIdeal : Cert.MlpFwdRefIdeal.Facts) (hAttnFwd : Cert.AttnFwd.Facts) (hAttnFwdIdeal : Cert.AttnFwdIdeal.Facts) (hAttnFwdRefIdeal : Cert.AttnFwdRefIdeal.Facts) (hOutFwd : Cert.OutFwd.Facts) (hOutFwdIdeal : Cert.OutFwdIdeal.Facts) (hOutFwdRefIdeal : Cert.OutFwdRefIdeal.Facts) (hInFwd : Cert.InFwd.Facts) (hInFwdIdeal : Cert.InFwdIdeal.Facts) (hInFwdRefIdeal : Cert.InFwdRefIdeal.Facts) (hPrepFwd : Cert.PrepFwd.Facts) (hPrepFwdIdeal : Cert.PrepFwdIdeal.Facts) (hPrepFwdRefIdeal : Cert.PrepFwdRefIdeal.Facts) (hAdaFwd : Cert.AdaFwd.Facts) (hAdaFwdIdeal : Cert.AdaFwdIdeal.Facts) (hAdaFwdRefIdeal : Cert.AdaFwdRefIdeal.Facts) (hAdam : Cert.Adam.Facts) (hAdamIdeal : Cert.AdamIdeal.Facts) (hAdamRefIdeal : Cert.AdamRefIdeal.Facts) (hDw : Cert.Dw.Facts) (hDwIdeal : Cert.DwIdeal.Facts) (hDwRefIdeal : Cert.DwRefIdeal.Facts) (hPre_in_finite : Cert.Pre_in_finite.Facts) (hPre_out_finite : Cert.Pre_out_finite.Facts) (hPre_mlp_finite : Cert.Pre_mlp_finite.Facts) (hPre_attn_finite : Cert.Pre_attn_finite.Facts) (hPre_prep_finite : Cert.Pre_prep_finite.Facts) (hPre_attn_fwd_finite : Cert.Pre_attn_fwd_finite.Facts),
    quiescent_Loss (hLoss := hLoss)
    ∧ quiescent_LossIdeal (hLossIdeal := hLossIdeal)
    ∧ quiescent_LossRefIdeal (hLossRefIdeal := hLossRefIdeal)
    ∧ quiescent_Ada (hAda := hAda)
    ∧ quiescent_AdaIdeal (hAdaIdeal := hAdaIdeal)
    ∧ quiescent_AdaRefIdeal (hAdaRefIdeal := hAdaRefIdeal)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_Out (hOut := hOut)
    ∧ quiescent_OutIdeal (hOutIdeal := hOutIdeal)
    ∧ quiescent_OutIdeal_pre_out_finite (hOutIdeal := hOutIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_Dw (hDw := hDw)
    ∧ quiescent_DwIdeal (hDwIdeal := hDwIdeal)
    ∧ quiescent_DwRefIdeal (hDwRefIdeal := hDwRefIdeal)
    ∧ preserves_Loss_LossIdeal
    ∧ algebraic_LossIdeal_LossRefIdeal (hLossIdeal := hLossIdeal) (hLossRefIdeal := hLossRefIdeal)
    ∧ preserves_Ada_AdaIdeal
    ∧ algebraic_AdaIdeal_AdaRefIdeal (hAdaIdeal := hAdaIdeal) (hAdaRefIdeal := hAdaRefIdeal)
    ∧ preserves_In_InIdeal
    ∧ algebraic_InIdeal_InRefIdeal_pre_in_finite (hInIdeal := hInIdeal) (hInRefIdeal := hInRefIdeal) (hPre_in_finite := hPre_in_finite)
    ∧ preserves_Out_OutIdeal
    ∧ algebraic_OutIdeal_OutRefIdeal_pre_out_finite (hOutIdeal := hOutIdeal) (hOutRefIdeal := hOutRefIdeal) (hPre_out_finite := hPre_out_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_OutFwd_OutFwdIdeal
    ∧ algebraic_OutFwdIdeal_OutFwdRefIdeal (hOutFwdIdeal := hOutFwdIdeal) (hOutFwdRefIdeal := hOutFwdRefIdeal)
    ∧ preserves_InFwd_InFwdIdeal
    ∧ algebraic_InFwdIdeal_InFwdRefIdeal (hInFwdIdeal := hInFwdIdeal) (hInFwdRefIdeal := hInFwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_Adam_AdamIdeal
    ∧ algebraic_AdamIdeal_AdamRefIdeal (hAdamIdeal := hAdamIdeal) (hAdamRefIdeal := hAdamRefIdeal)
    ∧ preserves_Dw_DwIdeal
    ∧ algebraic_DwIdeal_DwRefIdeal (hDwIdeal := hDwIdeal) (hDwRefIdeal := hDwRefIdeal)
-- ==== Pre_attn_finite.lean ====
abbrev S4096x512 : Shape := ⟨2, ![4096, 512]⟩
abbrev S4096x128 : Shape := ⟨2, ![4096, 128]⟩
abbrev S8 : Shape := ⟨1, ![8]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S8 : S_.BroadcastsInDim S8 (![] : Fin 0 → Fin S8.rank)

variable [Facts]

def fn_part1 {F : FTy → Type} [FloatOps F] (main_arg3 : FVec F S8 .f32) (main_arg4 : FVec F S4096x512 .f32) (main_v4 : IVec S4096x512 1) (main_v9 : IVec S4096x128 1) (main_v14 : IVec S4096x128 1) (main_v16 : IVec S8 1) : IVec S4096x512 1 × IVec S4096x128 1 × IVec S4096x128 1 × IVec S8 1 × IVec S4096x512 1 :=
  let main_cst_6 : FVec F S_ .f32 := constant S_ .f32 0x7F800000#32
  let main_v17 : FVec F S8 .f32 := broadcastInDim S8 ![] bcast_S_S8 main_cst_6
  let main_v18 : IVec S8 1 := cmpf .olt main_arg3 main_v17
  let main_v19 : IVec S8 1 := andi main_v16 main_v18
  let main_cst_7 : FVec F S_ .f32 := constant S_ .f32 0xFF800000#32
  let main_v20 : FVec F S4096x512 .f32 := broadcastInDim S4096x512 ![] bcast_S_S4096x512 main_cst_7
  let main_v21 : IVec S4096x512 1 := cmpf .ogt main_arg4 main_v20
  let main_cst_8 : FVec F S_ .f32 := constant S_ .f32 0x7F800000#32
  let main_v22 : FVec F S4096x512 .f32 := broadcastInDim S4096x512 ![] bcast_S_S4096x512 main_cst_8
  let main_v23 : IVec S4096x512 1 := cmpf .olt main_arg4 main_v22
  let main_v24 : IVec S4096x512 1 := andi main_v21 main_v23
  (main_v4, main_v9, main_v14, main_v19, main_v24)

def fn {F : FTy → Type} [FloatOps F] (main_arg0 : FVec F S4096x512 .f32) (main_arg1 : FVec F S4096x128 .f32) (main_arg2 : FVec F S4096x128 .f32) (main_arg3 : FVec F S8 .f32) (main_arg4 : FVec F S4096x512 .f32) : IVec S4096x512 1 × IVec S4096x128 1 × IVec S4096x128 1 × IVec S8 1 × IVec S4096x512 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_cst_1 : FVec F S_ .f32 := constant S_ .f32 0xFF800000#32
  let main_v5 : FVec F S4096x128 .f32 := broadcastInDim S4096x128 ![] bcast_S_S4096x128 main_cst_1
  let main_v6 : IVec S4096x128 1 := cmpf .ogt main_arg1 main_v5
  let main_cst_2 : FVec F S_ .f32 := constant S_ .f32 0x7F800000#32
  let main_v7 : FVec F S4096x128 .f32 := broadcastInDim S4096x128 ![] bcast_S_S4096x128 main_cst_2
  let main_v8 : IVec S4096x128 1 := cmpf .olt main_arg1 main_v7
  let main_v9 : IVec S4096x128 1 := andi main_v6 main_v8
  let main_cst_3 : FVec F S_ .f32 := constant S_ .f32 0xFF800000#32
  let main_v10 : FVec F S4096x128 .f32 := broadcastInDim S4096x128 ![] bcast_S_S4096x128 main_cst_3
  let main_v11 : IVec S4096x128 1 := cmpf .ogt main_arg2 main_v10
  let main_cst_4 : FVec F S_ .f32 := constant S_ .f32 0x7F800000#32
  let main_v12 : FVec F S4096x128 .f32 := broadcastInDim S4096x128 ![] bcast_S_S4096x128 main_cst_4
  let main_v13 : IVec S4096x128 1 := cmpf .olt main_arg2 main_v12
  let main_v14 : IVec S4096x128 1 := andi main_v11 main_v13
  let main_cst_5 : FVec F S_ .f32 := constant S_ .f32 0xFF800000#32
  let main_v15 : FVec F S8 .f32 := broadcastInDim S8 ![] bcast_S_S8 main_cst_5
  let main_v16 : IVec S8 1 := cmpf .ogt main_arg3 main_v15
  fn_part1 (F := F) main_arg3 main_arg4 main_v4 main_v9 main_v14 main_v16
-- ==== Pre_attn_fwd_finite.lean ====
abbrev S4096x512 : Shape := ⟨2, ![4096, 512]⟩
abbrev S4096x128 : Shape := ⟨2, ![4096, 128]⟩
abbrev S8 : Shape := ⟨1, ![8]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S8 : S_.BroadcastsInDim S8 (![] : Fin 0 → Fin S8.rank)

variable [Facts]

def fn {F : FTy → Type} [FloatOps F] (main_arg0 : FVec F S4096x512 .f32) (main_arg1 : FVec F S4096x128 .f32) (main_arg2 : FVec F S4096x128 .f32) (main_arg3 : FVec F S8 .f32) : IVec S4096x512 1 × IVec S4096x128 1 × IVec S8 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_cst_1 : FVec F S_ .f32 := constant S_ .f32 0xFF800000#32
  let main_v5 : FVec F S4096x128 .f32 := broadcastInDim S4096x128 ![] bcast_S_S4096x128 main_cst_1
  let main_v6 : IVec S4096x128 1 := cmpf .ogt main_arg1 main_v5
  let main_cst_2 : FVec F S_ .f32 := constant S_ .f32 0x7F800000#32
  let main_v7 : FVec F S4096x128 .f32 := broadcastInDim S4096x128 ![] bcast_S_S4096x128 main_cst_2
  let main_v8 : IVec S4096x128 1 := cmpf .olt main_arg1 main_v7
  let main_v9 : IVec S4096x128 1 := andi main_v6 main_v8
  let main_cst_3 : FVec F S_ .f32 := constant S_ .f32 0xFF800000#32
  let main_v10 : FVec F S8 .f32 := broadcastInDim S8 ![] bcast_S_S8 main_cst_3
  let main_v11 : IVec S8 1 := cmpf .ogt main_arg3 main_v10
  let main_cst_4 : FVec F S_ .f32 := constant S_ .f32 0x7F800000#32
  let main_v12 : FVec F S8 .f32 := broadcastInDim S8 ![] bcast_S_S8 main_cst_4
  let main_v13 : IVec S8 1 := cmpf .olt main_arg3 main_v12
  let main_v14 : IVec S8 1 := andi main_v11 main_v13
  (main_v4, main_v9, main_v14)
-- ==== Pre_in_finite.lean ====
abbrev S4096x1024 : Shape := ⟨2, ![4096, 1024]⟩
abbrev S4x6144 : Shape := ⟨2, ![4, 6144]⟩
abbrev S4x1024 : Shape := ⟨2, ![4, 1024]⟩
abbrev S1024x1280 : Shape := ⟨2, ![1024, 1280]⟩
abbrev S4096x512 : Shape := ⟨2, ![4096, 512]⟩
abbrev S4096x128 : Shape := ⟨2, ![4096, 128]⟩
abbrev S_ : Shape := ⟨0, ![]⟩

class Facts : Prop where
  bcast_S_S4096x1024 : S_.BroadcastsInDim S4096x1024 (![] : Fin 0 → Fin S4096x1024.rank)
  bcast_S_S4x6144 : S_.BroadcastsInDim S4x6144 (![] : Fin 0 → Fin S4x6144.rank)
  bcast_S_S4x1024 : S_.BroadcastsInDim S4x1024 (![] : Fin 0 → Fin S4x1024.rank)
  bcast_S_S1024x1280 : S_.BroadcastsInDim S1024x1280 (![] : Fin 0 → Fin S1024x1280.rank)
  bcast_S_S4096x512 : S_.BroadcastsInDim S4096x512 (![] : Fin 0 → Fin S4096x512.rank)
  bcast_S_S4096x128 : S_.BroadcastsInDim S4096x128 (![] : Fin 0 → Fin S4096x128.rank)

variable [Facts]

def fn_part2 {F : FTy → Type} [FloatOps F] (main_arg11 : FVec F S4096x512 .f32) (main_v4 : IVec S4096x1024 1) (main_v9 : IVec S4x6144 1) (main_v14 : IVec S4x1024 1) (main_v19 : IVec S1024x1280 1) (main_v24 : IVec S4096x512 1) (main_v29 : IVec S4096x128 1) (main_v31 : IVec S4096x128 1) (main_v33 : IVec S4096x128 1) : IVec S4096x1024 1 × IVec S4x6144 1 × IVec S4x1024 1 × IVec S1024x1280 1 × IVec S4096x512 1 × IVec S4096x128 1 × IVec S4096x128 1 × IVec S4096x512 1 :=
  let main_v34 : IVec S4096x128 1 := andi main_v31 main_v33
  let main_cst_13 : FVec F S_ .f32 := constant S_ .f32 0xFF800000#32
  let main_v35 : FVec F S4096x512 .f32 := broadcastInDim S4096x512 ![] bcast_S_S4096x512 main_cst_13
  let main_v36 : IVec S4096x512 1 := cmpf .ogt main_arg11 main_v35
  let main_cst_14 : FVec F S_ .f32 := constant S_ .f32 0x7F800000#32
  let main_v37 : FVec F S4096x512 .f32 := broadcastInDim S4096x512 ![] bcast_S_S4096x512 main_cst_14
  let main_v38 : IVec S4096x512 1 := cmpf .olt main_arg11 main_v37
  let main_v39 : IVec S4096x512 1 := andi main_v36 main_v38
  (main_v4, main_v9, main_v14, main_v19, main_v24, main_v29, main_v34, main_v39)

def fn_part1 {F : FTy → Type} [FloatOps F] (main_arg6 : FVec F S1024x1280 .f32) (main_arg8 : FVec F S4096x512 .f32) (main_arg9 : FVec F S4096x128 .f32) (main_arg10 : FVec F S4096x128 .f32) (main_arg11 : FVec F S4096x512 .f32) (main_v4 : IVec S4096x1024 1) (main_v9 : IVec S4x6144 1) (main_v14 : IVec S4x1024 1) (main_v16 : IVec S1024x1280 1) : IVec S4096x1024 1 × IVec S4x6144 1 × IVec S4x1024 1 × IVec S1024x1280 1 × IVec S4096x512 1 × IVec S4096x128 1 × IVec S4096x128 1 × IVec S4096x512 1 :=
  let main_cst_6 : FVec F S_ .f32 := constant S_ .f32 0x7F800000#32
  let main_v17 : FVec F S1024x1280 .f32 := broadcastInDim S1024x1280 ![] bcast_S_S1024x1280 main_cst_6
  let main_v18 : IVec S1024x1280 1 := cmpf .olt main_arg6 main_v17
  let main_v19 : IVec S1024x1280 1 := andi main_v16 main_v18
  let main_cst_7 : FVec F S_ .f32 := constant S_ .f32 0xFF800000#32
  let main_v20 : FVec F S4096x512 .f32 := broadcastInDim S4096x512 ![] bcast_S_S4096x512 main_cst_7
  let main_v21 : IVec S4096x512 1 := cmpf .ogt main_arg8 main_v20
  let main_cst_8 : FVec F S_ .f32 := constant S_ .f32 0x7F800000#32
  let main_v22 : FVec F S4096x512 .f32 := broadcastInDim S4096x512 ![] bcast_S_S4096x512 main_cst_8
  let main_v23 : IVec S4096x512 1 := cmpf .olt main_arg8 main_v22
  let main_v24 : IVec S4096x512 1 := andi main_v21 main_v23
  let main_cst_9 : FVec F S_ .f32 := constant S_ .f32 0xFF800000#32
  let main_v25 : FVec F S4096x128 .f32 := broadcastInDim S4096x128 ![] bcast_S_S4096x128 main_cst_9
  let main_v26 : IVec S4096x128 1 := cmpf .ogt main_arg9 main_v25
  let main_cst_10 : FVec F S_ .f32 := constant S_ .f32 0x7F800000#32
  let main_v27 : FVec F S4096x128 .f32 := broadcastInDim S4096x128 ![] bcast_S_S4096x128 main_cst_10
  let main_v28 : IVec S4096x128 1 := cmpf .olt main_arg9 main_v27
  let main_v29 : IVec S4096x128 1 := andi main_v26 main_v28
  let main_cst_11 : FVec F S_ .f32 := constant S_ .f32 0xFF800000#32
  let main_v30 : FVec F S4096x128 .f32 := broadcastInDim S4096x128 ![] bcast_S_S4096x128 main_cst_11
  let main_v31 : IVec S4096x128 1 := cmpf .ogt main_arg10 main_v30
  let main_cst_12 : FVec F S_ .f32 := constant S_ .f32 0x7F800000#32
  let main_v32 : FVec F S4096x128 .f32 := broadcastInDim S4096x128 ![] bcast_S_S4096x128 main_cst_12
  let main_v33 : IVec S4096x128 1 := cmpf .olt main_arg10 main_v32
  fn_part2 (F := F) main_arg11 main_v4 main_v9 main_v14 main_v19 main_v24 main_v29 main_v31 main_v33

def fn {F : FTy → Type} [FloatOps F] (main_arg0 : FVec F S4096x1024 .f32) (main_arg1 : FVec F S4x6144 .f32) (main_arg2 : FVec F S4x1024 .f32) (main_arg3 : FVec F S4x1024 .f32) (main_arg4 : FVec F S4x1024 .f32) (main_arg5 : FVec F S4x1024 .f32) (main_arg6 : FVec F S1024x1280 .f32) (main_arg7 : FVec F S4096x1024 .f32) (main_arg8 : FVec F S4096x512 .f32) (main_arg9 : FVec F S4096x128 .f32) (main_arg10 : FVec F S4096x128 .f32) (main_arg11 : FVec F S4096x512 .f32) : IVec S4096x1024 1 × IVec S4x6144 1 × IVec S4x1024 1 × IVec S1024x1280 1 × IVec S4096x512 1 × IVec S4096x128 1 × IVec S4096x128 1 × IVec S4096x512 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_cst_1 : FVec F S_ .f32 := constant S_ .f32 0xFF800000#32
  let main_v5 : FVec F S4x6144 .f32 := broadcastInDim S4x6144 ![] bcast_S_S4x6144 main_cst_1
  let main_v6 : IVec S4x6144 1 := cmpf .ogt main_arg1 main_v5
  let main_cst_2 : FVec F S_ .f32 := constant S_ .f32 0x7F800000#32
  let main_v7 : FVec F S4x6144 .f32 := broadcastInDim S4x6144 ![] bcast_S_S4x6144 main_cst_2
  let main_v8 : IVec S4x6144 1 := cmpf .olt main_arg1 main_v7
  let main_v9 : IVec S4x6144 1 := andi main_v6 main_v8
  let main_cst_3 : FVec F S_ .f32 := constant S_ .f32 0xFF800000#32
  let main_v10 : FVec F S4x1024 .f32 := broadcastInDim S4x1024 ![] bcast_S_S4x1024 main_cst_3
  let main_v11 : IVec S4x1024 1 := cmpf .ogt main_arg2 main_v10
  let main_cst_4 : FVec F S_ .f32 := constant S_ .f32 0x7F800000#32
  let main_v12 : FVec F S4x1024 .f32 := broadcastInDim S4x1024 ![] bcast_S_S4x1024 main_cst_4
  let main_v13 : IVec S4x1024 1 := cmpf .olt main_arg2 main_v12
  let main_v14 : IVec S4x1024 1 := andi main_v11 main_v13
  let main_cst_5 : FVec F S_ .f32 := constant S_ .f32 0xFF800000#32
  let main_v15 : FVec F S1024x1280 .f32 := broadcastInDim S1024x1280 ![] bcast_S_S1024x1280 main_cst_5
  let main_v16 : IVec S1024x1280 1 := cmpf .ogt main_arg6 main_v15
  fn_part1 (F := F) main_arg6 main_arg8 main_arg9 main_arg10 main_arg11 main_v4 main_v9 main_v14 main_v16
-- ==== Pre_mlp_finite.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S4x6144 : S_.BroadcastsInDim S4x6144 (![] : Fin 0 → Fin S4x6144.rank)
  bcast_S_S4x1024 : S_.BroadcastsInDim S4x1024 (![] : Fin 0 → Fin S4x1024.rank)
  bcast_S_S1024x4096 : S_.BroadcastsInDim S1024x4096 (![] : Fin 0 → Fin S1024x4096.rank)

variable [Facts]

def fn_part2 {F : FTy → Type} [FloatOps F] (main_v4 : IVec S4096x1024 1) (main_v9 : IVec S4x6144 1) (main_v14 : IVec S4x1024 1) (main_v19 : IVec S4x1024 1) (main_v24 : IVec S1024x4096 1) (main_v29 : IVec S4096x1024 1) (main_v31 : IVec S4096x1024 1) (main_v33 : IVec S4096x1024 1) : IVec S4096x1024 1 × IVec S4x6144 1 × IVec S4x1024 1 × IVec S4x1024 1 × IVec S1024x4096 1 × IVec S4096x1024 1 × IVec S4096x1024 1 :=
  let main_v34 : IVec S4096x1024 1 := andi main_v31 main_v33
  (main_v4, main_v9, main_v14, main_v19, main_v24, main_v29, main_v34)

def fn_part1 {F : FTy → Type} [FloatOps F] (main_arg5 : FVec F S4x1024 .f32) (main_arg6 : FVec F S1024x4096 .f32) (main_arg7 : FVec F S4096x1024 .f32) (main_arg8 : FVec F S4096x1024 .f32) (main_v4 : IVec S4096x1024 1) (main_v9 : IVec S4x6144 1) (main_v14 : IVec S4x1024 1) (main_v16 : IVec S4x1024 1) : IVec S4096x1024 1 × IVec S4x6144 1 × IVec S4x1024 1 × IVec S4x1024 1 × IVec S1024x4096 1 × IVec S4096x1024 1 × IVec S4096x1024 1 :=
  let main_cst_6 : FVec F S_ .f32 := constant S_ .f32 0x7F800000#32
  let main_v17 : FVec F S4x1024 .f32 := broadcastInDim S4x1024 ![] bcast_S_S4x1024 main_cst_6
  let main_v18 : IVec S4x1024 1 := cmpf .olt main_arg5 main_v17
  let main_v19 : IVec S4x1024 1 := andi main_v16 main_v18
  let main_cst_7 : FVec F S_ .f32 := constant S_ .f32 0xFF800000#32
  let main_v20 : FVec F S1024x4096 .f32 := broadcastInDim S1024x4096 ![] bcast_S_S1024x4096 main_cst_7
  let main_v21 : IVec S1024x4096 1 := cmpf .ogt main_arg6 main_v20
  let main_cst_8 : FVec F S_ .f32 := constant S_ .f32 0x7F800000#32
  let main_v22 : FVec F S1024x4096 .f32 := broadcastInDim S1024x4096 ![] bcast_S_S1024x4096 main_cst_8
  let main_v23 : IVec S1024x4096 1 := cmpf .olt main_arg6 main_v22
  let main_v24 : IVec S1024x4096 1 := andi main_v21 main_v23
  let main_cst_9 : FVec F S_ .f32 := constant S_ .f32 0xFF800000#32
  let main_v25 : FVec F S4096x1024 .f32 := broadcastInDim S4096x1024 ![] bcast_S_S4096x1024 main_cst_9
  let main_v26 : IVec S4096x1024 1 := cmpf .ogt main_arg7 main_v25
  let main_cst_10 : FVec F S_ .f32 := constant S_ .f32 0x7F800000#32
  let main_v27 : FVec F S4096x1024 .f32 := broadcastInDim S4096x1024 ![] bcast_S_S4096x1024 main_cst_10
  let main_v28 : IVec S4096x1024 1 := cmpf .olt main_arg7 main_v27
  let main_v29 : IVec S4096x1024 1 := andi main_v26 main_v28
  let main_cst_11 : FVec F S_ .f32 := constant S_ .f32 0xFF800000#32
  let main_v30 : FVec F S4096x1024 .f32 := broadcastInDim S4096x1024 ![] bcast_S_S4096x1024 main_cst_11
  let main_v31 : IVec S4096x1024 1 := cmpf .ogt main_arg8 main_v30
  let main_cst_12 : FVec F S_ .f32 := constant S_ .f32 0x7F800000#32
  let main_v32 : FVec F S4096x1024 .f32 := broadcastInDim S4096x1024 ![] bcast_S_S4096x1024 main_cst_12
  let main_v33 : IVec S4096x1024 1 := cmpf .olt main_arg8 main_v32
  fn_part2 (F := F) main_v4 main_v9 main_v14 main_v19 main_v24 main_v29 main_v31 main_v33

def fn {F : FTy → Type} [FloatOps F] (main_arg0 : FVec F S4096x1024 .f32) (main_arg1 : FVec F S4x6144 .f32) (main_arg2 : FVec F S4x1024 .f32) (main_arg3 : FVec F S4x1024 .f32) (main_arg4 : FVec F S4x1024 .f32) (main_arg5 : FVec F S4x1024 .f32) (main_arg6 : FVec F S1024x4096 .f32) (main_arg7 : FVec F S4096x1024 .f32) (main_arg8 : FVec F S4096x1024 .f32) : IVec S4096x1024 1 × IVec S4x6144 1 × IVec S4x1024 1 × IVec S4x1024 1 × IVec S1024x4096 1 × IVec S4096x1024 1 × IVec S4096x1024 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_cst_1 : FVec F S_ .f32 := constant S_ .f32 0xFF800000#32
  let main_v5 : FVec F S4x6144 .f32 := broadcastInDim S4x6144 ![] bcast_S_S4x6144 main_cst_1
  let main_v6 : IVec S4x6144 1 := cmpf .ogt main_arg1 main_v5
  let main_cst_2 : FVec F S_ .f32 := constant S_ .f32 0x7F800000#32
  let main_v7 : FVec F S4x6144 .f32 := broadcastInDim S4x6144 ![] bcast_S_S4x6144 main_cst_2
  let main_v8 : IVec S4x6144 1 := cmpf .olt main_arg1 main_v7
  let main_v9 : IVec S4x6144 1 := andi main_v6 main_v8
  let main_cst_3 : FVec F S_ .f32 := constant S_ .f32 0xFF800000#32
  let main_v10 : FVec F S4x1024 .f32 := broadcastInDim S4x1024 ![] bcast_S_S4x1024 main_cst_3
  let main_v11 : IVec S4x1024 1 := cmpf .ogt main_arg4 main_v10
  let main_cst_4 : FVec F S_ .f32 := constant S_ .f32 0x7F800000#32
  let main_v12 : FVec F S4x1024 .f32 := broadcastInDim S4x1024 ![] bcast_S_S4x1024 main_cst_4
  let main_v13 : IVec S4x1024 1 := cmpf .olt main_arg4 main_v12
  let main_v14 : IVec S4x1024 1 := andi main_v11 main_v13
  let main_cst_5 : FVec F S_ .f32 := constant S_ .f32 0xFF800000#32
  let main_v15 : FVec F S4x1024 .f32 := broadcastInDim S4x1024 ![] bcast_S_S4x1024 main_cst_5
  let main_v16 : IVec S4x1024 1 := cmpf .ogt main_arg5 main_v15
  fn_part1 (F := F) main_arg5 main_arg6 main_arg7 main_arg8 main_v4 main_v9 main_v14 main_v16
-- ==== Pre_out_finite.lean ====
abbrev S4096x512 : Shape := ⟨2, ![4096, 512]⟩
abbrev S4x6144 : Shape := ⟨2, ![4, 6144]⟩
abbrev S4x1024 : Shape := ⟨2, ![4, 1024]⟩
abbrev S4x512 : Shape := ⟨2, ![4, 512]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S4x6144 : S_.BroadcastsInDim S4x6144 (![] : Fin 0 → Fin S4x6144.rank)
  bcast_S_S4x1024 : S_.BroadcastsInDim S4x1024 (![] : Fin 0 → Fin S4x1024.rank)
  bcast_S_S4x512 : S_.BroadcastsInDim S4x512 (![] : Fin 0 → Fin S4x512.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn_part2 {F : FTy → Type} [FloatOps F] (main_arg12 : FVec F S4096x1024 .f32) (main_v4 : IVec S4096x512 1) (main_v9 : IVec S4096x512 1) (main_v14 : IVec S4x6144 1) (main_v19 : IVec S4x1024 1) (main_v24 : IVec S4x512 1) (main_v29 : IVec S4x512 1) (main_v31 : IVec S1024x1024 1) (main_v33 : IVec S1024x1024 1) : IVec S4096x512 1 × IVec S4096x512 1 × IVec S4x6144 1 × IVec S4x1024 1 × IVec S4x512 1 × IVec S4x512 1 × IVec S1024x1024 1 × IVec S4096x1024 1 :=
  let main_v34 : IVec S1024x1024 1 := andi main_v31 main_v33
  let main_cst_13 : FVec F S_ .f32 := constant S_ .f32 0xFF800000#32
  let main_v35 : FVec F S4096x1024 .f32 := broadcastInDim S4096x1024 ![] bcast_S_S4096x1024 main_cst_13
  let main_v36 : IVec S4096x1024 1 := cmpf .ogt main_arg12 main_v35
  let main_cst_14 : FVec F S_ .f32 := constant S_ .f32 0x7F800000#32
  let main_v37 : FVec F S4096x1024 .f32 := broadcastInDim S4096x1024 ![] bcast_S_S4096x1024 main_cst_14
  let main_v38 : IVec S4096x1024 1 := cmpf .olt main_arg12 main_v37
  let main_v39 : IVec S4096x1024 1 := andi main_v36 main_v38
  (main_v4, main_v9, main_v14, main_v19, main_v24, main_v29, main_v34, main_v39)

def fn_part1 {F : FTy → Type} [FloatOps F] (main_arg4 : FVec F S4x1024 .f32) (main_arg7 : FVec F S4x512 .f32) (main_arg8 : FVec F S4x512 .f32) (main_arg11 : FVec F S1024x1024 .f32) (main_arg12 : FVec F S4096x1024 .f32) (main_v4 : IVec S4096x512 1) (main_v9 : IVec S4096x512 1) (main_v14 : IVec S4x6144 1) (main_v16 : IVec S4x1024 1) : IVec S4096x512 1 × IVec S4096x512 1 × IVec S4x6144 1 × IVec S4x1024 1 × IVec S4x512 1 × IVec S4x512 1 × IVec S1024x1024 1 × IVec S4096x1024 1 :=
  let main_cst_6 : FVec F S_ .f32 := constant S_ .f32 0x7F800000#32
  let main_v17 : FVec F S4x1024 .f32 := broadcastInDim S4x1024 ![] bcast_S_S4x1024 main_cst_6
  let main_v18 : IVec S4x1024 1 := cmpf .olt main_arg4 main_v17
  let main_v19 : IVec S4x1024 1 := andi main_v16 main_v18
  let main_cst_7 : FVec F S_ .f32 := constant S_ .f32 0xFF800000#32
  let main_v20 : FVec F S4x512 .f32 := broadcastInDim S4x512 ![] bcast_S_S4x512 main_cst_7
  let main_v21 : IVec S4x512 1 := cmpf .ogt main_arg7 main_v20
  let main_cst_8 : FVec F S_ .f32 := constant S_ .f32 0x7F800000#32
  let main_v22 : FVec F S4x512 .f32 := broadcastInDim S4x512 ![] bcast_S_S4x512 main_cst_8
  let main_v23 : IVec S4x512 1 := cmpf .olt main_arg7 main_v22
  let main_v24 : IVec S4x512 1 := andi main_v21 main_v23
  let main_cst_9 : FVec F S_ .f32 := constant S_ .f32 0xFF800000#32
  let main_v25 : FVec F S4x512 .f32 := broadcastInDim S4x512 ![] bcast_S_S4x512 main_cst_9
  let main_v26 : IVec S4x512 1 := cmpf .ogt main_arg8 main_v25
  let main_cst_10 : FVec F S_ .f32 := constant S_ .f32 0x7F800000#32
  let main_v27 : FVec F S4x512 .f32 := broadcastInDim S4x512 ![] bcast_S_S4x512 main_cst_10
  let main_v28 : IVec S4x512 1 := cmpf .olt main_arg8 main_v27
  let main_v29 : IVec S4x512 1 := andi main_v26 main_v28
  let main_cst_11 : FVec F S_ .f32 := constant S_ .f32 0xFF800000#32
  let main_v30 : FVec F S1024x1024 .f32 := broadcastInDim S1024x1024 ![] bcast_S_S1024x1024 main_cst_11
  let main_v31 : IVec S1024x1024 1 := cmpf .ogt main_arg11 main_v30
  let main_cst_12 : FVec F S_ .f32 := constant S_ .f32 0x7F800000#32
  let main_v32 : FVec F S1024x1024 .f32 := broadcastInDim S1024x1024 ![] bcast_S_S1024x1024 main_cst_12
  let main_v33 : IVec S1024x1024 1 := cmpf .olt main_arg11 main_v32
  fn_part2 (F := F) main_arg12 main_v4 main_v9 main_v14 main_v19 main_v24 main_v29 main_v31 main_v33

def fn {F : FTy → Type} [FloatOps F] (main_arg0 : FVec F S4096x512 .f32) (main_arg1 : FVec F S4096x512 .f32) (main_arg2 : FVec F S4x6144 .f32) (main_arg3 : FVec F S4x1024 .f32) (main_arg4 : FVec F S4x1024 .f32) (main_arg5 : FVec F S4x1024 .f32) (main_arg6 : FVec F S4x1024 .f32) (main_arg7 : FVec F S4x512 .f32) (main_arg8 : FVec F S4x512 .f32) (main_arg9 : FVec F S4x512 .f32) (main_arg10 : FVec F S4x512 .f32) (main_arg11 : FVec F S1024x1024 .f32) (main_arg12 : FVec F S4096x1024 .f32) : IVec S4096x512 1 × IVec S4096x512 1 × IVec S4x6144 1 × IVec S4x1024 1 × IVec S4x512 1 × IVec S4x512 1 × IVec S1024x1024 1 × IVec S4096x1024 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_cst_1 : FVec F S_ .f32 := constant S_ .f32 0xFF800000#32
  let main_v5 : FVec F S4096x512 .f32 := broadcastInDim S4096x512 ![] bcast_S_S4096x512 main_cst_1
  let main_v6 : IVec S4096x512 1 := cmpf .ogt main_arg1 main_v5
  let main_cst_2 : FVec F S_ .f32 := constant S_ .f32 0x7F800000#32
  let main_v7 : FVec F S4096x512 .f32 := broadcastInDim S4096x512 ![] bcast_S_S4096x512 main_cst_2
  let main_v8 : IVec S4096x512 1 := cmpf .olt main_arg1 main_v7
  let main_v9 : IVec S4096x512 1 := andi main_v6 main_v8
  let main_cst_3 : FVec F S_ .f32 := constant S_ .f32 0xFF800000#32
  let main_v10 : FVec F S4x6144 .f32 := broadcastInDim S4x6144 ![] bcast_S_S4x6144 main_cst_3
  let main_v11 : IVec S4x6144 1 := cmpf .ogt main_arg2 main_v10
  let main_cst_4 : FVec F S_ .f32 := constant S_ .f32 0x7F800000#32
  let main_v12 : FVec F S4x6144 .f32 := broadcastInDim S4x6144 ![] bcast_S_S4x6144 main_cst_4
  let main_v13 : IVec S4x6144 1 := cmpf .olt main_arg2 main_v12
  let main_v14 : IVec S4x6144 1 := andi main_v11 main_v13
  let main_cst_5 : FVec F S_ .f32 := constant S_ .f32 0xFF800000#32
  let main_v15 : FVec F S4x1024 .f32 := broadcastInDim S4x1024 ![] bcast_S_S4x1024 main_cst_5
  let main_v16 : IVec S4x1024 1 := cmpf .ogt main_arg4 main_v15
  fn_part1 (F := F) main_arg4 main_arg7 main_arg8 main_arg11 main_arg12 main_v4 main_v9 main_v14 main_v16
-- ==== Pre_prep_finite.lean ====
abbrev S4x32x64 : Shape := ⟨3, ![4, 32, 64]⟩
abbrev S4x32 : Shape := ⟨2, ![4, 32]⟩
abbrev S4x32x64x16 : Shape := ⟨4, ![4, 32, 64, 16]⟩
abbrev S_ : Shape := ⟨0, ![]⟩

class Facts : Prop where
  bcast_S_S4x32 : S_.BroadcastsInDim S4x32 (![] : Fin 0 → Fin S4x32.rank)

variable [Facts]

def fn {F : FTy → Type} [FloatOps F] (main_arg0 : FVec F S4x32x64 .f32) (main_arg1 : FVec F S4x32x64 .f32) (main_arg2 : FVec F S4x32 .f32) (main_arg3 : FVec F S4x32x64x16 .f32) (main_arg4 : FVec F S4x32x64x16 .f32) (main_arg5 : FVec F S4x32x64 .f32) (main_arg6 : FVec F S4x32x64 .f32) (main_arg7 : FVec F S4x32x64x16 .f32) (main_arg8 : FVec F S4x32x64x16 .f32) : IVec S4x32 1 :=
  let main_cst : FVec F S_ .f32 := constant S_ .f32 0xFF800000#32
  let main_v0 : FVec F S4x32 .f32 := broadcastInDim S4x32 ![] bcast_S_S4x32 main_cst
  let main_v1 : IVec S4x32 1 := cmpf .ogt main_arg2 main_v0
  let main_cst_0 : FVec F S_ .f32 := constant S_ .f32 0x7F800000#32
  let main_v2 : FVec F S4x32 .f32 := broadcastInDim S4x32 ![] bcast_S_S4x32 main_cst_0
  let main_v3 : IVec S4x32 1 := cmpf .olt main_arg2 main_v2
  let main_v4 : IVec S4x32 1 := andi main_v1 main_v3
  main_v4
-- ==== Loss.lean ====
abbrev S4096x1024 : Shape := ⟨2, ![4096, 1024]⟩
abbrev S16x8x128 : Shape := ⟨3, ![16, 8, 128]⟩
abbrev S256x1024 : Shape := ⟨2, ![256, 1024]⟩
abbrev S1x8x128 : Shape := ⟨3, ![1, 8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S8x128 : Shape := ⟨2, ![8, 128]⟩
abbrev S16x1x1 : Shape := ⟨3, ![16, 1, 1]⟩
abbrev S16 : Shape := ⟨1, ![16]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S16x8x128, .f32⟩
  | .hbm, ⟨4, _⟩ => ⟨S16x1x1, .f32⟩
  | .hbm, ⟨5, _⟩ => ⟨S16, .f32⟩
  | .hbm, ⟨6, _⟩ => ⟨S_, .f32⟩
  | .hbm, ⟨7, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x8x128, .f32⟩
  | .local _ .vmem, ⟨7, _⟩ => ⟨S1x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Ada.lean ====
abbrev S8x1024 : Shape := ⟨2, ![8, 1024]⟩
abbrev S4x1024x1536 : Shape := ⟨3, ![4, 1024, 1536]⟩
abbrev S4x1536 : Shape := ⟨2, ![4, 1536]⟩
abbrev S4x8x1536 : Shape := ⟨3, ![4, 8, 1536]⟩
abbrev S1024x8 : Shape := ⟨2, ![1024, 8]⟩
abbrev S1x8x512 : Shape := ⟨3, ![1, 8, 512]⟩
abbrev S1x1024x512 : Shape := ⟨3, ![1, 1024, 512]⟩
abbrev S8x512 : Shape := ⟨2, ![8, 512]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x8x1536, .f32⟩
  | .hbm, ⟨4, _⟩ => ⟨S1024x8, .f32⟩
  | .hbm, ⟨5, _⟩ => ⟨S4x1024x1536, .f32⟩
  | .local _ .vmem, ⟨0, _⟩ => ⟨S1024x8, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaRefIdeal.lean ====
abbrev S8x1024 : Shape := ⟨2, ![8, 1024]⟩
abbrev S4x1024x1536 : Shape := ⟨3, ![4, 1024, 1536]⟩
abbrev S4x1536 : Shape := ⟨2, ![4, 1536]⟩
abbrev S4x8x1536 : Shape := ⟨3, ![4, 8, 1536]⟩
abbrev S_ : Shape := ⟨0, ![]⟩
abbrev S8x4x1536 : Shape := ⟨3, ![8, 4, 1536]⟩
abbrev S4x1x1536 : Shape := ⟨3, ![4, 1, 1536]⟩
abbrev S4x1536x1024 : Shape := ⟨3, ![4, 1536, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x8x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4x1536, .f32⟩
  | .hbm, ⟨14, _⟩ => ⟨S4x1x1536, .f32⟩
  | .hbm, ⟨15, _⟩ => ⟨S4x8x1536, .f32⟩
  | .hbm, ⟨16, _⟩ => ⟨S4x8x1536, .f32⟩
  | .hbm, ⟨17, _⟩ => ⟨S4x8x1536, .f32⟩
  | .hbm, ⟨18, _⟩ => ⟨S8x4x1536, .f32⟩
  | .hbm, ⟨19, _⟩ => ⟨S4x1536x1024, .f32⟩
  | .hbm, ⟨20, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== In.lean ====
abbrev S4096x1024 : Shape := ⟨2, ![4096, 1024]⟩
abbrev S4x6144 : Shape := ⟨2, ![4, 6144]⟩
abbrev S4x1024 : Shape := ⟨2, ![4, 1024]⟩
abbrev S1024x1280 : Shape := ⟨2, ![1024, 1280]⟩
abbrev S4096x512 : Shape := ⟨2, ![4096, 512]⟩
abbrev S4096x128 : Shape := ⟨2, ![4096, 128]⟩
abbrev S4096x256 : Shape := ⟨2, ![4096, 256]⟩
abbrev S4096x4x128 : Shape := ⟨3, ![4096, 4, 128]⟩
abbrev S4x4096x128 : Shape := ⟨3, ![4, 4096, 128]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S1280x1024 : Shape := ⟨2, ![1280, 1024]⟩
abbrev S4096x1280 : Shape := ⟨2, ![4096, 1280]⟩
abbrev S16x1024 : Shape := ⟨2, ![16, 1024]⟩
abbrev S512x1024 : Shape := ⟨2, ![512, 1024]⟩
abbrev S512x512 : Shape := ⟨2, ![512, 512]⟩
abbrev S512x256 : Shape := ⟨2, ![512, 256]⟩
abbrev S4x512x128 : Shape := ⟨3, ![4, 512, 128]⟩
abbrev S1x16x1024 : Shape := ⟨3, ![1, 16, 1024]⟩
abbrev S512x1280 : Shape := ⟨2, ![512, 1280]⟩
abbrev S1x512x128 : Shape := ⟨3, ![1, 512, 128]⟩
abbrev S512x128 : Shape := ⟨2, ![512, 128]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 34
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x1280, .f32⟩
  | .hbm, ⟨7, _⟩ => ⟨S4096x1024, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x512, .f32⟩
  | .hbm, ⟨12, _⟩ => ⟨S4096x256, .f32⟩
  | .hbm, ⟨13, _⟩ => ⟨S4096x4x128, .f32⟩
  | .hbm, ⟨14, _⟩ => ⟨S4x4096x128, .f32⟩
  | .hbm, ⟨15, _⟩ => ⟨S_, .f32⟩
  | .hbm, ⟨16, _⟩ => ⟨S4x6x1024, .f32⟩
  | .hbm, ⟨17, _⟩ => ⟨S4x6x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x16x1024, .f32⟩
  | .hbm, ⟨23, _⟩ => ⟨S1280x1024, .f32⟩
  | .hbm, ⟨24, _⟩ => ⟨S1280x1024, .bf16⟩
  | .hbm, ⟨25, _⟩ => ⟨S4096x1024, .f32⟩
  | .hbm, ⟨26, _⟩ => ⟨S4096x1280, .bf16⟩
  | .hbm, ⟨27, _⟩ => ⟨S16x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S4x512x128, .f32⟩
  | .local _ .vmem, ⟨7, _⟩ => ⟨S4x512x128, .f32⟩
  | .local _ .vmem, ⟨8, _⟩ => ⟨S512x1024, .f32⟩
  | .local _ .vmem, ⟨9, _⟩ => ⟨S512x1024, .f32⟩
  | .local _ .vmem, ⟨10, _⟩ => ⟨S1x16x1024, .f32⟩
  | .local _ .vmem, ⟨11, _⟩ => ⟨S1280x1024, .bf16⟩
  | .local _ .vmem, ⟨12, _⟩ => ⟨S512x1024, .f32⟩
  | .local _ .vmem, ⟨13, _⟩ => ⟨S512x1024, .f32⟩
  | .local _ .vmem, ⟨14, _⟩ => ⟨S512x1280, .bf16⟩
  | .local _ .vmem, ⟨15, _⟩ => ⟨S512x1280, .bf16⟩
  | .local _ .vmem, ⟨16, _⟩ => ⟨S16x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InRefIdeal.lean ====
abbrev S4096x1024 : Shape := ⟨2, ![4096, 1024]⟩
abbrev S4x6144 : Shape := ⟨2, ![4, 6144]⟩
abbrev S4x1024 : Shape := ⟨2, ![4, 1024]⟩
abbrev S1024x1280 : Shape := ⟨2, ![1024, 1280]⟩
abbrev S4096x512 : Shape := ⟨2, ![4096, 512]⟩
abbrev S4096x128 : Shape := ⟨2, ![4096, 128]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x1280 : Shape := ⟨2, ![4096, 1280]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x1280, .f32⟩
  | .hbm, ⟨7, _⟩ => ⟨S4096x1024, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x512, .f32⟩
  | .hbm, ⟨12, _⟩ => ⟨S1x6144, .f32⟩
  | .hbm, ⟨13, _⟩ => ⟨S6144, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1280, .f32⟩
  | .hbm, ⟨52, _⟩ => ⟨S4096x512, .f32⟩
  | .hbm, ⟨53, _⟩ => ⟨S4096x128, .f32⟩
  | .hbm, ⟨54, _⟩ => ⟨S4096x128, .f32⟩
  | .hbm, ⟨55, _⟩ => ⟨S4096x512, .f32⟩
  | .hbm, ⟨56, _⟩ => ⟨S4096x1280, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1280, .f32⟩
  | .hbm, ⟨98, _⟩ => ⟨S4096x1280, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Out.lean ====
abbrev S4096x512 : Shape := ⟨2, ![4096, 512]⟩
abbrev S4x6144 : Shape := ⟨2, ![4, 6144]⟩
abbrev S4x1024 : Shape := ⟨2, ![4, 1024]⟩
abbrev S4x512 : Shape := ⟨2, ![4, 512]⟩
abbrev S1024x1024 : Shape := ⟨2, ![1024, 1024]⟩
abbrev S4096x1024 : Shape := ⟨2, ![4096, 1024]⟩
abbrev S4096x4x128 : Shape := ⟨3, ![4096, 4, 128]⟩
abbrev S4x4096x128 : Shape := ⟨3, ![4, 4096, 128]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S4x1x512 : Shape := ⟨3, ![4, 1, 512]⟩
abbrev S4x4x512 : Shape := ⟨3, ![4, 4, 512]⟩
abbrev S4x8x512 : Shape := ⟨3, ![4, 8, 512]⟩
abbrev S16x1024 : Shape := ⟨2, ![16, 1024]⟩
abbrev S8x512 : Shape := ⟨2, ![8, 512]⟩
abbrev S512x1024 : Shape := ⟨2, ![512, 1024]⟩
abbrev S512x512 : Shape := ⟨2, ![512, 512]⟩
abbrev S4x512x128 : Shape := ⟨3, ![4, 512, 128]⟩
abbrev S1x16x1024 : Shape := ⟨3, ![1, 16, 1024]⟩
abbrev S1x8x512 : Shape := ⟨3, ![1, 8, 512]⟩
abbrev S1x1x512 : Shape := ⟨3, ![1, 1, 512]⟩
abbrev S1x512 : Shape := ⟨2, ![1, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 47
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x6144, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S1024x1024, .f32⟩
  | .hbm, ⟨12, _⟩ => ⟨S4096x1024, .f32⟩
  | .hbm, ⟨13, _⟩ => ⟨S4096x4x128, .f32⟩
  | .hbm, ⟨14, _⟩ => ⟨S4x4096x128, .f32⟩
  | .hbm, ⟨15, _⟩ => ⟨S_, .f32⟩
  | .hbm, ⟨16, _⟩ => ⟨S4x6x1024, .f32⟩
  | .hbm, ⟨17, _⟩ => ⟨S4x6x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x16x1024, .f32⟩
  | .hbm, ⟨23, _⟩ => ⟨S4x1x512, .f32⟩
  | .hbm, ⟨24, _⟩ => ⟨S4x1x512, .f32⟩
  | .hbm, ⟨25, _⟩ => ⟨S4x1x512, .f32⟩
  | .hbm, ⟨26, _⟩ => ⟨S4x1x512, .f32⟩
  | .hbm, ⟨27, _⟩ => ⟨S_, .f32⟩
  | .hbm, ⟨28, _⟩ => ⟨S4x4x512, .f32⟩
  | .hbm, ⟨29, _⟩ => ⟨S4x8x512, .f32⟩
  | .hbm, ⟨30, _⟩ => ⟨S1024x1024, .bf16⟩
  | .hbm, ⟨31, _⟩ => ⟨S4096x512, .f32⟩
  | .hbm, ⟨32, _⟩ => ⟨S4x4096x128, .f32⟩
  | .hbm, ⟨33, _⟩ => ⟨S4096x1024, .bf16⟩
  | .hbm, ⟨34, _⟩ => ⟨S4096x1024, .bf16⟩
  | .hbm, ⟨35, _⟩ => ⟨S16x1024, .f32⟩
  | .hbm, ⟨36, _⟩ => ⟨S8x512, .f32⟩
  | .hbm, ⟨37, _⟩ => ⟨S4096x4x128, .f32⟩
  | .hbm, ⟨38, _⟩ => ⟨S4096x512, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S1x512, .f32⟩
  | .hbm, ⟨44, _⟩ => ⟨S512, .f32⟩
  | .hbm, ⟨45, _⟩ => ⟨S1x512, .f32⟩
  | .hbm, ⟨46, _⟩ => ⟨S512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S4x512x128, .f32⟩
  | .local _ .vmem, ⟨5, _⟩ => ⟨S4x512x128, .f32⟩
  | .local _ .vmem, ⟨6, _⟩ => ⟨S1x16x1024, .f32⟩
  | .local _ .vmem, ⟨7, _⟩ => ⟨S1x8x512, .f32⟩
  | .local _ .vmem, ⟨8, _⟩ => ⟨S1024x1024, .bf16⟩
  | .local _ .vmem, ⟨9, _⟩ => ⟨S512x512, .f32⟩
  | .local _ .vmem, ⟨10, _⟩ => ⟨S512x512, .f32⟩
  | .local _ .vmem, ⟨11, _⟩ => ⟨S4x512x128, .f32⟩
  | .local _ .vmem, ⟨12, _⟩ => ⟨S4x512x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S16x1024, .f32⟩
  | .local _ .vmem, ⟨18, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRefIdeal.lean ====
abbrev S4096x512 : Shape := ⟨2, ![4096, 512]⟩
abbrev S4x6144 : Shape := ⟨2, ![4, 6144]⟩
abbrev S4x1024 : Shape := ⟨2, ![4, 1024]⟩
abbrev S4x512 : Shape := ⟨2, ![4, 512]⟩
abbrev S1024x1024 : Shape := ⟨2, ![1024, 1024]⟩
abbrev S4096x1024 : Shape := ⟨2, ![4096, 1024]⟩
abbrev S1x6144 : Shape := ⟨2, ![1, 6144]⟩
abbrev S6144 : Shape := ⟨1, ![6144]⟩
abbrev S1024 : Shape := ⟨1, ![1024]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 180
  | .vmem => 0
  | .smem => 0
  | _ => 0

abbrev hbmTy0_0 (i : Nat) : BufTy := match i % 128 with
  | 0 => ⟨S4096x512, .f32⟩
  | 1 => ⟨S4096x512, .f32⟩
  | 2 => ⟨S4x6144, .f32⟩
  | 3 => ⟨S4x1024, .f32⟩
  | 4 => ⟨S4x1024, .f32⟩
  | 5 => ⟨S4x1024, .f32⟩
  | 6 => ⟨S4x1024, .f32⟩
  | 7 => ⟨S4x512, .f32⟩
  | 8 => ⟨S4x512, .f32⟩
  | 9 => ⟨S4x512, .f32⟩
  | 10 => ⟨S4x512, .f32⟩
  | 11 => ⟨S1024x1024, .f32⟩
  | 12 => ⟨S4096x1024, .f32⟩
  | 13 => ⟨S1x6144, .f32⟩
  | 14 => ⟨S6144, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1x512, .f32⟩
  | 22 => ⟨S512, .f32⟩
  | 23 => ⟨S1x512, .f32⟩
  | 24 => ⟨S512, .f32⟩
  | 25 => ⟨S4096x512, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x512, .f32⟩
  | 61 => ⟨S4096x512, .f32⟩
  | 62 => ⟨S1x512, .f32⟩
  | 63 => ⟨S4096x512, .f32⟩
  | 64 => ⟨S4096x512, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1024, .f32⟩
  | 85 => ⟨S4096x1024, .f32⟩
  | 86 => ⟨S1x1024, .f32⟩
  | 87 => ⟨S4096x1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S_, .f32⟩
  | 99 => ⟨S1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S_, .f32⟩
  | 107 => ⟨S1024, .f32⟩
  | 108 => ⟨S4096x1024, .f32⟩
  | 109 => ⟨S_, .f32⟩
  | 110 => ⟨S4096, .f32⟩
  | 111 => ⟨S4096x1, .f32⟩
  | 112 => ⟨S4096x1024, .f32⟩
  | 113 => ⟨S4096x1024, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x512, .f32⟩
  | 127 => ⟨S4096x512, .f32⟩
  | _ => ⟨S4096x512, .f32⟩

abbrev hbmTy0_1 (i : Nat) : BufTy := match i % 128 with
  | 0 => ⟨S4096x512, .f32⟩
  | 1 => ⟨S_, .f32⟩
  | 2 => ⟨S512, .f32⟩
  | 3 => ⟨S1x512, .f32⟩
  | 4 => ⟨S4096x512, .f32⟩
  | 5 => ⟨S4096x512, .f32⟩
  | 6 => ⟨S_, .f32⟩
  | 7 => ⟨S512, .f32⟩
  | 8 => ⟨S4096x512, .f32⟩
  | 9 => ⟨S_, .f32⟩
  | 10 => ⟨S4096, .f32⟩
  | 11 => ⟨S4096x1, .f32⟩
  | 12 => ⟨S4096x512, .f32⟩
  | 13 => ⟨S4096x512, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096, .f32⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S_, .f32⟩
  | 27 => ⟨S512, .f32⟩
  | 28 => ⟨S1x512, .f32⟩
  | 29 => ⟨S4096x512, .f32⟩
  | 30 => ⟨S4096x512, .f32⟩
  | 31 => ⟨S_, .f32⟩
  | 32 => ⟨S512, .f32⟩
  | 33 => ⟨S4096x512, .f32⟩
  | 34 => ⟨S_, .f32⟩
  | 35 => ⟨S4096, .f32⟩
  | 36 => ⟨S4096x1, .f32⟩
  | 37 => ⟨S4096x512, .f32⟩
  | 38 => ⟨S4096x512, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x1024, .bf16⟩
  | 51 => ⟨S4096x1024, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_19 : Ref sig .tc := ⟨.hbm, 134, rfl⟩
abbrev main_v101 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_21 : Ref sig .tc := ⟨.hbm, 143, rfl⟩
abbrev main_v108 : Ref sig .tc := ⟨.hbm, 144, rfl⟩
abbrev main_v109 : Ref sig .tc := ⟨.hbm, 145, rfl⟩
abbrev main_cst_22 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_23 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_24 : Ref sig .tc := ⟨.hbm, 159, rfl⟩
abbrev main_v121 : Ref sig .tc := ⟨.hbm, 160, rfl⟩
abbrev main_v122 : Ref sig .tc := ⟨.hbm, 161, rfl⟩
abbrev main_cst_25 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_26 : Ref sig .tc := ⟨.hbm, 168, rfl⟩
abbrev main_v128 : Ref sig .tc := ⟨.hbm, 169, rfl⟩
abbrev main_v129 : Ref sig .tc := ⟨.hbm, 170, rfl⟩
abbrev main_cst_27 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]
-- ==== Mlp.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S4096 : Shape := ⟨1, ![4096]⟩
abbrev S4096x1 : Shape := ⟨2, ![4096, 1]⟩
abbrev S4096x4096 : Shape := ⟨2, ![4096, 4096]⟩
abbrev S16x1024 : Shape := ⟨2, ![16, 1024]⟩
abbrev S256x1024 : Shape := ⟨2, ![256, 1024]⟩
abbrev S256x4096 : Shape := ⟨2, ![256, 4096]⟩
abbrev S1x16x1024 : Shape := ⟨3, ![1, 16, 1024]⟩
abbrev S2 : Shape := ⟨1, ![2]⟩
abbrev S1 : Shape := ⟨1, ![1]⟩
abbrev S1x1x1024 : Shape := ⟨3, ![1, 1, 1024]⟩
abbrev S256 : Shape := ⟨1, ![256]⟩
abbrev S256x1 : Shape := ⟨2, ![256, 1]⟩

abbrev nBuf : Space → Nat
  | .hbm => 77
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4x6x1024, .f32⟩
  | .hbm, ⟨11, _⟩ => ⟨S4x6x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x16x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S1x6144, .f32⟩
  | .hbm, ⟨21, _⟩ => ⟨S6144, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .bf16⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x4096, .bf16⟩
  | .hbm, ⟨65, _⟩ => ⟨S4096x1024, .bf16⟩
  | .hbm, ⟨66, _⟩ => ⟨S16x1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S1024, .f32⟩
  | .hbm, ⟨75, _⟩ => ⟨S1x1024, .f32⟩
  | .hbm, ⟨76, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S256x1024, .f32⟩
  | .local _ .vmem, ⟨7, _⟩ => ⟨S256x1024, .f32⟩
  | .local _ .vmem, ⟨8, _⟩ => ⟨S1x16x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S16x1024, .f32⟩
  | .local _ .vmem, ⟨18, _⟩ => ⟨S4096x1024, .bf16⟩
  | .local _ .vmem, ⟨19, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_cst : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v46_2 : Ref sig .tc := ⟨.hbm, 64, rfl⟩
abbrev main_v46_3 : Ref sig .tc := ⟨.hbm, 65, rfl⟩
abbrev main_v46_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpRefIdeal.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 170
  | .vmem => 0
  | .smem => 0
  | _ => 0

abbrev hbmTy0_0 (i : Nat) : BufTy := match i % 128 with
  | 0 => ⟨S4096x1024, .f32⟩
  | 1 => ⟨S4x6144, .f32⟩
  | 2 => ⟨S4x1024, .f32⟩
  | 3 => ⟨S4x1024, .f32⟩
  | 4 => ⟨S4x1024, .f32⟩
  | 5 => ⟨S4x1024, .f32⟩
  | 6 => ⟨S1024x4096, .f32⟩
  | 7 => ⟨S4096x1024, .f32⟩
  | 8 => ⟨S4096x1024, .f32⟩
  | 9 => ⟨S1x6144, .f32⟩
  | 10 => ⟨S6144, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1x1024, .f32⟩
  | 18 => ⟨S1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x1024, .f32⟩
  | 35 => ⟨S4096x1024, .f32⟩
  | 36 => ⟨S1x1024, .f32⟩
  | 37 => ⟨S4096x1024, .f32⟩
  | 38 => ⟨S4096x1024, .f32⟩
  | 39 => ⟨S_, .f32⟩
  | 40 => ⟨S1024, .f32⟩
  | 41 => ⟨S1024, .f32⟩
  | 42 => ⟨S1x1024, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .i1⟩
  | 55 => ⟨S_, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S4096x1024, .f32⟩
  | 62 => ⟨S1x1024, .f32⟩
  | 63 => ⟨S1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1024, .f32⟩
  | 80 => ⟨S4096x1024, .f32⟩
  | 81 => ⟨S1x1024, .f32⟩
  | 82 => ⟨S4096x1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S_, .f32⟩
  | 104 => ⟨S1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S4096x1024, .f32⟩
  | _ => ⟨S4096x1024, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S4096x1024, .f32⟩
  | 11 => ⟨S_, .f32⟩
  | 12 => ⟨S1024, .f32⟩
  | 13 => ⟨S4096x1024, .f32⟩
  | 14 => ⟨S_, .f32⟩
  | 15 => ⟨S1024, .f32⟩
  | 16 => ⟨S1x1024, .f32⟩
  | 17 => ⟨S4096x1024, .f32⟩
  | 18 => ⟨S4096x1024, .f32⟩
  | 19 => ⟨S_, .f32⟩
  | 20 => ⟨S1024, .f32⟩
  | 21 => ⟨S4096x1024, .f32⟩
  | 22 => ⟨S_, .f32⟩
  | 23 => ⟨S4096, .f32⟩
  | 24 => ⟨S4096x1, .f32⟩
  | 25 => ⟨S4096x1024, .f32⟩
  | 26 => ⟨S4096x1024, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .bf16⟩
  | 40 => ⟨S4096x4096, .bf16⟩
  | 41 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_22 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_24 : Ref sig .tc := ⟨.hbm, 147, rfl⟩
abbrev main_v111 : Ref sig .tc := ⟨.hbm, 148, rfl⟩
abbrev main_v112 : Ref sig .tc := ⟨.hbm, 149, rfl⟩
abbrev main_cst_25 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩

abbrev nD : Nat := 1
abbrev τ : Topo := Topo.v7x

variable {F : FTy → Type} [FloatOps F]
-- ==== Attn.lean ====
abbrev S4096x512 : Shape := ⟨2, ![4096, 512]⟩
abbrev S4096x128 : Shape := ⟨2, ![4096, 128]⟩
abbrev S8 : Shape := ⟨1, ![8]⟩
abbrev S4096x256 : Shape := ⟨2, ![4096, 256]⟩
abbrev S32x8x128 : Shape := ⟨3, ![32, 8, 128]⟩
abbrev S128x512 : Shape := ⟨2, ![128, 512]⟩
abbrev S128x256 : Shape := ⟨2, ![128, 256]⟩
abbrev S1x8x128 : Shape := ⟨3, ![1, 8, 128]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S1x1 : Shape := ⟨2, ![1, 1]⟩
abbrev S1x128 : Shape := ⟨2, ![1, 128]⟩
abbrev S256x256 : Shape := ⟨2, ![256, 256]⟩
abbrev S8x128 : Shape := ⟨2, ![8, 128]⟩
abbrev S32x8x1 : Shape := ⟨3, ![32, 8, 1]⟩
abbrev S32x8 : Shape := ⟨2, ![32, 8]⟩
abbrev S_ : Shape := ⟨0, ![]⟩

abbrev nBuf : Space → Nat
  | .hbm => 15
  | .vmem => 15
  | .smem => 1
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S8, .f32⟩
  | .hbm, ⟨4, _⟩ => ⟨S4096x512, .f32⟩
  | .hbm, ⟨5, _⟩ => ⟨S4096x256, .f32⟩
  | .hbm, ⟨6, _⟩ => ⟨S4096x256, .bf16⟩
  | .hbm, ⟨7, _⟩ => ⟨S4096x512, .bf16⟩
  | .hbm, ⟨8, _⟩ => ⟨S4096x512, .f32⟩
  | .hbm, ⟨9, _⟩ => ⟨S4096x256, .f32⟩
  | .hbm, ⟨10, _⟩ => ⟨S32x8x128, .f32⟩
  | .hbm, ⟨11, _⟩ => ⟨S32x8x1, .f32⟩
  | .hbm, ⟨12, _⟩ => ⟨S32x8, .f32⟩
  | .hbm, ⟨13, _⟩ => ⟨S_, .f32⟩
  | .hbm, ⟨14, _⟩ => ⟨S8, .f32⟩
  | .local _ .vmem, ⟨0, _⟩ => ⟨S128x512, .bf16⟩
  | .local _ .vmem, ⟨1, _⟩ => ⟨S128x512, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x256, .f32⟩
  | .local _ .vmem, ⟨11, _⟩ => ⟨S128x256, .f32⟩
  | .local _ .vmem, ⟨12, _⟩ => ⟨S1x8x128, .f32⟩
  | .local _ .vmem, ⟨13, _⟩ => ⟨S1x8x128, .f32⟩
  | .local _ .vmem, ⟨14, _⟩ => ⟨S128x256, .f32⟩
  | .local _ .smem, ⟨0, _⟩ => ⟨S8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S4096x512 : Shape := ⟨2, ![4096, 512]⟩
abbrev S4096x128 : Shape := ⟨2, ![4096, 128]⟩
abbrev S8 : Shape := ⟨1, ![8]⟩
abbrev S32x128x2x4x64 : Shape := ⟨5, ![32, 128, 2, 4, 64]⟩
abbrev S4096x2x64 : Shape := ⟨3, ![4096, 2, 64]⟩
abbrev S_ : Shape := ⟨0, ![]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S1x2x4x1x1 : Shape := ⟨5, ![1, 2, 4, 1, 1]⟩
abbrev S32x2x4x128x1 : Shape := ⟨5, ![32, 2, 4, 128, 1]⟩
abbrev S32x2x4x128x257 : Shape := ⟨5, ![32, 2, 4, 128, 257]⟩
abbrev S32x2x4x128 : Shape := ⟨4, ![32, 2, 4, 128]⟩
abbrev S32x2x64x4x128 : Shape := ⟨5, ![32, 2, 64, 4, 128]⟩
abbrev S32x2x64x256 : Shape := ⟨4, ![32, 2, 64, 256]⟩
abbrev S32x2x128x4x64 : Shape := ⟨5, ![32, 2, 128, 4, 64]⟩
abbrev S32x2x256x64 : Shape := ⟨4, ![32, 2, 256, 64]⟩
abbrev S4096x256 : Shape := ⟨2, ![4096, 256]⟩

abbrev nBuf : Space → Nat
  | .hbm => 210
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S8, .f32⟩
  | 4 => ⟨S4096x512, .f32⟩
  | 5 => ⟨S32x128x2x4x64, .f32⟩
  | 6 => ⟨S4096x2x64, .f32⟩
  | 7 => ⟨S_, .f32⟩
  | 8 => ⟨S128x2x64, .f32⟩
  | 9 => ⟨S4224x2x64, .f32⟩
  | 10 => ⟨S_, .f32⟩
  | 11 => ⟨S128x2x64, .f32⟩
  | 12 => ⟨S33x128x2x64, .f32⟩
  | 13 => ⟨S32x128x2x64, .f32⟩
  | 14 => ⟨S32x128x2x64, .f32⟩
  | 15 => ⟨S32x256x2x64, .f32⟩
  | 16 => ⟨S4096x2x64, .f32⟩
  | 17 => ⟨S_, .f32⟩
  | 18 => ⟨S128x2x64, .f32⟩
  | 19 => ⟨S4224x2x64, .f32⟩
  | 20 => ⟨S_, .f32⟩
  | 21 => ⟨S128x2x64, .f32⟩
  | 22 => ⟨S33x128x2x64, .f32⟩
  | 23 => ⟨S32x128x2x64, .f32⟩
  | 24 => ⟨S32x128x2x64, .f32⟩
  | 25 => ⟨S32x256x2x64, .f32⟩
  | 26 => ⟨S32x2x256x128x4, .f32⟩
  | 27 => ⟨S32x2x4x128x256, .f32⟩
  | 28 => ⟨S_, .f32⟩
  | 29 => ⟨S32x2x4x128x256, .f32⟩
  | 30 => ⟨S32x2x4x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S32, .i32⟩
  | 42 => ⟨S32x1x1, .i32⟩
  | 43 => ⟨S_, .i32⟩
  | 44 => ⟨S32x1x1, .i32⟩
  | 45 => ⟨S32x1x1, .i32⟩
  | 46 => ⟨S_, .i32⟩
  | 47 => ⟨S32x1x1, .i32⟩
  | 48 => ⟨S32x1x1, .i32⟩
  | 49 => ⟨S1x1x256, .i32⟩
  | 50 => ⟨S32x1x256, .i32⟩
  | 51 => ⟨S32x1x256, .i32⟩
  | 52 => ⟨S32x1x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i1⟩
  | 59 => ⟨S128x256, .i1⟩
  | 60 => ⟨S1x128x256, .i1⟩
  | 61 => ⟨S_, .i32⟩
  | 62 => ⟨S32x1x256, .i32⟩
  | 63 => ⟨S32x1x256, .i1⟩
  | 64 => ⟨S32x128x256, .i1⟩
  | 65 => ⟨S32x128x256, .i1⟩
  | 66 => ⟨S32x128x256, .i1⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S1, .f32⟩
  | 76 => ⟨S1, .f32⟩
  | 77 => ⟨S1, .f32⟩
  | 78 => ⟨S1, .f32⟩
  | 79 => ⟨S1, .f32⟩
  | 80 => ⟨S1, .f32⟩
  | 81 => ⟨S1, .f32⟩
  | 82 => ⟨S1, .f32⟩
  | 83 => ⟨S8, .f32⟩
  | 84 => ⟨S2x4, .f32⟩
  | 85 => ⟨S2x4x1x1, .f32⟩
  | 86 => ⟨S2x4x1x1, .f32⟩
  | 87 => ⟨S128x256, .f32⟩
  | 88 => ⟨S1x1x128x256, .f32⟩
  | 89 => ⟨S2x4x128x256, .f32⟩
  | 90 => ⟨S2x4x128x256, .f32⟩
  | 91 => ⟨S2x4x128x256, .f32⟩
  | 92 => ⟨S32x1x1x128x256, .i1⟩
  | 93 => ⟨S1x2x4x128x256, .f32⟩
  | 94 => ⟨S32x2x4x128x256, .f32⟩
  | 95 => ⟨S32x2x4x128x256, .f32⟩
  | 96 => ⟨S_, .f32⟩
  | 97 => ⟨S_, .f32⟩
  | 98 => ⟨S32x2x4x128x256, .i1⟩
  | 99 => ⟨S32x2x4x128x256, .f32⟩
  | 100 => ⟨S32x2x4x128x256, .f32⟩
  | 101 => ⟨S_, .f32⟩
  | 102 => ⟨S32x2x4x128x256, .f32⟩
  | 103 => ⟨S1x2x4x1x1, .f32⟩
  | 104 => ⟨S32x2x4x128x1, .f32⟩
  | 105 => ⟨S32x2x4x128x257, .f32⟩
  | 106 => ⟨S_, .f32⟩
  | 107 => ⟨S32x2x4x128, .f32⟩
  | 108 => ⟨S32x2x4x128x1, .f32⟩
  | 109 => ⟨S32x2x4x128x257, .f32⟩
  | 110 => ⟨S32x2x4x128x257, .i1⟩
  | 111 => ⟨S32x2x4x128x257, .f32⟩
  | 112 => ⟨S_, .f32⟩
  | 113 => ⟨S32x2x4x128, .f32⟩
  | 114 => ⟨S_, .f32⟩
  | 115 => ⟨S32x2x4x128, .f32⟩
  | 116 => ⟨S32x2x4x128, .f32⟩
  | 117 => ⟨S_, .f32⟩
  | 118 => ⟨S32x2x4x128, .f32⟩
  | 119 => ⟨S32x2x4x128, .i1⟩
  | 120 => ⟨S_, .f32⟩
  | 121 => ⟨S32x2x4x128, .f32⟩
  | 122 => ⟨S32x2x4x128, .i1⟩
  | 123 => ⟨S_, .f32⟩
  | 124 => ⟨S32x2x4x128, .f32⟩
  | 125 => ⟨S_, .f32⟩
  | 126 => ⟨S32x2x4x128, .f32⟩
  | 127 => ⟨S_, .f32⟩
  | _ => ⟨S4096x512, .f32⟩

abbrev hbmTy0_1 (i : Nat) : BufTy := match i % 128 with
  | 0 => ⟨S32x2x4x128, .f32⟩
  | 1 => ⟨S32x2x4x128, .f32⟩
  | 2 => ⟨S32x2x4x128, .f32⟩
  | 3 => ⟨S32x2x4x128x1, .f32⟩
  | 4 => ⟨S32x2x4x128x257, .f32⟩
  | 5 => ⟨S32x2x4x128x257, .f32⟩
  | 6 => ⟨S32x2x4x128x257, .f32⟩
  | 7 => ⟨S_, .f32⟩
  | 8 => ⟨S32x2x4x128, .f32⟩
  | 9 => ⟨S32x2x4x128x1, .f32⟩
  | 10 => ⟨S32x2x4x128x257, .f32⟩
  | 11 => ⟨S32x2x4x128x257, .f32⟩
  | 12 => ⟨S32x2x4x128x1, .f32⟩
  | 13 => ⟨S_, .f32⟩
  | 14 => ⟨S32x2x4x128x1, .f32⟩
  | 15 => ⟨S32x2x4x128x1, .f32⟩
  | 16 => ⟨S32x2x4x128x256, .f32⟩
  | 17 => ⟨S32x2x64x4x128, .f32⟩
  | 18 => ⟨S32x128x2x4x64, .f32⟩
  | 19 => ⟨S4096x512, .f32⟩
  | 20 => ⟨S32x128x2x4x64, .f32⟩
  | 21 => ⟨S32x2x64x4x128, .f32⟩
  | 22 => ⟨S32x2x4x128x256, .f32⟩
  | 23 => ⟨S32x2x64x256, .f32⟩
  | 24 => ⟨S32x256x2x64, .f32⟩
  | 25 => ⟨S_, .f32⟩
  | 26 => ⟨S32x2x4x128x257, .f32⟩
  | 27 => ⟨S32x2x4x128x257, .f32⟩
  | 28 => ⟨S32x2x4x128x257, .f32⟩
  | 29 => ⟨S32x2x4x128x257, .f32⟩
  | 30 => ⟨S_, .f32⟩
  | 31 => ⟨S32x2x4x128, .f32⟩
  | 32 => ⟨S32x2x4x128x1, .f32⟩
  | 33 => ⟨S32x2x4x128x1, .f32⟩
  | 34 => ⟨S32x2x4x128x257, .f32⟩
  | 35 => ⟨S32x2x4x128x257, .f32⟩
  | 36 => ⟨S_, .f32⟩
  | 37 => ⟨S32x2x4x128, .f32⟩
  | 38 => ⟨S32x2x4x128x257, .f32⟩
  | 39 => ⟨S32x2x4x128x257, .f32⟩
  | 40 => ⟨S32x2x4x128x257, .f32⟩
  | 41 => ⟨S32x2x4x128x256, .f32⟩
  | 42 => ⟨S32x2x4x128x1, .f32⟩
  | 43 => ⟨S_, .f32⟩
  | 44 => ⟨S2x4, .f32⟩
  | 45 => ⟨S1x2x4x1x1, .f32⟩
  | 46 => ⟨S8, .f32⟩
  | 47 => ⟨S_, .f32⟩
  | 48 => ⟨S32x2x4x128x256, .f32⟩
  | 49 => ⟨S32x2x4x128x256, .f32⟩
  | 50 => ⟨S_, .f32⟩
  | 51 => ⟨S32x2x4x128x256, .f32⟩
  | 52 => ⟨S32x2x4x128x256, .f32⟩
  | 53 => ⟨S32x2x256x128x4, .f32⟩
  | 54 => ⟨S32x2x128x4x64, .f32⟩
  | 55 => ⟨S32x128x2x4x64, .f32⟩
  | 56 => ⟨S32x2x256x64, .f32⟩
  | 57 => ⟨S32x256x2x64, .f32⟩
  | 58 => ⟨S32x128x2x64, .f32⟩
  | 59 => ⟨S32x128x2x64, .f32⟩
  | 60 => ⟨S_, .f32⟩
  | 61 => ⟨S33x128x2x64, .f32⟩
  | 62 => ⟨S_, .f32⟩
  | 63 => ⟨S33x128x2x64, .f32⟩
  | 64 => ⟨S33x128x2x64, .f32⟩
  | 65 => ⟨S4224x2x64, .f32⟩
  | 66 => ⟨S128x2x64, .f32⟩
  | 67 => ⟨S4096x2x64, .f32⟩
  | 68 => ⟨S4096x128, .f32⟩
  | 69 => ⟨S32x128x2x64, .f32⟩
  | 70 => ⟨S32x128x2x64, .f32⟩
  | 71 => ⟨S_, .f32⟩
  | 72 => ⟨S33x128x2x64, .f32⟩
  | 73 => ⟨S_, .f32⟩
  | 74 => ⟨S33x128x2x64, .f32⟩
  | 75 => ⟨S33x128x2x64, .f32⟩
  | 76 => ⟨S4224x2x64, .f32⟩
  | 77 => ⟨S128x2x64, .f32⟩
  | 78 => ⟨S4096x2x64, .f32⟩
  | 79 => ⟨S4096x128, .f32⟩
  | 80 => ⟨S4096x512, .f32⟩
  | 81 => ⟨S4096x256, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_cst_10 : Ref sig .tc := ⟨.hbm, 68, rfl⟩
abbrev main_cst_11 : Ref sig .tc := ⟨.hbm, 69, rfl⟩
abbrev main_cst_12 : Ref sig .tc := ⟨.hbm, 70, rfl⟩
abbrev main_cst_13 : Ref sig .tc := ⟨.hbm, 71, rfl⟩
abbrev main_cst_14 : Ref sig .tc := ⟨.hbm, 72, rfl⟩
abbrev main_cst_15 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_17 : Ref sig .tc := ⟨.hbm, 96, rfl⟩
abbrev main_call0_v0 : Ref sig .tc := ⟨.hbm, 97, rfl⟩
abbrev main_v72_1 : Ref sig .tc := ⟨.hbm, 98, rfl⟩
abbrev main_call0_v2 : Ref sig .tc := ⟨.hbm, 99, rfl⟩
abbrev main_v72_0 : Ref sig .tc := ⟨.hbm, 100, rfl⟩
abbrev main_call0_cst : Ref sig .tc := ⟨.hbm, 101, rfl⟩
abbrev main_v72_2 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_cst_21 : Ref sig .tc := ⟨.hbm, 117, rfl⟩
abbrev main_v84 : Ref sig .tc := ⟨.hbm, 118, rfl⟩
abbrev main_v85 : Ref sig .tc := ⟨.hbm, 119, rfl⟩
abbrev main_cst_22 : Ref sig .tc := ⟨.hbm, 120, rfl⟩
abbrev main_v86 : Ref sig .tc := ⟨.hbm, 121, rfl⟩
abbrev main_v87 : Ref sig .tc := ⟨.hbm, 122, rfl⟩
abbrev main_cst_23 : Ref sig .tc := ⟨.hbm, 123, rfl⟩
abbrev main_v88 : Ref sig .tc := ⟨.hbm, 124, rfl⟩
abbrev main_cst_24 : Ref sig .tc := ⟨.hbm, 125, rfl⟩
abbrev main_v89 : Ref sig .tc := ⟨.hbm, 126, rfl⟩
abbrev main_cst_25 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_26 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_27 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_28 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_29 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_30 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_31 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_call1_cst : Ref sig .tc := ⟨.hbm, 175, rfl⟩
abbrev main_call1_v0 : Ref sig .tc := ⟨.hbm, 176, rfl⟩
abbrev main_v131 : Ref sig .tc := ⟨.hbm, 177, rfl⟩
abbrev main_cst_32 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_33 : Ref sig .tc := ⟨.hbm, 188, rfl⟩
abbrev main_v141 : Ref sig .tc := ⟨.hbm, 189, rfl⟩
abbrev main_cst_34 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_35 : Ref sig .tc := ⟨.hbm, 199, rfl⟩
abbrev main_v150 : Ref sig .tc := ⟨.hbm, 200, rfl⟩
abbrev main_cst_36 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩

abbrev nD : Nat := 1
abbrev τ : Topo := Topo.v7x

variable {F : FTy → Type} [FloatOps F]

def κ : String → Option EReal := fun
  | "mask" => some ⊥
  | _ => none
-- ==== Prep.lean ====
abbrev S4x32x64 : Shape := ⟨3, ![4, 32, 64]⟩
abbrev S4x32 : Shape := ⟨2, ![4, 32]⟩
abbrev S4x32x64x16 : Shape := ⟨4, ![4, 32, 64, 16]⟩
abbrev S8192x1 : Shape := ⟨2, ![8192, 1]⟩
abbrev S4x32x1 : Shape := ⟨3, ![4, 32, 1]⟩
abbrev S8192x16 : Shape := ⟨2, ![8192, 16]⟩
abbrev S2048x1 : Shape := ⟨2, ![2048, 1]⟩
abbrev S2048x16 : Shape := ⟨2, ![2048, 16]⟩
abbrev S2048 : Shape := ⟨1, ![2048]⟩
abbrev S_ : Shape := ⟨0, ![]⟩

abbrev nBuf : Space → Nat
  | .hbm => 32
  | .vmem => 28
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32, .f32⟩
  | .hbm, ⟨3, _⟩ => ⟨S4x32x64x16, .f32⟩
  | .hbm, ⟨4, _⟩ => ⟨S4x32x64x16, .f32⟩
  | .hbm, ⟨5, _⟩ => ⟨S4x32x64, .f32⟩
  | .hbm, ⟨6, _⟩ => ⟨S4x32x64, .f32⟩
  | .hbm, ⟨7, _⟩ => ⟨S4x32x64x16, .f32⟩
  | .hbm, ⟨8, _⟩ => ⟨S4x32x64x16, .f32⟩
  | .hbm, ⟨9, _⟩ => ⟨S8192x1, .f32⟩
  | .hbm, ⟨10, _⟩ => ⟨S8192x1, .f32⟩
  | .hbm, ⟨11, _⟩ => ⟨S4x32x1, .f32⟩
  | .hbm, ⟨12, _⟩ => ⟨S4x32x64, .f32⟩
  | .hbm, ⟨13, _⟩ => ⟨S8192x1, .f32⟩
  | .hbm, ⟨14, _⟩ => ⟨S8192x16, .f32⟩
  | .hbm, ⟨15, _⟩ => ⟨S8192x16, .f32⟩
  | .hbm, ⟨16, _⟩ => ⟨S8192x1, .f32⟩
  | .hbm, ⟨17, _⟩ => ⟨S8192x1, .f32⟩
  | .hbm, ⟨18, _⟩ => ⟨S8192x16, .f32⟩
  | .hbm, ⟨19, _⟩ => ⟨S8192x16, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x16, .f32⟩
  | .hbm, ⟨24, _⟩ => ⟨S8192x16, .f32⟩
  | .hbm, ⟨25, _⟩ => ⟨S4x32x64, .f32⟩
  | .hbm, ⟨26, _⟩ => ⟨S4x32x64, .f32⟩
  | .hbm, ⟨27, _⟩ => ⟨S4x32x64, .f32⟩
  | .hbm, ⟨28, _⟩ => ⟨S_, .f32⟩
  | .hbm, ⟨29, _⟩ => ⟨S4x32, .f32⟩
  | .hbm, ⟨30, _⟩ => ⟨S4x32x64x16, .f32⟩
  | .hbm, ⟨31, _⟩ => ⟨S4x32x64x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x16, .f32⟩
  | .local _ .vmem, ⟨15, _⟩ => ⟨S2048x16, .f32⟩
  | .local _ .vmem, ⟨16, _⟩ => ⟨S2048x16, .f32⟩
  | .local _ .vmem, ⟨17, _⟩ => ⟨S2048x16, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | .local _ .vmem, ⟨22, _⟩ => ⟨S2048x1, .f32⟩
  | .local _ .vmem, ⟨23, _⟩ => ⟨S2048x1, .f32⟩
  | .local _ .vmem, ⟨24, _⟩ => ⟨S2048x16, .f32⟩
  | .local _ .vmem, ⟨25, _⟩ => ⟨S2048x16, .f32⟩
  | .local _ .vmem, ⟨26, _⟩ => ⟨S2048x16, .f32⟩
  | .local _ .vmem, ⟨27, _⟩ => ⟨S2048x16, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PrepRefIdeal.lean ====
abbrev S4x32x64 : Shape := ⟨3, ![4, 32, 64]⟩
abbrev S4x32 : Shape := ⟨2, ![4, 32]⟩
abbrev S4x32x64x16 : Shape := ⟨4, ![4, 32, 64, 16]⟩
abbrev S4x32x1 : Shape := ⟨3, ![4, 32, 1]⟩
abbrev S_ : Shape := ⟨0, ![]⟩
abbrev S4x32x64x1 : Shape := ⟨4, ![4, 32, 64, 1]⟩

abbrev nBuf : Space → Nat
  | .hbm => 158
  | .vmem => 0
  | .smem => 0
  | _ => 0

abbrev hbmTy0_0 (i : Nat) : BufTy := match i % 128 with
  | 0 => ⟨S4x32x64, .f32⟩
  | 1 => ⟨S4x32x64, .f32⟩
  | 2 => ⟨S4x32, .f32⟩
  | 3 => ⟨S4x32x64x16, .f32⟩
  | 4 => ⟨S4x32x64x16, .f32⟩
  | 5 => ⟨S4x32x64, .f32⟩
  | 6 => ⟨S4x32x64, .f32⟩
  | 7 => ⟨S4x32x64x16, .f32⟩
  | 8 => ⟨S4x32x64x16, .f32⟩
  | 9 => ⟨S4x32, .f32⟩
  | 10 => ⟨S4x32x1, .f32⟩
  | 11 => ⟨S4x32x64, .f32⟩
  | 12 => ⟨S4x32x64, .f32⟩
  | 13 => ⟨S4x32x64, .f32⟩
  | 14 => ⟨S4x32x64, .f32⟩
  | 15 => ⟨S4x32x64, .f32⟩
  | 16 => ⟨S4x32x64, .f32⟩
  | 17 => ⟨S4x32x64, .f32⟩
  | 18 => ⟨S4x32x64, .f32⟩
  | 19 => ⟨S4x32x64, .f32⟩
  | 20 => ⟨S4x32x64, .f32⟩
  | 21 => ⟨S4x32x64, .f32⟩
  | 22 => ⟨S_, .f32⟩
  | 23 => ⟨S4x32x64, .f32⟩
  | 24 => ⟨S4x32x64, .f32⟩
  | 25 => ⟨S4x32x64, .f32⟩
  | 26 => ⟨S4x32x64, .f32⟩
  | 27 => ⟨S4x32x64, .f32⟩
  | 28 => ⟨S4x32x64, .f32⟩
  | 29 => ⟨S4x32x64, .f32⟩
  | 30 => ⟨S4x32x64, .f32⟩
  | 31 => ⟨S4x32x64, .f32⟩
  | 32 => ⟨S4x32x64, .f32⟩
  | 33 => ⟨S_, .f32⟩
  | 34 => ⟨S4x32x64, .f32⟩
  | 35 => ⟨S4x32x64, .f32⟩
  | 36 => ⟨S4x32x64, .f32⟩
  | 37 => ⟨S4x32x64, .f32⟩
  | 38 => ⟨S4x32x64, .f32⟩
  | 39 => ⟨S4x32x64, .f32⟩
  | 40 => ⟨S4x32x64, .f32⟩
  | 41 => ⟨S_, .f32⟩
  | 42 => ⟨S4x32x64, .f32⟩
  | 43 => ⟨S4x32x64, .f32⟩
  | 44 => ⟨S4x32x64x1, .f32⟩
  | 45 => ⟨S4x32x64x16, .f32⟩
  | 46 => ⟨S4x32x64x16, .f32⟩
  | 47 => ⟨S4x32x64x1, .f32⟩
  | 48 => ⟨S4x32x64x16, .f32⟩
  | 49 => ⟨S4x32x64x16, .f32⟩
  | 50 => ⟨S4x32x64x16, .f32⟩
  | 51 => ⟨S4x32x64x1, .f32⟩
  | 52 => ⟨S4x32x64x16, .f32⟩
  | 53 => ⟨S4x32x64x16, .f32⟩
  | 54 => ⟨S4x32x64x1, .f32⟩
  | 55 => ⟨S4x32x64x16, .f32⟩
  | 56 => ⟨S4x32x64x16, .f32⟩
  | 57 => ⟨S4x32x64x16, .f32⟩
  | 58 => ⟨S4x32x64x16, .f32⟩
  | 59 => ⟨S4x32x64x16, .f32⟩
  | 60 => ⟨S4x32x64x16, .f32⟩
  | 61 => ⟨S4x32x64x16, .f32⟩
  | 62 => ⟨S4x32x64x16, .f32⟩
  | 63 => ⟨S_, .f32⟩
  | 64 => ⟨S4x32x64, .f32⟩
  | 65 => ⟨S4x32x64x1, .f32⟩
  | 66 => ⟨S_, .f32⟩
  | 67 => ⟨S4x32x64, .f32⟩
  | 68 => ⟨S4x32x64x16, .f32⟩
  | 69 => ⟨S4x32x64x16, .f32⟩
  | 70 => ⟨S4x32x64x16, .f32⟩
  | 71 => ⟨S_, .f32⟩
  | 72 => ⟨S4x32x64, .f32⟩
  | 73 => ⟨S4x32x64x1, .f32⟩
  | 74 => ⟨S_, .f32⟩
  | 75 => ⟨S4x32x64, .f32⟩
  | 76 => ⟨S4x32x64x16, .f32⟩
  | 77 => ⟨S4x32x64x16, .f32⟩
  | 78 => ⟨S4x32x64x16, .f32⟩
  | 79 => ⟨S4x32x64x16, .f32⟩
  | 80 => ⟨S4x32x64x16, .f32⟩
  | 81 => ⟨S4x32x64x16, .f32⟩
  | 82 => ⟨S_, .f32⟩
  | 83 => ⟨S4x32x64, .f32⟩
  | 84 => ⟨S4x32x64x1, .f32⟩
  | 85 => ⟨S_, .f32⟩
  | 86 => ⟨S4x32x64, .f32⟩
  | 87 => ⟨S4x32x64, .f32⟩
  | 88 => ⟨S4x32x64x16, .f32⟩
  | 89 => ⟨S4x32x64x16, .f32⟩
  | 90 => ⟨S4x32x64x16, .f32⟩
  | 91 => ⟨S4x32x64x16, .f32⟩
  | 92 => ⟨S_, .f32⟩
  | 93 => ⟨S4x32x64, .f32⟩
  | 94 => ⟨S4x32x64x1, .f32⟩
  | 95 => ⟨S_, .f32⟩
  | 96 => ⟨S4x32x64, .f32⟩
  | 97 => ⟨S4x32x64, .f32⟩
  | 98 => ⟨S4x32x64, .f32⟩
  | 99 => ⟨S4x32x64, .f32⟩
  | 100 => ⟨S4x32x64, .f32⟩
  | 101 => ⟨S4x32x64, .f32⟩
  | 102 => ⟨S4x32x64, .f32⟩
  | 103 => ⟨S4x32x64, .f32⟩
  | 104 => ⟨S4x32x64, .f32⟩
  | 105 => ⟨S4x32x64, .f32⟩
  | 106 => ⟨S4x32x64, .f32⟩
  | 107 => ⟨S4x32x64, .f32⟩
  | 108 => ⟨S4x32x64, .f32⟩
  | 109 => ⟨S4x32x64, .f32⟩
  | 110 => ⟨S4x32x64, .f32⟩
  | 111 => ⟨S4x32x64, .f32⟩
  | 112 => ⟨S4x32x64, .f32⟩
  | 113 => ⟨S4x32x64, .f32⟩
  | 114 => ⟨S4x32x64, .f32⟩
  | 115 => ⟨S4x32x64, .f32⟩
  | 116 => ⟨S4x32x64, .f32⟩
  | 117 => ⟨S4x32x64, .f32⟩
  | 118 => ⟨S4x32x64, .f32⟩
  | 119 => ⟨S4x32x64, .f32⟩
  | 120 => ⟨S4x32x64, .f32⟩
  | 121 => ⟨S4x32x64, .f32⟩
  | 122 => ⟨S4x32x64, .f32⟩
  | 123 => ⟨S4x32x64, .f32⟩
  | 124 => ⟨S4x32x64, .f32⟩
  | 125 => ⟨S4x32x64, .f32⟩
  | 126 => ⟨S4x32x64, .f32⟩
  | 127 => ⟨S4x32x64, .f32⟩
  | _ => ⟨S4x32x64, .f32⟩

abbrev hbmTy0_1 (i : Nat) : BufTy := match i % 128 with
  | 0 => ⟨S4x32x64, .f32⟩
  | 1 => ⟨S4x32x64, .f32⟩
  | 2 => ⟨S4x32x64, .f32⟩
  | 3 => ⟨S4x32x64, .f32⟩
  | 4 => ⟨S4x32x64, .f32⟩
  | 5 => ⟨S4x32x64, .f32⟩
  | 6 => ⟨S4x32x64, .f32⟩
  | 7 => ⟨S4x32x64, .f32⟩
  | 8 => ⟨S4x32x64, .f32⟩
  | 9 => ⟨S4x32x64, .f32⟩
  | 10 => ⟨S4x32x64, .f32⟩
  | 11 => ⟨S4x32x64, .f32⟩
  | 12 => ⟨S_, .f32⟩
  | 13 => ⟨S4x32, .f32⟩
  | 14 => ⟨S4x32x1, .f32⟩
  | 15 => ⟨S4x32x64, .f32⟩
  | 16 => ⟨S4x32x64, .f32⟩
  | 17 => ⟨S4x32x64, .f32⟩
  | 18 => ⟨S4x32x64, .f32⟩
  | 19 => ⟨S4x32x64, .f32⟩
  | 20 => ⟨S_, .f32⟩
  | 21 => ⟨S4x32, .f32⟩
  | 22 => ⟨S4x32x1, .f32⟩
  | 23 => ⟨S4x32x1, .f32⟩
  | 24 => ⟨S4x32x64, .f32⟩
  | 25 => ⟨S4x32x64, .f32⟩
  | 26 => ⟨S4x32x64, .f32⟩
  | 27 => ⟨S_, .f32⟩
  | 28 => ⟨S4x32, .f32⟩
  | 29 => ⟨S4x32, .f32⟩
  | _ => ⟨S4x32x64, .f32⟩

abbrev hbmTy (i : Nat) : BufTy := match i / 128 with
  | 0 => hbmTy0_0 i
  | 1 => hbmTy0_1 i
  | _ => ⟨S4x32x64, .f32⟩

abbrev bufTy : (tb : Table) → Fin (tcTables nBuf tb) → BufTy
  | .hbm, ⟨i, _⟩ => hbmTy i
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_10 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_12 : Ref sig .tc := ⟨.hbm, 155, rfl⟩
abbrev main_v133 : Ref sig .tc := ⟨.hbm, 156, rfl⟩
abbrev main_v134 : Ref sig .tc := ⟨.hbm, 157, rfl⟩

abbrev nD : Nat := 1
abbrev τ : Topo := Topo.v7x

variable {F : FTy → Type} [FloatOps F]
-- ==== MlpFwd.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S4096x4096 : Shape := ⟨2, ![4096, 4096]⟩
abbrev S256x1024 : Shape := ⟨2, ![256, 1024]⟩
abbrev S1x16x1024 : Shape := ⟨3, ![1, 16, 1024]⟩
abbrev S256x4096 : Shape := ⟨2, ![256, 4096]⟩
abbrev S2 : Shape := ⟨1, ![2]⟩
abbrev S1 : Shape := ⟨1, ![1]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 22
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S4x6x1024, .f32⟩
  | .hbm, ⟨10, _⟩ => ⟨S4x6x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x16x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x4096, .bf16⟩
  | .hbm, ⟨21, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x16x1024, .f32⟩
  | .local _ .vmem, ⟨3, _⟩ => ⟨S256x1024, .f32⟩
  | .local _ .vmem, ⟨4, _⟩ => ⟨S256x1024, .f32⟩
  | .local _ .vmem, ⟨5, _⟩ => ⟨S256x4096, .bf16⟩
  | .local _ .vmem, ⟨6, _⟩ => ⟨S256x4096, .bf16⟩
  | .local _ .vmem, ⟨7, _⟩ => ⟨S256x1024, .f32⟩
  | .local _ .vmem, ⟨8, _⟩ => ⟨S256x1024, .f32⟩
  | .local _ .vmem, ⟨9, _⟩ => ⟨S4096x1024, .bf16⟩
  | .local _ .vmem, ⟨10, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpFwdRefIdeal.lean ====
abbrev S4096x1024 : Shape := ⟨2, ![4096, 1024]⟩
abbrev S4x6144 : Shape := ⟨2, ![4, 6144]⟩
abbrev S4x1024 : Shape := ⟨2, ![4, 1024]⟩
abbrev S1024x4096 : Shape := ⟨2, ![1024, 4096]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x4096, .f32⟩
  | .hbm, ⟨7, _⟩ => ⟨S4096x1024, .f32⟩
  | .hbm, ⟨8, _⟩ => ⟨S1x6144, .f32⟩
  | .hbm, ⟨9, _⟩ => ⟨S6144, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S1x1024, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== AttnFwd.lean ====
abbrev S4096x512 : Shape := ⟨2, ![4096, 512]⟩
abbrev S4096x128 : Shape := ⟨2, ![4096, 128]⟩
abbrev S8 : Shape := ⟨1, ![8]⟩
abbrev S4096x256 : Shape := ⟨2, ![4096, 256]⟩
abbrev S128x512 : Shape := ⟨2, ![128, 512]⟩
abbrev S128x256 : Shape := ⟨2, ![128, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 8
  | .vmem => 8
  | .smem => 1
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S8, .f32⟩
  | .hbm, ⟨4, _⟩ => ⟨S4096x512, .bf16⟩
  | .hbm, ⟨5, _⟩ => ⟨S4096x256, .f32⟩
  | .hbm, ⟨6, _⟩ => ⟨S4096x256, .bf16⟩
  | .hbm, ⟨7, _⟩ => ⟨S4096x512, .f32⟩
  | .local _ .vmem, ⟨0, _⟩ => ⟨S128x512, .bf16⟩
  | .local _ .vmem, ⟨1, _⟩ => ⟨S128x512, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x512, .f32⟩
  | .local _ .vmem, ⟨7, _⟩ => ⟨S128x512, .f32⟩
  | .local _ .smem, ⟨0, _⟩ => ⟨S8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4096x512 : Shape := ⟨2, ![4096, 512]⟩
abbrev S4096x128 : Shape := ⟨2, ![4096, 128]⟩
abbrev S8 : Shape := ⟨1, ![8]⟩
abbrev S32x128x2x4x64 : Shape := ⟨5, ![32, 128, 2, 4, 64]⟩
abbrev S4096x2x64 : Shape := ⟨3, ![4096, 2, 64]⟩
abbrev S_ : Shape := ⟨0, ![]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S1x2x4x1x1 : Shape := ⟨5, ![1, 2, 4, 1, 1]⟩
abbrev S32x2x4x128x1 : Shape := ⟨5, ![32, 2, 4, 128, 1]⟩
abbrev S32x2x4x128x257 : Shape := ⟨5, ![32, 2, 4, 128, 257]⟩
abbrev S32x2x4x128 : Shape := ⟨4, ![32, 2, 4, 128]⟩
abbrev S32x2x64x4x128 : Shape := ⟨5, ![32, 2, 64, 4, 128]⟩

abbrev nBuf : Space → Nat
  | .hbm => 117
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S8, .f32⟩
  | .hbm, ⟨4, _⟩ => ⟨S32x128x2x4x64, .f32⟩
  | .hbm, ⟨5, _⟩ => ⟨S4096x2x64, .f32⟩
  | .hbm, ⟨6, _⟩ => ⟨S_, .f32⟩
  | .hbm, ⟨7, _⟩ => ⟨S128x2x64, .f32⟩
  | .hbm, ⟨8, _⟩ => ⟨S4224x2x64, .f32⟩
  | .hbm, ⟨9, _⟩ => ⟨S33x128x2x64, .f32⟩
  | .hbm, ⟨10, _⟩ => ⟨S32x128x2x64, .f32⟩
  | .hbm, ⟨11, _⟩ => ⟨S32x128x2x64, .f32⟩
  | .hbm, ⟨12, _⟩ => ⟨S32x256x2x64, .f32⟩
  | .hbm, ⟨13, _⟩ => ⟨S4096x2x64, .f32⟩
  | .hbm, ⟨14, _⟩ => ⟨S_, .f32⟩
  | .hbm, ⟨15, _⟩ => ⟨S128x2x64, .f32⟩
  | .hbm, ⟨16, _⟩ => ⟨S4224x2x64, .f32⟩
  | .hbm, ⟨17, _⟩ => ⟨S33x128x2x64, .f32⟩
  | .hbm, ⟨18, _⟩ => ⟨S32x128x2x64, .f32⟩
  | .hbm, ⟨19, _⟩ => ⟨S32x128x2x64, .f32⟩
  | .hbm, ⟨20, _⟩ => ⟨S32x256x2x64, .f32⟩
  | .hbm, ⟨21, _⟩ => ⟨S32x2x256x128x4, .f32⟩
  | .hbm, ⟨22, _⟩ => ⟨S32x2x4x128x256, .f32⟩
  | .hbm, ⟨23, _⟩ => ⟨S_, .f32⟩
  | .hbm, ⟨24, _⟩ => ⟨S32x2x4x128x256, .f32⟩
  | .hbm, ⟨25, _⟩ => ⟨S32x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S32, .i32⟩
  | .hbm, ⟨37, _⟩ => ⟨S32x1x1, .i32⟩
  | .hbm, ⟨38, _⟩ => ⟨S_, .i32⟩
  | .hbm, ⟨39, _⟩ => ⟨S32x1x1, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S1x1x256, .i32⟩
  | .hbm, ⟨45, _⟩ => ⟨S32x1x256, .i32⟩
  | .hbm, ⟨46, _⟩ => ⟨S32x1x256, .i32⟩
  | .hbm, ⟨47, _⟩ => ⟨S32x1x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S1x128x256, .i1⟩
  | .hbm, ⟨56, _⟩ => ⟨S_, .i32⟩
  | .hbm, ⟨57, _⟩ => ⟨S32x1x256, .i32⟩
  | .hbm, ⟨58, _⟩ => ⟨S32x1x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S8, .f32⟩
  | .hbm, ⟨79, _⟩ => ⟨S2x4, .f32⟩
  | .hbm, ⟨80, _⟩ => ⟨S2x4x1x1, .f32⟩
  | .hbm, ⟨81, _⟩ => ⟨S2x4x1x1, .f32⟩
  | .hbm, ⟨82, _⟩ => ⟨S128x256, .f32⟩
  | .hbm, ⟨83, _⟩ => ⟨S1x1x128x256, .f32⟩
  | .hbm, ⟨84, _⟩ => ⟨S2x4x128x256, .f32⟩
  | .hbm, ⟨85, _⟩ => ⟨S2x4x128x256, .f32⟩
  | .hbm, ⟨86, _⟩ => ⟨S2x4x128x256, .f32⟩
  | .hbm, ⟨87, _⟩ => ⟨S32x1x1x128x256, .i1⟩
  | .hbm, ⟨88, _⟩ => ⟨S1x2x4x128x256, .f32⟩
  | .hbm, ⟨89, _⟩ => ⟨S32x2x4x128x256, .f32⟩
  | .hbm, ⟨90, _⟩ => ⟨S32x2x4x128x256, .f32⟩
  | .hbm, ⟨91, _⟩ => ⟨S_, .f32⟩
  | .hbm, ⟨92, _⟩ => ⟨S_, .f32⟩
  | .hbm, ⟨93, _⟩ => ⟨S32x2x4x128x256, .i1⟩
  | .hbm, ⟨94, _⟩ => ⟨S32x2x4x128x256, .f32⟩
  | .hbm, ⟨95, _⟩ => ⟨S32x2x4x128x256, .f32⟩
  | .hbm, ⟨96, _⟩ => ⟨S1x2x4x1x1, .f32⟩
  | .hbm, ⟨97, _⟩ => ⟨S32x2x4x128x1, .f32⟩
  | .hbm, ⟨98, _⟩ => ⟨S32x2x4x128x257, .f32⟩
  | .hbm, ⟨99, _⟩ => ⟨S_, .f32⟩
  | .hbm, ⟨100, _⟩ => ⟨S32x2x4x128, .f32⟩
  | .hbm, ⟨101, _⟩ => ⟨S_, .f32⟩
  | .hbm, ⟨102, _⟩ => ⟨S32x2x4x128, .f32⟩
  | .hbm, ⟨103, _⟩ => ⟨S32x2x4x128, .f32⟩
  | .hbm, ⟨104, _⟩ => ⟨S32x2x4x128x1, .f32⟩
  | .hbm, ⟨105, _⟩ => ⟨S32x2x4x128x257, .f32⟩
  | .hbm, ⟨106, _⟩ => ⟨S32x2x4x128x257, .f32⟩
  | .hbm, ⟨107, _⟩ => ⟨S32x2x4x128x257, .f32⟩
  | .hbm, ⟨108, _⟩ => ⟨S_, .f32⟩
  | .hbm, ⟨109, _⟩ => ⟨S32x2x4x128, .f32⟩
  | .hbm, ⟨110, _⟩ => ⟨S32x2x4x128x1, .f32⟩
  | .hbm, ⟨111, _⟩ => ⟨S32x2x4x128x257, .f32⟩
  | .hbm, ⟨112, _⟩ => ⟨S32x2x4x128x257, .f32⟩
  | .hbm, ⟨113, _⟩ => ⟨S32x2x4x128x256, .f32⟩
  | .hbm, ⟨114, _⟩ => ⟨S32x2x64x4x128, .f32⟩
  | .hbm, ⟨115, _⟩ => ⟨S32x128x2x4x64, .f32⟩
  | .hbm, ⟨116, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_cst_8 : Ref sig .tc := ⟨.hbm, 63, rfl⟩
abbrev main_cst_9 : Ref sig .tc := ⟨.hbm, 64, rfl⟩
abbrev main_cst_10 : Ref sig .tc := ⟨.hbm, 65, rfl⟩
abbrev main_cst_11 : Ref sig .tc := ⟨.hbm, 66, rfl⟩
abbrev main_cst_12 : Ref sig .tc := ⟨.hbm, 67, rfl⟩
abbrev main_cst_13 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_cst_17 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]

def κ : String → Option EReal := fun
  | "mask" => some ⊥
  | _ => none
-- ==== OutFwd.lean ====
abbrev S4096x1024 : Shape := ⟨2, ![4096, 1024]⟩
abbrev S4096x512 : Shape := ⟨2, ![4096, 512]⟩
abbrev S4x6144 : Shape := ⟨2, ![4, 6144]⟩
abbrev S4x1024 : Shape := ⟨2, ![4, 1024]⟩
abbrev S4x512 : Shape := ⟨2, ![4, 512]⟩
abbrev S1024x1024 : Shape := ⟨2, ![1024, 1024]⟩
abbrev S4096x4x128 : Shape := ⟨3, ![4096, 4, 128]⟩
abbrev S4x4096x128 : Shape := ⟨3, ![4, 4096, 128]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S4x1x512 : Shape := ⟨3, ![4, 1, 512]⟩
abbrev S4x4x512 : Shape := ⟨3, ![4, 4, 512]⟩
abbrev S4x8x512 : Shape := ⟨3, ![4, 8, 512]⟩
abbrev S512x1024 : Shape := ⟨2, ![512, 1024]⟩
abbrev S512x512 : Shape := ⟨2, ![512, 512]⟩
abbrev S4x512x128 : Shape := ⟨3, ![4, 512, 128]⟩
abbrev S1x16x1024 : Shape := ⟨3, ![1, 16, 1024]⟩
abbrev S1x8x512 : Shape := ⟨3, ![1, 8, 512]⟩
abbrev S1x1x512 : Shape := ⟨3, ![1, 1, 512]⟩
abbrev S1x512 : Shape := ⟨2, ![1, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 32
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4x6144, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S4x512, .f32⟩
  | .hbm, ⟨12, _⟩ => ⟨S1024x1024, .f32⟩
  | .hbm, ⟨13, _⟩ => ⟨S4096x4x128, .f32⟩
  | .hbm, ⟨14, _⟩ => ⟨S4x4096x128, .f32⟩
  | .hbm, ⟨15, _⟩ => ⟨S_, .f32⟩
  | .hbm, ⟨16, _⟩ => ⟨S4x6x1024, .f32⟩
  | .hbm, ⟨17, _⟩ => ⟨S4x6x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x16x1024, .f32⟩
  | .hbm, ⟨23, _⟩ => ⟨S4x1x512, .f32⟩
  | .hbm, ⟨24, _⟩ => ⟨S4x1x512, .f32⟩
  | .hbm, ⟨25, _⟩ => ⟨S4x1x512, .f32⟩
  | .hbm, ⟨26, _⟩ => ⟨S4x1x512, .f32⟩
  | .hbm, ⟨27, _⟩ => ⟨S_, .f32⟩
  | .hbm, ⟨28, _⟩ => ⟨S4x4x512, .f32⟩
  | .hbm, ⟨29, _⟩ => ⟨S4x8x512, .f32⟩
  | .hbm, ⟨30, _⟩ => ⟨S1024x1024, .bf16⟩
  | .hbm, ⟨31, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S4x512x128, .f32⟩
  | .local _ .vmem, ⟨5, _⟩ => ⟨S4x512x128, .f32⟩
  | .local _ .vmem, ⟨6, _⟩ => ⟨S1x16x1024, .f32⟩
  | .local _ .vmem, ⟨7, _⟩ => ⟨S1x8x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutFwdRefIdeal.lean ====
abbrev S4096x1024 : Shape := ⟨2, ![4096, 1024]⟩
abbrev S4096x512 : Shape := ⟨2, ![4096, 512]⟩
abbrev S4x6144 : Shape := ⟨2, ![4, 6144]⟩
abbrev S4x1024 : Shape := ⟨2, ![4, 1024]⟩
abbrev S4x512 : Shape := ⟨2, ![4, 512]⟩
abbrev S1024x1024 : Shape := ⟨2, ![1024, 1024]⟩
abbrev S1x6144 : Shape := ⟨2, ![1, 6144]⟩
abbrev S6144 : Shape := ⟨1, ![6144]⟩
abbrev S1024 : Shape := ⟨1, ![1024]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4x6144, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S4x512, .f32⟩
  | .hbm, ⟨12, _⟩ => ⟨S1024x1024, .f32⟩
  | .hbm, ⟨13, _⟩ => ⟨S1x6144, .f32⟩
  | .hbm, ⟨14, _⟩ => ⟨S6144, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1x512, .f32⟩
  | .hbm, ⟨22, _⟩ => ⟨S512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S1x512, .f32⟩
  | .hbm, ⟨40, _⟩ => ⟨S512, .f32⟩
  | .hbm, ⟨41, _⟩ => ⟨S4096x512, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x512, .f32⟩
  | .hbm, ⟨53, _⟩ => ⟨S4096x512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== InFwd.lean ====
abbrev S4096x1024 : Shape := ⟨2, ![4096, 1024]⟩
abbrev S4x6144 : Shape := ⟨2, ![4, 6144]⟩
abbrev S4x1024 : Shape := ⟨2, ![4, 1024]⟩
abbrev S1024x1280 : Shape := ⟨2, ![1024, 1280]⟩
abbrev S_ : Shape := ⟨0, ![]⟩
abbrev S4x6x1024 : Shape := ⟨3, ![4, 6, 1024]⟩
abbrev S4x1x1024 : Shape := ⟨3, ![4, 1, 1024]⟩
abbrev S4x16x1024 : Shape := ⟨3, ![4, 16, 1024]⟩
abbrev S1280x1024 : Shape := ⟨2, ![1280, 1024]⟩
abbrev S4096x512 : Shape := ⟨2, ![4096, 512]⟩
abbrev S4096x256 : Shape := ⟨2, ![4096, 256]⟩
abbrev S4x4096x128 : Shape := ⟨3, ![4, 4096, 128]⟩
abbrev S512x1024 : Shape := ⟨2, ![512, 1024]⟩
abbrev S1x16x1024 : Shape := ⟨3, ![1, 16, 1024]⟩
abbrev S512x512 : Shape := ⟨2, ![512, 512]⟩
abbrev S512x256 : Shape := ⟨2, ![512, 256]⟩
abbrev S4x512x128 : Shape := ⟨3, ![4, 512, 128]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x1280 : Shape := ⟨2, ![512, 1280]⟩
abbrev S512x128 : Shape := ⟨2, ![512, 128]⟩
abbrev S1x512x128 : Shape := ⟨3, ![1, 512, 128]⟩
abbrev S4096x4x128 : Shape := ⟨3, ![4096, 4, 128]⟩

abbrev nBuf : Space → Nat
  | .hbm => 23
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x1280, .f32⟩
  | .hbm, ⟨7, _⟩ => ⟨S_, .f32⟩
  | .hbm, ⟨8, _⟩ => ⟨S4x6x1024, .f32⟩
  | .hbm, ⟨9, _⟩ => ⟨S4x6x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x16x1024, .f32⟩
  | .hbm, ⟨15, _⟩ => ⟨S1280x1024, .f32⟩
  | .hbm, ⟨16, _⟩ => ⟨S1280x1024, .bf16⟩
  | .hbm, ⟨17, _⟩ => ⟨S4096x512, .bf16⟩
  | .hbm, ⟨18, _⟩ => ⟨S4096x256, .bf16⟩
  | .hbm, ⟨19, _⟩ => ⟨S4x4096x128, .f32⟩
  | .hbm, ⟨20, _⟩ => ⟨S4096x1024, .bf16⟩
  | .hbm, ⟨21, _⟩ => ⟨S4096x4x128, .f32⟩
  | .hbm, ⟨22, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x16x1024, .f32⟩
  | .local _ .vmem, ⟨3, _⟩ => ⟨S1280x1024, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S4x512x128, .f32⟩
  | .local _ .vmem, ⟨9, _⟩ => ⟨S4x512x128, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InFwdRefIdeal.lean ====
abbrev S4096x1024 : Shape := ⟨2, ![4096, 1024]⟩
abbrev S4x6144 : Shape := ⟨2, ![4, 6144]⟩
abbrev S4x1024 : Shape := ⟨2, ![4, 1024]⟩
abbrev S1024x1280 : Shape := ⟨2, ![1024, 1280]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x1280 : Shape := ⟨2, ![4096, 1280]⟩
abbrev S4096x512 : Shape := ⟨2, ![4096, 512]⟩
abbrev S4096x128 : Shape := ⟨2, ![4096, 128]⟩
abbrev S4096x256 : Shape := ⟨2, ![4096, 256]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S1024x1280, .f32⟩
  | .hbm, ⟨7, _⟩ => ⟨S1x6144, .f32⟩
  | .hbm, ⟨8, _⟩ => ⟨S6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1280, .f32⟩
  | .hbm, ⟨43, _⟩ => ⟨S4096x512, .f32⟩
  | .hbm, ⟨44, _⟩ => ⟨S4096x128, .f32⟩
  | .hbm, ⟨45, _⟩ => ⟨S4096x128, .f32⟩
  | .hbm, ⟨46, _⟩ => ⟨S4096x512, .f32⟩
  | .hbm, ⟨47, _⟩ => ⟨S4096x512, .bf16⟩
  | .hbm, ⟨48, _⟩ => ⟨S4096x256, .f32⟩
  | .hbm, ⟨49, _⟩ => ⟨S4096x256, .bf16⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== PrepFwd.lean ====
abbrev S4x32x64 : Shape := ⟨3, ![4, 32, 64]⟩
abbrev S4x32 : Shape := ⟨2, ![4, 32]⟩
abbrev S4x32x64x16 : Shape := ⟨4, ![4, 32, 64, 16]⟩
abbrev S8192x1 : Shape := ⟨2, ![8192, 1]⟩
abbrev S4x32x1 : Shape := ⟨3, ![4, 32, 1]⟩
abbrev S8192x16 : Shape := ⟨2, ![8192, 16]⟩
abbrev S2048x1 : Shape := ⟨2, ![2048, 1]⟩
abbrev S2048x16 : Shape := ⟨2, ![2048, 16]⟩

abbrev nBuf : Space → Nat
  | .hbm => 20
  | .vmem => 18
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32, .f32⟩
  | .hbm, ⟨3, _⟩ => ⟨S4x32x64x16, .f32⟩
  | .hbm, ⟨4, _⟩ => ⟨S4x32x64x16, .f32⟩
  | .hbm, ⟨5, _⟩ => ⟨S8192x1, .f32⟩
  | .hbm, ⟨6, _⟩ => ⟨S8192x1, .f32⟩
  | .hbm, ⟨7, _⟩ => ⟨S4x32x1, .f32⟩
  | .hbm, ⟨8, _⟩ => ⟨S4x32x64, .f32⟩
  | .hbm, ⟨9, _⟩ => ⟨S8192x1, .f32⟩
  | .hbm, ⟨10, _⟩ => ⟨S8192x16, .f32⟩
  | .hbm, ⟨11, _⟩ => ⟨S8192x16, .f32⟩
  | .hbm, ⟨12, _⟩ => ⟨S8192x1, .f32⟩
  | .hbm, ⟨13, _⟩ => ⟨S8192x1, .f32⟩
  | .hbm, ⟨14, _⟩ => ⟨S8192x16, .f32⟩
  | .hbm, ⟨15, _⟩ => ⟨S8192x16, .f32⟩
  | .hbm, ⟨16, _⟩ => ⟨S4x32x64, .f32⟩
  | .hbm, ⟨17, _⟩ => ⟨S4x32x64, .f32⟩
  | .hbm, ⟨18, _⟩ => ⟨S4x32x64x16, .f32⟩
  | .hbm, ⟨19, _⟩ => ⟨S4x32x64x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x16, .f32⟩
  | .local _ .vmem, ⟨15, _⟩ => ⟨S2048x16, .f32⟩
  | .local _ .vmem, ⟨16, _⟩ => ⟨S2048x16, .f32⟩
  | .local _ .vmem, ⟨17, _⟩ => ⟨S2048x16, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepFwdRefIdeal.lean ====
abbrev S4x32x64 : Shape := ⟨3, ![4, 32, 64]⟩
abbrev S4x32 : Shape := ⟨2, ![4, 32]⟩
abbrev S4x32x64x16 : Shape := ⟨4, ![4, 32, 64, 16]⟩
abbrev S4x32x1 : Shape := ⟨3, ![4, 32, 1]⟩
abbrev S_ : Shape := ⟨0, ![]⟩
abbrev S4x32x64x1 : Shape := ⟨4, ![4, 32, 64, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32, .f32⟩
  | .hbm, ⟨3, _⟩ => ⟨S4x32x64x16, .f32⟩
  | .hbm, ⟨4, _⟩ => ⟨S4x32x64x16, .f32⟩
  | .hbm, ⟨5, _⟩ => ⟨S4x32, .f32⟩
  | .hbm, ⟨6, _⟩ => ⟨S4x32x1, .f32⟩
  | .hbm, ⟨7, _⟩ => ⟨S4x32x64, .f32⟩
  | .hbm, ⟨8, _⟩ => ⟨S4x32x64, .f32⟩
  | .hbm, ⟨9, _⟩ => ⟨S4x32x64, .f32⟩
  | .hbm, ⟨10, _⟩ => ⟨S4x32x64, .f32⟩
  | .hbm, ⟨11, _⟩ => ⟨S4x32x64, .f32⟩
  | .hbm, ⟨12, _⟩ => ⟨S4x32x64, .f32⟩
  | .hbm, ⟨13, _⟩ => ⟨S4x32x64, .f32⟩
  | .hbm, ⟨14, _⟩ => ⟨S4x32x64, .f32⟩
  | .hbm, ⟨15, _⟩ => ⟨S4x32x64, .f32⟩
  | .hbm, ⟨16, _⟩ => ⟨S_, .f32⟩
  | .hbm, ⟨17, _⟩ => ⟨S4x32x64, .f32⟩
  | .hbm, ⟨18, _⟩ => ⟨S4x32x64, .f32⟩
  | .hbm, ⟨19, _⟩ => ⟨S4x32x64, .f32⟩
  | .hbm, ⟨20, _⟩ => ⟨S4x32x64, .f32⟩
  | .hbm, ⟨21, _⟩ => ⟨S4x32x64, .f32⟩
  | .hbm, ⟨22, _⟩ => ⟨S4x32x64, .f32⟩
  | .hbm, ⟨23, _⟩ => ⟨S4x32x64, .f32⟩
  | .hbm, ⟨24, _⟩ => ⟨S4x32x64, .f32⟩
  | .hbm, ⟨25, _⟩ => ⟨S4x32x64, .f32⟩
  | .hbm, ⟨26, _⟩ => ⟨S4x32x64, .f32⟩
  | .hbm, ⟨27, _⟩ => ⟨S4x32x64, .f32⟩
  | .hbm, ⟨28, _⟩ => ⟨S4x32x64, .f32⟩
  | .hbm, ⟨29, _⟩ => ⟨S4x32x64, .f32⟩
  | .hbm, ⟨30, _⟩ => ⟨S4x32x64x1, .f32⟩
  | .hbm, ⟨31, _⟩ => ⟨S4x32x64x16, .f32⟩
  | .hbm, ⟨32, _⟩ => ⟨S4x32x64x16, .f32⟩
  | .hbm, ⟨33, _⟩ => ⟨S4x32x64x1, .f32⟩
  | .hbm, ⟨34, _⟩ => ⟨S4x32x64x16, .f32⟩
  | .hbm, ⟨35, _⟩ => ⟨S4x32x64x16, .f32⟩
  | .hbm, ⟨36, _⟩ => ⟨S4x32x64x16, .f32⟩
  | .hbm, ⟨37, _⟩ => ⟨S4x32x64x1, .f32⟩
  | .hbm, ⟨38, _⟩ => ⟨S4x32x64x16, .f32⟩
  | .hbm, ⟨39, _⟩ => ⟨S4x32x64x16, .f32⟩
  | .hbm, ⟨40, _⟩ => ⟨S4x32x64x1, .f32⟩
  | .hbm, ⟨41, _⟩ => ⟨S4x32x64x16, .f32⟩
  | .hbm, ⟨42, _⟩ => ⟨S4x32x64x16, .f32⟩
  | .hbm, ⟨43, _⟩ => ⟨S4x32x64x16, .f32⟩
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== AdaFwd.lean ====
abbrev S8x1024 : Shape := ⟨2, ![8, 1024]⟩
abbrev S4x1024x1536 : Shape := ⟨3, ![4, 1024, 1536]⟩
abbrev S4x1536 : Shape := ⟨2, ![4, 1536]⟩
abbrev S4x1x1536 : Shape := ⟨3, ![4, 1, 1536]⟩
abbrev S4x8x1536 : Shape := ⟨3, ![4, 8, 1536]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x1x1536, .f32⟩
  | .hbm, ⟨4, _⟩ => ⟨S4x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaFwdRefIdeal.lean ====
abbrev S8x1024 : Shape := ⟨2, ![8, 1024]⟩
abbrev S4x1024x1536 : Shape := ⟨3, ![4, 1024, 1536]⟩
abbrev S4x1536 : Shape := ⟨2, ![4, 1536]⟩
abbrev S_ : Shape := ⟨0, ![]⟩
abbrev S8x4x1536 : Shape := ⟨3, ![8, 4, 1536]⟩
abbrev S4x1x1536 : Shape := ⟨3, ![4, 1, 1536]⟩
abbrev S4x8x1536 : Shape := ⟨3, ![4, 8, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x4x1536, .f32⟩
  | .hbm, ⟨13, _⟩ => ⟨S4x1x1536, .f32⟩
  | .hbm, ⟨14, _⟩ => ⟨S4x8x1536, .f32⟩
  | .hbm, ⟨15, _⟩ => ⟨S4x8x1536, .f32⟩
  | .hbm, ⟨16, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Adam.lean ====
abbrev S4x1024x1536 : Shape := ⟨3, ![4, 1024, 1536]⟩
abbrev S4x1x1024x1536 : Shape := ⟨4, ![4, 1, 1024, 1536]⟩
abbrev S1x1x128x1536 : Shape := ⟨4, ![1, 1, 128, 1536]⟩
abbrev S1x128x1536 : Shape := ⟨3, ![1, 128, 1536]⟩
abbrev S128x1536 : Shape := ⟨2, ![128, 1536]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4x1x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S1x1x128x1536, .f32⟩
  | .local _ .vmem, ⟨1, _⟩ => ⟨S1x1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S4x1024x1536 : Shape := ⟨3, ![4, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Dw.lean ====
abbrev S4096x4096 : Shape := ⟨2, ![4096, 4096]⟩
abbrev S4096x1024 : Shape := ⟨2, ![4096, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Reals.lean ====
module

public import Idealize.ShloMosaic.PureOps.Ideal.Laws
public import Idealize.ShloMosaic.Lib.IdealHost

@[expose] public section

noncomputable section

open Idealize.ShloMosaic

namespace Cert.Reals

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem c1024 : Ideal.ofBits .f32 0x44800000#32 = ((1024 : ℝ) : EReal) := by
  simp [Ideal.ofBits, Ideal.ieee, -EReal.coe_mul]; norm_num
theorem inv1024 : Ideal.ofBits .f32 0x3A800000#32 = ((1 / 1024 : ℝ) : EReal) := by
  simp [Ideal.ofBits, Ideal.ieee, -EReal.coe_mul]; norm_num
theorem inv2048 : Ideal.ofBits .f32 0x3A000000#32 = ((1 / 2048 : ℝ) : EReal) := by
  simp [Ideal.ofBits, Ideal.ieee, -EReal.coe_mul]; norm_num

/-- Multiplication by a real number that is not negative passes through a finite sum of extended reals. -/
theorem mul_sum {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, mul_comm, EReal.left_distrib_of_nonneg_of_ne_top (by exact_mod_cast hr) (EReal.coe_ne_top r), ← ih,
      mul_comm, mul_comm (r : EReal)]

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by a real number that is not zero is multiplication by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

/-- Division of real numbers. -/
theorem coe_div (x r : ℝ) (hr : r ≠ 0) : Ideal.div (x : EReal) (r : EReal) = ((x / r : ℝ) : EReal) := by
  rw [div_coe x r hr, ← EReal.coe_mul, div_eq_mul_inv]

end Cert.Reals

end
-- ==== Proof.Loss.lean ====
module

public import proofs.«01_k».proof.Defs
public import proofs.«01_k».proof.Proof.Gen.LossIdeal.Frame
public import proofs.«01_k».proof.Proof.Gen.LossRefIdeal.Read
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Hand

open Cert.LossIdeal Cert.LossIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0, 0] :=
  (by decide +kernel : ∀ t : Fin grid0.N, _)

/-- The gradient of the loss in the predictions. -/
def dy (y t : FVec Ideal S4096x1024 .f32) : FVec Ideal S4096x1024 .f32 := fun i =>
  (y i - t i) * Ideal.ofBits .f32 0x3A800000#32

/-- The loss of 256 rows, repeated over a tile. -/
def parts (y t : FVec Ideal S4096x1024 .f32) : FVec Ideal S16x8x128 .f32 := fun i =>
  (∑ r : Fin 256, ∑ k : Fin 1024, (y (ix2 ⟨(i 0).val * 256 + r, by have := (i 0).isLt; have : (i 0).val < 16 := this; omega⟩ k) - t (ix2 ⟨(i 0).val * 256 + r, by have := (i 0).isLt; have : (i 0).val < 16 := this; omega⟩ k)) * (y (ix2 ⟨(i 0).val * 256 + r, by have := (i 0).isLt; have : (i 0).val < 16 := this; omega⟩ k) - t (ix2 ⟨(i 0).val * 256 + r, by have := (i 0).isLt; have : (i 0).val < 16 := this; omega⟩ k))) * Ideal.ofBits .f32 0x3A000000#32

theorem point2 (c : Dev nD) (t : Fin cfg0.N) (y) : k0_pay2 (iblk m c 0 t) (iblk m c 1 t) y
    = dy (m ((c : Thread nD τ).loc main_arg0)) (m ((c : Thread nD τ).loc main_arg1)) (((cfg0.win 2).blk t).view.emb y) := by
  pointwise [k0_pay2, k0_pay1, dy]
  blk_point [iblk, V, idx t]

theorem point3 (c : Dev nD) (t : Fin cfg0.N) (y) : k0_pay3 (iblk m c 0 t) (iblk m c 1 t) y
    = parts (m ((c : Thread nD τ).loc main_arg0)) (m ((c : Thread nD τ).loc main_arg1)) (((cfg0.win 3).blk t).view.emb y) := by
  pointwise [k0_pay3, k0_pay1, parts]
  blk_point [iblk, V, idx t]

theorem final2 (c : Dev nD) : (dats m 0 c).arrAt 2 (cfgs 0).N
    = dy (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

theorem final3 (c : Dev nD) : (dats m 0 c).arrAt 3 (cfgs 0).N
    = parts (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

theorem sumTail (x : FVec Ideal S16x8x128 .f32) :
    Host.reduceAdd (shapeCast S16 (extractStridedSlice S16x1x1 ![0, 0, 0] x slices_S16x8x128_S16x1x1_0_0_0) shapeCasts_S16x1x1_S16) (constant S_ FTy.f32 0#32) reducesTo_S16_S_d0 h_S_
      = fun _ => ∑ p : Fin 16, x (ix3 p 0 0) := by
  funext i
  pointwise

theorem tail (c : Dev nD) : Pipeline.afterTail₀ cfgs (dats m) 0 (V0 m) [hostOps1] c main_v3
    = fun _ => ∑ p : Fin 16, (show FVec Ideal S16x8x128 .f32 from (dats m 0 c).arrAt 3 (cfgs 0).N) (ix3 p 0 0) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 3
  refine Eq.trans (b := Host.reduceAdd (shapeCast S16 (extractStridedSlice S16x1x1 ![0, 0, 0] (show FVec Ideal S16x8x128 .f32 from (dats m 0 c).arrAt 3 (cfgs 0).N) slices_S16x8x128_S16x1x1_0_0_0) shapeCasts_S16x1x1_S16) (constant S_ FTy.f32 0#32) reducesTo_S16_S_d0 h_S_) ?_ ?_
  · rw [← h]; rfl
  · exact sumTail _

theorem dyIs (y t : FVec Ideal S4096x1024 .f32) : Cert.LossRefIdeal.Read.val_main_v14 (F := Ideal) y t = dy y t := by
  funext i
  pointwise [Cert.LossRefIdeal.Read.val_main_v14, Cert.LossRefIdeal.Read.val_main_v13, Cert.LossRefIdeal.Read.val_main_v12, Cert.LossRefIdeal.Read.val_main_v11, Cert.LossRefIdeal.Read.val_main_v10, Cert.LossRefIdeal.Read.val_main_v9, Cert.LossRefIdeal.Read.val_main_cst_4, Cert.LossRefIdeal.Read.val_main_cst_5, Cert.LossRefIdeal.Read.val_main_cst_6, Cert.LossRefIdeal.Read.val_main_v3, Cert.LossRefIdeal.Read.val_main_v2, Cert.LossRefIdeal.Read.val_main_cst, Cert.LossRefIdeal.Read.val_main_v0, dy]
  rw [Cert.Reals.half, Cert.Reals.two, Cert.Reals.c1024, Cert.Reals.inv1024, Cert.Reals.div_coe _ _ (by norm_num)]
  rw [← mul_assoc, ← EReal.coe_mul, ← EReal.coe_mul, mul_comm]
  norm_num

theorem lossIs (y t : FVec Ideal S4096x1024 .f32) (i) : Cert.LossRefIdeal.Read.val_main_v8 (F := Ideal) y t i = ∑ p : Fin 16, parts y t (ix3 p 0 0) := by
  pointwise [Cert.LossRefIdeal.Read.val_main_v8, Cert.LossRefIdeal.Read.val_main_cst_3, Cert.LossRefIdeal.Read.val_main_v7, Cert.LossRefIdeal.Read.val_main_v6,Cert.LossRefIdeal.Read.val_main_v5,Cert.LossRefIdeal.Read.val_main_v4,Cert.LossRefIdeal.Read.val_main_v1, Cert.LossRefIdeal.Read.val_main_v0, Cert.LossRefIdeal.Read.val_main_cst_0, Cert.LossRefIdeal.Read.val_main_cst_1, Cert.LossRefIdeal.Read.val_main_cst_2, parts]
  rw [Cert.Reals.half, Cert.Reals.c1024, Cert.Reals.inv2048]
  simp only [Cert.Reals.div_coe _ (1024 : ℝ) (by norm_num)]
  rw [mul_comm, ← Cert.Reals.mul_sum _ _ _ (by norm_num), ← Cert.Reals.mul_sum _ _ _ (by norm_num), mul_assoc, ← EReal.coe_mul, Fin.sum_univ_tiles 16 256 rfl]
  norm_num

theorem algebraic : Cert.algebraic_LossIdeal_LossRefIdeal := by
  pair_intro
  · run_from Cert.LossIdeal.Gen.run_main m g
  · run_from Cert.LossRefIdeal.Value.run m' g'
    · rw [tail m c, final3 m c]
      funext i
      exact lossIs _ _ i
    · rw [final2 m c]
      exact dyIs _ _

end Cert.LossIdeal.Hand

end
-- ==== Proof.Ada.lean ====
module

public import proofs.«01_k».proof.Defs
public import proofs.«01_k».proof.Proof.Gen.AdaIdeal.Frame
public import proofs.«01_k».proof.Proof.Gen.AdaRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.Hand

open Cert.AdaIdeal Cert.AdaIdeal.Gen

variable (m : (ℓ : Loc nD τ sig) → Buf (Elt Ideal) ℓ)

/-- The gradient of the modulation weights, index by index: the sum over the batch of silu(c) times the cotangent. -/
def grad (c : FVec Ideal S8x1024 .f32) (g : FVec Ideal S4x8x1536 .f32) : FVec Ideal S4x1024x1536 .f32 := fun i =>
  ∑ b : Fin 8, c (ix2 b (i 1)) * Ideal.logistic (c (ix2 b (i 1))) * g (ix3 (i 0) b (i 2))

theorem idx : ∀ t : Fin cfg0.N, win0_0.index t = ![0, 0] ∧ win0_1.index t = ![t.val / 3, 0, t.val % 3] ∧ win0_2.index t = ![t.val / 3, 0, t.val % 3] :=
  (by decide +kernel : ∀ t : Fin grid0.N, _)

theorem point (c : Dev nD) (t : Fin cfg0.N) (y) : k0_pay1 (k0_pay2 (iblk m c 0 t) (iblk m c 1 t)) y
    = grad (m ((c : Thread nD τ).loc main_arg0)) (m ((c : Thread nD τ).loc main_arg3)) (((cfg0.win 2).blk t).view.emb y) := by
  pointwise [k0_pay1, k0_pay2, grad]
  simp only [Fin.sum_univ_eight]
  blk_point [iblk, V, idx t]

theorem final (c : Dev nD) : (dats m 0 c).arrAt 2 (cfgs 0).N
    = grad (m ((c : Thread nD τ).loc main_arg0)) (m ((c : Thread nD τ).loc main_arg3)) := by
  refine (dats m 0 c).arrAt_eq_of_covers 2 _ (by decide +kernel) fun t _ y => ?_
  blk_simp
  rw [after0_2]; frame_out
  exact point m c t y

open Cert.AdaRefIdeal.Read in
theorem refIs (c : FVec Ideal S8x1024 .f32) (g : FVec Ideal S4x8x1536 .f32) : val_main_v8 (F := Ideal) c g = grad c g := by
  funext i
  pointwise [val_main_v8, val_main_v7, val_main_v6, val_main_v0, val_main_call0_v0, val_main_call0_v1, val_main_call0_cst, val_main_call0_v2, val_main_call0_v3, val_main_call0_cst_0, val_main_call0_v4, val_main_call0_v5, grad]
  exact Finset.sum_congr rfl fun b _ => mul_comm _ _

theorem algebraic : Cert.algebraic_AdaIdeal_AdaRefIdeal := by
  pair_intro
  · run_from Cert.AdaIdeal.Gen.run_main m g
  · run_from Cert.AdaRefIdeal.Value.run m' g'
    rw [final m c]
    exact refIs _ _

end Cert.AdaIdeal.Hand

end
-- ==== Proof.Norm.lean ====
module

public import proofs.«01_k».proof.Proof.Reals
public import Mathlib.Tactic.FieldSimp
public import Mathlib.Tactic.LinearCombination

@[expose] public section

noncomputable section

open Idealize.ShloMosaic

namespace Cert.Reals

/-- An extended real that is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} : IsReal a → IsReal b → IsReal (a + b) := by
  rintro ⟨r, rfl⟩ ⟨s, rfl⟩; exact ⟨r + s, (EReal.coe_add _ _).symm⟩
theorem IsReal.sub {a b : EReal} : IsReal a → IsReal b → IsReal (a - b) := by
  rintro ⟨r, rfl⟩ ⟨s, rfl⟩; exact ⟨r - s, (EReal.coe_sub _ _).symm⟩
theorem IsReal.mul {a b : EReal} : IsReal a → IsReal b → IsReal (a * b) := by
  rintro ⟨r, rfl⟩ ⟨s, rfl⟩; exact ⟨r * s, (EReal.coe_mul _ _).symm⟩
theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A comparison with both infinities leaves the real numbers. -/
theorem IsReal.of_lt {a : EReal} (h : ⊥ < a) (h' : a < ⊤) : IsReal a :=
  ⟨a.toReal, (EReal.coe_toReal h'.ne h.ne').symm⟩

theorem negInf : Ideal.ofBits .f32 0xFF800000#32 = ⊥ := by simp [Ideal.ofBits, Ideal.ieee]
theorem posInf : Ideal.ofBits .f32 0x7F800000#32 = ⊤ := by simp [Ideal.ofBits, Ideal.ieee]
theorem negHalf : Ideal.ofBits .f32 0xBF000000#32 = ((-(1 / 2) : ℝ) : EReal) := by
  simp [Ideal.ofBits, Ideal.ieee, -EReal.coe_mul]; norm_num
theorem c512 : Ideal.ofBits .f32 0x44000000#32 = ((512 : ℝ) : EReal) := by
  simp [Ideal.ofBits, Ideal.ieee, -EReal.coe_mul]; norm_num
/-- The number added to the mean square, about one millionth. -/
theorem eps : ∃ e : ℝ, 0 < e ∧ Ideal.ofBits .f32 0x358637BD#32 = (e : EReal) := by
  refine ⟨_, ?_, by simp [Ideal.ofBits, Ideal.ieee, -EReal.coe_mul]; rfl⟩
  norm_num

/-- The reciprocal root of the mean square of a row, with `c` the length and `e` the added number. -/
def rms {n : Nat} (c e : EReal) (x : Fin n → EReal) : EReal := Ideal.rsqrt (Ideal.div (∑ k, x k * x k) c + e)

/-- The gradient of a row through its normalization, from the gradient `d` of the normalized row. -/
def normBwd {n : Nat} (c e : EReal) (x d : Fin n → EReal) (k : Fin n) : EReal :=
  rms c e x * (d k - x k * rms c e x * Ideal.div (∑ j, d j * (x j * rms c e x)) c)

/-- The share of the mean square in that gradient, as the chain rule writes it. -/
def normShare {n : Nat} (c e h : EReal) (x d : Fin n → EReal) : EReal :=
  Ideal.div ((∑ j, x j * d j) * (h * Ideal.div (rms c e x) (Ideal.div (∑ k, x k * x k) c + e))) c

theorem ms_real {n : Nat} {c e : ℝ} (hc : 0 < c) (he : 0 < e) (x : Fin n → ℝ) :
    Ideal.div (∑ k, (x k : EReal) * (x k : EReal)) (c : EReal) + (e : EReal) = (((∑ k, x k * x k) / c + e : ℝ) : EReal)
    ∧ 0 < (∑ k, x k * x k) / c + e := by
  refine ⟨?_, by have := Finset.sum_nonneg (s := Finset.univ) (fun k _ => mul_self_nonneg (x k)); positivity⟩
  rw [EReal.coe_add, ← coe_div _ _ hc.ne', coe_sum]
  simp only [EReal.coe_mul]

theorem rms_real {n : Nat} {c e : ℝ} (hc : 0 < c) (he : 0 < e) (x : Fin n → ℝ) :
    rms (c : EReal) (e : EReal) (fun k => (x k : EReal)) = (((Real.sqrt ((∑ k, x k * x k) / c + e))⁻¹ : ℝ) : EReal) := by
  obtain ⟨h, hp⟩ := ms_real hc he x
  unfold rms
  rw [h, Ideal.rsqrt_coe, if_neg (not_lt.mpr hp.le), if_neg hp.ne']

theorem rms_isReal {n : Nat} {c e : ℝ} (hc : 0 < c) (he : 0 < e) {x : Fin n → EReal} (hx : ∀ k, IsReal (x k)) :
    IsReal (rms (c : EReal) (e : EReal) x) := by
  choose X hX using hx
  rw [show x = fun k => (X k : EReal) from funext hX, rms_real hc he]
  exact .coe _

theorem IsReal.div {a : EReal} (ha : IsReal a) {c : ℝ} (hc : c ≠ 0) : IsReal (Ideal.div a (c : EReal)) := by
  obtain ⟨r, rfl⟩ := ha
  rw [coe_div _ _ hc]
  exact .coe _

theorem normBwd_isReal {n : Nat} {c e : ℝ} (hc : 0 < c) (he : 0 < e) {x d : Fin n → EReal} (hx : ∀ k, IsReal (x k)) (hd : ∀ k, IsReal (d k)) (k : Fin n) :
    IsReal (normBwd (c : EReal) (e : EReal) x d k) := by
  have hr := rms_isReal hc he hx
  exact .mul hr (.sub (hd k) (.mul (.mul (hx k) hr) (.div (.sum _ fun j => .mul (hd j) (.mul (hx j) hr)) hc.ne')))

/-- On real rows the chain rule's three terms are the gradient through the normalization. -/
theorem norm_bwd {n : Nat} {c e : ℝ} (hc : 0 < c) (he : 0 < e) {x d : Fin n → EReal} (hx : ∀ k, IsReal (x k)) (hd : ∀ k, IsReal (d k)) (k : Fin n) :
    d k * rms c e x + (x k * normShare c e ((-(1 / 2) : ℝ) : EReal) x d + normShare c e ((-(1 / 2) : ℝ) : EReal) x d * x k)
    = normBwd c e x d k := by
  choose X hX using hx
  choose D hD using hd
  obtain rfl : x = fun k => (X k : EReal) := funext hX
  obtain rfl : d = fun k => (D k : EReal) := funext hD
  obtain ⟨h, hp⟩ := ms_real hc he X
  unfold normBwd normShare
  rw [h, rms_real hc he]
  simp only [← EReal.coe_mul]
  rw [← coe_sum, ← coe_sum, coe_div _ _ hp.ne']
  simp only [← EReal.coe_mul]
  rw [coe_div _ _ hc.ne', coe_div _ _ hc.ne']
  simp only [← EReal.coe_mul, ← EReal.coe_add, ← EReal.coe_sub]
  rw [EReal.coe_eq_coe_iff]
  set v := (∑ k, X k * X k) / c + e
  have hs : 0 < Real.sqrt v := Real.sqrt_pos.mpr hp
  have hv : v = Real.sqrt v * Real.sqrt v := (Real.mul_self_sqrt hp.le).symm
  have e1 : (∑ j, D j * (X j * (Real.sqrt v)⁻¹)) = (∑ j, X j * D j) * (Real.sqrt v)⁻¹ := by
    rw [Finset.sum_mul]; exact Finset.sum_congr rfl fun j _ => by ring
  rw [e1]
  generalize (∑ j, X j * D j) = T
  generalize Real.sqrt v = s at hs hv ⊢
  rw [hv]
  have := hs.ne'
  have := hc.ne'
  field_simp
  ring

end Cert.Reals

end
-- ==== Proof.Finite.lean ====
module

public import proofs.«01_k».proof.Proof.Norm
public import Idealize.ShloMosaic.Lib.Pointwise

@[expose] public section

noncomputable section

open Idealize.ShloMosaic

namespace Cert.Reals

/-- What the comparison of an element with both infinities says. -/
theorem real_of_bits (a : EReal) (h : IntOp.andi (BitVec.ofBool (decide (Ideal.ofBits FTy.f32 0xFF800000#32 < a)))
      (BitVec.ofBool (decide (a < Ideal.ofBits FTy.f32 0x7F800000#32))) = 1#1) : IsReal a := by
  rw [negInf, posInf] at h
  by_cases h1 : ⊥ < a <;> by_cases h2 : a < ⊤ <;> simp [h1, h2, IntOp.andi] at h
  exact IsReal.of_lt h1 h2

theorem real_of {S : Shape} (x a b : FVec Ideal S .f32) (h : andi (cmpf .ogt x a) (cmpf .olt x b) = fun _ => 1#1)
    (ha : ∀ i, a i = Ideal.ofBits FTy.f32 0xFF800000#32) (hb : ∀ i, b i = Ideal.ofBits FTy.f32 0x7F800000#32) (i) : IsReal (x i) := by
  have := congrFun h i
  pointwise at this
  rw [ha, hb] at this
  exact real_of_bits _ this

end Cert.Reals

end
-- ==== Proof.Rows.lean ====
module

public import Idealize.ShloMosaic.Lib.Pipeline.ValueKit
public import Idealize.ShloMosaic.Lib.Pointwise
public import Idealize.ShloMosaic.Lib.WritesUnit

@[expose] public section

noncomputable section

open Idealize.ShloMosaic

namespace Cert.Rows

variable {Val : EltTy → Type} {e : EltTy} {M n : Nat}

/-- The rectangle of one row of a matrix. -/
abbrev rowRect (M n o : Nat) (inb : ∀ a, (![o, 0] : Fin 2 → Nat) a + (⟨2, ![1, n]⟩ : Shape).size a ≤ (⟨2, ![M, n]⟩ : Shape).size a) : Rect (⟨2, ![M, n]⟩ : Shape) :=
  Rect.unit (s := (⟨2, ![M, n]⟩ : Shape)) ![o, 0] (⟨2, ![1, n]⟩ : Shape).size inb

theorem emb_row {o : Nat} (inb) (h : o < M) (k : Fin n) : (rowRect M n o inb).emb (ix2 (0 : Fin 1) k) = ix2 ⟨o, h⟩ k := by
  funext a
  refine Fin.ext ?_
  rw [Rect.emb_apply]
  match a with
  | ⟨0, _⟩ => simp [Rect.unit]
  | ⟨1, _⟩ => simp [Rect.unit]

/-- A matrix whose last write is a row holds the row there. -/
theorem canon_hit [∀ e, Nonempty (Val e)] (r : Fin M) {o : Nat} (inb) (hr : r.val = o) (w : (rowRect M n o inb).shape.Idx → Val e)
    (L : List (View.Piece Val (⟨2, ![M, n]⟩ : Shape) e)) (k : Fin n) :
    View.canon (⟨rowRect M n o inb, w⟩ :: L) (ix2 r k) = w (ix2 (0 : Fin 1) k) := by
  subst hr
  rw [← emb_row inb r.isLt k]
  exact View.canon_cons_emb _ _ _ _

/-- The other rows hold what was there before. -/
theorem canon_skip [∀ e, Nonempty (Val e)] (r : Fin M) {o : Nat} (inb) (hr : r.val ≠ o) (w : (rowRect M n o inb).shape.Idx → Val e)
    (L : List (View.Piece Val (⟨2, ![M, n]⟩ : Shape) e)) (k : Fin n) :
    View.canon (⟨rowRect M n o inb, w⟩ :: L) (ix2 r k) = View.canon L (ix2 r k) := by
  refine View.canon_cons_of_not_mem _ _ fun hm => ?_
  obtain ⟨x, hx⟩ := (rowRect M n o inb).exists_idx_of_mem hm
  have h0 := congrArg (fun z => (z 0).val) hx
  have hx0 : (x 0).val = 0 := by have := (x 0).isLt; change _ < 1 at this; omega
  simp only [Rect.emb_apply] at h0
  simp [Rect.unit, hx0] at h0
  exact hr h0.symm

/-- A row read back after some writes is that row of the matrix they make. -/
theorem readCov_row [∀ e, Nonempty (Val e)] {sig : RefSig} {κ : Kind} {sp : Space} (v : View sig κ sp (⟨2, ![M, n]⟩ : Shape) e)
    (L : List (View.Piece Val (⟨2, ![M, n]⟩ : Shape) e)) {o : Nat} (inb) (h : o < M) (k : Fin n) :
    v.readCov L (rowRect M n o inb).toLoadRect (ix2 (0 : Fin 1) k) = View.canon L (ix2 ⟨o, h⟩ k) := by
  rw [View.readCov_eq_canon']
  exact congrArg (View.canon L) (emb_row inb h k)

/-- A matrix written whole holds what was written. -/
theorem canon_whole [∀ e, Nonempty (Val e)] (inb : ∀ a, (![0, 0] : Fin 2 → Nat) a + (⟨2, ![M, n]⟩ : Shape).size a ≤ (⟨2, ![M, n]⟩ : Shape).size a)
    (w : (⟨2, ![M, n]⟩ : Shape).Idx → Val e) (L : List (View.Piece Val (⟨2, ![M, n]⟩ : Shape) e)) (r : Fin M) (k : Fin n) :
    View.canon (⟨Rect.unit (s := (⟨2, ![M, n]⟩ : Shape)) ![0, 0] (⟨2, ![M, n]⟩ : Shape).size inb, w⟩ :: L) (ix2 r k) = w (ix2 r k) :=
  congrFun (View.canon_cons_unit_zero (funext fun a => by match a with | ⟨0, _⟩ => rfl | ⟨1, _⟩ => rfl) inb w L) _

/-- A matrix written whole in one piece, and read back whole. -/
theorem canon_all [∀ e, Nonempty (Val e)] (w : (⟨2, ![M, n]⟩ : Shape).Idx → Val e) :
    View.canon [(⟨Rect.whole (⟨2, ![M, n]⟩ : Shape), w⟩ : View.Piece Val (⟨2, ![M, n]⟩ : Shape) e)] = w := by
  funext y
  have h := View.canon_cons_emb (Rect.whole (⟨2, ![M, n]⟩ : Shape)) w [] y
  have hy : (Rect.whole (⟨2, ![M, n]⟩ : Shape)).emb y = y := by
    funext a
    refine Fin.ext ?_
    rw [Rect.emb_apply]
    simp [Rect.whole]
  rwa [hy] at h

theorem readCov_all [∀ e, Nonempty (Val e)] {sig : RefSig} {κ : Kind} {sp : Space} (v : View sig κ sp (⟨2, ![M, n]⟩ : Shape) e)
    (inb : ∀ a, (![0, 0] : Fin 2 → Nat) a + (⟨2, ![M, n]⟩ : Shape).size a ≤ (⟨2, ![M, n]⟩ : Shape).size a) (w : (⟨2, ![M, n]⟩ : Shape).Idx → Val e) :
    v.readCov [(⟨Rect.whole (⟨2, ![M, n]⟩ : Shape), w⟩ : View.Piece Val (⟨2, ![M, n]⟩ : Shape) e)] (Rect.unit (s := (⟨2, ![M, n]⟩ : Shape)) ![0, 0] (⟨2, ![M, n]⟩ : Shape).size inb).toLoadRect = w := by
  rw [View.readCov_eq_canon', canon_all]
  funext y
  have hy : (Rect.unit (s := (⟨2, ![M, n]⟩ : Shape)) ![0, 0] (⟨2, ![M, n]⟩ : Shape).size inb).emb y = y := by
    funext a
    refine Fin.ext ?_
    rw [Rect.emb_apply]
    match a with
    | ⟨0, _⟩ => simp [Rect.unit]
    | ⟨1, _⟩ => simp [Rect.unit]
  exact congrArg w hy

theorem ld_row (X : (⟨2, ![M, n]⟩ : Shape).Idx → Val e) {o : Nat} (inb) (h : o < M) (k : Fin n) :
    View.ld X (rowRect M n o inb) (ix2 (0 : Fin 1) k) = X (ix2 ⟨o, h⟩ k) :=
  congrArg X (emb_row inb h k)

variable {sig : RefSig} {κ : Kind} {sp : Space} (v : View sig κ sp (⟨2, ![M, n]⟩ : Shape) e) (f : v.ty.Contents Val)

theorem read_hit (r : Fin M) {o : Nat} (inb) (hr : r.val = o) (w : (rowRect M n o inb).shape.Idx → Val e)
    (L : List (View.Piece Val (⟨2, ![M, n]⟩ : Shape) e)) (k : Fin n) :
    v.read Val (v.writes Val f (⟨rowRect M n o inb, w⟩ :: L)) (ix2 r k) = w (ix2 (0 : Fin 1) k) :=
  v.read_writes_cons_rows_of_mem f inb w L _ _ rfl (by simp [hr]) rfl

theorem read_skip (r : Fin M) {o : Nat} (inb) (hr : r.val ≠ o) (w : (rowRect M n o inb).shape.Idx → Val e)
    (L : List (View.Piece Val (⟨2, ![M, n]⟩ : Shape) e)) (k : Fin n) :
    v.read Val (v.writes Val f (⟨rowRect M n o inb, w⟩ :: L)) (ix2 r k) = v.read Val (v.writes Val f L) (ix2 r k) :=
  v.read_writes_cons_rows_of_not_mem (W := 1) f inb w L _ rfl rfl (by simp; omega)

variable {A : Nat}

/-- The rectangle of one slab of a stack of matrices. -/
abbrev slabRect (A M n o : Nat) (inb : ∀ a, (![o, 0, 0] : Fin 3 → Nat) a + (⟨3, ![1, M, n]⟩ : Shape).size a ≤ (⟨3, ![A, M, n]⟩ : Shape).size a) : Rect (⟨3, ![A, M, n]⟩ : Shape) :=
  Rect.unit (s := (⟨3, ![A, M, n]⟩ : Shape)) ![o, 0, 0] (⟨3, ![1, M, n]⟩ : Shape).size inb

theorem emb_slab {o : Nat} (inb) (h : o < A) (i : Fin M) (k : Fin n) : (slabRect A M n o inb).emb (ix3 (0 : Fin 1) i k) = ix3 ⟨o, h⟩ i k := by
  funext a
  refine Fin.ext ?_
  rw [Rect.emb_apply]
  match a with
  | ⟨0, _⟩ => simp [Rect.unit]
  | ⟨1, _⟩ => simp [Rect.unit]
  | ⟨2, _⟩ => simp [Rect.unit]

/-- A stack whose last write is a slab holds the slab there. -/
theorem slab_hit [∀ e, Nonempty (Val e)] (r : Fin A) {o : Nat} (inb) (hr : r.val = o) (w : (slabRect A M n o inb).shape.Idx → Val e)
    (L : List (View.Piece Val (⟨3, ![A, M, n]⟩ : Shape) e)) (i : Fin M) (k : Fin n) :
    View.canon (⟨slabRect A M n o inb, w⟩ :: L) (ix3 r i k) = w (ix3 (0 : Fin 1) i k) := by
  subst hr
  rw [← emb_slab inb r.isLt i k]
  exact View.canon_cons_emb _ _ _ _

/-- The other slabs hold what was there before. -/
theorem slab_skip [∀ e, Nonempty (Val e)] (r : Fin A) {o : Nat} (inb) (hr : r.val ≠ o) (w : (slabRect A M n o inb).shape.Idx → Val e)
    (L : List (View.Piece Val (⟨3, ![A, M, n]⟩ : Shape) e)) (i : Fin M) (k : Fin n) :
    View.canon (⟨slabRect A M n o inb, w⟩ :: L) (ix3 r i k) = View.canon L (ix3 r i k) := by
  refine View.canon_cons_of_not_mem _ _ fun hm => ?_
  obtain ⟨x, hx⟩ := (slabRect A M n o inb).exists_idx_of_mem hm
  have h0 := congrArg (fun z => (z 0).val) hx
  have hx0 : (x 0).val = 0 := by have := (x 0).isLt; change _ < 1 at this; omega
  simp only [Rect.emb_apply] at h0
  simp [Rect.unit, hx0] at h0
  exact hr h0.symm

/-- The rectangle of some columns of a matrix. -/
abbrev colRect (M N n o : Nat) (inb : ∀ a, (![0, o] : Fin 2 → Nat) a + (⟨2, ![M, n]⟩ : Shape).size a ≤ (⟨2, ![M, N]⟩ : Shape).size a) : Rect (⟨2, ![M, N]⟩ : Shape) :=
  Rect.unit (s := (⟨2, ![M, N]⟩ : Shape)) ![0, o] (⟨2, ![M, n]⟩ : Shape).size inb

theorem emb_col {N : Nat} {o : Nat} (inb) (r : Fin M) (k : Fin n) (h : o + k.val < N) : (colRect M N n o inb).emb (ix2 r k) = ix2 r ⟨o + k.val, h⟩ := by
  funext a
  refine Fin.ext ?_
  rw [Rect.emb_apply]
  match a with
  | ⟨0, _⟩ => simp [Rect.unit]
  | ⟨1, _⟩ => simp [Rect.unit]

/-- A matrix whose last write is some columns holds them there. -/
theorem col_hit {N : Nat} [∀ e, Nonempty (Val e)] (r : Fin M) (j : Fin N) (k : Fin n) {o : Nat} (inb) (hj : j.val = o + k.val) (w : (colRect M N n o inb).shape.Idx → Val e)
    (L : List (View.Piece Val (⟨2, ![M, N]⟩ : Shape) e)) :
    View.canon (⟨colRect M N n o inb, w⟩ :: L) (ix2 r j) = w (ix2 r k) := by
  have e1 : (ix2 r j : (⟨2, ![M, N]⟩ : Shape).Idx) = (colRect M N n o inb).emb (ix2 r k) := by
    rw [emb_col inb r k (hj ▸ j.isLt)]
    exact congrArg (ix2 r) (Fin.ext hj)
  rw [e1]
  exact View.canon_cons_emb _ _ _ _

/-- The other columns hold what was there before. -/
theorem col_skip {N : Nat} [∀ e, Nonempty (Val e)] (r : Fin M) (j : Fin N) {o : Nat} (inb) (hj : j.val < o ∨ o + n ≤ j.val) (w : (colRect M N n o inb).shape.Idx → Val e)
    (L : List (View.Piece Val (⟨2, ![M, N]⟩ : Shape) e)) :
    View.canon (⟨colRect M N n o inb, w⟩ :: L) (ix2 r j) = View.canon L (ix2 r j) := by
  refine View.canon_cons_of_not_mem _ _ fun hm => ?_
  obtain ⟨x, hx⟩ := (colRect M N n o inb).exists_idx_of_mem hm
  have h0 := congrArg (fun z => (z 1).val) hx
  have hx0 : (x 1).val < n := (x 1).isLt
  simp only [Rect.emb_apply] at h0
  simp [Rect.unit] at h0
  omega

end Cert.Rows

end
-- ==== Proof.In.lean ====
module

public import proofs.«01_k».proof.Defs
public import proofs.«01_k».proof.Proof.Gen.InIdeal.Frame
public import proofs.«01_k».proof.Proof.Gen.InRefIdeal.Read
public import proofs.«01_k».proof.Proof.Gen.Pre_in_finite
public import proofs.«01_k».proof.Proof.Reals
public import Idealize.ShloMosaic.Lib.Pipeline.ValueKit
public import Idealize.ShloMosaic.Lib.Pointwise
public import proofs.«01_k».proof.Proof.Norm
public import proofs.«01_k».proof.Proof.Finite
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InIdeal.Hand

open Cert.InIdeal Cert.InIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![1, 0, 0] ∧ win0_6.index t = ![0, 0] ∧ win0_7.index t = ![t.val, 0] ∧ win0_8.index t = ![t.val, 0] ∧ win0_9.index t = ![0, 0] :=
  (by decide +kernel : ∀ t : Fin grid0.N, _)

/-- The array row of row `i` of the block at point `t`. -/
def row (t : Fin cfg0.N) (i : Fin 512) : Fin 4096 :=
  ⟨t.val * 512 + i.val, by have := t.isLt; have h : cfg0.N = 8 := N_0; omega⟩

open Cert.InRefIdeal.Read

theorem vec6 (c : Dev nD) (i : Fin 4) (k : Fin 1024) : (V m c main_v9 : FVec Ideal S4x16x1024 .f32) (ix3 i 6 k)
    = (m ((c : Thread nD τ).loc main_arg2)) (ix2 i k) := by
  unfold V V0
  simp only [List.flatten_cons, List.flatten_nil, List.append_nil, hostOps0]
  after_results
  pointwise
  after_results_loop
  pointwise

theorem vec1 (c : Dev nD) (i : Fin 4) (k : Fin 1024) : (V m c main_v9 : FVec Ideal S4x16x1024 .f32) (ix3 i 1 k)
    = (m ((c : Thread nD τ).loc main_arg1)) (ix2 i ⟨1024 + k.val, by omega⟩) := by
  unfold V V0
  simp only [List.flatten_cons, List.flatten_nil, List.append_nil, hostOps0]
  after_results
  pointwise
  after_results_loop
  pointwise

theorem gain (c : Dev nD) (t : Fin cfg0.N) (k : Fin 1024) : iblk m c 5 t (ix3 0 6 k)
    = (m ((c : Thread nD τ).loc main_arg2)) (ix2 1 k) := by
  rw [← vec6 m c 1 k]
  blk_point [iblk, idx t]

theorem scale (c : Dev nD) (t : Fin cfg0.N) (k : Fin 1024) : iblk m c 5 t (ix3 0 1 k)
    = (m ((c : Thread nD τ).loc main_arg1)) (ix2 1 ⟨1024 + k.val, by omega⟩) := by
  rw [← vec1 m c 1 k]
  blk_point [iblk, idx t]

theorem wIs (c : Dev nD) (j : Fin 1280) (k : Fin 1024) : (V m c main_v11 : FVec Ideal S1280x1024 .bf16) (ix2 j k)
    = (m ((c : Thread nD τ).loc main_arg6)) (ix2 k j) := by
  unfold V V0
  simp only [List.flatten_cons, List.flatten_nil, List.append_nil, hostOps0]
  after_results
  pointwise

theorem weight (c : Dev nD) (t : Fin cfg0.N) (j : Fin 1280) (k : Fin 1024) : iblk m c 6 t (ix2 j k)
    = (m ((c : Thread nD τ).loc main_arg6)) (ix2 k j) := by
  rw [← wIs m c j k]
  blk_point [iblk, idx t]

theorem kvIs (c : Dev nD) (r : Fin 4096) (j : Fin 256) : (V m c main_v0 : FVec Ideal S4096x256 .f32) (ix2 r j)
    = if h : j.val < 128 then (m ((c : Thread nD τ).loc main_arg9)) (ix2 r ⟨j.val, h⟩) else (m ((c : Thread nD τ).loc main_arg10)) (ix2 r ⟨j.val - 128, by omega⟩) := by
  unfold V V0
  simp only [List.flatten_cons, List.flatten_nil, List.append_nil, hostOps0]
  after_results
  pointwise

theorem duIs (c : Dev nD) (a : Fin 4) (r : Fin 4096) (j : Fin 128) : (V m c main_v2 : FVec Ideal S4x4096x128 .f32) (ix3 a r j)
    = (m ((c : Thread nD τ).loc main_arg11)) (ix2 r ⟨a.val * 128 + j.val, by omega⟩) := by
  unfold V V0
  simp only [List.flatten_cons, List.flatten_nil, List.append_nil, hostOps0]
  after_results
  pointwise

theorem xrow (c : Dev nD) (t : Fin cfg0.N) (i : Fin 512) (k : Fin 1024) : iblk m c 4 t (ix2 i k)
    = (m ((c : Thread nD τ).loc main_arg0)) (ix2 (row t i) k) := by
  blk_point [iblk, V, idx t, row]

/-- Five column groups read from one packed row and from four: the same numbers in the same order. -/
theorem groups (A : Fin 512 → EReal) (B C : Fin 128 → EReal) (D : Fin 512 → EReal) (j : Fin 1280) :
    (if h : j.val < 512 then A ⟨j.val, h⟩
      else if h : j.val - 512 < 256 then (if h : j.val - 512 < 128 then B ⟨j.val - 512, h⟩ else C ⟨j.val - 512 - 128, by omega⟩)
      else if h : j.val - 512 - 256 < 128 then D ⟨0 * 128 + (j.val - 512 - 256), by omega⟩
      else if h : j.val - 512 - 256 - 128 < 128 then D ⟨1 * 128 + (j.val - 512 - 256 - 128), by omega⟩
      else if h : j.val - 512 - 256 - 128 - 128 < 128 then D ⟨2 * 128 + (j.val - 512 - 256 - 128 - 128), by omega⟩
      else D ⟨3 * 128 + (j.val - 512 - 256 - 128 - 128 - 128), by omega⟩)
    = if h : j.val < 512 then A ⟨j.val, h⟩
      else if h : j.val - 512 < 128 then B ⟨j.val - 512, h⟩
      else if h : j.val - 512 - 128 < 128 then C ⟨j.val - 512 - 128, h⟩
      else D ⟨j.val - 512 - 128 - 128, by omega⟩ := by
  have e : ∀ (a b : Fin 512), a.val = b.val → D a = D b := fun a b h => congrArg D (Fin.ext h)
  split_ifs <;> first | omega | rfl | exact e _ _ (by simp; omega)

theorem dqRow (c : Dev nD) (t : Fin cfg0.N) (i : Fin 512) (j : Fin 512) : iblk m c 1 t (ix2 i j)
    = (m ((c : Thread nD τ).loc main_arg8)) (ix2 (row t i) j) := by
  blk_point [iblk, V, idx t, row]

theorem kvRow (c : Dev nD) (t : Fin cfg0.N) (i : Fin 512) (j : Fin 256) : iblk m c 2 t (ix2 i j)
    = if h : j.val < 128 then (m ((c : Thread nD τ).loc main_arg9)) (ix2 (row t i) ⟨j.val, h⟩) else (m ((c : Thread nD τ).loc main_arg10)) (ix2 (row t i) ⟨j.val - 128, by omega⟩) := by
  rw [← kvIs m c (row t i) j]
  blk_point [iblk, idx t, row]

theorem duRow (c : Dev nD) (t : Fin cfg0.N) (a : Fin 4) (i : Fin 512) (j : Fin 128) : iblk m c 3 t (ix3 a i j)
    = (m ((c : Thread nD τ).loc main_arg11)) (ix2 (row t i) ⟨a.val * 128 + j.val, by omega⟩) := by
  rw [← duIs m c a (row t i) j]
  blk_point [iblk, idx t, row]

open Cert.InRefIdeal.Read
theorem pay4_at (c : Dev nD) (t : Fin cfg0.N) (i : Fin 512) (j : Fin 1280) :
    k0_pay4 (iblk m c 1 t) (iblk m c 2 t)
      (View.ld (iblk m c 3 t) (Rect.unit ![0, 0, 0] ![1, 512, 128] inb_S4x512x128_S1x512x128_0_0_0))
      (View.ld (iblk m c 3 t) (Rect.unit ![1, 0, 0] ![1, 512, 128] inb_S4x512x128_S1x512x128_1_0_0))
      (View.ld (iblk m c 3 t) (Rect.unit ![2, 0, 0] ![1, 512, 128] inb_S4x512x128_S1x512x128_2_0_0))
      (View.ld (iblk m c 3 t) (Rect.unit ![3, 0, 0] ![1, 512, 128] inb_S4x512x128_S1x512x128_3_0_0)) (ix2 i j)
    = val_main_v71 (F := Ideal) (m ((c : Thread nD τ).loc main_arg8)) (m ((c : Thread nD τ).loc main_arg9)) (m ((c : Thread nD τ).loc main_arg10)) (m ((c : Thread nD τ).loc main_arg11)) (ix2 (row t i) j) := by
  pointwise [k0_pay4, val_main_v71]
  simp only [dqRow, kvRow, duRow]
  exact groups (fun q => (m ((c : Thread nD τ).loc main_arg8)) (ix2 (row t i) q)) (fun q => (m ((c : Thread nD τ).loc main_arg9)) (ix2 (row t i) q))
    (fun q => (m ((c : Thread nD τ).loc main_arg10)) (ix2 (row t i) q)) (fun q => (m ((c : Thread nD τ).loc main_arg11)) (ix2 (row t i) q)) j

/-- The gradient of the projected rows of the block at point `t`. -/
def dh (c : Dev nD) (t : Fin cfg0.N) : FVec Ideal S512x1024 .f32 :=
  k0_pay5 (iblk m c 1 t) (iblk m c 2 t)
      (View.ld (iblk m c 3 t) (Rect.unit ![0, 0, 0] ![1, 512, 128] inb_S4x512x128_S1x512x128_0_0_0))
      (View.ld (iblk m c 3 t) (Rect.unit ![1, 0, 0] ![1, 512, 128] inb_S4x512x128_S1x512x128_1_0_0))
      (View.ld (iblk m c 3 t) (Rect.unit ![2, 0, 0] ![1, 512, 128] inb_S4x512x128_S1x512x128_2_0_0))
      (View.ld (iblk m c 3 t) (Rect.unit ![3, 0, 0] ![1, 512, 128] inb_S4x512x128_S1x512x128_3_0_0)) (iblk m c 6 t)

theorem dh_at (c : Dev nD) (t : Fin cfg0.N) (i : Fin 512) (k : Fin 1024) : dh m c t (ix2 i k)
    = val_main_v40 (F := Ideal) (m ((c : Thread nD τ).loc main_arg6)) (m ((c : Thread nD τ).loc main_arg8)) (m ((c : Thread nD τ).loc main_arg9)) (m ((c : Thread nD τ).loc main_arg10)) (m ((c : Thread nD τ).loc main_arg11)) (ix2 (row t i) k) := by
  unfold dh
  pointwise [k0_pay5, val_main_v40]
  refine Finset.sum_congr rfl fun j _ => ?_
  rw [pay4_at, weight]
  rfl

theorem outDx (c : Dev nD) (t : Fin cfg0.N) (i : Fin 512) (k : Fin 1024) : (outsAt0 m c t.val t.isLt).1 (ix2 i k)
    = k0_pay13 (dh m c t) (k0_pay6 (View.ld (iblk m c 5 t) (Rect.unit ![0, 6, 0] ![1, 1, 1024] inb_S1x16x1024_S1x1x1024_0_6_0))) (iblk m c 4 t) (k0_pay7 (iblk m c 4 t)) k0_pay8
        (View.ld (iblk m c 5 t) (Rect.unit ![0, 1, 0] ![1, 1, 1024] inb_S1x16x1024_S1x1x1024_0_1_0)) (iblk m c 0 t) (ix2 i k) := by
  by_cases h : t.val % 8 = 0
  · rw [outsAt0_A m c t h]
    dsimp only
    frame_out
    rfl
  · rw [outsAt0_B m c t h]
    dsimp only
    frame_out
    rfl
theorem outDp (c : Dev nD) (t : Fin cfg0.N) (i : Fin 512) (k : Fin 1280) : (outsAt0 m c t.val t.isLt).2.1 (ix2 i k)
    = val_main_v72 (F := Ideal) (m ((c : Thread nD τ).loc main_arg8)) (m ((c : Thread nD τ).loc main_arg9)) (m ((c : Thread nD τ).loc main_arg10)) (m ((c : Thread nD τ).loc main_arg11)) (ix2 (row t i) k) := by
  refine Eq.trans ?_ (pay4_at m c t i k)
  by_cases h : t.val % 8 = 0
  · rw [outsAt0_A m c t h]
    dsimp only
    frame_out
    rfl
  · rw [outsAt0_B m c t h]
    dsimp only
    frame_out
    rfl

theorem pay14_at (d : FVec Ideal S512x1024 .f32) (p : FVec Ideal S1x1024 .f32) (k : Fin 1024) :
    k0_pay14 d p (ix2 0 k) = p (ix2 0 k) + ∑ i : Fin 512, d (ix2 i k) := by
  pointwise [k0_pay14]
theorem pay1_at (d : FVec Ideal S512x1024 .f32) (p : FVec Ideal S1x1024 .f32) (k : Fin 1024) :
    k0_pay1 p d (ix2 0 k) = p (ix2 0 k) + ∑ i : Fin 512, d (ix2 i k) := by
  pointwise [k0_pay1]
theorem pay2_at (d : FVec Ideal S512x1024 .f32) (p : FVec Ideal S1x1024 .f32) (k : Fin 1024) :
    k0_pay2 d p (ix2 0 k) = p (ix2 0 k) + ∑ i : Fin 512, d (ix2 i k) := by
  pointwise [k0_pay2]
theorem pay15_at (p : FVec Ideal S1x1024 .f32) (k : Fin 1024) :
    k0_pay15 p (ix2 0 k) = p (ix2 0 k) := by
  pointwise [k0_pay15]
theorem pay3_at (i : Fin 16) (k : Fin 1024) :
    (k0_pay3 : FVec Ideal S16x1024 .f32) (ix2 i k) = 0 := by
  pointwise [k0_pay3]

/-- The summands of the accumulated rows of the scale and of the gain. -/
def sumScale (c : Dev nD) (t : Fin cfg0.N) : FVec Ideal S512x1024 .f32 :=
    k0_pay16 (dh m c t) (k0_pay6 (View.ld (iblk m c 5 t) (Rect.unit ![0, 6, 0] ![1, 1, 1024] inb_S1x16x1024_S1x1x1024_0_6_0))) (iblk m c 4 t) (k0_pay7 (iblk m c 4 t)) k0_pay8
def sumGain (c : Dev nD) (t : Fin cfg0.N) : FVec Ideal S512x1024 .f32 :=
    k0_pay12 (dh m c t) (iblk m c 4 t) (k0_pay7 (iblk m c 4 t)) k0_pay8 (View.ld (iblk m c 5 t) (Rect.unit ![0, 1, 0] ![1, 1, 1024] inb_S1x16x1024_S1x1x1024_0_1_0))

open Cert.Rows
theorem accA (c : Dev nD) (t : Fin cfg0.N) (h : t.val % 8 = 0) (k : Fin 1024) :
    (outsAt0 m c t.val t.isLt).2.2 (ix2 0 k) = 0 + ∑ i : Fin 512, dh m c t (ix2 i k)
    ∧ (outsAt0 m c t.val t.isLt).2.2 (ix2 1 k) = 0 + ∑ i : Fin 512, sumScale m c t (ix2 i k)
    ∧ (outsAt0 m c t.val t.isLt).2.2 (ix2 6 k) = 0 + ∑ i : Fin 512, sumGain m c t (ix2 i k) := by
  rw [outsAt0_A m c t h]
  dsimp only
  frame_out
  refine ⟨?_, ?_, ?_⟩
  · rw [canon_skip _ _ (by decide), canon_skip _ _ (by decide), canon_hit _ _ (by decide), pay14_at, readCov_row _ _ _ (by decide), canon_whole, pay3_at]
    rfl
  · rw [canon_skip _ _ (by decide), canon_hit _ _ (by decide), pay1_at, pay15_at, readCov_row _ _ _ (by decide), canon_skip _ _ (by decide), canon_whole, pay3_at]
    rfl
  · rw [canon_hit _ _ (by decide), pay2_at, readCov_row _ _ _ (by decide), canon_skip _ _ (by decide), canon_skip _ _ (by decide), canon_whole, pay3_at]
    rfl

theorem accB (c : Dev nD) (t : Fin cfg0.N) (h : ¬ t.val % 8 = 0) (k : Fin 1024) :
    (outsAt0 m c t.val t.isLt).2.2 (ix2 0 k) = (outsAt0 m c (t.val - 1) (by omega)).2.2 (ix2 0 k) + ∑ i : Fin 512, dh m c t (ix2 i k)
    ∧ (outsAt0 m c t.val t.isLt).2.2 (ix2 1 k) = (outsAt0 m c (t.val - 1) (by omega)).2.2 (ix2 1 k) + ∑ i : Fin 512, sumScale m c t (ix2 i k)
    ∧ (outsAt0 m c t.val t.isLt).2.2 (ix2 6 k) = (outsAt0 m c (t.val - 1) (by omega)).2.2 (ix2 6 k) + ∑ i : Fin 512, sumGain m c t (ix2 i k) := by
  rw [outsAt0_B m c t h]
  dsimp only
  frame_out
  refine ⟨?_, ?_, ?_⟩
  · rw [read_skip _ _ _ _ (by decide), read_skip _ _ _ _ (by decide), read_hit _ _ _ _ (by decide), pay14_at, ld_row _ _ (by decide)]
    rfl
  · rw [read_skip _ _ _ _ (by decide), read_hit _ _ _ _ (by decide), pay1_at, pay15_at, ld_row _ _ (by decide)]
    rfl
  · rw [read_hit _ _ _ _ (by decide), pay2_at, ld_row _ _ (by decide)]
    rfl

theorem out_eq (c : Dev nD) (n n' : Nat) (h : n < cfg0.N) (h' : n' < cfg0.N) (e : n = n') :
    (outsAt0 m c n h).2.2 = (outsAt0 m c n' h').2.2 := by
  subst e
  rfl

theorem emb9 (t : Fin cfg0.N) (y) (G : FVec Ideal S16x1024 .f32) : G y = G ((win0_9.blk t).view.emb y) := by
  blk_ext [idx t]

theorem flush9 : ∀ t : Fin grid0.N, (cfg0.win 9).flush t = true → t.val = 7 := by decide +kernel

/-- The accumulated rows after the last point. -/
def total (c : Dev nD) : FVec Ideal S16x1024 .f32 := (outsAt0 m c 7 (by decide)).2.2

theorem last9 (c : Dev nD) : (dats m 0 c).arrAt 9 (cfgs 0).N = total m c := by
  refine (dats m 0 c).arrAt_eq_of_covers 9 _ (by decide +kernel) fun t hf y => ?_
  blk_simp
  rw [after0_9]
  rw [out_eq m c t.val 7 t.isLt (by decide) (flush9 t hf)]
  exact emb9 t y (total m c)

/-- A row accumulated over the eight points is the sum over all rows. -/
theorem allRows (f : Fin cfg0.N → Fin 512 → EReal) (g : Fin 4096 → EReal) (h : ∀ t i, f t i = g (row t i)) :
    ∑ t : Fin cfg0.N, ∑ i : Fin 512, f t i = ∑ r : Fin 4096, g r := by
  rw [Fin.sum_univ_tiles 8 512 rfl g]
  exact Finset.sum_congr rfl fun t _ => Finset.sum_congr rfl fun i _ => h t i

theorem sumScale_at (c : Dev nD) (t : Fin cfg0.N) (i : Fin 512) (k : Fin 1024) : sumScale m c t (ix2 i k)
    = val_main_v44 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (ix2 (row t i) k) := by
  unfold sumScale
  pointwise [k0_pay16, k0_pay10, k0_pay9, k0_pay7, k0_pay8, k0_pay6, val_main_v44, val_main_v25, val_main_v24, val_main_v23, val_main_v22, val_main_v21, val_main_v9, val_main_v8, val_main_v17, val_main_v16, val_main_v15, val_main_v14, val_main_v13, val_main_v12, val_main_v11, val_main_v10, val_main_cst, val_main_cst_1, val_main_cst_0]
  simp only [dh_at, xrow, gain]
  exact mul_comm _ _

theorem sumGain_at (c : Dev nD) (t : Fin cfg0.N) (i : Fin 512) (k : Fin 1024) : sumGain m c t (ix2 i k)
    = val_main_v50 (F := Ideal) (m ((c : Thread nD τ).loc main_arg0)) (m ((c : Thread nD τ).loc main_arg1)) (m ((c : Thread nD τ).loc main_arg6)) (m ((c : Thread nD τ).loc main_arg8)) (m ((c : Thread nD τ).loc main_arg9)) (m ((c : Thread nD τ).loc main_arg10)) (m ((c : Thread nD τ).loc main_arg11)) (ix2 (row t i) k) := by
  unfold sumGain
  pointwise [k0_pay12, k0_pay11, k0_pay10, k0_pay9, k0_pay7, k0_pay8, k0_pay6, val_main_v50, val_main_v48, val_main_v47, val_main_v28, val_main_v27, val_main_v26, val_main_v3, val_main_v1, val_main_v0, val_main_v22, val_main_v21, val_main_v17, val_main_v16, val_main_v15, val_main_v14, val_main_v13, val_main_v12, val_main_v11, val_main_v10, val_main_cst, val_main_cst_1, val_main_cst_0, val_main_cst_3]
  simp only [dh_at, xrow, scale]
  exact mul_comm _ _

/-- The three accumulated rows after the last point, as the reference's sums over all rows. -/
theorem rows_at (c : Dev nD) (k : Fin 1024) :
    (outsAt0 m c 7 (by decide)).2.2 (ix2 0 k) = val_main_v43 (F := Ideal) (m ((c : Thread nD τ).loc main_arg6)) (m ((c : Thread nD τ).loc main_arg8)) (m ((c : Thread nD τ).loc main_arg9)) (m ((c : Thread nD τ).loc main_arg10)) (m ((c : Thread nD τ).loc main_arg11)) (ix1 k)
    ∧ (outsAt0 m c 7 (by decide)).2.2 (ix2 1 k) = val_main_v49 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (ix1 k)
    ∧ (outsAt0 m c 7 (by decide)).2.2 (ix2 6 k) = val_main_v55 (F := Ideal) (m ((c : Thread nD τ).loc main_arg0)) (m ((c : Thread nD τ).loc main_arg1)) (m ((c : Thread nD τ).loc main_arg6)) (m ((c : Thread nD τ).loc main_arg8)) (m ((c : Thread nD τ).loc main_arg9)) (m ((c : Thread nD τ).loc main_arg10)) (m ((c : Thread nD τ).loc main_arg11)) (ix1 k) := by
  refine ⟨?_, ?_, ?_⟩
  · refine (Pipeline.eq_sum_fin_of_reset_step_apply_last (N := cfg0.N) (fun n h (k : Fin 1024) => (outsAt0 m c n h).2.2 (ix2 0 k)) 8 (fun _ => 0)
      (fun t k => ∑ i : Fin 512, dh m c t (ix2 i k)) (fun t h k => (accA m c t h k).1) (fun t h k => (accB m c t h k).1) (by decide) ⟨7, by decide⟩ rfl k).trans ?_
    rw [allRows _ (fun r => val_main_v40 (F := Ideal) (m ((c : Thread nD τ).loc main_arg6)) (m ((c : Thread nD τ).loc main_arg8)) (m ((c : Thread nD τ).loc main_arg9)) (m ((c : Thread nD τ).loc main_arg10)) (m ((c : Thread nD τ).loc main_arg11)) (ix2 r k)) fun t i => dh_at m c t i k]
    pointwise [val_main_v43, val_main_v42, val_main_v41, val_main_cst_4, val_main_cst_5]
    rw [Fin.sum_univ_one]
  · refine (Pipeline.eq_sum_fin_of_reset_step_apply_last (N := cfg0.N) (fun n h (k : Fin 1024) => (outsAt0 m c n h).2.2 (ix2 1 k)) 8 (fun _ => 0)
      (fun t k => ∑ i : Fin 512, sumScale m c t (ix2 i k)) (fun t h k => (accA m c t h k).2.1) (fun t h k => (accB m c t h k).2.1) (by decide) ⟨7, by decide⟩ rfl k).trans ?_
    rw [allRows _ (fun r => val_main_v44 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (ix2 r k)) fun t i => sumScale_at m c t i k]
    pointwise [val_main_v49, val_main_v46, val_main_v45, val_main_cst_6, val_main_cst_7]
    rw [Fin.sum_univ_one]
  · refine (Pipeline.eq_sum_fin_of_reset_step_apply_last (N := cfg0.N) (fun n h (k : Fin 1024) => (outsAt0 m c n h).2.2 (ix2 6 k)) 8 (fun _ => 0)
      (fun t k => ∑ i : Fin 512, sumGain m c t (ix2 i k)) (fun t h k => (accA m c t h k).2.2) (fun t h k => (accB m c t h k).2.2) (by decide) ⟨7, by decide⟩ rfl k).trans ?_
    rw [allRows _ (fun r => val_main_v50 (F := Ideal) (m ((c : Thread nD τ).loc main_arg0)) (m ((c : Thread nD τ).loc main_arg1)) (m ((c : Thread nD τ).loc main_arg6)) (m ((c : Thread nD τ).loc main_arg8)) (m ((c : Thread nD τ).loc main_arg9)) (m ((c : Thread nD τ).loc main_arg10)) (m ((c : Thread nD τ).loc main_arg11)) (ix2 r k)) fun t i => sumGain_at m c t i k]
    pointwise [val_main_v55, val_main_v52, val_main_v51, val_main_cst_8, val_main_cst_9]
    rw [Fin.sum_univ_one]

/-- The incoming gradient plus the gradient through the normalization of the rows of `x`. -/
def dxIs (x dx1 d : FVec Ideal S4096x1024 .f32) : FVec Ideal S4096x1024 .f32 := fun i =>
  dx1 i + Cert.Reals.normBwd (Ideal.ofBits .f32 0x44800000#32) (Ideal.ofBits .f32 0x358637BD#32) (fun j => x (ix2 (i 0) j)) (fun j => d (ix2 (i 0) j)) (i 1)

theorem dx_at (c : Dev nD) (t : Fin cfg0.N) (i : Fin 512) (k : Fin 1024) : (outsAt0 m c t.val t.isLt).1 (ix2 i k)
    = dxIs (m ((c : Thread nD τ).loc main_arg0)) (m ((c : Thread nD τ).loc main_arg7)) (val_main_v54 (F := Ideal) (m ((c : Thread nD τ).loc main_arg1)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11))) (ix2 (row t i) k) := by
  rw [outDx]
  have h0 : iblk m c 0 t (ix2 i k) = (m ((c : Thread nD τ).loc main_arg7)) (ix2 (row t i) k) := by blk_point [iblk, V, idx t, row]
  pointwise [dxIs, k0_pay13, k0_pay12, k0_pay11, k0_pay10, k0_pay9, k0_pay7, k0_pay8, k0_pay6, val_main_v54, val_main_v53, val_main_v24, val_main_v23, val_main_v9, val_main_v8, val_main_v48, val_main_v47, val_main_v28, val_main_v27, val_main_v26, val_main_v3, val_main_v1, val_main_v0, val_main_cst_3]
  simp only [dh_at, xrow, scale, gain, h0]
  rfl

theorem refDx (x0 x1 x2 x6 x7 x8 x9 x10 x11) (h0 : ∀ i, Cert.Reals.IsReal (x0 i)) (h : ∀ i, Cert.Reals.IsReal (val_main_v54 (F := Ideal) x1 x2 x6 x8 x9 x10 x11 i)) :
    val_main_v70 (F := Ideal) x0 x1 x2 x6 x7 x8 x9 x10 x11 = dxIs x0 x7 (val_main_v54 (F := Ideal) x1 x2 x6 x8 x9 x10 x11) := by
  funext i
  idx_vars i
  obtain ⟨e, he, hE⟩ := Cert.Reals.eps
  have key := Cert.Reals.norm_bwd (c := 1024) (by norm_num) he (fun j : Fin 1024 => h0 (ix2 i0 j)) (fun j => h (ix2 i0 j)) i1
  rw [← hE, ← Cert.Reals.c1024, ← Cert.Reals.negHalf] at key
  unfold Cert.Reals.normShare Cert.Reals.rms at key
  pointwise [dxIs, val_main_v70, val_main_v69, val_main_v68, val_main_v67, val_main_v66, val_main_v65, val_main_v64, val_main_v63, val_main_v62, val_main_v61, val_main_v60, val_main_v59, val_main_v58, val_main_v57, val_main_v56, val_main_v20, val_main_v19, val_main_v18, val_main_v17, val_main_v16, val_main_v15, val_main_v14, val_main_v13, val_main_v12, val_main_v11, val_main_v10, val_main_cst, val_main_cst_1, val_main_cst_0, val_main_cst_2, val_main_cst_10, val_main_cst_11, val_main_cst_12]
  rw [← key, add_assoc, add_assoc, Fin.sum_univ_one]

theorem cutRow (o : Nat) (ho : o < 16) (x : FVec Ideal S16x1024 .f32) (hs : S16x1024.Slices ![o, 0] S1x1024) :
    shapeCast S1024 (extractStridedSlice S1x1024 ![o, 0] x hs) shapeCasts_S1x1024_S1024 = fun i => x (ix2 ⟨o, ho⟩ (i 0)) := by
  funext i
  idx_vars i
  pointwise

theorem emb7 (t : Fin cfg0.N) (y) (G : FVec Ideal S4096x1024 .f32) :
    G (ix2 (row t (y 0)) (y 1)) = G ((win0_7.blk t).view.emb y) := by
  blk_ext [idx t, row]

theorem emb8 (t : Fin cfg0.N) (y) (G : FVec Ideal S4096x1280 .bf16) :
    G (ix2 (row t (y 0)) (y 1)) = G ((win0_8.blk t).view.emb y) := by
  blk_ext [idx t, row]

theorem tail14 (c : Dev nD) : Pipeline.afterTail₀ cfgs (dats m) 0 (V0 m) [hostOps1] c main_v14
    = fun i => (show FVec Ideal S16x1024 .f32 from (dats m 0 c).arrAt 9 (cfgs 0).N) (ix2 0 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 0 (by decide) (show FVec Ideal S16x1024 .f32 from (dats m 0 c).arrAt 9 (cfgs 0).N) slices_S16x1024_S1x1024_0_0)
  rw [← h]
  funext i
  rfl

theorem tail16 (c : Dev nD) : Pipeline.afterTail₀ cfgs (dats m) 0 (V0 m) [hostOps1] c main_v16
    = fun i => (show FVec Ideal S16x1024 .f32 from (dats m 0 c).arrAt 9 (cfgs 0).N) (ix2 1 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 1 (by decide) (show FVec Ideal S16x1024 .f32 from (dats m 0 c).arrAt 9 (cfgs 0).N) slices_S16x1024_S1x1024_1_0)
  rw [← h]
  funext i
  rfl

theorem tail18 (c : Dev nD) : Pipeline.afterTail₀ cfgs (dats m) 0 (V0 m) [hostOps1] c main_v18
    = fun i => (show FVec Ideal S16x1024 .f32 from (dats m 0 c).arrAt 9 (cfgs 0).N) (ix2 6 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 6 (by decide) (show FVec Ideal S16x1024 .f32 from (dats m 0 c).arrAt 9 (cfgs 0).N) slices_S16x1024_S1x1024_6_0)
  rw [← h]
  funext i
  rfl

theorem pre_real (x0 x1 x2 x3 x4 x5 x6 x7 x8 x9 x10 x11)
    (h : (Cert.Pre_in_finite.fn (F := Ideal) x0 x1 x2 x3 x4 x5 x6 x7 x8 x9 x10 x11).1 = (fun _ => 1#1)
    ∧ (Cert.Pre_in_finite.fn (F := Ideal) x0 x1 x2 x3 x4 x5 x6 x7 x8 x9 x10 x11).2.1 = (fun _ => 1#1)
    ∧ (Cert.Pre_in_finite.fn (F := Ideal) x0 x1 x2 x3 x4 x5 x6 x7 x8 x9 x10 x11).2.2.1 = (fun _ => 1#1)
    ∧ (Cert.Pre_in_finite.fn (F := Ideal) x0 x1 x2 x3 x4 x5 x6 x7 x8 x9 x10 x11).2.2.2.1 = (fun _ => 1#1)
    ∧ (Cert.Pre_in_finite.fn (F := Ideal) x0 x1 x2 x3 x4 x5 x6 x7 x8 x9 x10 x11).2.2.2.2.1 = (fun _ => 1#1)
    ∧ (Cert.Pre_in_finite.fn (F := Ideal) x0 x1 x2 x3 x4 x5 x6 x7 x8 x9 x10 x11).2.2.2.2.2.1 = (fun _ => 1#1)
    ∧ (Cert.Pre_in_finite.fn (F := Ideal) x0 x1 x2 x3 x4 x5 x6 x7 x8 x9 x10 x11).2.2.2.2.2.2.1 = (fun _ => 1#1)
    ∧ (Cert.Pre_in_finite.fn (F := Ideal) x0 x1 x2 x3 x4 x5 x6 x7 x8 x9 x10 x11).2.2.2.2.2.2.2 = (fun _ => 1#1)) :
    (∀ i, Cert.Reals.IsReal (x0 i)) ∧ (∀ i, Cert.Reals.IsReal (x1 i)) ∧ (∀ i, Cert.Reals.IsReal (x2 i)) ∧ (∀ i, Cert.Reals.IsReal (x6 i)) ∧ (∀ i, Cert.Reals.IsReal (x8 i)) ∧ (∀ i, Cert.Reals.IsReal (x9 i)) ∧ (∀ i, Cert.Reals.IsReal (x10 i)) ∧ (∀ i, Cert.Reals.IsReal (x11 i)) := by
  unfold Cert.Pre_in_finite.fn Cert.Pre_in_finite.fn_part1 Cert.Pre_in_finite.fn_part2 at h
  dsimp only at h
  exact ⟨Cert.Reals.real_of x0 _ _ h.1 (fun _ => rfl) (fun _ => rfl), Cert.Reals.real_of x1 _ _ h.2.1 (fun _ => rfl) (fun _ => rfl), Cert.Reals.real_of x2 _ _ h.2.2.1 (fun _ => rfl) (fun _ => rfl), Cert.Reals.real_of x6 _ _ h.2.2.2.1 (fun _ => rfl) (fun _ => rfl), Cert.Reals.real_of x8 _ _ h.2.2.2.2.1 (fun _ => rfl) (fun _ => rfl), Cert.Reals.real_of x9 _ _ h.2.2.2.2.2.1 (fun _ => rfl) (fun _ => rfl), Cert.Reals.real_of x10 _ _ h.2.2.2.2.2.2.1 (fun _ => rfl) (fun _ => rfl), Cert.Reals.real_of x11 _ _ h.2.2.2.2.2.2.2 (fun _ => rfl) (fun _ => rfl)⟩

theorem final7_of (c : Dev nD) (G : FVec Ideal S4096x1024 .f32) (h : ∀ t (y : S512x1024.Idx), (outsAt0 m c t.val t.isLt).1 y = G (ix2 (row t (y 0)) (y 1))) :
    (dats m 0 c).arrAt 7 (cfgs 0).N = G := by
  refine (dats m 0 c).arrAt_eq_of_covers 7 _ (by decide +kernel) fun t hf y => ?_
  blk_simp
  rw [after0_7]
  exact (h t y).trans (emb7 t y G)

theorem final8_of (c : Dev nD) (G : FVec Ideal S4096x1280 .bf16) (h : ∀ t (y : S512x1280.Idx), (outsAt0 m c t.val t.isLt).2.1 y = G (ix2 (row t (y 0)) (y 1))) :
    (dats m 0 c).arrAt 8 (cfgs 0).N = G := by
  refine (dats m 0 c).arrAt_eq_of_covers 8 _ (by decide +kernel) fun t hf y => ?_
  blk_simp
  rw [after0_8]
  exact (h t y).trans (emb8 t y G)

theorem final7 (c : Dev nD) : (dats m 0 c).arrAt 7 (cfgs 0).N = dxIs (m ((c : Thread nD τ).loc main_arg0)) (m ((c : Thread nD τ).loc main_arg7)) (val_main_v54 (F := Ideal) (m ((c : Thread nD τ).loc main_arg1)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11))) :=
  final7_of m c _ fun t y => by
    idx_vars y
    exact dx_at m c t y0 y1

theorem final8 (c : Dev nD) : (dats m 0 c).arrAt 8 (cfgs 0).N = val_main_v72 (F := Ideal) (m ((c : Thread nD τ).loc main_arg8)) (m ((c : Thread nD τ).loc main_arg9)) (m ((c : Thread nD τ).loc main_arg10)) (m ((c : Thread nD τ).loc main_arg11)) :=
  final8_of m c _ fun t y => by
    idx_vars y
    exact outDp m c t y0 y1

theorem v39_real (x8 : FVec Ideal S4096x512 .f32) (x9 x10 : FVec Ideal S4096x128 .f32) (x11 : FVec Ideal S4096x512 .f32)
    (h8 : ∀ i, Cert.Reals.IsReal (x8 i)) (h9 : ∀ i, Cert.Reals.IsReal (x9 i)) (h10 : ∀ i, Cert.Reals.IsReal (x10 i)) (h11 : ∀ i, Cert.Reals.IsReal (x11 i)) (r : Fin 4096) (k : Fin 1280) :
    Cert.Reals.IsReal (val_main_v39 (F := Ideal) x8 x9 x10 x11 (ix2 r k)) := by
  pointwise [val_main_v39]
  split_ifs
  all_goals first
    | exact h8 _
    | exact h9 _
    | exact h10 _
    | exact h11 _

theorem v54_real (x1 x2 x6 x8 x9 x10 x11) (h1 : ∀ i, Cert.Reals.IsReal (x1 i)) (h2 : ∀ i, Cert.Reals.IsReal (x2 i)) (h6 : ∀ i, Cert.Reals.IsReal (x6 i))
    (h8 : ∀ i, Cert.Reals.IsReal (x8 i)) (h9 : ∀ i, Cert.Reals.IsReal (x9 i)) (h10 : ∀ i, Cert.Reals.IsReal (x10 i)) (h11 : ∀ i, Cert.Reals.IsReal (x11 i)) (i) :
    Cert.Reals.IsReal (val_main_v54 (F := Ideal) x1 x2 x6 x8 x9 x10 x11 i) := by
  idx_vars i
  pointwise [val_main_v54, val_main_v53, val_main_v24, val_main_v23, val_main_v9, val_main_v8, val_main_v48, val_main_v47, val_main_v28, val_main_v27, val_main_v26, val_main_v3, val_main_v1, val_main_v0, val_main_cst_3, val_main_v40]
  refine .mul (.mul (.sum _ fun k => .mul (v39_real _ _ _ _ h8 h9 h10 h11 _ _) (h6 _)) (.add .one (h1 _))) (h2 _)

theorem is70 (c : Dev nD) (hpre : Pre_InIdeal_in_finite m) (x0 : FVec Ideal S4096x1024 .f32) (x1 : FVec Ideal S4x6144 .f32) (x2 : FVec Ideal S4x1024 .f32) (x6 : FVec Ideal S1024x1280 .f32) (x7 : FVec Ideal S4096x1024 .f32) (x8 : FVec Ideal S4096x512 .f32) (x9 : FVec Ideal S4096x128 .f32) (x10 : FVec Ideal S4096x128 .f32) (x11 : FVec Ideal S4096x512 .f32) (e0 : x0 = (m ((c : Thread nD τ).loc main_arg0))) (e1 : x1 = (m ((c : Thread nD τ).loc main_arg1))) (e2 : x2 = (m ((c : Thread nD τ).loc main_arg2))) (e6 : x6 = (m ((c : Thread nD τ).loc main_arg6))) (e7 : x7 = (m ((c : Thread nD τ).loc main_arg7))) (e8 : x8 = (m ((c : Thread nD τ).loc main_arg8))) (e9 : x9 = (m ((c : Thread nD τ).loc main_arg9))) (e10 : x10 = (m ((c : Thread nD τ).loc main_arg10))) (e11 : x11 = (m ((c : Thread nD τ).loc main_arg11))) :
    val_main_v70 (F := Ideal) x0 x1 x2 x6 x7 x8 x9 x10 x11 = (dats m 0 c).arrAt 7 (cfgs 0).N := by
  subst e0 e1 e2 e6 e7 e8 e9 e10 e11
  rw [final7 m c]
  obtain ⟨h0, h1, h2, h6, h8, h9, h10, h11⟩ := pre_real _ _ _ _ _ _ _ _ _ _ _ _ (hpre c)
  exact refDx _ _ _ _ _ _ _ _ _ h0 (v54_real _ _ _ _ _ _ _ h1 h2 h6 h8 h9 h10 h11)

theorem is72 (c : Dev nD) (x8 : FVec Ideal S4096x512 .f32) (x9 : FVec Ideal S4096x128 .f32) (x10 : FVec Ideal S4096x128 .f32) (x11 : FVec Ideal S4096x512 .f32) (e8 : x8 = (m ((c : Thread nD τ).loc main_arg8))) (e9 : x9 = (m ((c : Thread nD τ).loc main_arg9))) (e10 : x10 = (m ((c : Thread nD τ).loc main_arg10))) (e11 : x11 = (m ((c : Thread nD τ).loc main_arg11))) :
    val_main_v72 (F := Ideal) x8 x9 x10 x11 = (dats m 0 c).arrAt 8 (cfgs 0).N := by
  subst e8 e9 e10 e11
  exact (final8 m c).symm

theorem is43 (c : Dev nD) (x6 : FVec Ideal S1024x1280 .f32) (x8 : FVec Ideal S4096x512 .f32) (x9 : FVec Ideal S4096x128 .f32) (x10 : FVec Ideal S4096x128 .f32) (x11 : FVec Ideal S4096x512 .f32) (e6 : x6 = (m ((c : Thread nD τ).loc main_arg6))) (e8 : x8 = (m ((c : Thread nD τ).loc main_arg8))) (e9 : x9 = (m ((c : Thread nD τ).loc main_arg9))) (e10 : x10 = (m ((c : Thread nD τ).loc main_arg10))) (e11 : x11 = (m ((c : Thread nD τ).loc main_arg11))) :
    val_main_v43 (F := Ideal) x6 x8 x9 x10 x11 = Pipeline.afterTail₀ cfgs (dats m) 0 (V0 m) [hostOps1] c main_v14 := by
  subst e6 e8 e9 e10 e11
  rw [tail14, last9]
  funext i
  idx_vars i
  exact (rows_at m c i0).1.symm

theorem is49 (c : Dev nD) (x0 : FVec Ideal S4096x1024 .f32) (x2 : FVec Ideal S4x1024 .f32) (x6 : FVec Ideal S1024x1280 .f32) (x8 : FVec Ideal S4096x512 .f32) (x9 : FVec Ideal S4096x128 .f32) (x10 : FVec Ideal S4096x128 .f32) (x11 : FVec Ideal S4096x512 .f32) (e0 : x0 = (m ((c : Thread nD τ).loc main_arg0))) (e2 : x2 = (m ((c : Thread nD τ).loc main_arg2))) (e6 : x6 = (m ((c : Thread nD τ).loc main_arg6))) (e8 : x8 = (m ((c : Thread nD τ).loc main_arg8))) (e9 : x9 = (m ((c : Thread nD τ).loc main_arg9))) (e10 : x10 = (m ((c : Thread nD τ).loc main_arg10))) (e11 : x11 = (m ((c : Thread nD τ).loc main_arg11))) :
    val_main_v49 (F := Ideal) x0 x2 x6 x8 x9 x10 x11 = Pipeline.afterTail₀ cfgs (dats m) 0 (V0 m) [hostOps1] c main_v16 := by
  subst e0 e2 e6 e8 e9 e10 e11
  rw [tail16, last9]
  funext i
  idx_vars i
  exact (rows_at m c i0).2.1.symm

theorem is55 (c : Dev nD) (x0 : FVec Ideal S4096x1024 .f32) (x1 : FVec Ideal S4x6144 .f32) (x6 : FVec Ideal S1024x1280 .f32) (x8 : FVec Ideal S4096x512 .f32) (x9 : FVec Ideal S4096x128 .f32) (x10 : FVec Ideal S4096x128 .f32) (x11 : FVec Ideal S4096x512 .f32) (e0 : x0 = (m ((c : Thread nD τ).loc main_arg0))) (e1 : x1 = (m ((c : Thread nD τ).loc main_arg1))) (e6 : x6 = (m ((c : Thread nD τ).loc main_arg6))) (e8 : x8 = (m ((c : Thread nD τ).loc main_arg8))) (e9 : x9 = (m ((c : Thread nD τ).loc main_arg9))) (e10 : x10 = (m ((c : Thread nD τ).loc main_arg10))) (e11 : x11 = (m ((c : Thread nD τ).loc main_arg11))) :
    val_main_v55 (F := Ideal) x0 x1 x6 x8 x9 x10 x11 = Pipeline.afterTail₀ cfgs (dats m) 0 (V0 m) [hostOps1] c main_v18 := by
  subst e0 e1 e6 e8 e9 e10 e11
  rw [tail18, last9]
  funext i
  idx_vars i
  exact (rows_at m c i0).2.2.symm

set_option maxHeartbeats 2000000 in
theorem algebraic : Cert.algebraic_InIdeal_InRefIdeal_pre_in_finite := by
  pair_intro
  · run_from Cert.InIdeal.Gen.run_main m g
    exacts [Cert.InIdeal.Gen.W_main_arg1 m (dats m) c, Cert.InIdeal.Gen.W_main_arg2 m (dats m) c, Cert.InIdeal.Gen.W_main_arg3 m (dats m) c, Cert.InIdeal.Gen.W_main_arg4 m (dats m) c, Cert.InIdeal.Gen.W_main_arg5 m (dats m) c, Cert.InIdeal.Gen.W_main_arg6 m (dats m) c, Cert.InIdeal.Gen.W_main_arg9 m (dats m) c, Cert.InIdeal.Gen.W_main_arg10 m (dats m) c, Cert.InIdeal.Gen.W_main_arg11 m (dats m) c]
  · run_from Cert.InRefIdeal.Value.run m' g'
    · exact (val_main_v70_eq m' c).trans (is70 m c hpre (m' ((c : Thread nD τ).loc Cert.InRefIdeal.main_arg0)) (m' ((c : Thread nD τ).loc Cert.InRefIdeal.main_arg1)) (m' ((c : Thread nD τ).loc Cert.InRefIdeal.main_arg2)) (m' ((c : Thread nD τ).loc Cert.InRefIdeal.main_arg6)) (m' ((c : Thread nD τ).loc Cert.InRefIdeal.main_arg7)) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11)) (hagree c).1 (hagree c).2.1 (hagree c).2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2)
    · refine (val_main_v72_eq (F := Ideal) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11))).trans (is72 m c (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11)) (hagree c).2.2.2.2.2.2.2.2.1 (hagree c).2.2.2.2.2.2.2.2.2.1 (hagree c).2.2.2.2.2.2.2.2.2.2.1 (hagree c).2.2.2.2.2.2.2.2.2.2.2)
    · refine (val_main_v43_eq (F := Ideal) (m ((c : Thread nD τ).loc main_arg6)) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11))).trans (is43 m c (m ((c : Thread nD τ).loc main_arg6)) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11)) rfl (hagree c).2.2.2.2.2.2.2.2.1 (hagree c).2.2.2.2.2.2.2.2.2.1 (hagree c).2.2.2.2.2.2.2.2.2.2.1 (hagree c).2.2.2.2.2.2.2.2.2.2.2)
    · refine (val_main_v49_eq (F := Ideal) (m ((c : Thread nD τ).loc main_arg0)) (m ((c : Thread nD τ).loc main_arg2)) (m ((c : Thread nD τ).loc main_arg6)) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11))).trans (is49 m c (m ((c : Thread nD τ).loc main_arg0)) (m ((c : Thread nD τ).loc main_arg2)) (m ((c : Thread nD τ).loc main_arg6)) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11)) rfl rfl rfl (hagree c).2.2.2.2.2.2.2.2.1 (hagree c).2.2.2.2.2.2.2.2.2.1 (hagree c).2.2.2.2.2.2.2.2.2.2.1 (hagree c).2.2.2.2.2.2.2.2.2.2.2)
    · refine (val_main_v55_eq (F := Ideal) (m ((c : Thread nD τ).loc main_arg0)) (m ((c : Thread nD τ).loc main_arg1)) (m ((c : Thread nD τ).loc main_arg6)) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11))).trans (is55 m c (m ((c : Thread nD τ).loc main_arg0)) (m ((c : Thread nD τ).loc main_arg1)) (m ((c : Thread nD τ).loc main_arg6)) (m' ((c : Thread nD τ).loc Cert.InRefIdeal.main_arg8)) (m' ((c : Thread nD τ).loc Cert.InRefIdeal.main_arg9)) (m' ((c : Thread nD τ).loc Cert.InRefIdeal.main_arg10)) (m' ((c : Thread nD τ).loc Cert.InRefIdeal.main_arg11)) rfl rfl rfl (hagree c).2.2.2.2.2.2.2.2.1 (hagree c).2.2.2.2.2.2.2.2.2.1 (hagree c).2.2.2.2.2.2.2.2.2.2.1 (hagree c).2.2.2.2.2.2.2.2.2.2.2)

end Cert.InIdeal.Hand

end
-- ==== Proof.Out.lean ====
module

public import proofs.«01_k».proof.Defs
public import proofs.«01_k».proof.Proof.Gen.OutIdeal.Frame
public import proofs.«01_k».proof.Proof.Gen.OutRefIdeal.Read
public import proofs.«01_k».proof.Proof.Gen.Pre_out_finite
public import proofs.«01_k».proof.Proof.Reals
public import Idealize.ShloMosaic.Lib.Pipeline.ValueKit
public import Idealize.ShloMosaic.Lib.Pointwise
public import proofs.«01_k».proof.Proof.Norm
public import proofs.«01_k».proof.Proof.Finite
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Hand

open Cert.OutIdeal Cert.OutIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, t.val, 0] ∧ win0_3.index t = ![1, 0, 0] ∧ win0_4.index t = ![1, 0, 0] ∧ win0_5.index t = ![0, 0] ∧ win0_6.index t = ![t.val, 0] ∧ win0_7.index t = ![0, t.val, 0] ∧ win0_8.index t = ![t.val, 0] ∧ win0_9.index t = ![t.val, 0] ∧ win0_10.index t = ![0, 0] ∧ win0_11.index t = ![0, 0] :=
  (by decide +kernel : ∀ t : Fin grid0.N, _)

/-- The array row of row `i` of the block at point `t`. -/
def row (t : Fin cfg0.N) (i : Fin 512) : Fin 4096 :=
  ⟨t.val * 512 + i.val, by have := t.isLt; have h : cfg0.N = 8 := N_0; omega⟩

/-- The arguments the gradients depend on. -/
abbrev x0 (c : Dev nD) : FVec Ideal S4096x512 .f32 := m ((c : Thread nD τ).loc main_arg0)
abbrev x1 (c : Dev nD) : FVec Ideal S4096x512 .f32 := m ((c : Thread nD τ).loc main_arg1)
abbrev x2 (c : Dev nD) : FVec Ideal S4x6144 .f32 := m ((c : Thread nD τ).loc main_arg2)
abbrev x4 (c : Dev nD) : FVec Ideal S4x1024 .f32 := m ((c : Thread nD τ).loc main_arg4)
abbrev x7 (c : Dev nD) : FVec Ideal S4x512 .f32 := m ((c : Thread nD τ).loc main_arg7)
abbrev x8 (c : Dev nD) : FVec Ideal S4x512 .f32 := m ((c : Thread nD τ).loc main_arg8)
abbrev x11 (c : Dev nD) : FVec Ideal S1024x1024 .f32 := m ((c : Thread nD τ).loc main_arg11)
abbrev x12 (c : Dev nD) : FVec Ideal S4096x1024 .f32 := m ((c : Thread nD τ).loc main_arg12)

theorem vec2 (c : Dev nD) (i : Fin 4) (k : Fin 1024) : (V m c main_v8 : FVec Ideal S4x16x1024 .f32) (ix3 i 2 k)
    = x2 m c (ix2 i ⟨2048 + k.val, by omega⟩) := by
  unfold V V0
  simp only [List.flatten_cons, List.flatten_nil, List.append_nil, hostOps0]
  after_results
  pointwise
  after_results_loop
  pointwise

theorem vec7 (c : Dev nD) (i : Fin 4) (k : Fin 1024) : (V m c main_v8 : FVec Ideal S4x16x1024 .f32) (ix3 i 7 k)
    = x4 m c (ix2 i k) := by
  unfold V V0
  simp only [List.flatten_cons, List.flatten_nil, List.append_nil, hostOps0]
  after_results
  pointwise
  after_results_loop
  pointwise

theorem vecA (c : Dev nD) (i : Fin 4) (k : Fin 512) : (V m c main_v14 : FVec Ideal S4x8x512 .f32) (ix3 i 0 k)
    = x7 m c (ix2 i k) := by
  unfold V V0
  simp only [List.flatten_cons, List.flatten_nil, List.append_nil, hostOps0]
  after_results
  pointwise
  after_results_loop
  pointwise

theorem vecS (c : Dev nD) (i : Fin 4) (k : Fin 512) : (V m c main_v14 : FVec Ideal S4x8x512 .f32) (ix3 i 1 k)
    = x8 m c (ix2 i k) := by
  unfold V V0
  simp only [List.flatten_cons, List.flatten_nil, List.append_nil, hostOps0]
  after_results
  pointwise
  after_results_loop
  pointwise

theorem wIs (c : Dev nD) (j : Fin 1024) (k : Fin 1024) : (V m c main_v15 : FVec Ideal S1024x1024 .bf16) (ix2 j k)
    = x11 m c (ix2 j k) := by
  unfold V V0
  simp only [List.flatten_cons, List.flatten_nil, List.append_nil, hostOps0]
  after_results
  pointwise

theorem sIs (c : Dev nD) (a : Fin 4) (r : Fin 4096) (j : Fin 128) : (V m c main_v1 : FVec Ideal S4x4096x128 .f32) (ix3 a r j)
    = x1 m c (ix2 r ⟨a.val * 128 + j.val, by omega⟩) := by
  unfold V V0
  simp only [List.flatten_cons, List.flatten_nil, List.append_nil, hostOps0]
  after_results
  pointwise

theorem gate (c : Dev nD) (t : Fin cfg0.N) (k : Fin 1024) : iblk m c 3 t (ix3 0 2 k) = x2 m c (ix2 1 ⟨2048 + k.val, by omega⟩) := by
  rw [← vec2 m c 1 k]
  blk_point [iblk, idx t]

theorem gain (c : Dev nD) (t : Fin cfg0.N) (k : Fin 1024) : iblk m c 3 t (ix3 0 7 k) = x4 m c (ix2 1 k) := by
  rw [← vec7 m c 1 k]
  blk_point [iblk, idx t]

theorem gainA (c : Dev nD) (t : Fin cfg0.N) (k : Fin 512) : iblk m c 4 t (ix3 0 0 k) = x7 m c (ix2 1 k) := by
  rw [← vecA m c 1 k]
  blk_point [iblk, idx t]

theorem gainS (c : Dev nD) (t : Fin cfg0.N) (k : Fin 512) : iblk m c 4 t (ix3 0 1 k) = x8 m c (ix2 1 k) := by
  rw [← vecS m c 1 k]
  blk_point [iblk, idx t]

theorem weight (c : Dev nD) (t : Fin cfg0.N) (j k : Fin 1024) : iblk m c 5 t (ix2 j k) = x11 m c (ix2 j k) := by
  rw [← wIs m c j k]
  blk_point [iblk, idx t]

theorem dRow (c : Dev nD) (t : Fin cfg0.N) (i : Fin 512) (k : Fin 1024) : iblk m c 0 t (ix2 i k) = x12 m c (ix2 (row t i) k) := by
  blk_point [iblk, V, idx t, row]

theorem aRow (c : Dev nD) (t : Fin cfg0.N) (i : Fin 512) (k : Fin 512) : iblk m c 1 t (ix2 i k) = x0 m c (ix2 (row t i) k) := by
  blk_point [iblk, V, idx t, row]

theorem sRow (c : Dev nD) (t : Fin cfg0.N) (a : Fin 4) (i : Fin 512) (j : Fin 128) : iblk m c 2 t (ix3 a i j)
    = x1 m c (ix2 (row t i) ⟨a.val * 128 + j.val, by omega⟩) := by
  rw [← sIs m c a (row t i) j]
  blk_point [iblk, idx t, row]

/-- Four column groups of a row, read one after the other. -/
theorem slabs (D : Fin 512 → EReal) (j : Fin 512) :
    (if h : j.val < 128 then D ⟨0 * 128 + j.val, by omega⟩
      else if h : j.val - 128 < 128 then D ⟨1 * 128 + (j.val - 128), by omega⟩
      else if h : j.val - 128 - 128 < 128 then D ⟨2 * 128 + (j.val - 128 - 128), by omega⟩
      else D ⟨3 * 128 + (j.val - 128 - 128 - 128), by omega⟩) = D j := by
  have e : ∀ (a : Fin 512), a.val = j.val → D a = D j := fun a h => congrArg D (Fin.ext h)
  split_ifs <;> exact e _ (by simp <;> omega)

/-- The rows, gains and stages of the block at point `t`. -/
def sB (c : Dev nD) (t : Fin cfg0.N) : FVec Ideal S512x512 .f32 :=
  k0_pay6 (View.ld (iblk m c 2 t) (Rect.unit ![0, 0, 0] ![1, 512, 128] inb_S4x512x128_S1x512x128_0_0_0))
    (View.ld (iblk m c 2 t) (Rect.unit ![1, 0, 0] ![1, 512, 128] inb_S4x512x128_S1x512x128_1_0_0))
    (View.ld (iblk m c 2 t) (Rect.unit ![2, 0, 0] ![1, 512, 128] inb_S4x512x128_S1x512x128_2_0_0))
    (View.ld (iblk m c 2 t) (Rect.unit ![3, 0, 0] ![1, 512, 128] inb_S4x512x128_S1x512x128_3_0_0))
def sSq (c : Dev nD) (t : Fin cfg0.N) : FVec Ideal S512x1 .f32 :=
  k0_pay10 (View.ld (iblk m c 2 t) (Rect.unit ![0, 0, 0] ![1, 512, 128] inb_S4x512x128_S1x512x128_0_0_0))
    (View.ld (iblk m c 2 t) (Rect.unit ![1, 0, 0] ![1, 512, 128] inb_S4x512x128_S1x512x128_1_0_0))
    (View.ld (iblk m c 2 t) (Rect.unit ![2, 0, 0] ![1, 512, 128] inb_S4x512x128_S1x512x128_2_0_0))
    (View.ld (iblk m c 2 t) (Rect.unit ![3, 0, 0] ![1, 512, 128] inb_S4x512x128_S1x512x128_3_0_0))
def gaB (c : Dev nD) (t : Fin cfg0.N) : FVec Ideal S1x512 .f32 :=
  k0_pay4 (View.ld (iblk m c 4 t) (Rect.unit ![0, 0, 0] ![1, 1, 512] inb_S1x8x512_S1x1x512_0_0_0))
def gsB (c : Dev nD) (t : Fin cfg0.N) : FVec Ideal S1x512 .f32 :=
  k0_pay5 (View.ld (iblk m c 4 t) (Rect.unit ![0, 1, 0] ![1, 1, 512] inb_S1x8x512_S1x1x512_0_1_0))
def hB (c : Dev nD) (t : Fin cfg0.N) : FVec Ideal S512x512 .f32 :=
  k0_pay9 (View.ld (iblk m c 4 t) (Rect.unit ![0, 0, 0] ![1, 1, 512] inb_S1x8x512_S1x1x512_0_0_0)) (iblk m c 1 t)
def gmL (c : Dev nD) (t : Fin cfg0.N) : FVec Ideal S1x1x1024 .f32 :=
  View.ld (iblk m c 3 t) (Rect.unit ![0, 7, 0] ![1, 1, 1024] inb_S1x16x1024_S1x1x1024_0_7_0)
def g1L (c : Dev nD) (t : Fin cfg0.N) : FVec Ideal S1x1x1024 .f32 :=
  View.ld (iblk m c 3 t) (Rect.unit ![0, 2, 0] ![1, 1, 1024] inb_S1x16x1024_S1x1x1024_0_2_0)
def headsB (c : Dev nD) (t : Fin cfg0.N) : FVec Ideal S512x1024 .bf16 := k0_pay13 (gsB m c t) (sB m c t) (hB m c t) (sSq m c t)
def mixedB (c : Dev nD) (t : Fin cfg0.N) : FVec Ideal S512x1024 .f32 := k0_pay15 (gsB m c t) (sB m c t) (hB m c t) (sSq m c t) (iblk m c 5 t)
def rB (c : Dev nD) (t : Fin cfg0.N) : FVec Ideal S512x1 .f32 := k0_pay16 (gsB m c t) (sB m c t) (hB m c t) (sSq m c t) (iblk m c 5 t)
def mhB (c : Dev nD) (t : Fin cfg0.N) : FVec Ideal S512x1024 .f32 := k0_pay17 (gsB m c t) (sB m c t) (hB m c t) (sSq m c t) (iblk m c 5 t)
def dmB (c : Dev nD) (t : Fin cfg0.N) : FVec Ideal S512x1024 .bf16 := k0_pay21 (k0_pay14 (gmL m c t)) (rB m c t) (mhB m c t) (iblk m c 0 t) (g1L m c t)
def dhB (c : Dev nD) (t : Fin cfg0.N) : FVec Ideal S512x1024 .f32 := k0_pay22 (k0_pay14 (gmL m c t)) (rB m c t) (mhB m c t) (iblk m c 0 t) (g1L m c t) (iblk m c 5 t)
def daB (c : Dev nD) (t : Fin cfg0.N) : FVec Ideal S512x512 .f32 :=
  k0_pay24 (gaB m c t) (k0_pay7 (iblk m c 1 t)) (k0_pay8 (iblk m c 1 t)) (k0_pay14 (gmL m c t)) (rB m c t) (mhB m c t) (iblk m c 0 t) (g1L m c t) (iblk m c 5 t)
def dsB (c : Dev nD) (t : Fin cfg0.N) : FVec Ideal S512x512 .f32 := k0_pay27 (gsB m c t) (k0_pay11 (sSq m c t)) (k0_pay12 (sB m c t) (sSq m c t)) (dhB m c t)
/-- The summands of the four accumulated rows. -/
def sumGate (c : Dev nD) (t : Fin cfg0.N) : FVec Ideal S512x1024 .f32 := fun i => (show FVec Ideal S512x1024 .f32 from iblk m c 0 t) i * (mhB m c t i * k0_pay14 (gmL m c t) (ix2 0 (i 1)))
def sumGain (c : Dev nD) (t : Fin cfg0.N) : FVec Ideal S512x1024 .f32 := fun i => k0_pay19 (iblk m c 0 t) (g1L m c t) i * mhB m c t i
def sumA (c : Dev nD) (t : Fin cfg0.N) : FVec Ideal S512x512 .f32 :=
  k0_pay25 (k0_pay8 (iblk m c 1 t)) (k0_pay14 (gmL m c t)) (rB m c t) (mhB m c t) (iblk m c 0 t) (g1L m c t) (iblk m c 5 t)
def sumS (c : Dev nD) (t : Fin cfg0.N) : FVec Ideal S512x512 .f32 := k0_pay28 (k0_pay12 (sB m c t) (sSq m c t)) (dhB m c t)

open Cert.OutRefIdeal.Read

theorem s_at (c : Dev nD) (t : Fin cfg0.N) (i : Fin 512) (j : Fin 512) : sB m c t (ix2 i j) = x1 m c (ix2 (row t i) j) := by
  unfold sB
  pointwise [k0_pay6]
  simp only [sRow]
  exact slabs (fun q => x1 m c (ix2 (row t i) q)) j

theorem sSq_at (c : Dev nD) (t : Fin cfg0.N) (i : Fin 512) (z : Fin 1) : sSq m c t (ix2 i z) = ∑ j : Fin 512, x1 m c (ix2 (row t i) j) * x1 m c (ix2 (row t i) j) := by
  have h : sSq m c t (ix2 i z) = ∑ j : Fin 512, sB m c t (ix2 i j) * sB m c t (ix2 i j) := by
    unfold sSq sB
    pointwise [k0_pay10]
  rw [h]
  simp only [s_at]

theorem ga_at (c : Dev nD) (t : Fin cfg0.N) (z : Fin 1) (j : Fin 512) : gaB m c t (ix2 z j) = x7 m c (ix2 1 j) := by
  unfold gaB
  pointwise [k0_pay4]
  exact gainA m c t j
theorem gs_at (c : Dev nD) (t : Fin cfg0.N) (z : Fin 1) (j : Fin 512) : gsB m c t (ix2 z j) = x8 m c (ix2 1 j) := by
  unfold gsB
  pointwise [k0_pay5]
  exact gainS m c t j
theorem gm_at (c : Dev nD) (t : Fin cfg0.N) (z : Fin 1) (j : Fin 1024) : k0_pay14 (gmL m c t) (ix2 z j) = x4 m c (ix2 1 j) := by
  unfold gmL
  pointwise [k0_pay14]
  exact gain m c t j
theorem g1_at (c : Dev nD) (t : Fin cfg0.N) (j : Fin 1024) : g1L m c t (ix3 0 0 j) = x2 m c (ix2 1 ⟨2048 + j.val, by omega⟩) := by
  unfold g1L
  pointwise
  exact gate m c t j

/-- The stages of the reference at the arguments. -/
abbrev heads (c : Dev nD) := val_main_v44 (F := Ideal) (x0 m c) (x1 m c) (x7 m c) (x8 m c)
abbrev mixed (c : Dev nD) := val_main_v45 (F := Ideal) (x0 m c) (x1 m c) (x7 m c) (x8 m c) (x11 m c)
abbrev mixedN (c : Dev nD) := val_main_v60 (F := Ideal) (x0 m c) (x1 m c) (x7 m c) (x8 m c) (x11 m c)
abbrev dmixedN (c : Dev nD) := val_main_v77 (F := Ideal) (x2 m c) (x4 m c) (x12 m c)
abbrev dmixed (c : Dev nD) := val_main_v92 (F := Ideal) (x0 m c) (x1 m c) (x2 m c) (x4 m c) (x7 m c) (x8 m c) (x11 m c) (x12 m c)
abbrev dheads (c : Dev nD) := val_main_v93 (F := Ideal) (x0 m c) (x1 m c) (x2 m c) (x4 m c) (x7 m c) (x8 m c) (x11 m c) (x12 m c)

theorem heads_at (c : Dev nD) (t : Fin cfg0.N) (i : Fin 512) (k : Fin 1024) : headsB m c t (ix2 i k) = heads m c (ix2 (row t i) k) := by
  unfold headsB hB
  pointwise [k0_pay13, k0_pay12, k0_pay11, k0_pay9, k0_pay8, k0_pay7, k0_pay4, val_main_v44, val_main_v43, val_main_v42, val_main_v41, val_main_v40, val_main_v39, val_main_v35, val_main_v34, val_main_v33, val_main_v32, val_main_v31, val_main_v30, val_main_v29, val_main_v28, val_main_v27, val_main_v26, val_main_v25, val_main_v24, val_main_v23, val_main_v19, val_main_v18, val_main_v17, val_main_v16, val_main_v15, val_main_v14, val_main_v13, val_main_v12, val_main_v11, val_main_v10, val_main_v9, val_main_v8, val_main_cst, val_main_cst_0, val_main_cst_1, val_main_cst_3, val_main_cst_4, val_main_cst_5]
  simp only [s_at, sSq_at, gs_at, gainA, aRow]

theorem mixed_at (c : Dev nD) (t : Fin cfg0.N) (i : Fin 512) (k : Fin 1024) : mixedB m c t (ix2 i k) = mixed m c (ix2 (row t i) k) := by
  have h : mixedB m c t (ix2 i k) = ∑ j : Fin 1024, headsB m c t (ix2 i j) * iblk m c 5 t (ix2 j k) := by
    unfold mixedB headsB
    pointwise [k0_pay15]
  rw [h]
  pointwise [val_main_v45]
  simp only [heads_at, weight]

theorem r_at (c : Dev nD) (t : Fin cfg0.N) (i : Fin 512) (z : Fin 1) : rB m c t (ix2 i z)
    = Cert.Reals.rms (Ideal.ofBits .f32 0x44800000#32) (Ideal.ofBits .f32 0x358637BD#32) (fun j => mixed m c (ix2 (row t i) j)) := by
  have h : rB m c t (ix2 i z) = Cert.Reals.rms (Ideal.ofBits .f32 0x44800000#32) (Ideal.ofBits .f32 0x358637BD#32) (fun j => mixedB m c t (ix2 i j)) := by
    unfold rB mixedB Cert.Reals.rms
    pointwise [k0_pay16]
  rw [h]
  simp only [mixed_at]

theorem mixedN_at (c : Dev nD) (r : Fin 4096) (k : Fin 1024) : mixedN m c (ix2 r k) = mixed m c (ix2 r k)
    * Cert.Reals.rms (Ideal.ofBits .f32 0x44800000#32) (Ideal.ofBits .f32 0x358637BD#32) (fun j => mixed m c (ix2 r j)) := by
  unfold Cert.Reals.rms
  pointwise [val_main_v60, val_main_v59, val_main_v55, val_main_v54, val_main_v53, val_main_v52, val_main_v51, val_main_v50, val_main_v49, val_main_v48, val_main_cst_7, val_main_cst_8, val_main_cst_9]

theorem mh_at (c : Dev nD) (t : Fin cfg0.N) (i : Fin 512) (k : Fin 1024) : mhB m c t (ix2 i k) = mixedN m c (ix2 (row t i) k) := by
  have h : mhB m c t (ix2 i k) = mixedB m c t (ix2 i k) * rB m c t (ix2 i 0) := by
    unfold mhB rB mixedB
    pointwise [k0_pay17]
  rw [h, mixed_at, r_at, mixedN_at]

theorem dmixedN_at (c : Dev nD) (r : Fin 4096) (k : Fin 1024) : dmixedN m c (ix2 r k)
    = x12 m c (ix2 r k) * x2 m c (ix2 1 ⟨2048 + k.val, by omega⟩) * x4 m c (ix2 1 k) := by
  pointwise [val_main_v77, val_main_v76, val_main_v68, val_main_v67, val_main_v64, val_main_v61, val_main_v47, val_main_v46, val_main_v4, val_main_v1, val_main_v0]
  rw [mul_comm (x12 m c _)]

/-- The gradient through the normalization of the rows of `x`, from the gradient `d` of the normalized rows. -/
def mixedBwd (x d : FVec Ideal S4096x1024 .f32) : FVec Ideal S4096x1024 .f32 := fun i =>
  Cert.Reals.normBwd (Ideal.ofBits .f32 0x44800000#32) (Ideal.ofBits .f32 0x358637BD#32) (fun j => x (ix2 (i 0) j)) (fun j => d (ix2 (i 0) j)) (i 1)
def headBwd (x d : FVec Ideal S4096x512 .f32) : FVec Ideal S4096x512 .f32 := fun i =>
  Cert.Reals.normBwd (Ideal.ofBits .f32 0x44000000#32) (Ideal.ofBits .f32 0x358637BD#32) (fun j => x (ix2 (i 0) j)) (fun j => d (ix2 (i 0) j)) (i 1)

theorem mixedBwd_at (x d : FVec Ideal S4096x1024 .f32) (r : Fin 4096) (k : Fin 1024) : mixedBwd x d (ix2 r k)
    = Cert.Reals.normBwd (Ideal.ofBits .f32 0x44800000#32) (Ideal.ofBits .f32 0x358637BD#32) (fun j => x (ix2 r j)) (fun j => d (ix2 r j)) k := rfl
theorem headBwd_at (x d : FVec Ideal S4096x512 .f32) (r : Fin 4096) (k : Fin 512) : headBwd x d (ix2 r k)
    = Cert.Reals.normBwd (Ideal.ofBits .f32 0x44000000#32) (Ideal.ofBits .f32 0x358637BD#32) (fun j => x (ix2 r j)) (fun j => d (ix2 r j)) k := rfl

theorem dm_at (c : Dev nD) (t : Fin cfg0.N) (i : Fin 512) (k : Fin 1024) : dmB m c t (ix2 i k) = mixedBwd (mixed m c) (dmixedN m c) (ix2 (row t i) k) := by
  unfold dmB
  pointwise [k0_pay21, k0_pay19]
  simp only [gm_at, mh_at, dRow, r_at, g1_at]
  rw [mixedBwd_at]
  unfold Cert.Reals.normBwd
  simp only [dmixedN_at, mixedN_at]

theorem dh_at (c : Dev nD) (hM : dmixed m c = mixedBwd (mixed m c) (dmixedN m c)) (t : Fin cfg0.N) (i : Fin 512) (k : Fin 1024) :
    dhB m c t (ix2 i k) = dheads m c (ix2 (row t i) k) := by
  have h : dhB m c t (ix2 i k) = ∑ j : Fin 1024, dmB m c t (ix2 i j) * iblk m c 5 t (ix2 k j) := by
    unfold dhB dmB
    pointwise [k0_pay22]
  rw [h]
  simp only [dm_at, weight]
  rw [← hM]
  pointwise [val_main_v93]

/-- The gradients of the two normalized halves. -/
abbrev dattnN (c : Dev nD) := val_main_v120 (F := Ideal) (x0 m c) (x1 m c) (x2 m c) (x4 m c) (x7 m c) (x8 m c) (x11 m c) (x12 m c)
abbrev dssmN (c : Dev nD) := val_main_v100 (F := Ideal) (x0 m c) (x1 m c) (x2 m c) (x4 m c) (x7 m c) (x8 m c) (x11 m c) (x12 m c)

theorem dattnN_at (c : Dev nD) (r : Fin 4096) (k : Fin 512) : dattnN m c (ix2 r k) = dheads m c (ix2 r ⟨k.val, by omega⟩) * x7 m c (ix2 1 k) := by
  pointwise [val_main_v120, val_main_v119, val_main_v94, val_main_v25, val_main_v9, val_main_v8]
theorem dssmN_at (c : Dev nD) (r : Fin 4096) (k : Fin 512) : dssmN m c (ix2 r k) = dheads m c (ix2 r ⟨512 + k.val, by omega⟩) * x8 m c (ix2 1 k) := by
  pointwise [val_main_v100, val_main_v99, val_main_v95, val_main_v41, val_main_v11, val_main_v10]

theorem da_at (c : Dev nD) (hM : dmixed m c = mixedBwd (mixed m c) (dmixedN m c)) (t : Fin cfg0.N) (i : Fin 512) (k : Fin 512) :
    daB m c t (ix2 i k) = headBwd (x0 m c) (dattnN m c) (ix2 (row t i) k) := by
  have h : ∀ k : Fin 512, k0_pay23 (k0_pay14 (gmL m c t)) (rB m c t) (mhB m c t) (iblk m c 0 t) (g1L m c t) (iblk m c 5 t) (ix2 i k)
      = dheads m c (ix2 (row t i) ⟨k.val, by omega⟩) := fun k => by
    rw [← dh_at m c hM]
    unfold dhB
    pointwise [k0_pay23]
  unfold daB
  pointwise [k0_pay24, k0_pay8, k0_pay7]
  simp only [h, aRow, ga_at]
  rw [headBwd_at]
  unfold Cert.Reals.normBwd Cert.Reals.rms
  simp only [dattnN_at]

theorem ds_at (c : Dev nD) (hM : dmixed m c = mixedBwd (mixed m c) (dmixedN m c)) (t : Fin cfg0.N) (i : Fin 512) (k : Fin 512) :
    dsB m c t (ix2 i k) = headBwd (x1 m c) (dssmN m c) (ix2 (row t i) k) := by
  unfold dsB
  pointwise [k0_pay27, k0_pay26, k0_pay12, k0_pay11]
  simp only [dh_at m c hM, s_at, sSq_at, gs_at]
  rw [headBwd_at]
  unfold Cert.Reals.normBwd Cert.Reals.rms
  simp only [dssmN_at]

theorem sumGate_at (c : Dev nD) (t : Fin cfg0.N) (i : Fin 512) (k : Fin 1024) : sumGate m c t (ix2 i k)
    = val_main_v69 (F := Ideal) (x0 m c) (x1 m c) (x4 m c) (x7 m c) (x8 m c) (x11 m c) (x12 m c) (ix2 (row t i) k) := by
  unfold sumGate
  pointwise [val_main_v69, val_main_v63, val_main_v62, val_main_v61, val_main_v47, val_main_v46]
  simp only [dRow, gm_at, mh_at]

theorem sumGain_at (c : Dev nD) (t : Fin cfg0.N) (i : Fin 512) (k : Fin 1024) : sumGain m c t (ix2 i k)
    = val_main_v73 (F := Ideal) (x0 m c) (x1 m c) (x2 m c) (x7 m c) (x8 m c) (x11 m c) (x12 m c) (ix2 (row t i) k) := by
  unfold sumGain
  pointwise [k0_pay19, val_main_v73, val_main_v68, val_main_v67, val_main_v64, val_main_v4, val_main_v1, val_main_v0]
  simp only [dRow, g1_at, mh_at]
  rw [mul_comm, mul_comm (x12 m c _)]

theorem sumA_at (c : Dev nD) (hM : dmixed m c = mixedBwd (mixed m c) (dmixedN m c)) (t : Fin cfg0.N) (i : Fin 512) (k : Fin 512) : sumA m c t (ix2 i k)
    = val_main_v116 (F := Ideal) (x0 m c) (x1 m c) (x2 m c) (x4 m c) (x7 m c) (x8 m c) (x11 m c) (x12 m c) (ix2 (row t i) k) := by
  have h : ∀ k : Fin 512, k0_pay23 (k0_pay14 (gmL m c t)) (rB m c t) (mhB m c t) (iblk m c 0 t) (g1L m c t) (iblk m c 5 t) (ix2 i k)
      = dheads m c (ix2 (row t i) ⟨k.val, by omega⟩) := fun k => by
    rw [← dh_at m c hM]
    unfold dhB
    pointwise [k0_pay23]
  unfold sumA
  pointwise [k0_pay25, k0_pay8, k0_pay7, val_main_v116, val_main_v94, val_main_v24, val_main_v23, val_main_v19, val_main_v18, val_main_v17, val_main_v16, val_main_v15, val_main_v14, val_main_v13, val_main_v12, val_main_cst, val_main_cst_0, val_main_cst_1]
  simp only [h, aRow]
  exact mul_comm _ _

theorem sumS_at (c : Dev nD) (hM : dmixed m c = mixedBwd (mixed m c) (dmixedN m c)) (t : Fin cfg0.N) (i : Fin 512) (k : Fin 512) : sumS m c t (ix2 i k)
    = val_main_v96 (F := Ideal) (x0 m c) (x1 m c) (x2 m c) (x4 m c) (x7 m c) (x8 m c) (x11 m c) (x12 m c) (ix2 (row t i) k) := by
  unfold sumS
  pointwise [k0_pay28, k0_pay26, k0_pay12, k0_pay11, val_main_v96, val_main_v95, val_main_v40, val_main_v39, val_main_v35, val_main_v34, val_main_v33, val_main_v32, val_main_v31, val_main_v30, val_main_v29, val_main_v28, val_main_cst_3, val_main_cst_4, val_main_cst_5]
  simp only [dh_at m c hM, s_at, sSq_at]
  exact mul_comm _ _

theorem outA (c : Dev nD) (t : Fin cfg0.N) : (outsAt0 m c t.val t.isLt).1 = daB m c t := by
  by_cases h : t.val % 8 = 0
  · rw [outsAt0_A m c t h]
    dsimp only
    frame_out
    rfl
  · rw [outsAt0_B m c t h]
    dsimp only
    frame_out
    rfl

theorem outH (c : Dev nD) (t : Fin cfg0.N) : (outsAt0 m c t.val t.isLt).2.2.1 = headsB m c t := by
  by_cases h : t.val % 8 = 0
  · rw [outsAt0_A m c t h]
    dsimp only
    frame_out
    rfl
  · rw [outsAt0_B m c t h]
    dsimp only
    frame_out
    rfl

theorem outM (c : Dev nD) (t : Fin cfg0.N) : (outsAt0 m c t.val t.isLt).2.2.2.1 = dmB m c t := by
  by_cases h : t.val % 8 = 0
  · rw [outsAt0_A m c t h]
    dsimp only
    frame_out
    rfl
  · rw [outsAt0_B m c t h]
    dsimp only
    frame_out
    rfl

open Cert.Rows

/-- The four slabs of the gradient of the state rows, one column group each. -/
theorem cut0 (g : FVec Ideal S1x512 .f32) (r : FVec Ideal S512x1 .f32) (x : FVec Ideal S512x512 .f32) (d : FVec Ideal S512x1024 .f32) (i : Fin 512) (j : Fin 128) :
    k0_pay29 g r x d (ix3 0 i j) = k0_pay27 g r x d (ix2 i ⟨0 * 128 + j.val, by omega⟩) := by
  pointwise [k0_pay29]
theorem cut1 (g : FVec Ideal S1x512 .f32) (r : FVec Ideal S512x1 .f32) (x : FVec Ideal S512x512 .f32) (d : FVec Ideal S512x1024 .f32) (i : Fin 512) (j : Fin 128) :
    k0_pay30 g r x d (ix3 0 i j) = k0_pay27 g r x d (ix2 i ⟨1 * 128 + j.val, by omega⟩) := by
  pointwise [k0_pay30]
theorem cut2 (g : FVec Ideal S1x512 .f32) (r : FVec Ideal S512x1 .f32) (x : FVec Ideal S512x512 .f32) (d : FVec Ideal S512x1024 .f32) (i : Fin 512) (j : Fin 128) :
    k0_pay31 g r x d (ix3 0 i j) = k0_pay27 g r x d (ix2 i ⟨2 * 128 + j.val, by omega⟩) := by
  pointwise [k0_pay31]
theorem cut3 (g : FVec Ideal S1x512 .f32) (r : FVec Ideal S512x1 .f32) (x : FVec Ideal S512x512 .f32) (d : FVec Ideal S512x1024 .f32) (i : Fin 512) (j : Fin 128) :
    k0_pay32 g r x d (ix3 0 i j) = k0_pay27 g r x d (ix2 i ⟨3 * 128 + j.val, by omega⟩) := by
  pointwise [k0_pay32]

/-- Four slabs written one after the other are the four column groups of a matrix. -/
theorem stack (D : FVec Ideal S512x512 .f32) (w0 w1 w2 w3 : FVec Ideal S1x512x128 .f32)
    (h0 : ∀ i (j : Fin 128), w0 (ix3 0 i j) = D (ix2 i ⟨0 * 128 + j.val, by omega⟩)) (h1 : ∀ i (j : Fin 128), w1 (ix3 0 i j) = D (ix2 i ⟨1 * 128 + j.val, by omega⟩))
    (h2 : ∀ i (j : Fin 128), w2 (ix3 0 i j) = D (ix2 i ⟨2 * 128 + j.val, by omega⟩)) (h3 : ∀ i (j : Fin 128), w3 (ix3 0 i j) = D (ix2 i ⟨3 * 128 + j.val, by omega⟩))
    (a : Fin 4) (i : Fin 512) (j : Fin 128) :
    View.canon (Val := Elt Ideal) (e := .f32) [⟨slabRect 4 512 128 3 inb_S4x512x128_S1x512x128_3_0_0, w3⟩, ⟨slabRect 4 512 128 2 inb_S4x512x128_S1x512x128_2_0_0, w2⟩,
      ⟨slabRect 4 512 128 1 inb_S4x512x128_S1x512x128_1_0_0, w1⟩, ⟨slabRect 4 512 128 0 inb_S4x512x128_S1x512x128_0_0_0, w0⟩] (ix3 a i j)
      = D (ix2 i ⟨a.val * 128 + j.val, by omega⟩) := by
  match a with
  | ⟨0, _⟩ => rw [slab_skip _ _ (by simp), slab_skip _ _ (by simp), slab_skip _ _ (by simp), slab_hit _ _ (by simp)]; exact h0 i j
  | ⟨1, _⟩ => rw [slab_skip _ _ (by simp), slab_skip _ _ (by simp), slab_hit _ _ (by simp)]; exact h1 i j
  | ⟨2, _⟩ => rw [slab_skip _ _ (by simp), slab_hit _ _ (by simp)]; exact h2 i j
  | ⟨3, _⟩ => rw [slab_hit _ _ (by simp)]; exact h3 i j

theorem outS (c : Dev nD) (t : Fin cfg0.N) (a : Fin 4) (i : Fin 512) (j : Fin 128) : (outsAt0 m c t.val t.isLt).2.1 (ix3 a i j)
    = dsB m c t (ix2 i ⟨a.val * 128 + j.val, by omega⟩) := by
  by_cases h : t.val % 8 = 0
  · rw [outsAt0_A m c t h]
    dsimp only
    frame_out
    exact stack (dsB m c t) _ _ _ _ (cut0 _ _ _ _) (cut1 _ _ _ _) (cut2 _ _ _ _) (cut3 _ _ _ _) a i j
  · rw [outsAt0_B m c t h]
    dsimp only
    frame_out
    exact stack (dsB m c t) _ _ _ _ (cut0 _ _ _ _) (cut1 _ _ _ _) (cut2 _ _ _ _) (cut3 _ _ _ _) a i j

theorem pay18_at (v6 : FVec Ideal S1x512 .f32) (v15 v28 : FVec Ideal S512x512 .f32) (v31 : FVec Ideal S512x1 .f32) (v44 : FVec Ideal S1x1x1024 .f32) (v46 : FVec Ideal S1024x1024 .bf16) (v61 : FVec Ideal S512x1024 .f32) (p : FVec Ideal S1x1024 .f32) (k : Fin 1024) :
    k0_pay18 v6 v15 v28 v31 v44 v46 v61 p (ix2 0 k) = p (ix2 0 k) + ∑ i : Fin 512, v61 (ix2 i k) * (k0_pay17 v6 v15 v28 v31 v46 (ix2 i k) * k0_pay14 v44 (ix2 0 k)) := by
  pointwise [k0_pay18]
theorem pay20_at (v58 v61 : FVec Ideal S512x1024 .f32) (v69 : FVec Ideal S1x1x1024 .f32) (p : FVec Ideal S1x1024 .f32) (k : Fin 1024) :
    k0_pay20 v58 v61 v69 p (ix2 0 k) = p (ix2 0 k) + ∑ i : Fin 512, k0_pay19 v61 v69 (ix2 i k) * v58 (ix2 i k) := by
  pointwise [k0_pay20]
theorem pay33_at (d : FVec Ideal S512x512 .f32) (p : FVec Ideal S1x512 .f32) (k : Fin 512) :
    k0_pay33 d p (ix2 0 k) = p (ix2 0 k) + ∑ i : Fin 512, d (ix2 i k) := by
  pointwise [k0_pay33]
theorem pay1_at (d : FVec Ideal S512x512 .f32) (p : FVec Ideal S1x512 .f32) (k : Fin 512) :
    k0_pay1 d p (ix2 0 k) = p (ix2 0 k) + ∑ i : Fin 512, d (ix2 i k) := by
  pointwise [k0_pay1]
theorem pay2_at (i : Fin 16) (k : Fin 1024) : (k0_pay2 : FVec Ideal S16x1024 .f32) (ix2 i k) = 0 := by
  pointwise [k0_pay2]
theorem pay3_at (i : Fin 8) (k : Fin 512) : (k0_pay3 : FVec Ideal S8x512 .f32) (ix2 i k) = 0 := by
  pointwise [k0_pay3]

theorem accA (c : Dev nD) (t : Fin cfg0.N) (h : t.val % 8 = 0) (k : Fin 1024) :
    (outsAt0 m c t.val t.isLt).2.2.2.2.1 (ix2 2 k) = 0 + ∑ i : Fin 512, sumGate m c t (ix2 i k)
    ∧ (outsAt0 m c t.val t.isLt).2.2.2.2.1 (ix2 7 k) = 0 + ∑ i : Fin 512, sumGain m c t (ix2 i k) := by
  rw [outsAt0_A m c t h]
  dsimp only
  frame_out
  refine ⟨?_, ?_⟩
  · rw [canon_skip _ _ (by decide), canon_hit _ _ (by decide), pay18_at, readCov_row _ _ _ (by decide), canon_whole, pay2_at]
    rfl
  · rw [canon_hit _ _ (by decide), pay20_at, readCov_row _ _ _ (by decide), canon_skip _ _ (by decide), canon_whole, pay2_at]
    rfl

theorem accB (c : Dev nD) (t : Fin cfg0.N) (h : ¬ t.val % 8 = 0) (k : Fin 1024) :
    (outsAt0 m c t.val t.isLt).2.2.2.2.1 (ix2 2 k) = (outsAt0 m c (t.val - 1) (by omega)).2.2.2.2.1 (ix2 2 k) + ∑ i : Fin 512, sumGate m c t (ix2 i k)
    ∧ (outsAt0 m c t.val t.isLt).2.2.2.2.1 (ix2 7 k) = (outsAt0 m c (t.val - 1) (by omega)).2.2.2.2.1 (ix2 7 k) + ∑ i : Fin 512, sumGain m c t (ix2 i k) := by
  rw [outsAt0_B m c t h]
  dsimp only
  frame_out
  refine ⟨?_, ?_⟩
  · rw [read_skip _ _ _ _ (by decide), read_hit _ _ _ _ (by decide), pay18_at, ld_row _ _ (by decide)]
    rfl
  · rw [read_hit _ _ _ _ (by decide), pay20_at, ld_row _ _ (by decide)]
    rfl

theorem accA' (c : Dev nD) (t : Fin cfg0.N) (h : t.val % 8 = 0) (k : Fin 512) :
    (outsAt0 m c t.val t.isLt).2.2.2.2.2 (ix2 0 k) = 0 + ∑ i : Fin 512, sumA m c t (ix2 i k)
    ∧ (outsAt0 m c t.val t.isLt).2.2.2.2.2 (ix2 1 k) = 0 + ∑ i : Fin 512, sumS m c t (ix2 i k) := by
  rw [outsAt0_A m c t h]
  dsimp only
  frame_out
  refine ⟨?_, ?_⟩
  · rw [canon_skip _ _ (by decide), canon_hit _ _ (by decide), pay33_at, readCov_row _ _ _ (by decide), canon_whole, pay3_at]
    rfl
  · rw [canon_hit _ _ (by decide), pay1_at, readCov_row _ _ _ (by decide), canon_skip _ _ (by decide), canon_whole, pay3_at]
    rfl

theorem accB' (c : Dev nD) (t : Fin cfg0.N) (h : ¬ t.val % 8 = 0) (k : Fin 512) :
    (outsAt0 m c t.val t.isLt).2.2.2.2.2 (ix2 0 k) = (outsAt0 m c (t.val - 1) (by omega)).2.2.2.2.2 (ix2 0 k) + ∑ i : Fin 512, sumA m c t (ix2 i k)
    ∧ (outsAt0 m c t.val t.isLt).2.2.2.2.2 (ix2 1 k) = (outsAt0 m c (t.val - 1) (by omega)).2.2.2.2.2 (ix2 1 k) + ∑ i : Fin 512, sumS m c t (ix2 i k) := by
  rw [outsAt0_B m c t h]
  dsimp only
  frame_out
  refine ⟨?_, ?_⟩
  · rw [read_skip _ _ _ _ (by decide), read_hit _ _ _ _ (by decide), pay33_at, ld_row _ _ (by decide)]
    rfl
  · rw [read_hit _ _ _ _ (by decide), pay1_at, ld_row _ _ (by decide)]
    rfl

section
open Cert.Reals

variable (x0 x1 : FVec Ideal S4096x512 .f32) (x2 : FVec Ideal S4x6144 .f32) (x4 : FVec Ideal S4x1024 .f32) (x7 x8 : FVec Ideal S4x512 .f32) (x11 : FVec Ideal S1024x1024 .f32) (x12 : FVec Ideal S4096x1024 .f32)

theorem half_real {x : FVec Ideal S4096x512 .f32} (h : ∀ i, IsReal (x i)) (r : Fin 4096) :
    IsReal (Ideal.rsqrt (Ideal.div (∑ k : Fin 512, x (ix2 r k) * x (ix2 r k)) (Ideal.ofBits .f32 0x44000000#32) + Ideal.ofBits .f32 0x358637BD#32)) := by
  obtain ⟨e, he, hE⟩ := eps
  rw [hE, c512]
  exact rms_isReal (by norm_num) he fun k => h (ix2 r k)

theorem heads_real (h0 : ∀ i, IsReal (x0 i)) (h1 : ∀ i, IsReal (x1 i)) (h7 : ∀ i, IsReal (x7 i)) (h8 : ∀ i, IsReal (x8 i)) (r : Fin 4096) (k : Fin 1024) :
    IsReal (val_main_v44 (F := Ideal) x0 x1 x7 x8 (ix2 r k)) := by
  pointwise [val_main_v44, val_main_v43, val_main_v42, val_main_v41, val_main_v40, val_main_v39, val_main_v35, val_main_v34, val_main_v33, val_main_v32, val_main_v31, val_main_v30, val_main_v29, val_main_v28, val_main_v27, val_main_v26, val_main_v25, val_main_v24, val_main_v23, val_main_v19, val_main_v18, val_main_v17, val_main_v16, val_main_v15, val_main_v14, val_main_v13, val_main_v12, val_main_v11, val_main_v10, val_main_v9, val_main_v8, val_main_cst, val_main_cst_0, val_main_cst_1, val_main_cst_3, val_main_cst_4, val_main_cst_5]
  split_ifs
  all_goals first
    | exact .mul (.mul (h0 _) (half_real h0 r)) (h7 _)
    | exact .mul (.mul (h1 _) (half_real h1 r)) (h8 _)

theorem mixed_real (h0 : ∀ i, IsReal (x0 i)) (h1 : ∀ i, IsReal (x1 i)) (h7 : ∀ i, IsReal (x7 i)) (h8 : ∀ i, IsReal (x8 i)) (h11 : ∀ i, IsReal (x11 i)) (r : Fin 4096) (k : Fin 1024) :
    IsReal (val_main_v45 (F := Ideal) x0 x1 x7 x8 x11 (ix2 r k)) := by
  pointwise [val_main_v45]
  exact .sum _ fun j => .mul (heads_real x0 x1 x7 x8 h0 h1 h7 h8 r j) (h11 _)

theorem dmixedN_real (h2 : ∀ i, IsReal (x2 i)) (h4 : ∀ i, IsReal (x4 i)) (h12 : ∀ i, IsReal (x12 i)) (r : Fin 4096) (k : Fin 1024) :
    IsReal (val_main_v77 (F := Ideal) x2 x4 x12 (ix2 r k)) := by
  pointwise [val_main_v77, val_main_v76, val_main_v68, val_main_v67, val_main_v64, val_main_v61, val_main_v47, val_main_v46, val_main_v4, val_main_v1, val_main_v0]
  exact .mul (.mul (h2 _) (h12 _)) (h4 _)

theorem refM (h0 : ∀ i, IsReal (x0 i)) (h1 : ∀ i, IsReal (x1 i)) (h2 : ∀ i, IsReal (x2 i)) (h4 : ∀ i, IsReal (x4 i)) (h7 : ∀ i, IsReal (x7 i)) (h8 : ∀ i, IsReal (x8 i)) (h11 : ∀ i, IsReal (x11 i)) (h12 : ∀ i, IsReal (x12 i)) :
    val_main_v92 (F := Ideal) x0 x1 x2 x4 x7 x8 x11 x12 = mixedBwd (val_main_v45 (F := Ideal) x0 x1 x7 x8 x11) (val_main_v77 (F := Ideal) x2 x4 x12) := by
  funext i
  idx_vars i
  obtain ⟨e, he, hE⟩ := eps
  have key := norm_bwd (c := 1024) (by norm_num) he (fun j : Fin 1024 => mixed_real x0 x1 x7 x8 x11 h0 h1 h7 h8 h11 i0 j) (fun j => dmixedN_real x2 x4 x12 h2 h4 h12 i0 j) i1
  rw [← hE, ← c1024, ← negHalf] at key
  unfold normShare rms at key
  pointwise [val_main_v92, val_main_v91, val_main_v90, val_main_v89, val_main_v88, val_main_v87, val_main_v86, val_main_v85, val_main_v84, val_main_v83, val_main_v82, val_main_v81, val_main_v80, val_main_v79, val_main_v58, val_main_v57, val_main_v56, val_main_v55, val_main_v54, val_main_v53, val_main_v52, val_main_v51, val_main_v50, val_main_v49, val_main_v48, val_main_cst_7, val_main_cst_8, val_main_cst_9, val_main_cst_10, val_main_cst_15, val_main_cst_16, val_main_cst_17]
  rw [mixedBwd_at, ← key, add_assoc, Fin.sum_univ_one]

theorem dheads_real (h0 : ∀ i, IsReal (x0 i)) (h1 : ∀ i, IsReal (x1 i)) (h2 : ∀ i, IsReal (x2 i)) (h4 : ∀ i, IsReal (x4 i)) (h7 : ∀ i, IsReal (x7 i)) (h8 : ∀ i, IsReal (x8 i)) (h11 : ∀ i, IsReal (x11 i)) (h12 : ∀ i, IsReal (x12 i)) (r : Fin 4096) (k : Fin 1024) :
    IsReal (val_main_v93 (F := Ideal) x0 x1 x2 x4 x7 x8 x11 x12 (ix2 r k)) := by
  pointwise [val_main_v93]
  rw [refM x0 x1 x2 x4 x7 x8 x11 x12 h0 h1 h2 h4 h7 h8 h11 h12]
  obtain ⟨e, he, hE⟩ := eps
  simp only [mixedBwd_at, hE, c1024]
  exact .sum _ fun j => .mul (normBwd_isReal (by norm_num) he (fun j => mixed_real x0 x1 x7 x8 x11 h0 h1 h7 h8 h11 r j) (fun j => dmixedN_real x2 x4 x12 h2 h4 h12 r j) j) (h11 _)

theorem refA (h0 : ∀ i, IsReal (x0 i)) (h1 : ∀ i, IsReal (x1 i)) (h2 : ∀ i, IsReal (x2 i)) (h4 : ∀ i, IsReal (x4 i)) (h7 : ∀ i, IsReal (x7 i)) (h8 : ∀ i, IsReal (x8 i)) (h11 : ∀ i, IsReal (x11 i)) (h12 : ∀ i, IsReal (x12 i)) :
    val_main_v135 (F := Ideal) x0 x1 x2 x4 x7 x8 x11 x12 = headBwd x0 (val_main_v120 (F := Ideal) x0 x1 x2 x4 x7 x8 x11 x12) := by
  funext i
  idx_vars i
  obtain ⟨e, he, hE⟩ := eps
  have hd : ∀ j : Fin 512, IsReal (val_main_v120 (F := Ideal) x0 x1 x2 x4 x7 x8 x11 x12 (ix2 i0 j)) := fun j => by
    pointwise [val_main_v120, val_main_v119, val_main_v94, val_main_v25, val_main_v9, val_main_v8]
    exact .mul (dheads_real x0 x1 x2 x4 x7 x8 x11 x12 h0 h1 h2 h4 h7 h8 h11 h12 i0 _) (h7 _)
  have key := norm_bwd (c := 512) (by norm_num) he (fun j : Fin 512 => h0 (ix2 i0 j)) hd i1
  rw [← hE, ← c512, ← negHalf] at key
  unfold normShare rms at key
  pointwise [val_main_v135, val_main_v134, val_main_v133, val_main_v132, val_main_v131, val_main_v130, val_main_v129, val_main_v128, val_main_v127, val_main_v126, val_main_v125, val_main_v124, val_main_v123, val_main_v122, val_main_v22, val_main_v21, val_main_v20, val_main_v19, val_main_v18, val_main_v17, val_main_v16, val_main_v15, val_main_v14, val_main_v13, val_main_v12, val_main_cst, val_main_cst_0, val_main_cst_1, val_main_cst_2, val_main_cst_25, val_main_cst_26, val_main_cst_27]
  rw [headBwd_at, ← key, add_assoc, Fin.sum_univ_one]

theorem refS (h0 : ∀ i, IsReal (x0 i)) (h1 : ∀ i, IsReal (x1 i)) (h2 : ∀ i, IsReal (x2 i)) (h4 : ∀ i, IsReal (x4 i)) (h7 : ∀ i, IsReal (x7 i)) (h8 : ∀ i, IsReal (x8 i)) (h11 : ∀ i, IsReal (x11 i)) (h12 : ∀ i, IsReal (x12 i)) :
    val_main_v115 (F := Ideal) x0 x1 x2 x4 x7 x8 x11 x12 = headBwd x1 (val_main_v100 (F := Ideal) x0 x1 x2 x4 x7 x8 x11 x12) := by
  funext i
  idx_vars i
  obtain ⟨e, he, hE⟩ := eps
  have hd : ∀ j : Fin 512, IsReal (val_main_v100 (F := Ideal) x0 x1 x2 x4 x7 x8 x11 x12 (ix2 i0 j)) := fun j => by
    pointwise [val_main_v100, val_main_v99, val_main_v95, val_main_v41, val_main_v11, val_main_v10]
    exact .mul (dheads_real x0 x1 x2 x4 x7 x8 x11 x12 h0 h1 h2 h4 h7 h8 h11 h12 i0 _) (h8 _)
  have key := norm_bwd (c := 512) (by norm_num) he (fun j : Fin 512 => h1 (ix2 i0 j)) hd i1
  rw [← hE, ← c512, ← negHalf] at key
  unfold normShare rms at key
  pointwise [val_main_v115, val_main_v114, val_main_v113, val_main_v112, val_main_v111, val_main_v110, val_main_v109, val_main_v108, val_main_v107, val_main_v106, val_main_v105, val_main_v104, val_main_v103, val_main_v102, val_main_v38, val_main_v37, val_main_v36, val_main_v35, val_main_v34, val_main_v33, val_main_v32, val_main_v31, val_main_v30, val_main_v29, val_main_v28, val_main_cst_3, val_main_cst_4, val_main_cst_5, val_main_cst_6, val_main_cst_20, val_main_cst_21, val_main_cst_22]
  rw [headBwd_at, ← key, add_assoc, Fin.sum_univ_one]

end

theorem emb6 (t : Fin cfg0.N) (y) (G : FVec Ideal S4096x512 .f32) : G (ix2 (row t (y 0)) (y 1)) = G ((win0_6.blk t).view.emb y) := by
  blk_ext [idx t, row]
theorem final6_of (c : Dev nD) (G : FVec Ideal S4096x512 .f32) (h : ∀ t (i : Fin 512) (k : Fin 512), (outsAt0 m c t.val t.isLt).1 (ix2 i k) = G (ix2 (row t i) k)) :
    (dats m 0 c).arrAt 6 (cfgs 0).N = G := by
  refine (dats m 0 c).arrAt_eq_of_covers 6 _ (by decide +kernel) fun t hf y => ?_
  blk_simp
  rw [after0_6]
  refine Eq.trans ?_ (emb6 t y G)
  idx_vars y
  exact h t y0 y1

theorem emb8 (t : Fin cfg0.N) (y) (G : FVec Ideal S4096x1024 .bf16) : G (ix2 (row t (y 0)) (y 1)) = G ((win0_8.blk t).view.emb y) := by
  blk_ext [idx t, row]
theorem final8_of (c : Dev nD) (G : FVec Ideal S4096x1024 .bf16) (h : ∀ t (i : Fin 512) (k : Fin 1024), (outsAt0 m c t.val t.isLt).2.2.1 (ix2 i k) = G (ix2 (row t i) k)) :
    (dats m 0 c).arrAt 8 (cfgs 0).N = G := by
  refine (dats m 0 c).arrAt_eq_of_covers 8 _ (by decide +kernel) fun t hf y => ?_
  blk_simp
  rw [after0_8]
  refine Eq.trans ?_ (emb8 t y G)
  idx_vars y
  exact h t y0 y1

theorem emb9 (t : Fin cfg0.N) (y) (G : FVec Ideal S4096x1024 .bf16) : G (ix2 (row t (y 0)) (y 1)) = G ((win0_9.blk t).view.emb y) := by
  blk_ext [idx t, row]
theorem final9_of (c : Dev nD) (G : FVec Ideal S4096x1024 .bf16) (h : ∀ t (i : Fin 512) (k : Fin 1024), (outsAt0 m c t.val t.isLt).2.2.2.1 (ix2 i k) = G (ix2 (row t i) k)) :
    (dats m 0 c).arrAt 9 (cfgs 0).N = G := by
  refine (dats m 0 c).arrAt_eq_of_covers 9 _ (by decide +kernel) fun t hf y => ?_
  blk_simp
  rw [after0_9]
  refine Eq.trans ?_ (emb9 t y G)
  idx_vars y
  exact h t y0 y1

theorem emb7 (t : Fin cfg0.N) (y) (G : FVec Ideal S4x4096x128 .f32) : G (ix3 (y 0) (row t (y 1)) (y 2)) = G ((win0_7.blk t).view.emb y) := by
  blk_ext [idx t, row]
theorem final7_of (c : Dev nD) (G : FVec Ideal S4x4096x128 .f32) (h : ∀ t (a : Fin 4) (i : Fin 512) (k : Fin 128), (outsAt0 m c t.val t.isLt).2.1 (ix3 a i k) = G (ix3 a (row t i) k)) :
    (dats m 0 c).arrAt 7 (cfgs 0).N = G := by
  refine (dats m 0 c).arrAt_eq_of_covers 7 _ (by decide +kernel) fun t hf y => ?_
  blk_simp
  rw [after0_7]
  refine Eq.trans ?_ (emb7 t y G)
  idx_vars y
  exact h t y0 y1 y2

theorem out_eq (c : Dev nD) (n n' : Nat) (h : n < cfg0.N) (h' : n' < cfg0.N) (e : n = n') : outsAt0 m c n h = outsAt0 m c n' h' := by
  subst e
  rfl
theorem emb10 (t : Fin cfg0.N) (y) (G : FVec Ideal S16x1024 .f32) : G y = G ((win0_10.blk t).view.emb y) := by
  blk_ext [idx t]
theorem emb11 (t : Fin cfg0.N) (y) (G : FVec Ideal S8x512 .f32) : G y = G ((win0_11.blk t).view.emb y) := by
  blk_ext [idx t]
theorem flush10 : ∀ t : Fin grid0.N, (cfg0.win 10).flush t = true → t.val = 7 := by decide +kernel
theorem flush11 : ∀ t : Fin grid0.N, (cfg0.win 11).flush t = true → t.val = 7 := by decide +kernel
/-- The accumulated rows after the last point. -/
def total10 (c : Dev nD) : FVec Ideal S16x1024 .f32 := (outsAt0 m c 7 (by decide)).2.2.2.2.1
def total11 (c : Dev nD) : FVec Ideal S8x512 .f32 := (outsAt0 m c 7 (by decide)).2.2.2.2.2
theorem last10 (c : Dev nD) : (dats m 0 c).arrAt 10 (cfgs 0).N = total10 m c := by
  refine (dats m 0 c).arrAt_eq_of_covers 10 _ (by decide +kernel) fun t hf y => ?_
  blk_simp
  rw [after0_10]
  rw [out_eq m c t.val 7 t.isLt (by decide) (flush10 t hf)]
  exact emb10 t y (total10 m c)
theorem last11 (c : Dev nD) : (dats m 0 c).arrAt 11 (cfgs 0).N = total11 m c := by
  refine (dats m 0 c).arrAt_eq_of_covers 11 _ (by decide +kernel) fun t hf y => ?_
  blk_simp
  rw [after0_11]
  rw [out_eq m c t.val 7 t.isLt (by decide) (flush11 t hf)]
  exact emb11 t y (total11 m c)

/-- A row accumulated over the eight points is the sum over all rows. -/
theorem allRows (f : Fin cfg0.N → Fin 512 → EReal) (g : Fin 4096 → EReal) (h : ∀ t i, f t i = g (row t i)) :
    ∑ t : Fin cfg0.N, ∑ i : Fin 512, f t i = ∑ r : Fin 4096, g r := by
  rw [Fin.sum_univ_tiles 8 512 rfl g]
  exact Finset.sum_congr rfl fun t _ => Finset.sum_congr rfl fun i _ => h t i

theorem total_gate (c : Dev nD) (k : Fin 1024) : total10 m c (ix2 2 k)
    = val_main_v72 (F := Ideal) (x0 m c) (x1 m c) (x4 m c) (x7 m c) (x8 m c) (x11 m c) (x12 m c) (ix1 k) := by
  refine (Pipeline.eq_sum_fin_of_reset_step_apply_last (N := cfg0.N) (fun n h (k : Fin 1024) => (outsAt0 m c n h).2.2.2.2.1 (ix2 2 k)) 8 (fun _ => 0)
    (fun t k => ∑ i : Fin 512, sumGate m c t (ix2 i k)) (fun t h k => (accA m c t h k).1) (fun t h k => (accB m c t h k).1) (by decide) ⟨7, by decide⟩ rfl k).trans ?_
  rw [allRows _ (fun r => val_main_v69 (F := Ideal) (x0 m c) (x1 m c) (x4 m c) (x7 m c) (x8 m c) (x11 m c) (x12 m c) (ix2 r k)) fun t i => sumGate_at m c t i k]
  pointwise [val_main_v72, val_main_v71, val_main_v70, val_main_cst_11, val_main_cst_12]
  rw [Fin.sum_univ_one]

theorem total_gain (c : Dev nD) (k : Fin 1024) : total10 m c (ix2 7 k)
    = val_main_v78 (F := Ideal) (x0 m c) (x1 m c) (x2 m c) (x7 m c) (x8 m c) (x11 m c) (x12 m c) (ix1 k) := by
  refine (Pipeline.eq_sum_fin_of_reset_step_apply_last (N := cfg0.N) (fun n h (k : Fin 1024) => (outsAt0 m c n h).2.2.2.2.1 (ix2 7 k)) 8 (fun _ => 0)
    (fun t k => ∑ i : Fin 512, sumGain m c t (ix2 i k)) (fun t h k => (accA m c t h k).2) (fun t h k => (accB m c t h k).2) (by decide) ⟨7, by decide⟩ rfl k).trans ?_
  rw [allRows _ (fun r => val_main_v73 (F := Ideal) (x0 m c) (x1 m c) (x2 m c) (x7 m c) (x8 m c) (x11 m c) (x12 m c) (ix2 r k)) fun t i => sumGain_at m c t i k]
  pointwise [val_main_v78, val_main_v75, val_main_v74, val_main_cst_13, val_main_cst_14]
  rw [Fin.sum_univ_one]

theorem total_A (c : Dev nD) (hM : dmixed m c = mixedBwd (mixed m c) (dmixedN m c)) (k : Fin 512) : total11 m c (ix2 0 k)
    = val_main_v121 (F := Ideal) (x0 m c) (x1 m c) (x2 m c) (x4 m c) (x7 m c) (x8 m c) (x11 m c) (x12 m c) (ix1 k) := by
  refine (Pipeline.eq_sum_fin_of_reset_step_apply_last (N := cfg0.N) (fun n h (k : Fin 512) => (outsAt0 m c n h).2.2.2.2.2 (ix2 0 k)) 8 (fun _ => 0)
    (fun t k => ∑ i : Fin 512, sumA m c t (ix2 i k)) (fun t h k => (accA' m c t h k).1) (fun t h k => (accB' m c t h k).1) (by decide) ⟨7, by decide⟩ rfl k).trans ?_
  rw [allRows _ (fun r => val_main_v116 (F := Ideal) (x0 m c) (x1 m c) (x2 m c) (x4 m c) (x7 m c) (x8 m c) (x11 m c) (x12 m c) (ix2 r k)) fun t i => sumA_at m c hM t i k]
  pointwise [val_main_v121, val_main_v118, val_main_v117, val_main_cst_23, val_main_cst_24]
  rw [Fin.sum_univ_one]

theorem total_S (c : Dev nD) (hM : dmixed m c = mixedBwd (mixed m c) (dmixedN m c)) (k : Fin 512) : total11 m c (ix2 1 k)
    = val_main_v101 (F := Ideal) (x0 m c) (x1 m c) (x2 m c) (x4 m c) (x7 m c) (x8 m c) (x11 m c) (x12 m c) (ix1 k) := by
  refine (Pipeline.eq_sum_fin_of_reset_step_apply_last (N := cfg0.N) (fun n h (k : Fin 512) => (outsAt0 m c n h).2.2.2.2.2 (ix2 1 k)) 8 (fun _ => 0)
    (fun t k => ∑ i : Fin 512, sumS m c t (ix2 i k)) (fun t h k => (accA' m c t h k).2) (fun t h k => (accB' m c t h k).2) (by decide) ⟨7, by decide⟩ rfl k).trans ?_
  rw [allRows _ (fun r => val_main_v96 (F := Ideal) (x0 m c) (x1 m c) (x2 m c) (x4 m c) (x7 m c) (x8 m c) (x11 m c) (x12 m c) (ix2 r k)) fun t i => sumS_at m c hM t i k]
  pointwise [val_main_v101, val_main_v98, val_main_v97, val_main_cst_18, val_main_cst_19]
  rw [Fin.sum_univ_one]

theorem cutRow (o : Nat) (ho : o < 16) (x : FVec Ideal S16x1024 .f32) (hs : S16x1024.Slices ![o, 0] S1x1024) :
    shapeCast S1024 (extractStridedSlice S1x1024 ![o, 0] x hs) shapeCasts_S1x1024_S1024 = fun i => x (ix2 ⟨o, ho⟩ (i 0)) := by
  funext i
  idx_vars i
  pointwise
theorem cutHalf (o : Nat) (ho : o < 8) (x : FVec Ideal S8x512 .f32) (hs : S8x512.Slices ![o, 0] S1x512) :
    shapeCast S512 (extractStridedSlice S1x512 ![o, 0] x hs) shapeCasts_S1x512_S512 = fun i => x (ix2 ⟨o, ho⟩ (i 0)) := by
  funext i
  idx_vars i
  pointwise
theorem joinSlabs (x : FVec Ideal S4x4096x128 .f32) :
    shapeCast S4096x512 (transpose S4096x4x128 [1, 0, 2] x transposes_S4x4096x128_S4096x4x128_1_0_2) shapeCasts_S4096x4x128_S4096x512
      = fun i => x (ix3 ⟨(i 1).val / 128, by have := (i 1).isLt; change _ < 512 at this; omega⟩ (i 0) ⟨(i 1).val % 128, by omega⟩) := by
  funext i
  idx_vars i
  pointwise

theorem tail20 (c : Dev nD) : Pipeline.afterTail₀ cfgs (dats m) 0 (V0 m) [hostOps1] c main_v20
    = fun i => (show FVec Ideal S16x1024 .f32 from (dats m 0 c).arrAt 10 (cfgs 0).N) (ix2 2 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 10
  refine Eq.trans ?_ (cutRow 2 (by decide) (show FVec Ideal S16x1024 .f32 from (dats m 0 c).arrAt 10 (cfgs 0).N) slices_S16x1024_S1x1024_2_0)
  rw [← h]
  funext i
  rfl

theorem tail22 (c : Dev nD) : Pipeline.afterTail₀ cfgs (dats m) 0 (V0 m) [hostOps1] c main_v22
    = fun i => (show FVec Ideal S16x1024 .f32 from (dats m 0 c).arrAt 10 (cfgs 0).N) (ix2 7 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 10
  refine Eq.trans ?_ (cutRow 7 (by decide) (show FVec Ideal S16x1024 .f32 from (dats m 0 c).arrAt 10 (cfgs 0).N) slices_S16x1024_S1x1024_7_0)
  rw [← h]
  funext i
  rfl

theorem tail24 (c : Dev nD) : Pipeline.afterTail₀ cfgs (dats m) 0 (V0 m) [hostOps1] c main_v24
    = fun i => (show FVec Ideal S8x512 .f32 from (dats m 0 c).arrAt 11 (cfgs 0).N) (ix2 0 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 11
  refine Eq.trans ?_ (cutHalf 0 (by decide) (show FVec Ideal S8x512 .f32 from (dats m 0 c).arrAt 11 (cfgs 0).N) slices_S8x512_S1x512_0_0)
  rw [← h]
  funext i
  rfl

theorem tail26 (c : Dev nD) : Pipeline.afterTail₀ cfgs (dats m) 0 (V0 m) [hostOps1] c main_v26
    = fun i => (show FVec Ideal S8x512 .f32 from (dats m 0 c).arrAt 11 (cfgs 0).N) (ix2 1 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 11
  refine Eq.trans ?_ (cutHalf 1 (by decide) (show FVec Ideal S8x512 .f32 from (dats m 0 c).arrAt 11 (cfgs 0).N) slices_S8x512_S1x512_1_0)
  rw [← h]
  funext i
  rfl

theorem tail18 (c : Dev nD) : Pipeline.afterTail₀ cfgs (dats m) 0 (V0 m) [hostOps1] c main_v18
    = fun i => (show FVec Ideal S4x4096x128 .f32 from (dats m 0 c).arrAt 7 (cfgs 0).N) (ix3 ⟨(i 1).val / 128, by have := (i 1).isLt; change _ < 512 at this; omega⟩ (i 0) ⟨(i 1).val % 128, by omega⟩) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 7
  refine Eq.trans ?_ (joinSlabs (show FVec Ideal S4x4096x128 .f32 from (dats m 0 c).arrAt 7 (cfgs 0).N))
  rw [← h]
  funext i
  rfl

theorem pre_real (x0 x1 x2 x3 x4 x5 x6 x7 x8 x9 x10 x11 x12)
    (h : (Cert.Pre_out_finite.fn (F := Ideal) x0 x1 x2 x3 x4 x5 x6 x7 x8 x9 x10 x11 x12).1 = (fun _ => 1#1)
    ∧ (Cert.Pre_out_finite.fn (F := Ideal) x0 x1 x2 x3 x4 x5 x6 x7 x8 x9 x10 x11 x12).2.1 = (fun _ => 1#1)
    ∧ (Cert.Pre_out_finite.fn (F := Ideal) x0 x1 x2 x3 x4 x5 x6 x7 x8 x9 x10 x11 x12).2.2.1 = (fun _ => 1#1)
    ∧ (Cert.Pre_out_finite.fn (F := Ideal) x0 x1 x2 x3 x4 x5 x6 x7 x8 x9 x10 x11 x12).2.2.2.1 = (fun _ => 1#1)
    ∧ (Cert.Pre_out_finite.fn (F := Ideal) x0 x1 x2 x3 x4 x5 x6 x7 x8 x9 x10 x11 x12).2.2.2.2.1 = (fun _ => 1#1)
    ∧ (Cert.Pre_out_finite.fn (F := Ideal) x0 x1 x2 x3 x4 x5 x6 x7 x8 x9 x10 x11 x12).2.2.2.2.2.1 = (fun _ => 1#1)
    ∧ (Cert.Pre_out_finite.fn (F := Ideal) x0 x1 x2 x3 x4 x5 x6 x7 x8 x9 x10 x11 x12).2.2.2.2.2.2.1 = (fun _ => 1#1)
    ∧ (Cert.Pre_out_finite.fn (F := Ideal) x0 x1 x2 x3 x4 x5 x6 x7 x8 x9 x10 x11 x12).2.2.2.2.2.2.2 = (fun _ => 1#1)) :
    (∀ i, Cert.Reals.IsReal (x0 i)) ∧ (∀ i, Cert.Reals.IsReal (x1 i)) ∧ (∀ i, Cert.Reals.IsReal (x2 i)) ∧ (∀ i, Cert.Reals.IsReal (x4 i)) ∧ (∀ i, Cert.Reals.IsReal (x7 i)) ∧ (∀ i, Cert.Reals.IsReal (x8 i)) ∧ (∀ i, Cert.Reals.IsReal (x11 i)) ∧ (∀ i, Cert.Reals.IsReal (x12 i)) := by
  unfold Cert.Pre_out_finite.fn Cert.Pre_out_finite.fn_part1 Cert.Pre_out_finite.fn_part2 at h
  dsimp only at h
  exact ⟨Cert.Reals.real_of x0 _ _ h.1 (fun _ => rfl) (fun _ => rfl), Cert.Reals.real_of x1 _ _ h.2.1 (fun _ => rfl) (fun _ => rfl), Cert.Reals.real_of x2 _ _ h.2.2.1 (fun _ => rfl) (fun _ => rfl), Cert.Reals.real_of x4 _ _ h.2.2.2.1 (fun _ => rfl) (fun _ => rfl), Cert.Reals.real_of x7 _ _ h.2.2.2.2.1 (fun _ => rfl) (fun _ => rfl), Cert.Reals.real_of x8 _ _ h.2.2.2.2.2.1 (fun _ => rfl) (fun _ => rfl), Cert.Reals.real_of x11 _ _ h.2.2.2.2.2.2.1 (fun _ => rfl) (fun _ => rfl), Cert.Reals.real_of x12 _ _ h.2.2.2.2.2.2.2 (fun _ => rfl) (fun _ => rfl)⟩

/-- The reference's gradients of the two sides of each normalization, as the kernel forms them. -/
theorem ref_at (c : Dev nD) (hpre : Pre_OutIdeal_out_finite m) :
    dmixed m c = mixedBwd (mixed m c) (dmixedN m c)
    ∧ val_main_v135 (F := Ideal) (x0 m c) (x1 m c) (x2 m c) (x4 m c) (x7 m c) (x8 m c) (x11 m c) (x12 m c) = headBwd (x0 m c) (dattnN m c)
    ∧ val_main_v115 (F := Ideal) (x0 m c) (x1 m c) (x2 m c) (x4 m c) (x7 m c) (x8 m c) (x11 m c) (x12 m c) = headBwd (x1 m c) (dssmN m c) := by
  obtain ⟨h0, h1, h2, h4, h7, h8, h11, h12⟩ := pre_real _ _ _ _ _ _ _ _ _ _ _ _ _ (hpre c)
  exact ⟨refM _ _ _ _ _ _ _ _ h0 h1 h2 h4 h7 h8 h11 h12, refA _ _ _ _ _ _ _ _ h0 h1 h2 h4 h7 h8 h11 h12, refS _ _ _ _ _ _ _ _ h0 h1 h2 h4 h7 h8 h11 h12⟩

theorem unsplit (D : FVec Ideal S4096x512 .f32) : D = fun i =>
    (fun i : S4x4096x128.Idx => D (ix2 (i 1) ⟨(i 0).val * 128 + (i 2).val, by have h0 := (i 0).isLt; have h2 := (i 2).isLt; change _ < 4 at h0; change _ < 128 at h2; omega⟩))
      (ix3 ⟨(i 1).val / 128, by have := (i 1).isLt; change _ < 512 at this; omega⟩ (i 0) ⟨(i 1).val % 128, by omega⟩) := by
  funext i
  idx_vars i
  exact congrArg D (congrArg (ix2 i0) (Fin.ext (by dsimp; omega)))

theorem is135 (c : Dev nD) (hpre : Pre_OutIdeal_out_finite m) (y0 : FVec Ideal S4096x512 .f32) (y1 : FVec Ideal S4096x512 .f32) (y2 : FVec Ideal S4x6144 .f32) (y4 : FVec Ideal S4x1024 .f32) (y7 : FVec Ideal S4x512 .f32) (y8 : FVec Ideal S4x512 .f32) (y11 : FVec Ideal S1024x1024 .f32) (y12 : FVec Ideal S4096x1024 .f32) (e0 : y0 = x0 m c) (e1 : y1 = x1 m c) (e2 : y2 = x2 m c) (e4 : y4 = x4 m c) (e7 : y7 = x7 m c) (e8 : y8 = x8 m c) (e11 : y11 = x11 m c) (e12 : y12 = x12 m c) :
    val_main_v135 (F := Ideal) y0 y1 y2 y4 y7 y8 y11 y12 = (dats m 0 c).arrAt 6 (cfgs 0).N := by
  subst e0 e1 e2 e4 e7 e8 e11 e12
  refine (final6_of m c _ fun t i k => ?_).symm
  rw [(ref_at m c hpre).2.1, outA]
  exact da_at m c (ref_at m c hpre).1 t i k

theorem is115 (c : Dev nD) (hpre : Pre_OutIdeal_out_finite m) (y0 : FVec Ideal S4096x512 .f32) (y1 : FVec Ideal S4096x512 .f32) (y2 : FVec Ideal S4x6144 .f32) (y4 : FVec Ideal S4x1024 .f32) (y7 : FVec Ideal S4x512 .f32) (y8 : FVec Ideal S4x512 .f32) (y11 : FVec Ideal S1024x1024 .f32) (y12 : FVec Ideal S4096x1024 .f32) (e0 : y0 = x0 m c) (e1 : y1 = x1 m c) (e2 : y2 = x2 m c) (e4 : y4 = x4 m c) (e7 : y7 = x7 m c) (e8 : y8 = x8 m c) (e11 : y11 = x11 m c) (e12 : y12 = x12 m c) :
    val_main_v115 (F := Ideal) y0 y1 y2 y4 y7 y8 y11 y12 = Pipeline.afterTail₀ cfgs (dats m) 0 (V0 m) [hostOps1] c main_v18 := by
  subst e0 e1 e2 e4 e7 e8 e11 e12
  rw [tail18, final7_of m c (fun i => headBwd (x1 m c) (dssmN m c) (ix2 (i 1) ⟨(i 0).val * 128 + (i 2).val, by have h0 := (i 0).isLt; have h2 := (i 2).isLt; change _ < 4 at h0; change _ < 128 at h2; omega⟩))
    fun t a i k => (outS m c t a i k).trans (ds_at m c (ref_at m c hpre).1 t i _)]
  rw [(ref_at m c hpre).2.2]
  exact unsplit _

theorem is136 (c : Dev nD) (hpre : Pre_OutIdeal_out_finite m) (y0 : FVec Ideal S4096x512 .f32) (y1 : FVec Ideal S4096x512 .f32) (y7 : FVec Ideal S4x512 .f32) (y8 : FVec Ideal S4x512 .f32) (e0 : y0 = x0 m c) (e1 : y1 = x1 m c) (e7 : y7 = x7 m c) (e8 : y8 = x8 m c) :
    val_main_v136 (F := Ideal) y0 y1 y7 y8 = (dats m 0 c).arrAt 8 (cfgs 0).N := by
  subst e0 e1 e7 e8
  refine (final8_of m c _ fun t i k => ?_).symm
  rw [outH]
  exact heads_at m c t i k

theorem is137 (c : Dev nD) (hpre : Pre_OutIdeal_out_finite m) (y0 : FVec Ideal S4096x512 .f32) (y1 : FVec Ideal S4096x512 .f32) (y2 : FVec Ideal S4x6144 .f32) (y4 : FVec Ideal S4x1024 .f32) (y7 : FVec Ideal S4x512 .f32) (y8 : FVec Ideal S4x512 .f32) (y11 : FVec Ideal S1024x1024 .f32) (y12 : FVec Ideal S4096x1024 .f32) (e0 : y0 = x0 m c) (e1 : y1 = x1 m c) (e2 : y2 = x2 m c) (e4 : y4 = x4 m c) (e7 : y7 = x7 m c) (e8 : y8 = x8 m c) (e11 : y11 = x11 m c) (e12 : y12 = x12 m c) :
    val_main_v137 (F := Ideal) y0 y1 y2 y4 y7 y8 y11 y12 = (dats m 0 c).arrAt 9 (cfgs 0).N := by
  subst e0 e1 e2 e4 e7 e8 e11 e12
  refine (final9_of m c _ fun t i k => ?_).symm
  rw [outM]
  refine (dm_at m c t i k).trans ?_
  rw [← (ref_at m c hpre).1]
  rfl

theorem is72 (c : Dev nD) (hpre : Pre_OutIdeal_out_finite m) (y0 : FVec Ideal S4096x512 .f32) (y1 : FVec Ideal S4096x512 .f32) (y4 : FVec Ideal S4x1024 .f32) (y7 : FVec Ideal S4x512 .f32) (y8 : FVec Ideal S4x512 .f32) (y11 : FVec Ideal S1024x1024 .f32) (y12 : FVec Ideal S4096x1024 .f32) (e0 : y0 = x0 m c) (e1 : y1 = x1 m c) (e4 : y4 = x4 m c) (e7 : y7 = x7 m c) (e8 : y8 = x8 m c) (e11 : y11 = x11 m c) (e12 : y12 = x12 m c) :
    val_main_v72 (F := Ideal) y0 y1 y4 y7 y8 y11 y12 = Pipeline.afterTail₀ cfgs (dats m) 0 (V0 m) [hostOps1] c main_v20 := by
  subst e0 e1 e4 e7 e8 e11 e12
  rw [tail20, last10]
  funext i
  idx_vars i
  exact (total_gate m c i0).symm

theorem is78 (c : Dev nD) (hpre : Pre_OutIdeal_out_finite m) (y0 : FVec Ideal S4096x512 .f32) (y1 : FVec Ideal S4096x512 .f32) (y2 : FVec Ideal S4x6144 .f32) (y7 : FVec Ideal S4x512 .f32) (y8 : FVec Ideal S4x512 .f32) (y11 : FVec Ideal S1024x1024 .f32) (y12 : FVec Ideal S4096x1024 .f32) (e0 : y0 = x0 m c) (e1 : y1 = x1 m c) (e2 : y2 = x2 m c) (e7 : y7 = x7 m c) (e8 : y8 = x8 m c) (e11 : y11 = x11 m c) (e12 : y12 = x12 m c) :
    val_main_v78 (F := Ideal) y0 y1 y2 y7 y8 y11 y12 = Pipeline.afterTail₀ cfgs (dats m) 0 (V0 m) [hostOps1] c main_v22 := by
  subst e0 e1 e2 e7 e8 e11 e12
  rw [tail22, last10]
  funext i
  idx_vars i
  exact (total_gain m c i0).symm

theorem is121 (c : Dev nD) (hpre : Pre_OutIdeal_out_finite m) (y0 : FVec Ideal S4096x512 .f32) (y1 : FVec Ideal S4096x512 .f32) (y2 : FVec Ideal S4x6144 .f32) (y4 : FVec Ideal S4x1024 .f32) (y7 : FVec Ideal S4x512 .f32) (y8 : FVec Ideal S4x512 .f32) (y11 : FVec Ideal S1024x1024 .f32) (y12 : FVec Ideal S4096x1024 .f32) (e0 : y0 = x0 m c) (e1 : y1 = x1 m c) (e2 : y2 = x2 m c) (e4 : y4 = x4 m c) (e7 : y7 = x7 m c) (e8 : y8 = x8 m c) (e11 : y11 = x11 m c) (e12 : y12 = x12 m c) :
    val_main_v121 (F := Ideal) y0 y1 y2 y4 y7 y8 y11 y12 = Pipeline.afterTail₀ cfgs (dats m) 0 (V0 m) [hostOps1] c main_v24 := by
  subst e0 e1 e2 e4 e7 e8 e11 e12
  rw [tail24, last11]
  funext i
  idx_vars i
  exact (total_A m c (ref_at m c hpre).1 i0).symm

theorem is101 (c : Dev nD) (hpre : Pre_OutIdeal_out_finite m) (y0 : FVec Ideal S4096x512 .f32) (y1 : FVec Ideal S4096x512 .f32) (y2 : FVec Ideal S4x6144 .f32) (y4 : FVec Ideal S4x1024 .f32) (y7 : FVec Ideal S4x512 .f32) (y8 : FVec Ideal S4x512 .f32) (y11 : FVec Ideal S1024x1024 .f32) (y12 : FVec Ideal S4096x1024 .f32) (e0 : y0 = x0 m c) (e1 : y1 = x1 m c) (e2 : y2 = x2 m c) (e4 : y4 = x4 m c) (e7 : y7 = x7 m c) (e8 : y8 = x8 m c) (e11 : y11 = x11 m c) (e12 : y12 = x12 m c) :
    val_main_v101 (F := Ideal) y0 y1 y2 y4 y7 y8 y11 y12 = Pipeline.afterTail₀ cfgs (dats m) 0 (V0 m) [hostOps1] c main_v26 := by
  subst e0 e1 e2 e4 e7 e8 e11 e12
  rw [tail26, last11]
  funext i
  idx_vars i
  exact (total_S m c (ref_at m c hpre).1 i0).symm

set_option maxHeartbeats 2000000 in
theorem algebraic : Cert.algebraic_OutIdeal_OutRefIdeal_pre_out_finite := by
  pair_intro
  · run_from Cert.OutIdeal.Gen.run_main m g
    exacts [Cert.OutIdeal.Gen.W_main_arg1 m (dats m) c, Cert.OutIdeal.Gen.W_main_arg2 m (dats m) c, Cert.OutIdeal.Gen.W_main_arg3 m (dats m) c, Cert.OutIdeal.Gen.W_main_arg4 m (dats m) c, Cert.OutIdeal.Gen.W_main_arg5 m (dats m) c, Cert.OutIdeal.Gen.W_main_arg6 m (dats m) c, Cert.OutIdeal.Gen.W_main_arg7 m (dats m) c, Cert.OutIdeal.Gen.W_main_arg8 m (dats m) c, Cert.OutIdeal.Gen.W_main_arg9 m (dats m) c, Cert.OutIdeal.Gen.W_main_arg10 m (dats m) c, Cert.OutIdeal.Gen.W_main_arg11 m (dats m) c]
  · run_from Cert.OutRefIdeal.Value.run m' g'
    · exact (val_main_v135_eq m' c).trans (is135 m c hpre (m' ((c : Thread nD τ).loc Cert.OutRefIdeal.main_arg0)) (m' ((c : Thread nD τ).loc Cert.OutRefIdeal.main_arg1)) (m' ((c : Thread nD τ).loc Cert.OutRefIdeal.main_arg2)) (m' ((c : Thread nD τ).loc Cert.OutRefIdeal.main_arg4)) (m' ((c : Thread nD τ).loc Cert.OutRefIdeal.main_arg7)) (m' ((c : Thread nD τ).loc Cert.OutRefIdeal.main_arg8)) (m' ((c : Thread nD τ).loc Cert.OutRefIdeal.main_arg11)) (m' ((c : Thread nD τ).loc Cert.OutRefIdeal.main_arg12)) (hagree c).1 (hagree c).2.1 (hagree c).2.2.1 (hagree c).2.2.2.2.1 (hagree c).2.2.2.2.2.2.2.1 (hagree c).2.2.2.2.2.2.2.2.1 (hagree c).2.2.2.2.2.2.2.2.2.2.2.1 (hagree c).2.2.2.2.2.2.2.2.2.2.2.2)
    · exact (val_main_v115_eq m' c).trans (is115 m c hpre (m' ((c : Thread nD τ).loc Cert.OutRefIdeal.main_arg0)) (m' ((c : Thread nD τ).loc Cert.OutRefIdeal.main_arg1)) (m' ((c : Thread nD τ).loc Cert.OutRefIdeal.main_arg2)) (m' ((c : Thread nD τ).loc Cert.OutRefIdeal.main_arg4)) (m' ((c : Thread nD τ).loc Cert.OutRefIdeal.main_arg7)) (m' ((c : Thread nD τ).loc Cert.OutRefIdeal.main_arg8)) (m' ((c : Thread nD τ).loc Cert.OutRefIdeal.main_arg11)) (m' ((c : Thread nD τ).loc Cert.OutRefIdeal.main_arg12)) (hagree c).1 (hagree c).2.1 (hagree c).2.2.1 (hagree c).2.2.2.2.1 (hagree c).2.2.2.2.2.2.2.1 (hagree c).2.2.2.2.2.2.2.2.1 (hagree c).2.2.2.2.2.2.2.2.2.2.2.1 (hagree c).2.2.2.2.2.2.2.2.2.2.2.2)
    · exact (val_main_v136_eq (F := Ideal) (x0 m c) (x1 m c) (m' ((c : Thread nD τ).loc Cert.OutRefIdeal.main_arg7)) (m' ((c : Thread nD τ).loc Cert.OutRefIdeal.main_arg8))).trans (is136 m c hpre (x0 m c) (x1 m c) (m' ((c : Thread nD τ).loc Cert.OutRefIdeal.main_arg7)) (m' ((c : Thread nD τ).loc Cert.OutRefIdeal.main_arg8)) rfl rfl (hagree c).2.2.2.2.2.2.2.1 (hagree c).2.2.2.2.2.2.2.2.1)
    · exact (val_main_v137_eq m' c).trans (is137 m c hpre (m' ((c : Thread nD τ).loc Cert.OutRefIdeal.main_arg0)) (m' ((c : Thread nD τ).loc Cert.OutRefIdeal.main_arg1)) (m' ((c : Thread nD τ).loc Cert.OutRefIdeal.main_arg2)) (m' ((c : Thread nD τ).loc Cert.OutRefIdeal.main_arg4)) (m' ((c : Thread nD τ).loc Cert.OutRefIdeal.main_arg7)) (m' ((c : Thread nD τ).loc Cert.OutRefIdeal.main_arg8)) (m' ((c : Thread nD τ).loc Cert.OutRefIdeal.main_arg11)) (m' ((c : Thread nD τ).loc Cert.OutRefIdeal.main_arg12)) (hagree c).1 (hagree c).2.1 (hagree c).2.2.1 (hagree c).2.2.2.2.1 (hagree c).2.2.2.2.2.2.2.1 (hagree c).2.2.2.2.2.2.2.2.1 (hagree c).2.2.2.2.2.2.2.2.2.2.2.1 (hagree c).2.2.2.2.2.2.2.2.2.2.2.2)
    · exact (val_main_v72_eq m' c).trans (is72 m c hpre (m' ((c : Thread nD τ).loc Cert.OutRefIdeal.main_arg0)) (m' ((c : Thread nD τ).loc Cert.OutRefIdeal.main_arg1)) (m' ((c : Thread nD τ).loc Cert.OutRefIdeal.main_arg4)) (m' ((c : Thread nD τ).loc Cert.OutRefIdeal.main_arg7)) (m' ((c : Thread nD τ).loc Cert.OutRefIdeal.main_arg8)) (m' ((c : Thread nD τ).loc Cert.OutRefIdeal.main_arg11)) (m' ((c : Thread nD τ).loc Cert.OutRefIdeal.main_arg12)) (hagree c).1 (hagree c).2.1 (hagree c).2.2.2.2.1 (hagree c).2.2.2.2.2.2.2.1 (hagree c).2.2.2.2.2.2.2.2.1 (hagree c).2.2.2.2.2.2.2.2.2.2.2.1 (hagree c).2.2.2.2.2.2.2.2.2.2.2.2)
    · exact (val_main_v78_eq m' c).trans (is78 m c hpre (m' ((c : Thread nD τ).loc Cert.OutRefIdeal.main_arg0)) (m' ((c : Thread nD τ).loc Cert.OutRefIdeal.main_arg1)) (m' ((c : Thread nD τ).loc Cert.OutRefIdeal.main_arg2)) (m' ((c : Thread nD τ).loc Cert.OutRefIdeal.main_arg7)) (m' ((c : Thread nD τ).loc Cert.OutRefIdeal.main_arg8)) (m' ((c : Thread nD τ).loc Cert.OutRefIdeal.main_arg11)) (m' ((c : Thread nD τ).loc Cert.OutRefIdeal.main_arg12)) (hagree c).1 (hagree c).2.1 (hagree c).2.2.1 (hagree c).2.2.2.2.2.2.2.1 (hagree c).2.2.2.2.2.2.2.2.1 (hagree c).2.2.2.2.2.2.2.2.2.2.2.1 (hagree c).2.2.2.2.2.2.2.2.2.2.2.2)
    · exact (val_main_v121_eq m' c).trans (is121 m c hpre (m' ((c : Thread nD τ).loc Cert.OutRefIdeal.main_arg0)) (m' ((c : Thread nD τ).loc Cert.OutRefIdeal.main_arg1)) (m' ((c : Thread nD τ).loc Cert.OutRefIdeal.main_arg2)) (m' ((c : Thread nD τ).loc Cert.OutRefIdeal.main_arg4)) (m' ((c : Thread nD τ).loc Cert.OutRefIdeal.main_arg7)) (m' ((c : Thread nD τ).loc Cert.OutRefIdeal.main_arg8)) (m' ((c : Thread nD τ).loc Cert.OutRefIdeal.main_arg11)) (m' ((c : Thread nD τ).loc Cert.OutRefIdeal.main_arg12)) (hagree c).1 (hagree c).2.1 (hagree c).2.2.1 (hagree c).2.2.2.2.1 (hagree c).2.2.2.2.2.2.2.1 (hagree c).2.2.2.2.2.2.2.2.1 (hagree c).2.2.2.2.2.2.2.2.2.2.2.1 (hagree c).2.2.2.2.2.2.2.2.2.2.2.2)
    · exact (val_main_v101_eq m' c).trans (is101 m c hpre (m' ((c : Thread nD τ).loc Cert.OutRefIdeal.main_arg0)) (m' ((c : Thread nD τ).loc Cert.OutRefIdeal.main_arg1)) (m' ((c : Thread nD τ).loc Cert.OutRefIdeal.main_arg2)) (m' ((c : Thread nD τ).loc Cert.OutRefIdeal.main_arg4)) (m' ((c : Thread nD τ).loc Cert.OutRefIdeal.main_arg7)) (m' ((c : Thread nD τ).loc Cert.OutRefIdeal.main_arg8)) (m' ((c : Thread nD τ).loc Cert.OutRefIdeal.main_arg11)) (m' ((c : Thread nD τ).loc Cert.OutRefIdeal.main_arg12)) (hagree c).1 (hagree c).2.1 (hagree c).2.2.1 (hagree c).2.2.2.2.1 (hagree c).2.2.2.2.2.2.2.1 (hagree c).2.2.2.2.2.2.2.2.1 (hagree c).2.2.2.2.2.2.2.2.2.2.2.1 (hagree c).2.2.2.2.2.2.2.2.2.2.2.2)

end Cert.OutIdeal.Hand

end
-- ==== Proof.Mlp.lean ====
module

public import proofs.«01_k».proof.Defs
public import proofs.«01_k».proof.Proof.Gen.MlpIdeal.Frame
public import proofs.«01_k».proof.Proof.Gen.MlpRefIdeal.Read
public import proofs.«01_k».proof.Proof.Gen.Pre_mlp_finite
public import proofs.«01_k».proof.Proof.Reals
public import Idealize.ShloMosaic.Lib.Pipeline.ValueKit
public import Idealize.ShloMosaic.Lib.Pointwise
public import proofs.«01_k».proof.Proof.Norm
public import proofs.«01_k».proof.Proof.Finite
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpIdeal.Hand

open Cert.MlpIdeal Cert.MlpIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![1, 0, 0] ∧ win0_5.index t = ![t.val, 0] ∧ win0_6.index t = ![t.val, 0] ∧ win0_7.index t = ![t.val, 0] ∧ win0_8.index t = ![t.val, 0] ∧ win0_9.index t = ![0, 0] :=
  (by decide +kernel : ∀ t : Fin grid0.N, _)

/-- The array row of row `i` of the block at point `t`. -/
def row (t : Fin cfg0.N) (i : Fin 256) : Fin 4096 :=
  ⟨t.val * 256 + i.val, by have := t.isLt; have h : cfg0.N = 16 := N_0; omega⟩

/-- The arguments the gradients depend on. -/
abbrev x0 (c : Dev nD) : FVec Ideal S4096x1024 .f32 := m ((c : Thread nD τ).loc main_arg0)
abbrev x1 (c : Dev nD) : FVec Ideal S4x6144 .f32 := m ((c : Thread nD τ).loc main_arg1)
abbrev x4 (c : Dev nD) : FVec Ideal S4x1024 .f32 := m ((c : Thread nD τ).loc main_arg4)
abbrev x5 (c : Dev nD) : FVec Ideal S4x1024 .f32 := m ((c : Thread nD τ).loc main_arg5)
abbrev x6 (c : Dev nD) : FVec Ideal S1024x4096 .f32 := m ((c : Thread nD τ).loc main_arg6)
abbrev x7 (c : Dev nD) : FVec Ideal S4096x1024 .f32 := m ((c : Thread nD τ).loc main_arg7)
abbrev x8 (c : Dev nD) : FVec Ideal S4096x1024 .f32 := m ((c : Thread nD τ).loc main_arg8)

theorem vec3 (c : Dev nD) (i : Fin 4) (k : Fin 1024) : (V m c main_v6 : FVec Ideal S4x16x1024 .f32) (ix3 i 3 k)
    = x1 m c (ix2 i ⟨3072 + k.val, by omega⟩) := by
  unfold V V0
  simp only [List.flatten_cons, List.flatten_nil, List.append_nil, List.cons_append, List.nil_append, hostOps0, hostOps0_1, hostOps0_2]
  after_results
  pointwise
  after_results_loop
  pointwise

theorem vec4 (c : Dev nD) (i : Fin 4) (k : Fin 1024) : (V m c main_v6 : FVec Ideal S4x16x1024 .f32) (ix3 i 4 k)
    = x1 m c (ix2 i ⟨4096 + k.val, by omega⟩) := by
  unfold V V0
  simp only [List.flatten_cons, List.flatten_nil, List.append_nil, List.cons_append, List.nil_append, hostOps0, hostOps0_1, hostOps0_2]
  after_results
  pointwise
  after_results_loop
  pointwise

theorem vec5 (c : Dev nD) (i : Fin 4) (k : Fin 1024) : (V m c main_v6 : FVec Ideal S4x16x1024 .f32) (ix3 i 5 k)
    = x1 m c (ix2 i ⟨5120 + k.val, by omega⟩) := by
  unfold V V0
  simp only [List.flatten_cons, List.flatten_nil, List.append_nil, List.cons_append, List.nil_append, hostOps0, hostOps0_1, hostOps0_2]
  after_results
  pointwise
  after_results_loop
  pointwise

theorem vec8 (c : Dev nD) (i : Fin 4) (k : Fin 1024) : (V m c main_v6 : FVec Ideal S4x16x1024 .f32) (ix3 i 8 k)
    = x4 m c (ix2 i k) := by
  unfold V V0
  simp only [List.flatten_cons, List.flatten_nil, List.append_nil, List.cons_append, List.nil_append, hostOps0, hostOps0_1, hostOps0_2]
  after_results
  pointwise
  after_results_loop
  pointwise

theorem vec9 (c : Dev nD) (i : Fin 4) (k : Fin 1024) : (V m c main_v6 : FVec Ideal S4x16x1024 .f32) (ix3 i 9 k)
    = x5 m c (ix2 i k) := by
  unfold V V0
  simp only [List.flatten_cons, List.flatten_nil, List.append_nil, List.cons_append, List.nil_append, hostOps0, hostOps0_1, hostOps0_2]
  after_results
  pointwise
  after_results_loop
  pointwise

/-- The weights the kernel is given. -/
abbrev wi (c : Dev nD) : FVec Ideal S4096x1024 .bf16 := V m c main_v8
abbrev wo (c : Dev nD) : FVec Ideal S4096x1024 .bf16 := V m c main_v9
theorem wIn (c : Dev nD) (j : Fin 4096) (k : Fin 1024) : wi m c (ix2 j k) = x6 m c (ix2 k j) := by
  unfold wi
  unfold V V0
  simp only [List.flatten_cons, List.flatten_nil, List.append_nil, List.cons_append, List.nil_append, hostOps0, hostOps0_1, hostOps0_2]
  after_results
  pointwise
theorem wOut (c : Dev nD) (j : Fin 4096) (k : Fin 1024) : wo m c (ix2 j k) = x7 m c (ix2 j k) := by
  unfold wo
  unfold V V0
  simp only [List.flatten_cons, List.flatten_nil, List.append_nil, List.cons_append, List.nil_append, hostOps0, hostOps0_1, hostOps0_2]
  after_results
  pointwise

open Cert.MlpRefIdeal.Read

/-- The saved values are the reference's forward stages. -/
theorem rSaved (c : Dev nD) (r : Fin 4096) (k : Fin 4096) : (V m c main_v44 : FVec Ideal S4096x4096 .bf16) (ix2 r k) = val_main_v39 (F := Ideal) (x0 m c) (x1 m c) (x4 m c) (x6 m c) (ix2 r k) := by
  unfold V V0
  simp only [List.flatten_cons, List.flatten_nil, List.append_nil, List.cons_append, List.nil_append, hostOps0, hostOps0_1, hostOps0_2]
  after_results
  rfl
theorem fSaved (c : Dev nD) (r : Fin 4096) (k : Fin 1024) : (V m c main_v45 : FVec Ideal S4096x1024 .f32) (ix2 r k) = val_main_v42 (F := Ideal) (x0 m c) (x1 m c) (x4 m c) (x6 m c) (x7 m c) (ix2 r k) := by
  unfold V V0
  simp only [List.flatten_cons, List.flatten_nil, List.append_nil, List.cons_append, List.nil_append, hostOps0, hostOps0_1, hostOps0_2]
  after_results
  rfl

theorem shift (c : Dev nD) (t : Fin cfg0.N) (k : Fin 1024) : iblk m c 4 t (ix3 0 3 k) = x1 m c (ix2 1 ⟨3072 + k.val, by omega⟩) := by
  rw [← vec3 m c 1 k]
  blk_point [iblk, idx t]

theorem scale (c : Dev nD) (t : Fin cfg0.N) (k : Fin 1024) : iblk m c 4 t (ix3 0 4 k) = x1 m c (ix2 1 ⟨4096 + k.val, by omega⟩) := by
  rw [← vec4 m c 1 k]
  blk_point [iblk, idx t]

theorem gate (c : Dev nD) (t : Fin cfg0.N) (k : Fin 1024) : iblk m c 4 t (ix3 0 5 k) = x1 m c (ix2 1 ⟨5120 + k.val, by omega⟩) := by
  rw [← vec5 m c 1 k]
  blk_point [iblk, idx t]

theorem gainPre (c : Dev nD) (t : Fin cfg0.N) (k : Fin 1024) : iblk m c 4 t (ix3 0 8 k) = x4 m c (ix2 1 k) := by
  rw [← vec8 m c 1 k]
  blk_point [iblk, idx t]

theorem gainPost (c : Dev nD) (t : Fin cfg0.N) (k : Fin 1024) : iblk m c 4 t (ix3 0 9 k) = x5 m c (ix2 1 k) := by
  rw [← vec9 m c 1 k]
  blk_point [iblk, idx t]

theorem dRow (c : Dev nD) (t : Fin cfg0.N) (i : Fin 256) (k : Fin 1024) : iblk m c 0 t (ix2 i k) = x8 m c (ix2 (row t i) k) := by
  blk_point [iblk, V, idx t, row]
theorem xRow (c : Dev nD) (t : Fin cfg0.N) (i : Fin 256) (k : Fin 1024) : iblk m c 1 t (ix2 i k) = x0 m c (ix2 (row t i) k) := by
  blk_point [iblk, V, idx t, row]
theorem rRow (c : Dev nD) (t : Fin cfg0.N) (i : Fin 256) (k : Fin 4096) : iblk m c 2 t (ix2 i k) = val_main_v39 (F := Ideal) (x0 m c) (x1 m c) (x4 m c) (x6 m c) (ix2 (row t i) k) := by
  rw [← rSaved m c (row t i) k]
  blk_point [iblk, idx t, row]
theorem fRow (c : Dev nD) (t : Fin cfg0.N) (i : Fin 256) (k : Fin 1024) : iblk m c 3 t (ix2 i k) = val_main_v42 (F := Ideal) (x0 m c) (x1 m c) (x4 m c) (x6 m c) (x7 m c) (ix2 (row t i) k) := by
  rw [← fSaved m c (row t i) k]
  blk_point [iblk, idx t, row]

/-- The weights in the kernel's own buffers: copied at the first point, kept afterwards. -/
theorem kept (c : Dev nD) : ∀ (n : Nat) (h : n < cfg0.N), (outsAt0 m c n h).2.2.2.2.2.1 = V m c main_v8 ∧ (outsAt0 m c n h).2.2.2.2.2.2 = V m c main_v9
  | 0, h => by
    have e := outsAt0_A m c ⟨0, h⟩ rfl rfl
    rw [show outsAt0 m c 0 h = _ from e]
    dsimp only
    frame_out
    exact ⟨Cert.Rows.canon_all _, Cert.Rows.canon_all _⟩
  | n + 1, h => by
    have hn : ¬ (n + 1) % 16 = 0 := by have hN : cfg0.N = 16 := N_0; omega
    have e := outsAt0_B m c ⟨n + 1, h⟩ hn hn
    rw [show outsAt0 m c (n + 1) h = _ from e]
    exact kept c n (Nat.lt_of_succ_lt h)

/-- The rows, gains and stages of the block at point `t`. -/
def gPre (c : Dev nD) (t : Fin cfg0.N) : FVec Ideal S1x1024 .f32 := k0_pay6 (View.ld (iblk m c 4 t) (Rect.unit ![0, 8, 0] ![1, 1, 1024] inb_S1x16x1024_S1x1x1024_0_8_0))
def gPost (c : Dev nD) (t : Fin cfg0.N) : FVec Ideal S1x1024 .f32 := k0_pay7 (View.ld (iblk m c 4 t) (Rect.unit ![0, 9, 0] ![1, 1, 1024] inb_S1x16x1024_S1x1x1024_0_9_0))
def scB (c : Dev nD) (t : Fin cfg0.N) : FVec Ideal S1x1024 .f32 := k0_pay8 (View.ld (iblk m c 4 t) (Rect.unit ![0, 4, 0] ![1, 1, 1024] inb_S1x16x1024_S1x1x1024_0_4_0))
def gtL (c : Dev nD) (t : Fin cfg0.N) : FVec Ideal S1x1x1024 .f32 := (View.ld (iblk m c 4 t) (Rect.unit ![0, 5, 0] ![1, 1, 1024] inb_S1x16x1024_S1x1x1024_0_5_0))
def hB (c : Dev nD) (t : Fin cfg0.N) : FVec Ideal S256x1024 .bf16 := k0_pay12 (View.ld (iblk m c 4 t) (Rect.unit ![0, 8, 0] ![1, 1, 1024] inb_S1x16x1024_S1x1x1024_0_8_0)) (View.ld (iblk m c 4 t) (Rect.unit ![0, 4, 0] ![1, 1, 1024] inb_S1x16x1024_S1x1x1024_0_4_0)) (iblk m c 1 t) (View.ld (iblk m c 4 t) (Rect.unit ![0, 3, 0] ![1, 1, 1024] inb_S1x16x1024_S1x1x1024_0_3_0))
def nB (c : Dev nD) (t : Fin cfg0.N) : FVec Ideal S256x1024 .f32 := k0_pay11 (View.ld (iblk m c 4 t) (Rect.unit ![0, 8, 0] ![1, 1, 1024] inb_S1x16x1024_S1x1x1024_0_8_0)) (iblk m c 1 t)
def dyB (c : Dev nD) (t : Fin cfg0.N) : FVec Ideal S256x1024 .f32 := k0_pay18 (iblk m c 0 t) (gtL m c t)
def dnB (c : Dev nD) (t : Fin cfg0.N) : FVec Ideal S256x1024 .f32 := k0_pay19 (gPost m c t) (iblk m c 0 t) (gtL m c t)
def mnB (c : Dev nD) (t : Fin cfg0.N) : FVec Ideal S256x1 .f32 := k0_pay20 (gPost m c t) (iblk m c 3 t) (iblk m c 0 t) (gtL m c t)
def dfB (c : Dev nD) (t : Fin cfg0.N) : FVec Ideal S256x1024 .bf16 := k0_pay22 (k0_pay15 (iblk m c 3 t)) (k0_pay16 (iblk m c 3 t)) (dnB m c t) (mnB m c t)
def daB (c : Dev nD) (t : Fin cfg0.N) : FVec Ideal S256x4096 .bf16 :=
  k0_pay23 (k0_pay13 (iblk m c 2 t)) (k0_pay15 (iblk m c 3 t)) (k0_pay16 (iblk m c 3 t)) (dnB m c t) (mnB m c t) (wo m c)
def dhB (c : Dev nD) (t : Fin cfg0.N) : FVec Ideal S256x1024 .f32 :=
  k0_pay24 (k0_pay13 (iblk m c 2 t)) (k0_pay15 (iblk m c 3 t)) (k0_pay16 (iblk m c 3 t)) (dnB m c t) (mnB m c t) (wo m c) (wi m c)
def dxB (c : Dev nD) (t : Fin cfg0.N) : FVec Ideal S256x1024 .f32 :=
  k0_pay4 (gPre m c t) (scB m c t) (k0_pay9 (iblk m c 1 t)) (k0_pay10 (iblk m c 1 t)) (iblk m c 0 t) (dhB m c t)
/-- The summands of the other accumulated rows. -/
def sumGate (c : Dev nD) (t : Fin cfg0.N) : FVec Ideal S256x1024 .f32 := fun i => (show FVec Ideal S256x1024 .f32 from iblk m c 0 t) i * (k0_pay16 (iblk m c 3 t) i * gPost m c t (ix2 0 (i 1)))
def sumPost (c : Dev nD) (t : Fin cfg0.N) : FVec Ideal S256x1024 .f32 := fun i => dyB m c t i * k0_pay16 (iblk m c 3 t) i
def sumScale (c : Dev nD) (t : Fin cfg0.N) : FVec Ideal S256x1024 .f32 := fun i => dhB m c t i * nB m c t i
def sumPre (c : Dev nD) (t : Fin cfg0.N) : FVec Ideal S256x1024 .f32 := fun i => k0_pay2 (scB m c t) (dhB m c t) i * k0_pay10 (iblk m c 1 t) i

/-- The stages of the reference at the arguments. -/
abbrev xN (c : Dev nD) := val_main_v22 (F := Ideal) (x0 m c)
abbrev pre (c : Dev nD) := val_main_v34 (F := Ideal) (x0 m c) (x1 m c) (x4 m c) (x6 m c)
abbrev ff (c : Dev nD) := val_main_v42 (F := Ideal) (x0 m c) (x1 m c) (x4 m c) (x6 m c) (x7 m c)
abbrev ffN (c : Dev nD) := val_main_v57 (F := Ideal) (x0 m c) (x1 m c) (x4 m c) (x6 m c) (x7 m c)
abbrev dffN (c : Dev nD) := val_main_v76 (F := Ideal) (x1 m c) (x5 m c) (x8 m c)
abbrev dff (c : Dev nD) := val_main_v91 (F := Ideal) (x0 m c) (x1 m c) (x4 m c) (x5 m c) (x6 m c) (x7 m c) (x8 m c)
abbrev dpre (c : Dev nD) := val_main_v95 (F := Ideal) (x0 m c) (x1 m c) (x4 m c) (x5 m c) (x6 m c) (x7 m c) (x8 m c)
abbrev dh (c : Dev nD) := val_main_v96 (F := Ideal) (x0 m c) (x1 m c) (x4 m c) (x5 m c) (x6 m c) (x7 m c) (x8 m c)
abbrev dxN (c : Dev nD) := val_main_v110 (F := Ideal) (x0 m c) (x1 m c) (x4 m c) (x5 m c) (x6 m c) (x7 m c) (x8 m c)

/-- The gradient through the normalization of the rows of `x`, from the gradient `d` of the normalized rows. -/
def rowsBwd (x d : FVec Ideal S4096x1024 .f32) : FVec Ideal S4096x1024 .f32 := fun i =>
  Cert.Reals.normBwd (Ideal.ofBits .f32 0x44800000#32) (Ideal.ofBits .f32 0x358637BD#32) (fun j => x (ix2 (i 0) j)) (fun j => d (ix2 (i 0) j)) (i 1)
theorem rowsBwd_at (x d : FVec Ideal S4096x1024 .f32) (r : Fin 4096) (k : Fin 1024) : rowsBwd x d (ix2 r k)
    = Cert.Reals.normBwd (Ideal.ofBits .f32 0x44800000#32) (Ideal.ofBits .f32 0x358637BD#32) (fun j => x (ix2 r j)) (fun j => d (ix2 r j)) k := rfl

theorem gPre_at (c : Dev nD) (t : Fin cfg0.N) (z : Fin 1) (j : Fin 1024) : gPre m c t (ix2 z j) = x4 m c (ix2 1 j) := by
  unfold gPre
  pointwise [k0_pay6]
  exact gainPre m c t j
theorem gPost_at (c : Dev nD) (t : Fin cfg0.N) (z : Fin 1) (j : Fin 1024) : gPost m c t (ix2 z j) = x5 m c (ix2 1 j) := by
  unfold gPost
  pointwise [k0_pay7]
  exact gainPost m c t j
theorem sc_at (c : Dev nD) (t : Fin cfg0.N) (z : Fin 1) (j : Fin 1024) : scB m c t (ix2 z j) = x1 m c (ix2 1 ⟨4096 + j.val, by omega⟩) := by
  unfold scB
  pointwise [k0_pay8]
  exact scale m c t j
theorem gt_at (c : Dev nD) (t : Fin cfg0.N) (j : Fin 1024) : gtL m c t (ix3 0 0 j) = x1 m c (ix2 1 ⟨5120 + j.val, by omega⟩) := by
  unfold gtL
  pointwise
  exact gate m c t j

theorem xN_at (c : Dev nD) (t : Fin cfg0.N) (i : Fin 256) (k : Fin 1024) : k0_pay10 (iblk m c 1 t) (ix2 i k) = xN m c (ix2 (row t i) k) := by
  pointwise [k0_pay10, k0_pay9, val_main_v22, val_main_v21, val_main_v20, val_main_v19, val_main_v18, val_main_v17, val_main_v16, val_main_v15, val_main_v14, val_main_v13, val_main_v12, val_main_v11, val_main_v10, val_main_cst, val_main_cst_0, val_main_cst_1]
  simp only [xRow]
theorem xR_at (c : Dev nD) (t : Fin cfg0.N) (i : Fin 256) (z : Fin 1) : k0_pay9 (iblk m c 1 t) (ix2 i z)
    = Cert.Reals.rms (Ideal.ofBits .f32 0x44800000#32) (Ideal.ofBits .f32 0x358637BD#32) (fun j => x0 m c (ix2 (row t i) j)) := by
  unfold Cert.Reals.rms
  pointwise [k0_pay9]
  simp only [xRow]
theorem xN_eq (c : Dev nD) (r : Fin 4096) (k : Fin 1024) : xN m c (ix2 r k) = x0 m c (ix2 r k)
    * Cert.Reals.rms (Ideal.ofBits .f32 0x44800000#32) (Ideal.ofBits .f32 0x358637BD#32) (fun j => x0 m c (ix2 r j)) := by
  unfold Cert.Reals.rms
  pointwise [val_main_v22, val_main_v21, val_main_v20, val_main_v19, val_main_v18, val_main_v17, val_main_v16, val_main_v15, val_main_v14, val_main_v13, val_main_v12, val_main_v11, val_main_v10, val_main_cst, val_main_cst_0, val_main_cst_1]
theorem n_at (c : Dev nD) (t : Fin cfg0.N) (i : Fin 256) (k : Fin 1024) : nB m c t (ix2 i k) = val_main_v25 (F := Ideal) (x0 m c) (x4 m c) (ix2 (row t i) k) := by
  have h : nB m c t (ix2 i k) = k0_pay10 (iblk m c 1 t) (ix2 i k) * gPre m c t (ix2 0 k) := by
    unfold nB gPre
    pointwise [k0_pay11]
  rw [h, xN_at, gPre_at]
  pointwise [val_main_v25, val_main_v24, val_main_v23, val_main_v9, val_main_v8]
theorem h_at (c : Dev nD) (t : Fin cfg0.N) (i : Fin 256) (k : Fin 1024) : hB m c t (ix2 i k) = val_main_v33 (F := Ideal) (x0 m c) (x1 m c) (x4 m c) (ix2 (row t i) k) := by
  have h : hB m c t (ix2 i k) = nB m c t (ix2 i k) * (Ideal.ofBits .f32 0x3F800000#32 + scB m c t (ix2 0 k)) + iblk m c 4 t (ix3 0 3 k) := by
    unfold hB nB scB
    pointwise [k0_pay12]
  rw [h, n_at, sc_at, shift]
  pointwise [val_main_v33, val_main_v32, val_main_v31, val_main_v30, val_main_v29, val_main_v28, val_main_v27, val_main_v26, val_main_v6, val_main_v5, val_main_v1, val_main_v0, val_main_cst_3]

theorem ffN_at (c : Dev nD) (t : Fin cfg0.N) (i : Fin 256) (k : Fin 1024) : k0_pay16 (iblk m c 3 t) (ix2 i k) = ffN m c (ix2 (row t i) k) := by
  pointwise [k0_pay16, k0_pay15, k0_pay14, val_main_v57, val_main_v56, val_main_v52, val_main_v51, val_main_v50, val_main_v49, val_main_v48, val_main_v47, val_main_v46, val_main_v45, val_main_cst_7, val_main_cst_8, val_main_cst_9]
  simp only [fRow]
theorem ffR_at (c : Dev nD) (t : Fin cfg0.N) (i : Fin 256) (z : Fin 1) : k0_pay15 (iblk m c 3 t) (ix2 i z)
    = Cert.Reals.rms (Ideal.ofBits .f32 0x44800000#32) (Ideal.ofBits .f32 0x358637BD#32) (fun j => ff m c (ix2 (row t i) j)) := by
  unfold Cert.Reals.rms
  pointwise [k0_pay15, k0_pay14]
  simp only [fRow]
theorem ffN_eq (c : Dev nD) (r : Fin 4096) (k : Fin 1024) : ffN m c (ix2 r k) = ff m c (ix2 r k)
    * Cert.Reals.rms (Ideal.ofBits .f32 0x44800000#32) (Ideal.ofBits .f32 0x358637BD#32) (fun j => ff m c (ix2 r j)) := by
  unfold Cert.Reals.rms
  pointwise [val_main_v57, val_main_v56, val_main_v52, val_main_v51, val_main_v50, val_main_v49, val_main_v48, val_main_v47, val_main_v46, val_main_v45, val_main_cst_7, val_main_cst_8, val_main_cst_9]

theorem dy_at (c : Dev nD) (t : Fin cfg0.N) (i : Fin 256) (k : Fin 1024) : dyB m c t (ix2 i k) = val_main_v67 (F := Ideal) (x1 m c) (x8 m c) (ix2 (row t i) k) := by
  have h : dyB m c t (ix2 i k) = (show FVec Ideal S256x1024 .f32 from iblk m c 0 t) (ix2 i k) * gtL m c t (ix3 0 0 k) := by
    unfold dyB
    pointwise [k0_pay18]
  rw [h, gt_at, mul_comm]
  dsimp only
  rw [dRow]
  pointwise [val_main_v67, val_main_v66, val_main_v65, val_main_v61, val_main_v7, val_main_v1, val_main_v0]
theorem dn_at (c : Dev nD) (t : Fin cfg0.N) (i : Fin 256) (k : Fin 1024) : dnB m c t (ix2 i k) = dffN m c (ix2 (row t i) k) := by
  have h : dnB m c t (ix2 i k) = dyB m c t (ix2 i k) * gPost m c t (ix2 0 k) := by
    unfold dnB dyB
    pointwise [k0_pay19]
  rw [h, dy_at, gPost_at]
  pointwise [val_main_v76, val_main_v75, val_main_v58, val_main_v44, val_main_v43]
theorem mn_at (c : Dev nD) (t : Fin cfg0.N) (i : Fin 256) (z : Fin 1) : mnB m c t (ix2 i z)
    = Ideal.div (∑ j : Fin 1024, dffN m c (ix2 (row t i) j) * ffN m c (ix2 (row t i) j)) (Ideal.ofBits .f32 0x44800000#32) := by
  have h : mnB m c t (ix2 i z) = Ideal.div (∑ j : Fin 1024, dnB m c t (ix2 i j) * k0_pay16 (iblk m c 3 t) (ix2 i j)) (Ideal.ofBits .f32 0x44800000#32) := by
    unfold mnB dnB
    pointwise [k0_pay20]
  rw [h]
  simp only [dn_at, ffN_at]
theorem df_at (c : Dev nD) (t : Fin cfg0.N) (i : Fin 256) (k : Fin 1024) : dfB m c t (ix2 i k) = rowsBwd (ff m c) (dffN m c) (ix2 (row t i) k) := by
  unfold dfB
  pointwise [k0_pay22]
  simp only [dn_at, mn_at, ffN_at, ffR_at]
  rw [rowsBwd_at]
  unfold Cert.Reals.normBwd
  simp only [ffN_eq]

/-- The gradient through the squared positive part, as the kernel forms it from the saved square. -/
theorem sqRelu {a : EReal} (h : Cert.Reals.IsReal a) (y : EReal) :
    y * (Ideal.ofBits .f32 0x40000000#32 * Ideal.sqrt (max a 0 * max a 0)) = if 0 < a then y * (Ideal.ofBits .f32 0x40000000#32 * max a 0) else 0 := by
  obtain ⟨r, rfl⟩ := h
  by_cases hr : 0 < r
  · have h0 : (0 : EReal) < (r : EReal) := by exact_mod_cast hr
    rw [if_pos h0, max_eq_left h0.le, ← EReal.coe_mul]
    congr 2
    show (if r * r < 0 then ⊥ else ((Real.sqrt (r * r) : ℝ) : EReal)) = _
    rw [if_neg (by nlinarith), Real.sqrt_mul_self hr.le]
  · have h0 : ¬ (0 : EReal) < (r : EReal) := by exact_mod_cast hr
    rw [if_neg h0, max_eq_right (not_lt.mp h0), mul_zero]
    have hs : Ideal.sqrt 0 = 0 := by
      show (if (0 : ℝ) < 0 then ⊥ else ((Real.sqrt 0 : ℝ) : EReal)) = _
      simp
    rw [hs, mul_zero, mul_zero]

theorem da_at (c : Dev nD) (hF : dff m c = rowsBwd (ff m c) (dffN m c)) (hP : ∀ i, Cert.Reals.IsReal (pre m c i)) (t : Fin cfg0.N) (i : Fin 256) (k : Fin 4096) :
    daB m c t (ix2 i k) = dpre m c (ix2 (row t i) k) := by
  have h : daB m c t (ix2 i k) = (∑ j : Fin 1024, dfB m c t (ix2 i j) * wo m c (ix2 k j))
      * (Ideal.ofBits .f32 0x40000000#32 * Ideal.sqrt (iblk m c 2 t (ix2 i k))) := by
    unfold daB dfB
    pointwise [k0_pay23, k0_pay13]
  rw [h]
  simp only [df_at, wOut, rRow]
  rw [← hF]
  pointwise [val_main_v95, val_main_v94, val_main_v93, val_main_v92, val_main_v41, val_main_v40, val_main_v39, val_main_v38, val_main_v37, val_main_v36, val_main_v35, val_main_call0_v0, val_main_call0_cst, val_main_cst_4, val_main_cst_5, val_main_cst_6, val_main_cst_18]
  exact sqRelu (hP _) _

theorem dh_at (c : Dev nD) (hF : dff m c = rowsBwd (ff m c) (dffN m c)) (hP : ∀ i, Cert.Reals.IsReal (pre m c i)) (t : Fin cfg0.N) (i : Fin 256) (k : Fin 1024) :
    dhB m c t (ix2 i k) = dh m c (ix2 (row t i) k) := by
  have h : dhB m c t (ix2 i k) = ∑ j : Fin 4096, daB m c t (ix2 i j) * wi m c (ix2 j k) := by
    unfold dhB daB
    pointwise [k0_pay24]
  rw [h]
  pointwise [val_main_v96]
  exact Finset.sum_congr rfl fun j _ => by rw [da_at m c hF hP, wIn]

theorem dxN_at (c : Dev nD) (r : Fin 4096) (k : Fin 1024) : dxN m c (ix2 r k)
    = dh m c (ix2 r k) * (1 + x1 m c (ix2 1 ⟨4096 + k.val, by omega⟩)) * x4 m c (ix2 1 k) := by
  pointwise [val_main_v110, val_main_v109, val_main_v104, val_main_v103, val_main_v28, val_main_v27, val_main_v26, val_main_v23, val_main_v9, val_main_v8, val_main_v6, val_main_v1, val_main_v0, val_main_cst_3]

theorem dx_at (c : Dev nD) (hF : dff m c = rowsBwd (ff m c) (dffN m c)) (hP : ∀ i, Cert.Reals.IsReal (pre m c i))
    (hX : val_main_v125 (F := Ideal) (x0 m c) (x1 m c) (x4 m c) (x5 m c) (x6 m c) (x7 m c) (x8 m c) = rowsBwd (x0 m c) (dxN m c)) (t : Fin cfg0.N) (i : Fin 256) (k : Fin 1024) :
    dxB m c t (ix2 i k) = val_main_v126 (F := Ideal) (x0 m c) (x1 m c) (x4 m c) (x5 m c) (x6 m c) (x7 m c) (x8 m c) (ix2 (row t i) k) := by
  unfold dxB
  pointwise [k0_pay4, k0_pay2]
  simp only [dh_at m c hF hP, xN_at, xR_at, gPre_at, sc_at, dRow]
  pointwise [val_main_v126]
  rw [hX, rowsBwd_at]
  unfold Cert.Reals.normBwd
  simp only [dxN_at, xN_eq]

theorem sumGate_at (c : Dev nD) (t : Fin cfg0.N) (i : Fin 256) (k : Fin 1024) : sumGate m c t (ix2 i k) = val_main_v68 (F := Ideal) (x0 m c) (x1 m c) (x4 m c) (x5 m c) (x6 m c) (x7 m c) (x8 m c) (ix2 (row t i) k) := by
  unfold sumGate
  pointwise [val_main_v68, val_main_v65, val_main_v60, val_main_v59, val_main_v58, val_main_v44, val_main_v43]
  simp only [dRow, ffN_at, gPost_at]
theorem sumPost_at (c : Dev nD) (t : Fin cfg0.N) (i : Fin 256) (k : Fin 1024) : sumPost m c t (ix2 i k) = val_main_v72 (F := Ideal) (x0 m c) (x1 m c) (x4 m c) (x6 m c) (x7 m c) (x8 m c) (ix2 (row t i) k) := by
  unfold sumPost
  pointwise [val_main_v72]
  simp only [dy_at, ffN_at]
  exact mul_comm _ _
theorem sumScale_at (c : Dev nD) (hF : dff m c = rowsBwd (ff m c) (dffN m c)) (hP : ∀ i, Cert.Reals.IsReal (pre m c i)) (t : Fin cfg0.N) (i : Fin 256) (k : Fin 1024) :
    sumScale m c t (ix2 i k) = val_main_v100 (F := Ideal) (x0 m c) (x1 m c) (x4 m c) (x5 m c) (x6 m c) (x7 m c) (x8 m c) (ix2 (row t i) k) := by
  unfold sumScale
  pointwise [val_main_v100]
  simp only [dh_at m c hF hP, n_at]
  exact mul_comm _ _
theorem sumPre_at (c : Dev nD) (hF : dff m c = rowsBwd (ff m c) (dffN m c)) (hP : ∀ i, Cert.Reals.IsReal (pre m c i)) (t : Fin cfg0.N) (i : Fin 256) (k : Fin 1024) :
    sumPre m c t (ix2 i k) = val_main_v106 (F := Ideal) (x0 m c) (x1 m c) (x4 m c) (x5 m c) (x6 m c) (x7 m c) (x8 m c) (ix2 (row t i) k) := by
  unfold sumPre
  pointwise [k0_pay2, val_main_v106, val_main_v104, val_main_v103, val_main_v28, val_main_v27, val_main_v26, val_main_v6, val_main_v1, val_main_v0, val_main_cst_3]
  simp only [dh_at m c hF hP, xN_at, sc_at]
  exact mul_comm _ _

/-- What the kernel reads from its own buffers. -/
theorem readOut (c : Dev nD) : (View.whole cc0_scratch1).readCov (Val := Elt Ideal)
    [⟨Rect.whole S4096x1024, ReadAs.same.apply (View.read (Elt Ideal) (View.whole main_v9) (V m c main_v9))⟩]
    (Rect.unit ![0, 0] ![4096, 1024] inb_S4096x1024_S4096x1024_0_0).toLoadRect = wo m c := Cert.Rows.readCov_all _ _ _
theorem readIn (c : Dev nD) : (View.whole cc0_scratch0).readCov (Val := Elt Ideal)
    [⟨Rect.whole S4096x1024, ReadAs.same.apply (View.read (Elt Ideal) (View.whole main_v8) (V m c main_v8))⟩]
    (Rect.unit ![0, 0] ![4096, 1024] inb_S4096x1024_S4096x1024_0_0).toLoadRect = wi m c := Cert.Rows.readCov_all _ _ _
theorem againOut (c : Dev nD) (n : Nat) (hn : n < cfg0.N) (hw : (Memref.whole cc0_scratch1).IsWhole) :
    View.read (Elt Ideal) (View.whole cc0_scratch1) (hw.unread (outsAt0 m c n hn).2.2.2.2.2.2) = wo m c :=
  (hw.read_unread _).trans (kept m c n hn).2
theorem againIn (c : Dev nD) (n : Nat) (hn : n < cfg0.N) (hw : (Memref.whole cc0_scratch0).IsWhole) :
    View.read (Elt Ideal) (View.whole cc0_scratch0) (hw.unread (outsAt0 m c n hn).2.2.2.2.2.1) = wi m c :=
  (hw.read_unread _).trans (kept m c n hn).1

theorem outX (c : Dev nD) (t : Fin cfg0.N) : (outsAt0 m c t.val t.isLt).1 = dxB m c t := by
  by_cases h : t.val % 16 = 0
  · rw [outsAt0_A m c t h h]
    dsimp only
    frame_out
    rw [readOut, readIn]
    rfl
  · rw [outsAt0_B m c t h h]
    dsimp only
    frame_out
    rw [againOut, againIn]
    rfl

theorem outH (c : Dev nD) (t : Fin cfg0.N) : (outsAt0 m c t.val t.isLt).2.1 = hB m c t := by
  by_cases h : t.val % 16 = 0
  · rw [outsAt0_A m c t h h]
    dsimp only
    frame_out
    rfl
  · rw [outsAt0_B m c t h h]
    dsimp only
    frame_out
    rfl

theorem outA (c : Dev nD) (t : Fin cfg0.N) : (outsAt0 m c t.val t.isLt).2.2.1 = daB m c t := by
  by_cases h : t.val % 16 = 0
  · rw [outsAt0_A m c t h h]
    dsimp only
    frame_out
    rw [readOut]
    rfl
  · rw [outsAt0_B m c t h h]
    dsimp only
    frame_out
    rw [againOut]
    rfl

theorem outF (c : Dev nD) (t : Fin cfg0.N) : (outsAt0 m c t.val t.isLt).2.2.2.1 = dfB m c t := by
  by_cases h : t.val % 16 = 0
  · rw [outsAt0_A m c t h h]
    dsimp only
    frame_out
    rfl
  · rw [outsAt0_B m c t h h]
    dsimp only
    frame_out
    rfl

open Cert.Rows

theorem pay17_at (g p : FVec Ideal S1x1024 .f32) (f d : FVec Ideal S256x1024 .f32) (k : Fin 1024) :
    k0_pay17 g f d p (ix2 0 k) = p (ix2 0 k) + ∑ i : Fin 256, d (ix2 i k) * (k0_pay16 f (ix2 i k) * g (ix2 0 k)) := by
  pointwise [k0_pay17]
theorem pay21_at (f d : FVec Ideal S256x1024 .f32) (p : FVec Ideal S1x1024 .f32) (k : Fin 1024) :
    k0_pay21 f d p (ix2 0 k) = p (ix2 0 k) + ∑ i : Fin 256, d (ix2 i k) * f (ix2 i k) := by
  pointwise [k0_pay21]
theorem pay25_at (v38 : FVec Ideal S256x4096 .f32) (v48 : FVec Ideal S256x1 .f32) (v50 v66 : FVec Ideal S256x1024 .f32) (v71 : FVec Ideal S256x1 .f32) (v86 v93 : FVec Ideal S4096x1024 .bf16) (p : FVec Ideal S1x1024 .f32) (k : Fin 1024) :
    k0_pay25 v38 v48 v50 v66 v71 v86 v93 p (ix2 0 k) = p (ix2 0 k) + ∑ i : Fin 256, k0_pay24 v38 v48 v50 v66 v71 v86 v93 (ix2 i k) := by
  pointwise [k0_pay25]
theorem pay1_at (d : FVec Ideal S256x1024 .f32) (p : FVec Ideal S1x1024 .f32) (k : Fin 1024) :
    k0_pay1 (k0_pay26 p) d (ix2 0 k) = p (ix2 0 k) + ∑ i : Fin 256, d (ix2 i k) := by
  pointwise [k0_pay1, k0_pay26]
theorem pay3_at (s p : FVec Ideal S1x1024 .f32) (x d : FVec Ideal S256x1024 .f32) (k : Fin 1024) :
    k0_pay3 s x d p (ix2 0 k) = p (ix2 0 k) + ∑ i : Fin 256, k0_pay2 s d (ix2 i k) * x (ix2 i k) := by
  pointwise [k0_pay3]
theorem pay5_at (i : Fin 16) (k : Fin 1024) : (k0_pay5 : FVec Ideal S16x1024 .f32) (ix2 i k) = 0 := by
  pointwise [k0_pay5]

theorem accA5 (c : Dev nD) (t : Fin cfg0.N) (h : t.val % 16 = 0) (k : Fin 1024) :
    (outsAt0 m c t.val t.isLt).2.2.2.2.1 (ix2 5 k) = 0 + ∑ i : Fin 256, sumGate m c t (ix2 i k) := by
  rw [outsAt0_A m c t h h]
  dsimp only
  frame_out
  rw [canon_skip _ _ (by decide), canon_skip _ _ (by decide), canon_skip _ _ (by decide), canon_skip _ _ (by decide), canon_hit _ _ (by decide), pay17_at, readCov_row _ _ _ (by decide), canon_whole, pay5_at]
  rfl
theorem accB5 (c : Dev nD) (t : Fin cfg0.N) (h : ¬ t.val % 16 = 0) (k : Fin 1024) :
    (outsAt0 m c t.val t.isLt).2.2.2.2.1 (ix2 5 k) = (outsAt0 m c (t.val - 1) (by omega)).2.2.2.2.1 (ix2 5 k) + ∑ i : Fin 256, sumGate m c t (ix2 i k) := by
  rw [outsAt0_B m c t h h]
  dsimp only
  frame_out
  rw [read_skip _ _ _ _ (by decide), read_skip _ _ _ _ (by decide), read_skip _ _ _ _ (by decide), read_skip _ _ _ _ (by decide), read_hit _ _ _ _ (by decide), pay17_at, ld_row _ _ (by decide)]
  rfl

theorem accA9 (c : Dev nD) (t : Fin cfg0.N) (h : t.val % 16 = 0) (k : Fin 1024) :
    (outsAt0 m c t.val t.isLt).2.2.2.2.1 (ix2 9 k) = 0 + ∑ i : Fin 256, sumPost m c t (ix2 i k) := by
  rw [outsAt0_A m c t h h]
  dsimp only
  frame_out
  rw [canon_skip _ _ (by decide), canon_skip _ _ (by decide), canon_skip _ _ (by decide), canon_hit _ _ (by decide), pay21_at, readCov_row _ _ _ (by decide), canon_skip _ _ (by decide), canon_whole, pay5_at]
  rfl
theorem accB9 (c : Dev nD) (t : Fin cfg0.N) (h : ¬ t.val % 16 = 0) (k : Fin 1024) :
    (outsAt0 m c t.val t.isLt).2.2.2.2.1 (ix2 9 k) = (outsAt0 m c (t.val - 1) (by omega)).2.2.2.2.1 (ix2 9 k) + ∑ i : Fin 256, sumPost m c t (ix2 i k) := by
  rw [outsAt0_B m c t h h]
  dsimp only
  frame_out
  rw [read_skip _ _ _ _ (by decide), read_skip _ _ _ _ (by decide), read_skip _ _ _ _ (by decide), read_hit _ _ _ _ (by decide), pay21_at, ld_row _ _ (by decide)]
  rfl

theorem accA3 (c : Dev nD) (t : Fin cfg0.N) (h : t.val % 16 = 0) (k : Fin 1024) :
    (outsAt0 m c t.val t.isLt).2.2.2.2.1 (ix2 3 k) = 0 + ∑ i : Fin 256, dhB m c t (ix2 i k) := by
  rw [outsAt0_A m c t h h]
  dsimp only
  frame_out
  rw [canon_skip _ _ (by decide), canon_skip _ _ (by decide), canon_hit _ _ (by decide), pay25_at, readCov_row _ _ _ (by decide), canon_skip _ _ (by decide), canon_skip _ _ (by decide), canon_whole, pay5_at, readOut, readIn]
  rfl
theorem accB3 (c : Dev nD) (t : Fin cfg0.N) (h : ¬ t.val % 16 = 0) (k : Fin 1024) :
    (outsAt0 m c t.val t.isLt).2.2.2.2.1 (ix2 3 k) = (outsAt0 m c (t.val - 1) (by omega)).2.2.2.2.1 (ix2 3 k) + ∑ i : Fin 256, dhB m c t (ix2 i k) := by
  rw [outsAt0_B m c t h h]
  dsimp only
  frame_out
  rw [read_skip _ _ _ _ (by decide), read_skip _ _ _ _ (by decide), read_hit _ _ _ _ (by decide), pay25_at, ld_row _ _ (by decide), againOut, againIn]
  rfl

theorem accA4 (c : Dev nD) (t : Fin cfg0.N) (h : t.val % 16 = 0) (k : Fin 1024) :
    (outsAt0 m c t.val t.isLt).2.2.2.2.1 (ix2 4 k) = 0 + ∑ i : Fin 256, sumScale m c t (ix2 i k) := by
  rw [outsAt0_A m c t h h]
  dsimp only
  frame_out
  rw [canon_skip _ _ (by decide), canon_hit _ _ (by decide), pay1_at, readCov_row _ _ _ (by decide), canon_skip _ _ (by decide), canon_skip _ _ (by decide), canon_skip _ _ (by decide), canon_whole, pay5_at, readOut, readIn]
  rfl
theorem accB4 (c : Dev nD) (t : Fin cfg0.N) (h : ¬ t.val % 16 = 0) (k : Fin 1024) :
    (outsAt0 m c t.val t.isLt).2.2.2.2.1 (ix2 4 k) = (outsAt0 m c (t.val - 1) (by omega)).2.2.2.2.1 (ix2 4 k) + ∑ i : Fin 256, sumScale m c t (ix2 i k) := by
  rw [outsAt0_B m c t h h]
  dsimp only
  frame_out
  rw [read_skip _ _ _ _ (by decide), read_hit _ _ _ _ (by decide), pay1_at, ld_row _ _ (by decide), againOut, againIn]
  rfl

theorem accA8 (c : Dev nD) (t : Fin cfg0.N) (h : t.val % 16 = 0) (k : Fin 1024) :
    (outsAt0 m c t.val t.isLt).2.2.2.2.1 (ix2 8 k) = 0 + ∑ i : Fin 256, sumPre m c t (ix2 i k) := by
  rw [outsAt0_A m c t h h]
  dsimp only
  frame_out
  rw [canon_hit _ _ (by decide), pay3_at, readCov_row _ _ _ (by decide), canon_skip _ _ (by decide), canon_skip _ _ (by decide), canon_skip _ _ (by decide), canon_skip _ _ (by decide), canon_whole, pay5_at, readOut, readIn]
  rfl
theorem accB8 (c : Dev nD) (t : Fin cfg0.N) (h : ¬ t.val % 16 = 0) (k : Fin 1024) :
    (outsAt0 m c t.val t.isLt).2.2.2.2.1 (ix2 8 k) = (outsAt0 m c (t.val - 1) (by omega)).2.2.2.2.1 (ix2 8 k) + ∑ i : Fin 256, sumPre m c t (ix2 i k) := by
  rw [outsAt0_B m c t h h]
  dsimp only
  frame_out
  rw [read_hit _ _ _ _ (by decide), pay3_at, ld_row _ _ (by decide), againOut, againIn]
  rfl

section
open Cert.Reals

variable (x0 : FVec Ideal S4096x1024 .f32) (x1 : FVec Ideal S4x6144 .f32) (x4 x5 : FVec Ideal S4x1024 .f32) (x6 : FVec Ideal S1024x4096 .f32) (x7 x8 : FVec Ideal S4096x1024 .f32)

theorem rms_real' {x : FVec Ideal S4096x1024 .f32} (h : ∀ i, IsReal (x i)) (r : Fin 4096) :
    IsReal (Ideal.rsqrt (Ideal.div (∑ k : Fin 1024, x (ix2 r k) * x (ix2 r k)) (Ideal.ofBits .f32 0x44800000#32) + Ideal.ofBits .f32 0x358637BD#32)) := by
  obtain ⟨e, he, hE⟩ := eps
  rw [hE, c1024]
  exact rms_isReal (by norm_num) he fun k => h (ix2 r k)

theorem max_real {a : EReal} (h : IsReal a) : IsReal (max a 0) := by
  rcases max_choice a 0 with e | e
  · rw [e]; exact h
  · rw [e]; exact .zero

theorem pre_isReal (h0 : ∀ i, IsReal (x0 i)) (h1 : ∀ i, IsReal (x1 i)) (h4 : ∀ i, IsReal (x4 i)) (h6 : ∀ i, IsReal (x6 i)) (r : Fin 4096) (k : Fin 4096) : IsReal (val_main_v34 (F := Ideal) x0 x1 x4 x6 (ix2 r k)) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v1, val_main_v0, val_main_cst, val_main_cst_0, val_main_cst_1, val_main_cst_3]
  exact .sum _ fun j => .mul (.add (.mul (.mul (.mul (h0 _) (rms_real' h0 r)) (h4 _)) (.add .one (h1 _))) (h1 _)) (h6 _)

theorem ff_isReal (h0 : ∀ i, IsReal (x0 i)) (h1 : ∀ i, IsReal (x1 i)) (h4 : ∀ i, IsReal (x4 i)) (h6 : ∀ i, IsReal (x6 i)) (h7 : ∀ i, IsReal (x7 i)) (r : Fin 4096) (k : Fin 1024) : IsReal (val_main_v42 (F := Ideal) x0 x1 x4 x6 x7 (ix2 r k)) := by
  pointwise [val_main_v42, val_main_v39, val_main_v35, val_main_call0_v0, val_main_call0_cst]
  exact .sum _ fun j => .mul (.mul (max_real (pre_isReal x0 x1 x4 x6 h0 h1 h4 h6 r j)) (max_real (pre_isReal x0 x1 x4 x6 h0 h1 h4 h6 r j))) (h7 _)

theorem dffN_isReal (h1 : ∀ i, IsReal (x1 i)) (h5 : ∀ i, IsReal (x5 i)) (h8 : ∀ i, IsReal (x8 i)) (r : Fin 4096) (k : Fin 1024) : IsReal (val_main_v76 (F := Ideal) x1 x5 x8 (ix2 r k)) := by
  pointwise [val_main_v76, val_main_v75, val_main_v67, val_main_v66, val_main_v65, val_main_v61, val_main_v58, val_main_v44, val_main_v43, val_main_v7, val_main_v1, val_main_v0]
  exact .mul (.mul (h1 _) (h8 _)) (h5 _)

theorem refF (h0 : ∀ i, IsReal (x0 i)) (h1 : ∀ i, IsReal (x1 i)) (h4 : ∀ i, IsReal (x4 i)) (h5 : ∀ i, IsReal (x5 i)) (h6 : ∀ i, IsReal (x6 i)) (h7 : ∀ i, IsReal (x7 i)) (h8 : ∀ i, IsReal (x8 i)) : val_main_v91 (F := Ideal) x0 x1 x4 x5 x6 x7 x8 = rowsBwd (val_main_v42 (F := Ideal) x0 x1 x4 x6 x7) (val_main_v76 (F := Ideal) x1 x5 x8) := by
  funext i
  idx_vars i
  obtain ⟨e, he, hE⟩ := eps
  have key := norm_bwd (c := 1024) (by norm_num) he (fun j : Fin 1024 => ff_isReal x0 x1 x4 x6 x7 h0 h1 h4 h6 h7 i0 j) (fun j => dffN_isReal x1 x5 x8 h1 h5 h8 i0 j) i1
  rw [← hE, ← c1024, ← negHalf] at key
  unfold normShare rms at key
  pointwise [val_main_v91, val_main_v90, val_main_v89, val_main_v88, val_main_v87, val_main_v86, val_main_v85, val_main_v84, val_main_v83, val_main_v82, val_main_v81, val_main_v80, val_main_v79, val_main_v78, val_main_v56, val_main_v55, val_main_v54, val_main_v53, val_main_v52, val_main_v51, val_main_v50, val_main_v49, val_main_v48, val_main_v47, val_main_v46, val_main_v45, val_main_cst_7, val_main_cst_8, val_main_cst_9, val_main_cst_10, val_main_cst_15, val_main_cst_16, val_main_cst_17]
  rw [rowsBwd_at, ← key, add_assoc, Fin.sum_univ_one]

theorem dh_isReal (h0 : ∀ i, IsReal (x0 i)) (h1 : ∀ i, IsReal (x1 i)) (h4 : ∀ i, IsReal (x4 i)) (h5 : ∀ i, IsReal (x5 i)) (h6 : ∀ i, IsReal (x6 i)) (h7 : ∀ i, IsReal (x7 i)) (h8 : ∀ i, IsReal (x8 i)) (r : Fin 4096) (k : Fin 1024) : IsReal (val_main_v96 (F := Ideal) x0 x1 x4 x5 x6 x7 x8 (ix2 r k)) := by
  have hd : ∀ j : Fin 1024, IsReal (val_main_v91 (F := Ideal) x0 x1 x4 x5 x6 x7 x8 (ix2 r j)) := fun j => by
    rw [refF x0 x1 x4 x5 x6 x7 x8 h0 h1 h4 h5 h6 h7 h8]
    obtain ⟨e, he, hE⟩ := eps
    simp only [rowsBwd_at, hE, c1024]
    exact normBwd_isReal (by norm_num) he (fun j => ff_isReal x0 x1 x4 x6 x7 h0 h1 h4 h6 h7 r j) (fun j => dffN_isReal x1 x5 x8 h1 h5 h8 r j) j
  have ha : ∀ j : Fin 4096, IsReal (val_main_v95 (F := Ideal) x0 x1 x4 x5 x6 x7 x8 (ix2 r j)) := fun j => by
    pointwise [val_main_v95, val_main_v94, val_main_v93, val_main_v92, val_main_v41, val_main_v40, val_main_v38, val_main_v37, val_main_v36, val_main_v35, val_main_call0_v0, val_main_call0_cst, val_main_cst_4, val_main_cst_5, val_main_cst_6, val_main_cst_18]
    split_ifs
    · rw [two]
      exact .mul (.sum _ fun q => .mul (hd q) (h7 _)) (.mul (.coe _) (max_real (pre_isReal x0 x1 x4 x6 h0 h1 h4 h6 r j)))
    · exact .zero
  pointwise [val_main_v96]
  exact .sum _ fun j => .mul (ha j) (h6 _)

theorem refX (h0 : ∀ i, IsReal (x0 i)) (h1 : ∀ i, IsReal (x1 i)) (h4 : ∀ i, IsReal (x4 i)) (h5 : ∀ i, IsReal (x5 i)) (h6 : ∀ i, IsReal (x6 i)) (h7 : ∀ i, IsReal (x7 i)) (h8 : ∀ i, IsReal (x8 i)) : val_main_v125 (F := Ideal) x0 x1 x4 x5 x6 x7 x8 = rowsBwd x0 (val_main_v110 (F := Ideal) x0 x1 x4 x5 x6 x7 x8) := by
  funext i
  idx_vars i
  obtain ⟨e, he, hE⟩ := eps
  have hd : ∀ j : Fin 1024, IsReal (val_main_v110 (F := Ideal) x0 x1 x4 x5 x6 x7 x8 (ix2 i0 j)) := fun j => by
    pointwise [val_main_v110, val_main_v109, val_main_v104, val_main_v103, val_main_v28, val_main_v27, val_main_v26, val_main_v23, val_main_v9, val_main_v8, val_main_v6, val_main_v1, val_main_v0, val_main_cst_3]
    exact .mul (.mul (dh_isReal x0 x1 x4 x5 x6 x7 x8 h0 h1 h4 h5 h6 h7 h8 i0 j) (.add .one (h1 _))) (h4 _)
  have key := norm_bwd (c := 1024) (by norm_num) he (fun j : Fin 1024 => h0 (ix2 i0 j)) hd i1
  rw [← hE, ← c1024, ← negHalf] at key
  unfold normShare rms at key
  pointwise [val_main_v125, val_main_v124, val_main_v123, val_main_v122, val_main_v121, val_main_v120, val_main_v119, val_main_v118, val_main_v117, val_main_v116, val_main_v115, val_main_v114, val_main_v113, val_main_v112, val_main_v21, val_main_v20, val_main_v19, val_main_v18, val_main_v17, val_main_v16, val_main_v15, val_main_v14, val_main_v13, val_main_v12, val_main_v11, val_main_v10, val_main_cst, val_main_cst_0, val_main_cst_1, val_main_cst_2, val_main_cst_25, val_main_cst_26, val_main_cst_27]
  rw [rowsBwd_at, ← key, add_assoc, Fin.sum_univ_one]

end

theorem emb5 (t : Fin cfg0.N) (y) (G : FVec Ideal S4096x1024 .f32) : G (ix2 (row t (y 0)) (y 1)) = G ((win0_5.blk t).view.emb y) := by
  blk_ext [idx t, row]
theorem final5_of (c : Dev nD) (G : FVec Ideal S4096x1024 .f32) (h : ∀ t (i : Fin 256) (k : Fin 1024), (outsAt0 m c t.val t.isLt).1 (ix2 i k) = G (ix2 (row t i) k)) :
    (dats m 0 c).arrAt 5 (cfgs 0).N = G := by
  refine (dats m 0 c).arrAt_eq_of_covers 5 _ (by decide +kernel) fun t hf y => ?_
  blk_simp
  rw [after0_5]
  refine Eq.trans ?_ (emb5 t y G)
  idx_vars y
  exact h t y0 y1

theorem emb6 (t : Fin cfg0.N) (y) (G : FVec Ideal S4096x1024 .bf16) : G (ix2 (row t (y 0)) (y 1)) = G ((win0_6.blk t).view.emb y) := by
  blk_ext [idx t, row]
theorem final6_of (c : Dev nD) (G : FVec Ideal S4096x1024 .bf16) (h : ∀ t (i : Fin 256) (k : Fin 1024), (outsAt0 m c t.val t.isLt).2.1 (ix2 i k) = G (ix2 (row t i) k)) :
    (dats m 0 c).arrAt 6 (cfgs 0).N = G := by
  refine (dats m 0 c).arrAt_eq_of_covers 6 _ (by decide +kernel) fun t hf y => ?_
  blk_simp
  rw [after0_6]
  refine Eq.trans ?_ (emb6 t y G)
  idx_vars y
  exact h t y0 y1

theorem emb7 (t : Fin cfg0.N) (y) (G : FVec Ideal S4096x4096 .bf16) : G (ix2 (row t (y 0)) (y 1)) = G ((win0_7.blk t).view.emb y) := by
  blk_ext [idx t, row]
theorem final7_of (c : Dev nD) (G : FVec Ideal S4096x4096 .bf16) (h : ∀ t (i : Fin 256) (k : Fin 4096), (outsAt0 m c t.val t.isLt).2.2.1 (ix2 i k) = G (ix2 (row t i) k)) :
    (dats m 0 c).arrAt 7 (cfgs 0).N = G := by
  refine (dats m 0 c).arrAt_eq_of_covers 7 _ (by decide +kernel) fun t hf y => ?_
  blk_simp
  rw [after0_7]
  refine Eq.trans ?_ (emb7 t y G)
  idx_vars y
  exact h t y0 y1

theorem emb8 (t : Fin cfg0.N) (y) (G : FVec Ideal S4096x1024 .bf16) : G (ix2 (row t (y 0)) (y 1)) = G ((win0_8.blk t).view.emb y) := by
  blk_ext [idx t, row]
theorem final8_of (c : Dev nD) (G : FVec Ideal S4096x1024 .bf16) (h : ∀ t (i : Fin 256) (k : Fin 1024), (outsAt0 m c t.val t.isLt).2.2.2.1 (ix2 i k) = G (ix2 (row t i) k)) :
    (dats m 0 c).arrAt 8 (cfgs 0).N = G := by
  refine (dats m 0 c).arrAt_eq_of_covers 8 _ (by decide +kernel) fun t hf y => ?_
  blk_simp
  rw [after0_8]
  refine Eq.trans ?_ (emb8 t y G)
  idx_vars y
  exact h t y0 y1

theorem out_eq (c : Dev nD) (n n' : Nat) (h : n < cfg0.N) (h' : n' < cfg0.N) (e : n = n') : outsAt0 m c n h = outsAt0 m c n' h' := by
  subst e
  rfl
theorem emb9 (t : Fin cfg0.N) (y) (G : FVec Ideal S16x1024 .f32) : G y = G ((win0_9.blk t).view.emb y) := by
  blk_ext [idx t]
theorem flush9 : ∀ t : Fin grid0.N, (cfg0.win 9).flush t = true → t.val = 15 := by decide +kernel
/-- The accumulated rows after the last point. -/
def total (c : Dev nD) : FVec Ideal S16x1024 .f32 := (outsAt0 m c 15 (by decide)).2.2.2.2.1
theorem last9 (c : Dev nD) : (dats m 0 c).arrAt 9 (cfgs 0).N = total m c := by
  refine (dats m 0 c).arrAt_eq_of_covers 9 _ (by decide +kernel) fun t hf y => ?_
  blk_simp
  rw [after0_9]
  rw [out_eq m c t.val 15 t.isLt (by decide) (flush9 t hf)]
  exact emb9 t y (total m c)

/-- A row accumulated over the points is the sum over all rows. -/
theorem allRows (f : Fin cfg0.N → Fin 256 → EReal) (g : Fin 4096 → EReal) (h : ∀ t i, f t i = g (row t i)) :
    ∑ t : Fin cfg0.N, ∑ i : Fin 256, f t i = ∑ r : Fin 4096, g r := by
  rw [Fin.sum_univ_tiles 16 256 rfl g]
  exact Finset.sum_congr rfl fun t _ => Finset.sum_congr rfl fun i _ => h t i

theorem cutRow (o : Nat) (ho : o < 16) (x : FVec Ideal S16x1024 .f32) (hs : S16x1024.Slices ![o, 0] S1x1024) :
    shapeCast S1024 (extractStridedSlice S1x1024 ![o, 0] x hs) shapeCasts_S1x1024_S1024 = fun i => x (ix2 ⟨o, ho⟩ (i 0)) := by
  funext i
  idx_vars i
  pointwise

theorem total3 (c : Dev nD) (hF : dff m c = rowsBwd (ff m c) (dffN m c)) (hP : ∀ i, Cert.Reals.IsReal (pre m c i)) (k : Fin 1024) : total m c (ix2 3 k) = val_main_v99 (F := Ideal) (x0 m c) (x1 m c) (x4 m c) (x5 m c) (x6 m c) (x7 m c) (x8 m c) (ix1 k) := by
  refine (Pipeline.eq_sum_fin_of_reset_step_apply_last (N := cfg0.N) (fun n h (k : Fin 1024) => (outsAt0 m c n h).2.2.2.2.1 (ix2 3 k)) 16 (fun _ => 0)
    (fun t k => ∑ i : Fin 256, dhB m c t (ix2 i k)) (fun t h k => accA3 m c t h k) (fun t h k => accB3 m c t h k) (by decide) ⟨15, by decide⟩ rfl k).trans ?_
  rw [allRows _ (fun r => val_main_v96 (F := Ideal) (x0 m c) (x1 m c) (x4 m c) (x5 m c) (x6 m c) (x7 m c) (x8 m c) (ix2 r k)) fun t i => dh_at m c hF hP t i k]
  pointwise [val_main_v99, val_main_v98, val_main_v97, val_main_cst_19, val_main_cst_20]
  rw [Fin.sum_univ_one]
theorem tail48 (c : Dev nD) : Pipeline.afterTail₀ cfgs (dats m) 0 (V0 m) [hostOps1] c main_v48
    = fun i => (show FVec Ideal S16x1024 .f32 from (dats m 0 c).arrAt 9 (cfgs 0).N) (ix2 3 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 3 (by decide) (show FVec Ideal S16x1024 .f32 from (dats m 0 c).arrAt 9 (cfgs 0).N) slices_S16x1024_S1x1024_3_0)
  rw [← h]
  funext i
  rfl

theorem total4 (c : Dev nD) (hF : dff m c = rowsBwd (ff m c) (dffN m c)) (hP : ∀ i, Cert.Reals.IsReal (pre m c i)) (k : Fin 1024) : total m c (ix2 4 k) = val_main_v105 (F := Ideal) (x0 m c) (x1 m c) (x4 m c) (x5 m c) (x6 m c) (x7 m c) (x8 m c) (ix1 k) := by
  refine (Pipeline.eq_sum_fin_of_reset_step_apply_last (N := cfg0.N) (fun n h (k : Fin 1024) => (outsAt0 m c n h).2.2.2.2.1 (ix2 4 k)) 16 (fun _ => 0)
    (fun t k => ∑ i : Fin 256, sumScale m c t (ix2 i k)) (fun t h k => accA4 m c t h k) (fun t h k => accB4 m c t h k) (by decide) ⟨15, by decide⟩ rfl k).trans ?_
  rw [allRows _ (fun r => val_main_v100 (F := Ideal) (x0 m c) (x1 m c) (x4 m c) (x5 m c) (x6 m c) (x7 m c) (x8 m c) (ix2 r k)) fun t i => sumScale_at m c hF hP t i k]
  pointwise [val_main_v105, val_main_v102, val_main_v101, val_main_cst_21, val_main_cst_22]
  rw [Fin.sum_univ_one]
theorem tail50 (c : Dev nD) : Pipeline.afterTail₀ cfgs (dats m) 0 (V0 m) [hostOps1] c main_v50
    = fun i => (show FVec Ideal S16x1024 .f32 from (dats m 0 c).arrAt 9 (cfgs 0).N) (ix2 4 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 4 (by decide) (show FVec Ideal S16x1024 .f32 from (dats m 0 c).arrAt 9 (cfgs 0).N) slices_S16x1024_S1x1024_4_0)
  rw [← h]
  funext i
  rfl

theorem total5 (c : Dev nD) (k : Fin 1024) : total m c (ix2 5 k) = val_main_v71 (F := Ideal) (x0 m c) (x1 m c) (x4 m c) (x5 m c) (x6 m c) (x7 m c) (x8 m c) (ix1 k) := by
  refine (Pipeline.eq_sum_fin_of_reset_step_apply_last (N := cfg0.N) (fun n h (k : Fin 1024) => (outsAt0 m c n h).2.2.2.2.1 (ix2 5 k)) 16 (fun _ => 0)
    (fun t k => ∑ i : Fin 256, sumGate m c t (ix2 i k)) (fun t h k => accA5 m c t h k) (fun t h k => accB5 m c t h k) (by decide) ⟨15, by decide⟩ rfl k).trans ?_
  rw [allRows _ (fun r => val_main_v68 (F := Ideal) (x0 m c) (x1 m c) (x4 m c) (x5 m c) (x6 m c) (x7 m c) (x8 m c) (ix2 r k)) fun t i => sumGate_at m c t i k]
  pointwise [val_main_v71, val_main_v70, val_main_v69, val_main_cst_11, val_main_cst_12]
  rw [Fin.sum_univ_one]
theorem tail52 (c : Dev nD) : Pipeline.afterTail₀ cfgs (dats m) 0 (V0 m) [hostOps1] c main_v52
    = fun i => (show FVec Ideal S16x1024 .f32 from (dats m 0 c).arrAt 9 (cfgs 0).N) (ix2 5 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 5 (by decide) (show FVec Ideal S16x1024 .f32 from (dats m 0 c).arrAt 9 (cfgs 0).N) slices_S16x1024_S1x1024_5_0)
  rw [← h]
  funext i
  rfl

theorem total8 (c : Dev nD) (hF : dff m c = rowsBwd (ff m c) (dffN m c)) (hP : ∀ i, Cert.Reals.IsReal (pre m c i)) (k : Fin 1024) : total m c (ix2 8 k) = val_main_v111 (F := Ideal) (x0 m c) (x1 m c) (x4 m c) (x5 m c) (x6 m c) (x7 m c) (x8 m c) (ix1 k) := by
  refine (Pipeline.eq_sum_fin_of_reset_step_apply_last (N := cfg0.N) (fun n h (k : Fin 1024) => (outsAt0 m c n h).2.2.2.2.1 (ix2 8 k)) 16 (fun _ => 0)
    (fun t k => ∑ i : Fin 256, sumPre m c t (ix2 i k)) (fun t h k => accA8 m c t h k) (fun t h k => accB8 m c t h k) (by decide) ⟨15, by decide⟩ rfl k).trans ?_
  rw [allRows _ (fun r => val_main_v106 (F := Ideal) (x0 m c) (x1 m c) (x4 m c) (x5 m c) (x6 m c) (x7 m c) (x8 m c) (ix2 r k)) fun t i => sumPre_at m c hF hP t i k]
  pointwise [val_main_v111, val_main_v108, val_main_v107, val_main_cst_23, val_main_cst_24]
  rw [Fin.sum_univ_one]
theorem tail54 (c : Dev nD) : Pipeline.afterTail₀ cfgs (dats m) 0 (V0 m) [hostOps1] c main_v54
    = fun i => (show FVec Ideal S16x1024 .f32 from (dats m 0 c).arrAt 9 (cfgs 0).N) (ix2 8 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 8 (by decide) (show FVec Ideal S16x1024 .f32 from (dats m 0 c).arrAt 9 (cfgs 0).N) slices_S16x1024_S1x1024_8_0)
  rw [← h]
  funext i
  rfl

theorem total9 (c : Dev nD) (k : Fin 1024) : total m c (ix2 9 k) = val_main_v77 (F := Ideal) (x0 m c) (x1 m c) (x4 m c) (x6 m c) (x7 m c) (x8 m c) (ix1 k) := by
  refine (Pipeline.eq_sum_fin_of_reset_step_apply_last (N := cfg0.N) (fun n h (k : Fin 1024) => (outsAt0 m c n h).2.2.2.2.1 (ix2 9 k)) 16 (fun _ => 0)
    (fun t k => ∑ i : Fin 256, sumPost m c t (ix2 i k)) (fun t h k => accA9 m c t h k) (fun t h k => accB9 m c t h k) (by decide) ⟨15, by decide⟩ rfl k).trans ?_
  rw [allRows _ (fun r => val_main_v72 (F := Ideal) (x0 m c) (x1 m c) (x4 m c) (x6 m c) (x7 m c) (x8 m c) (ix2 r k)) fun t i => sumPost_at m c t i k]
  pointwise [val_main_v77, val_main_v74, val_main_v73, val_main_cst_13, val_main_cst_14]
  rw [Fin.sum_univ_one]
theorem tail56 (c : Dev nD) : Pipeline.afterTail₀ cfgs (dats m) 0 (V0 m) [hostOps1] c main_v56
    = fun i => (show FVec Ideal S16x1024 .f32 from (dats m 0 c).arrAt 9 (cfgs 0).N) (ix2 9 (i 0)) := by
  unfold Pipeline.afterTail₀
  simp only [List.flatten_cons, List.flatten_nil, List.append_nil, hostOps1]
  after_results
  have h := Pipeline.withArrays_arr spec0 launch0.win.arr_inj c (V0 m c) (fun w => (dats m 0 c).arrAt w (cfgs 0).N) 9
  refine Eq.trans ?_ (cutRow 9 (by decide) (show FVec Ideal S16x1024 .f32 from (dats m 0 c).arrAt 9 (cfgs 0).N) slices_S16x1024_S1x1024_9_0)
  rw [← h]
  funext i
  rfl

theorem pre_real (x0 x1 x2 x3 x4 x5 x6 x7 x8)
    (h : (Cert.Pre_mlp_finite.fn (F := Ideal) x0 x1 x2 x3 x4 x5 x6 x7 x8).1 = (fun _ => 1#1)
    ∧ (Cert.Pre_mlp_finite.fn (F := Ideal) x0 x1 x2 x3 x4 x5 x6 x7 x8).2.1 = (fun _ => 1#1)
    ∧ (Cert.Pre_mlp_finite.fn (F := Ideal) x0 x1 x2 x3 x4 x5 x6 x7 x8).2.2.1 = (fun _ => 1#1)
    ∧ (Cert.Pre_mlp_finite.fn (F := Ideal) x0 x1 x2 x3 x4 x5 x6 x7 x8).2.2.2.1 = (fun _ => 1#1)
    ∧ (Cert.Pre_mlp_finite.fn (F := Ideal) x0 x1 x2 x3 x4 x5 x6 x7 x8).2.2.2.2.1 = (fun _ => 1#1)
    ∧ (Cert.Pre_mlp_finite.fn (F := Ideal) x0 x1 x2 x3 x4 x5 x6 x7 x8).2.2.2.2.2.1 = (fun _ => 1#1)
    ∧ (Cert.Pre_mlp_finite.fn (F := Ideal) x0 x1 x2 x3 x4 x5 x6 x7 x8).2.2.2.2.2.2 = (fun _ => 1#1)) :
    (∀ i, Cert.Reals.IsReal (x0 i)) ∧ (∀ i, Cert.Reals.IsReal (x1 i)) ∧ (∀ i, Cert.Reals.IsReal (x4 i)) ∧ (∀ i, Cert.Reals.IsReal (x5 i)) ∧ (∀ i, Cert.Reals.IsReal (x6 i)) ∧ (∀ i, Cert.Reals.IsReal (x7 i)) ∧ (∀ i, Cert.Reals.IsReal (x8 i)) := by
  unfold Cert.Pre_mlp_finite.fn Cert.Pre_mlp_finite.fn_part1 Cert.Pre_mlp_finite.fn_part2 at h
  dsimp only at h
  exact ⟨Cert.Reals.real_of x0 _ _ h.1 (fun _ => rfl) (fun _ => rfl), Cert.Reals.real_of x1 _ _ h.2.1 (fun _ => rfl) (fun _ => rfl), Cert.Reals.real_of x4 _ _ h.2.2.1 (fun _ => rfl) (fun _ => rfl), Cert.Reals.real_of x5 _ _ h.2.2.2.1 (fun _ => rfl) (fun _ => rfl), Cert.Reals.real_of x6 _ _ h.2.2.2.2.1 (fun _ => rfl) (fun _ => rfl), Cert.Reals.real_of x7 _ _ h.2.2.2.2.2.1 (fun _ => rfl) (fun _ => rfl), Cert.Reals.real_of x8 _ _ h.2.2.2.2.2.2 (fun _ => rfl) (fun _ => rfl)⟩

/-- The reference's gradients of the two normalizations, as the kernel forms them, and the real pre-activations. -/
theorem ref_at (c : Dev nD) (hpre : Pre_MlpIdeal_mlp_finite m) :
    dff m c = rowsBwd (ff m c) (dffN m c) ∧ val_main_v125 (F := Ideal) (x0 m c) (x1 m c) (x4 m c) (x5 m c) (x6 m c) (x7 m c) (x8 m c) = rowsBwd (x0 m c) (dxN m c) ∧ ∀ i, Cert.Reals.IsReal (pre m c i) := by
  obtain ⟨h0, h1, h4, h5, h6, h7, h8⟩ := pre_real _ _ _ _ _ _ _ _ _ (hpre c)
  refine ⟨refF _ _ _ _ _ _ _ h0 h1 h4 h5 h6 h7 h8, refX _ _ _ _ _ _ _ h0 h1 h4 h5 h6 h7 h8, fun i => ?_⟩
  idx_vars i
  exact pre_isReal _ _ _ _ h0 h1 h4 h6 i0 i1

theorem is126 (c : Dev nD) (hpre : Pre_MlpIdeal_mlp_finite m) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e5 : y5 = x5 m c) (e6 : y6 = x6 m c) (e7 : y7 = x7 m c) (e8 : y8 = x8 m c) :
    val_main_v126 (F := Ideal) y0 y1 y4 y5 y6 y7 y8 = (dats m 0 c).arrAt 5 (cfgs 0).N := by
  subst e0 e1 e4 e5 e6 e7 e8
  refine (final5_of m c _ fun t i k => ?_).symm
  rw [outX]
  exact dx_at m c (ref_at m c hpre).1 (ref_at m c hpre).2.2 (ref_at m c hpre).2.1 t i k

theorem is127 (c : Dev nD) (hpre : Pre_MlpIdeal_mlp_finite m) (y0 : FVec Ideal S4096x1024 .f32) (y1 : FVec Ideal S4x6144 .f32) (y4 : FVec Ideal S4x1024 .f32) (e0 : y0 = x0 m c) (e1 : y1 = x1 m c) (e4 : y4 = x4 m c) :
    val_main_v127 (F := Ideal) y0 y1 y4 = (dats m 0 c).arrAt 6 (cfgs 0).N := by
  subst e0 e1 e4
  refine (final6_of m c _ fun t i k => ?_).symm
  rw [outH]
  exact h_at m c t i k

theorem is128 (c : Dev nD) (hpre : Pre_MlpIdeal_mlp_finite m) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e5 : y5 = x5 m c) (e6 : y6 = x6 m c) (e7 : y7 = x7 m c) (e8 : y8 = x8 m c) :
    val_main_v128 (F := Ideal) y0 y1 y4 y5 y6 y7 y8 = (dats m 0 c).arrAt 7 (cfgs 0).N := by
  subst e0 e1 e4 e5 e6 e7 e8
  refine (final7_of m c _ fun t i k => ?_).symm
  rw [outA]
  exact da_at m c (ref_at m c hpre).1 (ref_at m c hpre).2.2 t i k

theorem is129 (c : Dev nD) (hpre : Pre_MlpIdeal_mlp_finite m) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e5 : y5 = x5 m c) (e6 : y6 = x6 m c) (e7 : y7 = x7 m c) (e8 : y8 = x8 m c) :
    val_main_v129 (F := Ideal) y0 y1 y4 y5 y6 y7 y8 = (dats m 0 c).arrAt 8 (cfgs 0).N := by
  subst e0 e1 e4 e5 e6 e7 e8
  refine (final8_of m c _ fun t i k => ?_).symm
  rw [outF]
  refine (df_at m c t i k).trans ?_
  rw [← (ref_at m c hpre).1]
  rfl

theorem is99 (c : Dev nD) (hpre : Pre_MlpIdeal_mlp_finite m) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e5 : y5 = x5 m c) (e6 : y6 = x6 m c) (e7 : y7 = x7 m c) (e8 : y8 = x8 m c) :
    val_main_v99 (F := Ideal) y0 y1 y4 y5 y6 y7 y8 = Pipeline.afterTail₀ cfgs (dats m) 0 (V0 m) [hostOps1] c main_v48 := by
  subst e0 e1 e4 e5 e6 e7 e8
  rw [tail48, last9]
  funext i
  idx_vars i
  exact (total3 m c (ref_at m c hpre).1 (ref_at m c hpre).2.2 i0).symm

theorem is105 (c : Dev nD) (hpre : Pre_MlpIdeal_mlp_finite m) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e5 : y5 = x5 m c) (e6 : y6 = x6 m c) (e7 : y7 = x7 m c) (e8 : y8 = x8 m c) :
    val_main_v105 (F := Ideal) y0 y1 y4 y5 y6 y7 y8 = Pipeline.afterTail₀ cfgs (dats m) 0 (V0 m) [hostOps1] c main_v50 := by
  subst e0 e1 e4 e5 e6 e7 e8
  rw [tail50, last9]
  funext i
  idx_vars i
  exact (total4 m c (ref_at m c hpre).1 (ref_at m c hpre).2.2 i0).symm

theorem is71 (c : Dev nD) (hpre : Pre_MlpIdeal_mlp_finite m) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e5 : y5 = x5 m c) (e6 : y6 = x6 m c) (e7 : y7 = x7 m c) (e8 : y8 = x8 m c) :
    val_main_v71 (F := Ideal) y0 y1 y4 y5 y6 y7 y8 = Pipeline.afterTail₀ cfgs (dats m) 0 (V0 m) [hostOps1] c main_v52 := by
  subst e0 e1 e4 e5 e6 e7 e8
  rw [tail52, last9]
  funext i
  idx_vars i
  exact (total5 m c i0).symm

theorem is111 (c : Dev nD) (hpre : Pre_MlpIdeal_mlp_finite m) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e5 : y5 = x5 m c) (e6 : y6 = x6 m c) (e7 : y7 = x7 m c) (e8 : y8 = x8 m c) :
    val_main_v111 (F := Ideal) y0 y1 y4 y5 y6 y7 y8 = Pipeline.afterTail₀ cfgs (dats m) 0 (V0 m) [hostOps1] c main_v54 := by
  subst e0 e1 e4 e5 e6 e7 e8
  rw [tail54, last9]
  funext i
  idx_vars i
  exact (total8 m c (ref_at m c hpre).1 (ref_at m c hpre).2.2 i0).symm

theorem is77 (c : Dev nD) (hpre : Pre_MlpIdeal_mlp_finite m) (y0 : FVec Ideal S4096x1024 .f32) (y1 : FVec Ideal S4x6144 .f32) (y4 : FVec Ideal S4x1024 .f32) (y6 : FVec Ideal S1024x4096 .f32) (y7 : FVec Ideal S4096x1024 .f32) (y8 : FVec Ideal S4096x1024 .f32) (e0 : y0 = x0 m c) (e1 : y1 = x1 m c) (e4 : y4 = x4 m c) (e6 : y6 = x6 m c) (e7 : y7 = x7 m c) (e8 : y8 = x8 m c) :
    val_main_v77 (F := Ideal) y0 y1 y4 y6 y7 y8 = Pipeline.afterTail₀ cfgs (dats m) 0 (V0 m) [hostOps1] c main_v56 := by
  subst e0 e1 e4 e6 e7 e8
  rw [tail56, last9]
  funext i
  idx_vars i
  exact (total9 m c i0).symm

set_option maxHeartbeats 2000000 in
theorem algebraic : Cert.algebraic_MlpIdeal_MlpRefIdeal_pre_mlp_finite := by
  pair_intro
  · run_from Cert.MlpIdeal.Gen.run_main m g
    exacts [Cert.MlpIdeal.Gen.W_main_arg1 m (dats m) c, Cert.MlpIdeal.Gen.W_main_arg2 m (dats m) c, Cert.MlpIdeal.Gen.W_main_arg3 m (dats m) c, Cert.MlpIdeal.Gen.W_main_arg4 m (dats m) c, Cert.MlpIdeal.Gen.W_main_arg5 m (dats m) c, Cert.MlpIdeal.Gen.W_main_arg6 m (dats m) c, Cert.MlpIdeal.Gen.W_main_arg7 m (dats m) c]
  · run_from Cert.MlpRefIdeal.Value.run m' g'
    · rw [← (hagree c).1, ← (hagree c).2.2.2.2.2.2.2.2]
      exact (val_main_v126_eq (StableHlo.launchContents m' c)).trans (is126 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg5)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.1 (hagree c).2.2.2.2.2.2.1 (hagree c).2.2.2.2.2.2.2.1 (hagree c).2.2.2.2.2.2.2.2)
    · exact (val_main_v127_eq (StableHlo.launchContents m' c)).trans (is127 m c hpre (m' ((c : Thread nD τ).loc Cert.MlpRefIdeal.main_arg0)) (m' ((c : Thread nD τ).loc Cert.MlpRefIdeal.main_arg1)) (m' ((c : Thread nD τ).loc Cert.MlpRefIdeal.main_arg4)) (hagree c).1 (hagree c).2.1 (hagree c).2.2.2.2.1)
    · exact (val_main_v128_eq (StableHlo.launchContents m' c)).trans (is128 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg5)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.1 (hagree c).2.2.2.2.2.2.1 (hagree c).2.2.2.2.2.2.2.1 (hagree c).2.2.2.2.2.2.2.2)
    · exact (val_main_v129_eq (StableHlo.launchContents m' c)).trans (is129 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg5)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.1 (hagree c).2.2.2.2.2.2.1 (hagree c).2.2.2.2.2.2.2.1 (hagree c).2.2.2.2.2.2.2.2)
    · exact (val_main_v99_eq (StableHlo.launchContents m' c)).trans (is99 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg5)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.1 (hagree c).2.2.2.2.2.2.1 (hagree c).2.2.2.2.2.2.2.1 (hagree c).2.2.2.2.2.2.2.2)
    · exact (val_main_v105_eq (StableHlo.launchContents m' c)).trans (is105 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg5)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.1 (hagree c).2.2.2.2.2.2.1 (hagree c).2.2.2.2.2.2.2.1 (hagree c).2.2.2.2.2.2.2.2)
    · exact (val_main_v71_eq (StableHlo.launchContents m' c)).trans (is71 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg5)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.1 (hagree c).2.2.2.2.2.2.1 (hagree c).2.2.2.2.2.2.2.1 (hagree c).2.2.2.2.2.2.2.2)
    · exact (val_main_v111_eq (StableHlo.launchContents m' c)).trans (is111 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg5)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.1 (hagree c).2.2.2.2.2.2.1 (hagree c).2.2.2.2.2.2.2.1 (hagree c).2.2.2.2.2.2.2.2)
    · exact (val_main_v77_eq (StableHlo.launchContents m' c)).trans (is77 m c hpre (m' ((c : Thread nD τ).loc Cert.MlpRefIdeal.main_arg0)) (m' ((c : Thread nD τ).loc Cert.MlpRefIdeal.main_arg1)) (m' ((c : Thread nD τ).loc Cert.MlpRefIdeal.main_arg4)) (m' ((c : Thread nD τ).loc Cert.MlpRefIdeal.main_arg6)) (m' ((c : Thread nD τ).loc Cert.MlpRefIdeal.main_arg7)) (m' ((c : Thread nD τ).loc Cert.MlpRefIdeal.main_arg8)) (hagree c).1 (hagree c).2.1 (hagree c).2.2.2.2.1 (hagree c).2.2.2.2.2.2.1 (hagree c).2.2.2.2.2.2.2.1 (hagree c).2.2.2.2.2.2.2.2)

end Cert.MlpIdeal.Hand

end
-- ==== Proof.Softmax.lean ====
module

public import proofs.«01_k».proof.Proof.Norm

@[expose] public section

noncomputable section

open Idealize.ShloMosaic

namespace Cert.Reals

/-- The greatest of a row of scores and of the sink beside it. -/
def rowMax {n : Nat} (s : Fin n → EReal) (a : EReal) : EReal := max (Finset.univ.fold max ⊥ s) a

/-- The sum the weights of a row are divided by. -/
def softDen {n : Nat} (s : Fin n → EReal) (a : EReal) : EReal :=
  ∑ k, Ideal.exp (s k - rowMax s a) + Ideal.exp (a - rowMax s a)

/-- The weight of a score. -/
def soft {n : Nat} (s : Fin n → EReal) (a : EReal) (j : Fin n) : EReal :=
  Ideal.exp (s j - rowMax s a) * Ideal.div 1 (softDen s a)

/-- The weight of the sink. -/
def softSink {n : Nat} (s : Fin n → EReal) (a : EReal) : EReal :=
  Ideal.exp (a - rowMax s a) * Ideal.div 1 (softDen s a)

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem rowMax_isReal {n : Nat} {s : Fin n → EReal} {a : EReal} (hs : ∀ j, s j ≠ ⊤) (ha : IsReal a) : IsReal (rowMax s a) := by
  refine .of_lt (lt_of_lt_of_le (bot_lt_iff_ne_bot.mpr ha.ne_bot) (le_max_right _ _)) (max_lt ?_ (lt_top_iff_ne_top.mpr ha.ne_top))
  exact (Finset.fold_max_lt _).mpr ⟨bot_lt_top, fun j _ => lt_top_iff_ne_top.mpr (hs j)⟩

theorem exp_sub {x m : EReal} (hx : x ≠ ⊤) (hm : IsReal m) : ∃ r : ℝ, 0 ≤ r ∧ Ideal.exp (x - m) = (r : EReal) := by
  obtain ⟨m, rfl⟩ := hm
  induction x with
  | bot => exact ⟨0, le_rfl, by rw [EReal.bot_sub, Ideal.exp_bot]; rfl⟩
  | coe x => exact ⟨Real.exp (x - m), (Real.exp_pos _).le, by rw [← EReal.coe_sub, Ideal.exp_coe]⟩
  | top => exact absurd rfl hx

theorem exp_sub_pos {x m : EReal} (hx : IsReal x) (hm : IsReal m) : ∃ r : ℝ, 0 < r ∧ Ideal.exp (x - m) = (r : EReal) := by
  obtain ⟨m, rfl⟩ := hm
  obtain ⟨x, rfl⟩ := hx
  exact ⟨Real.exp (x - m), Real.exp_pos _, by rw [← EReal.coe_sub, Ideal.exp_coe]⟩

theorem softDen_pos {n : Nat} {s : Fin n → EReal} {a : EReal} (hs : ∀ j, s j ≠ ⊤) (ha : IsReal a) :
    ∃ z : ℝ, 0 < z ∧ softDen s a = (z : EReal) := by
  have hm := rowMax_isReal hs ha
  choose e he h using fun j => exp_sub (hs j) hm
  obtain ⟨b, hb, h'⟩ := exp_sub_pos ha hm
  refine ⟨∑ k, e k + b, by have := Finset.sum_nonneg (s := Finset.univ) (fun k _ => he k); linarith, ?_⟩
  unfold softDen
  rw [h', EReal.coe_add, coe_sum]
  simp only [h]

/-- A weight is its exponential divided by the sum. -/
theorem soft_div {n : Nat} {s : Fin n → EReal} {a : EReal} (hs : ∀ j, s j ≠ ⊤) (ha : IsReal a) (x : EReal) :
    x * Ideal.div 1 (softDen s a) = Ideal.div x (softDen s a) := by
  obtain ⟨z, hz, h⟩ := softDen_pos hs ha
  rw [h, div_coe _ _ hz.ne', div_coe _ _ hz.ne', one_mul]

theorem inv_isReal {n : Nat} {s : Fin n → EReal} {a : EReal} (hs : ∀ j, s j ≠ ⊤) (ha : IsReal a) : IsReal (Ideal.div 1 (softDen s a)) := by
  obtain ⟨z, hz, h⟩ := softDen_pos hs ha
  rw [h]
  exact IsReal.one.div hz.ne'

theorem soft_isReal {n : Nat} {s : Fin n → EReal} {a : EReal} (hs : ∀ j, s j ≠ ⊤) (ha : IsReal a) (j : Fin n) : IsReal (soft s a j) := by
  obtain ⟨r, -, h⟩ := exp_sub (hs j) (rowMax_isReal hs ha)
  unfold soft
  rw [h]
  exact .mul (.coe r) (inv_isReal hs ha)

theorem softSink_isReal {n : Nat} {s : Fin n → EReal} {a : EReal} (hs : ∀ j, s j ≠ ⊤) (ha : IsReal a) : IsReal (softSink s a) := by
  obtain ⟨r, -, h⟩ := exp_sub ha.ne_top (rowMax_isReal hs ha)
  unfold softSink
  rw [h]
  exact .mul (.coe r) (inv_isReal hs ha)

/-- A masked score has no weight. -/
theorem soft_masked {n : Nat} {s : Fin n → EReal} {a : EReal} {j : Fin n} (h : s j = ⊥) : soft s a j = 0 := by
  unfold soft
  rw [h, EReal.bot_sub, Ideal.exp_bot, zero_mul]

/-- The greatest of a row with the sink as its last entry. -/
theorem fold_last {n : Nat} (f : Fin (n + 1) → EReal) :
    Finset.univ.fold max ⊥ f = max (Finset.univ.fold max ⊥ fun j : Fin n => f j.castSucc) (f (Fin.last n)) := by
  rw [Fin.univ_castSuccEmb, Finset.fold_cons, Finset.fold_map, max_comm]
  rfl

/-- The gradient of a score through the weights, as the chain rule writes it: `e` the exponentials, `d` the gradients of the
    weights, `z` the sum of the exponentials. -/
theorem soft_bwd {n : Nat} (e d : Fin n → ℝ) {z : ℝ} (hz : z ≠ 0) (x y : ℝ) :
    (Ideal.div (x : EReal) (z : EReal) + -(∑ j, (d j : EReal) * Ideal.div 1 ((z : EReal) * (z : EReal)) * (e j : EReal))) * (y : EReal)
      = (y : EReal) * Ideal.div 1 (z : EReal) * ((x : EReal) - ∑ j, (e j : EReal) * Ideal.div 1 (z : EReal) * (d j : EReal)) := by
  rw [← EReal.coe_mul, div_coe _ _ hz, div_coe _ _ hz, div_coe _ _ (mul_ne_zero hz hz)]
  simp only [one_mul, ← EReal.coe_mul, ← coe_sum, ← EReal.coe_neg, ← EReal.coe_add, ← EReal.coe_sub]
  congr 1
  have h1 : ∀ j, d j * (z * z)⁻¹ * e j = (e j * d j) * (z * z)⁻¹ := fun j => by ring
  have h2 : ∀ j, e j * z⁻¹ * d j = (e j * d j) * z⁻¹ := fun j => by ring
  simp only [h1, h2, ← Finset.sum_mul]
  field_simp
  ring

theorem IsReal.neg {a : EReal} : IsReal a → IsReal (-a) := by
  rintro ⟨r, rfl⟩; exact ⟨-r, (EReal.coe_neg _).symm⟩

/-- A sum of negated real numbers. -/
theorem sum_neg_real {ι : Type*} (s : Finset ι) {f : ι → EReal} (h : ∀ i, IsReal (f i)) : ∑ i ∈ s, -f i = -∑ i ∈ s, f i := by
  choose g hg using h
  simp only [hg, ← EReal.coe_neg, ← coe_sum, Finset.sum_neg_distrib]

end Cert.Reals

end
-- ==== Proof.AttnBlocks.lean ====
module

public import proofs.«01_k».proof.Defs
public import proofs.«01_k».proof.Proof.Gen.AttnIdeal.Frame
public import proofs.«01_k».proof.Proof.Gen.AttnRefIdeal.Read
public import proofs.«01_k».proof.Proof.Gen.Pre_attn_finite
public import Idealize.ShloMosaic.Lib.Pipeline.ValueKit
public import Idealize.ShloMosaic.Lib.Pointwise
public import Idealize.ShloMosaic.Lib.TwoAxisContraction
public import proofs.«01_k».proof.Proof.Softmax
public import proofs.«01_k».proof.Proof.Finite
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen

variable (m : (ℓ : Loc nD τ sig) → Buf (Elt Ideal) ℓ)

/-- The word the kernel names a block of queries by: the blocks come last first. -/
abbrev word (t : Fin cfg0.N) : BitVec 32 := Scalar.subi 31#32 (BitVec.ofNat 32 ((grid0.coords t 0 : Fin _) : Nat))

/-- The scores of one head: scaled products less the slope times the distance, with the mask. -/
def scores (w : BitVec 32) (slope : BitVec 32) (qk : FVec Ideal S128x256 .f32) : FVec Ideal S128x256 .f32 :=
  let d : IVec S128x256 32 := subi (addi (broadcast S128x256 128#32) (iota .tc S128x256 32 [0] iota_S128x256_d0_w32)) (iota .tc S128x256 32 [1] iota_S128x256_d1_w32)
  select
    (andi (andi (cmpi .sge d (broadcast S128x256 0#32)) (cmpi .slt d (broadcast S128x256 128#32)))
      (ori (cmpi .sge (iota .tc S128x256 32 [1] iota_S128x256_d1_w32) (broadcast S128x256 128#32)) (broadcast S128x256 (Scalar.cmpi .sgt w 0#32))))
    (subf (mulf qk (broadcast S128x256 (Scalar.ofBits (F := Ideal) .f32 0x3E000000#32))) (mulf (broadcast S128x256 (Scalar.ofBits (F := Ideal) .f32 slope)) (sitofp .f32 d)))
    (broadcast S128x256 (Named.named (F := Ideal) κ "mask" (φ := .f32) 0xF149F2CA#32))

/-- The slopes of the eight heads. -/
abbrev slopes : Fin 8 → BitVec 32 :=
  ![0x3F000000#32, 0x3E800000#32, 0x3E000000#32, 0x3D800000#32, 0x3D000000#32, 0x3C800000#32, 0x3C000000#32, 0x3B800000#32]

/-- The bands of keys and values of the two groups of heads, from the block before and the block itself. -/
def keys (p b : FVec Ideal S128x256 .bf16) : Fin 2 → FVec Ideal S256x64 .bf16 := ![k0_pay8 p b, k0_pay10 p b]
def vals (p b : FVec Ideal S128x256 .bf16) : Fin 2 → FVec Ideal S256x64 .bf16 := ![k0_pay9 p b, k0_pay11 p b]

/-- The products of the queries with the keys, and of the cotangent with the values, head by head. -/
def qks (q : FVec Ideal S128x512 .bf16) (p b : FVec Ideal S128x256 .bf16) : Fin 8 → FVec Ideal S128x256 .f32 :=
  ![k0_pay12 q p b, k0_pay13 q p b, k0_pay14 q p b, k0_pay15 q p b, k0_pay16 q p b, k0_pay17 q p b, k0_pay18 q p b,
    k0_pay20 (k0_pay10 p b) (k0_pay19 q) (constant S128x256 .f32 0x00000000#32)]
def dps (o : FVec Ideal S128x512 .f32) (p b : FVec Ideal S128x256 .bf16) : Fin 8 → FVec Ideal S128x256 .f32 :=
  ![k0_pay21 (k0_pay7 o) (k0_pay9 p b), k0_pay22 (k0_pay7 o) (k0_pay9 p b), k0_pay23 (k0_pay7 o) (k0_pay9 p b), k0_pay24 (k0_pay7 o) (k0_pay9 p b),
    k0_pay25 (k0_pay7 o) (k0_pay11 p b), k0_pay26 (k0_pay7 o) (k0_pay11 p b), k0_pay27 (k0_pay7 o) (k0_pay11 p b), k0_pay28 (k0_pay7 o) (k0_pay11 p b)]

/-- The sink of a head, read from the first operand. -/
abbrev sk (a : FVec Ideal S8 .f32) (o : Nat) (inb : ∀ x, (![o] : Fin 1 → Nat) x + S1.size x ≤ S8.size x) : Ideal .f32 :=
  View.ld (show S8.Idx → Elt Ideal .f32 from a) (Rect.unit (s := S8) ![o] S1.size inb) (Shape.Idx.first (s := S1) (by decide))
def sinkB (a : FVec Ideal S8 .f32) : Fin 8 → Ideal .f32 :=
  ![sk a 0 inb_S8_S1_0, sk a 1 inb_S8_S1_1, sk a 2 inb_S8_S1_2, sk a 3 inb_S8_S1_3, sk a 4 inb_S8_S1_4, sk a 5 inb_S8_S1_5, sk a 6 inb_S8_S1_6, sk a 7 inb_S8_S1_7]

section
variable (w : BitVec 32) (a : FVec Ideal S8 .f32) (q : FVec Ideal S128x512 .bf16) (p b : FVec Ideal S128x256 .bf16) (o : FVec Ideal S128x512 .f32)

/-- The scores, the weights, their gradient and the sinks' gradient of one block, head by head. -/
def scV (n : Fin 8) : FVec Ideal S128x256 .f32 := scores w (slopes n) (qks q p b n)
def pV (n : Fin 8) : FVec Ideal S128x256 .bf16 := k0_pay37 (sinkB a n) (scV w q p b n)
def dsV (n : Fin 8) : FVec Ideal S128x256 .bf16 := k0_pay36 (dps o p b n) (sinkB a n) (scV w q p b n)
def dskV (n : Fin 8) : FVec Ideal S1x128 .f32 := k0_pay38 (dps o p b n) (sinkB a n) (scV w q p b n)
/-- The rows of the sinks' gradients. -/
def sinksV : FVec Ideal S1x8x128 .f32 := k0_pay2 (dskV w a q p b o 0) (dskV w a q p b o 1) (dskV w a q p b o 2) (dskV w a q p b o 3) (dskV w a q p b o 4) (dskV w a q p b o 5) (dskV w a q p b o 6) (dskV w a q p b o 7)
/-- The gradients of the queries of the eight heads. -/
def dqV : Fin 8 → FVec Ideal S128x64 .f32 :=
  ![k0_pay123 (keys p b 0) (dsV w a q p b o 0), k0_pay124 (keys p b 0) (dsV w a q p b o 1), k0_pay125 (keys p b 0) (dsV w a q p b o 2), k0_pay126 (keys p b 0) (dsV w a q p b o 3), k0_pay127 (keys p b 1) (dsV w a q p b o 4), k0_pay128 (keys p b 1) (dsV w a q p b o 5), k0_pay129 (keys p b 1) (dsV w a q p b o 6), k0_pay130 (keys p b 1) (dsV w a q p b o 7)]
/-- The gradient of the band of keys and values. -/
def bandV : FVec Ideal S256x256 .f32 :=
  k0_pay134 (k0_pay4 q) (k0_pay7 o) (pV w a q p b 4) (dsV w a q p b o 5) (pV w a q p b 5) (dsV w a q p b o 6) (pV w a q p b 6) (dsV w a q p b o 7) (pV w a q p b 7)
    (k0_pay131 (k0_pay4 q) (dsV w a q p b o 0) (dsV w a q p b o 1) (dsV w a q p b o 2) (dsV w a q p b o 3))
    (k0_pay132 (k0_pay7 o) (pV w a q p b 0) (pV w a q p b 1) (pV w a q p b 2) (pV w a q p b 3))
    (k0_pay133 (k0_pay4 q) (dsV w a q p b o 4))
/-- Its second half with what the block after left, and its first half. -/
def lateV (r : FVec Ideal S128x256 .f32) : FVec Ideal S128x256 .f32 :=
  k0_pay135 (k0_pay4 q) (k0_pay7 o) (pV w a q p b 4) (dsV w a q p b o 5) (pV w a q p b 5) (dsV w a q p b o 6) (pV w a q p b 6) (dsV w a q p b o 7) (pV w a q p b 7)
    (k0_pay131 (k0_pay4 q) (dsV w a q p b o 0) (dsV w a q p b o 1) (dsV w a q p b o 2) (dsV w a q p b o 3))
    (k0_pay132 (k0_pay7 o) (pV w a q p b 0) (pV w a q p b 1) (pV w a q p b 2) (pV w a q p b 3))
    (k0_pay133 (k0_pay4 q) (dsV w a q p b o 4)) r
def earlyV : FVec Ideal S128x256 .f32 :=
  k0_pay1 (k0_pay136 (k0_pay4 q) (k0_pay7 o) (pV w a q p b 4) (dsV w a q p b o 5) (pV w a q p b 5) (dsV w a q p b o 6) (pV w a q p b 6) (dsV w a q p b o 7) (pV w a q p b 7)
    (k0_pay131 (k0_pay4 q) (dsV w a q p b o 0) (dsV w a q p b o 1) (dsV w a q p b o 2) (dsV w a q p b o 3))
    (k0_pay132 (k0_pay7 o) (pV w a q p b 0) (pV w a q p b 1) (pV w a q p b 2) (pV w a q p b 3))
    (k0_pay133 (k0_pay4 q) (dsV w a q p b o 4)))
end

variable (c : Dev nD) (t : Fin cfg0.N)

/-- The two blocks of keys and values, read whole. -/
abbrev rdP (x : FVec Ideal S128x256 .bf16) : FVec Ideal S128x256 .bf16 :=
  View.ld (View.read (Elt Ideal) (ms0_2 t).view ((hs0_2 t).unread x)) (Rect.unit (s := S128x256) ![0, 0] ![128, 256] inb_S128x256_S128x256_0_0)
abbrev rdB (x : FVec Ideal S128x256 .bf16) : FVec Ideal S128x256 .bf16 :=
  View.ld (View.read (Elt Ideal) (ms0_3 t).view ((hs0_3 t).unread x)) (Rect.unit (s := S128x256) ![0, 0] ![128, 256] inb_S128x256_S128x256_0_0)

theorem ld_all {e : EltTy} (x : S128x256.Idx → Elt Ideal e) (inb : ∀ i, (![0, 0] : Fin 2 → Nat) i + (![128, 256] : Fin 2 → Nat) i ≤ S128x256.size i) : View.ld x (Rect.unit (s := S128x256) ![0, 0] ![128, 256] inb) = x := by
  funext y
  refine congrArg x ?_
  funext i
  refine Fin.ext ?_
  match i with
  | ⟨0, _⟩ => simp [Rect.unit]
  | ⟨1, _⟩ => simp [Rect.unit]
theorem readP (x : FVec Ideal S128x256 .bf16) : rdP t x = x := by
  unfold rdP
  rw [(hs0_2 t).read_unread]
  exact ld_all (show S128x256.Idx → Elt Ideal .bf16 from x) _
theorem readB (x : FVec Ideal S128x256 .bf16) : rdB t x = x := by
  unfold rdB
  rw [(hs0_3 t).read_unread]
  exact ld_all (show S128x256.Idx → Elt Ideal .bf16 from x) _

/-- The stages of the block at point `t`. -/
abbrev atBlock {α : Type} (f : BitVec 32 → FVec Ideal S8 .f32 → FVec Ideal S128x512 .bf16 → FVec Ideal S128x256 .bf16 → FVec Ideal S128x256 .bf16 → FVec Ideal S128x512 .f32 → α) : α :=
  f (word t) (iblk m c 0 t) (iblk m c 1 t) (rdP t (iblk m c 2 t)) (rdB t (iblk m c 3 t)) (iblk m c 4 t)

set_option maxHeartbeats 2000000 in
theorem outS : (outsAt0 m c t.val t.isLt).2.2.1 = atBlock m c t sinksV := by
  generalize hX : atBlock m c t sinksV = X
  by_cases h : t.val % 32 = 0
  · rw [outsAt0_A m c t h]
    dsimp only
    frame_out
    exact hX
  · rw [outsAt0_B m c t h]
    dsimp only
    frame_out
    exact hX

set_option maxHeartbeats 2000000 in
theorem outR : (outsAt0 m c t.val t.isLt).2.2.2 = atBlock m c t earlyV := by
  generalize hX : atBlock m c t earlyV = X
  by_cases h : t.val % 32 = 0
  · rw [outsAt0_A m c t h]
    dsimp only
    frame_out
    exact hX
  · rw [outsAt0_B m c t h]
    dsimp only
    frame_out
    exact hX

/-- The columns of the queries' gradient, stored head by head. -/
def dqCols (d : Fin 8 → FVec Ideal S128x64 .f32) : FVec Ideal S128x512 .f32 :=
  View.canon (Val := Elt Ideal) (s := S128x512) (e := .f32)
    [⟨Rect.unit (s := S128x512) ![0, 448] S128x64.size inb_S128x512_S128x64_0_448, d 7⟩, ⟨Rect.unit (s := S128x512) ![0, 384] S128x64.size inb_S128x512_S128x64_0_384, d 6⟩,
     ⟨Rect.unit (s := S128x512) ![0, 320] S128x64.size inb_S128x512_S128x64_0_320, d 5⟩, ⟨Rect.unit (s := S128x512) ![0, 256] S128x64.size inb_S128x512_S128x64_0_256, d 4⟩,
     ⟨Rect.unit (s := S128x512) ![0, 192] S128x64.size inb_S128x512_S128x64_0_192, d 3⟩, ⟨Rect.unit (s := S128x512) ![0, 128] S128x64.size inb_S128x512_S128x64_0_128, d 2⟩,
     ⟨Rect.unit (s := S128x512) ![0, 64] S128x64.size inb_S128x512_S128x64_0_64, d 1⟩, ⟨Rect.unit (s := S128x512) ![0, 0] S128x64.size inb_S128x512_S128x64_0_0, d 0⟩]

set_option maxHeartbeats 2000000 in
theorem outQ : (outsAt0 m c t.val t.isLt).1 = dqCols (atBlock m c t dqV) := by
  generalize hX : dqCols (atBlock m c t dqV) = X
  by_cases h : t.val % 32 = 0
  · rw [outsAt0_A m c t h]
    dsimp only
    frame_out
    exact hX
  · rw [outsAt0_B m c t h]
    dsimp only
    frame_out
    exact hX

set_option maxHeartbeats 2000000 in
theorem outKA (h : t.val % 32 = 0) : (outsAt0 m c t.val t.isLt).2.1 = atBlock m c t lateV (k0_pay3 (F := Ideal)) := by
  generalize hX : atBlock m c t lateV (k0_pay3 (F := Ideal)) = X
  rw [outsAt0_A m c t h]
  dsimp only
  frame_out
  exact hX

set_option maxHeartbeats 2000000 in
theorem outKB (h : ¬ t.val % 32 = 0) (n : Nat) (hn : n + 1 = t.val) (hl : n < cfg0.N) :
    (outsAt0 m c t.val t.isLt).2.1 = atBlock m c t lateV (outsAt0 m c n hl).2.2.2 := by
  generalize hX : (outsAt0 m c n hl).2.2.2 = X
  rw [outsAt0_B m c t h]
  dsimp only
  frame_out
  refine congrArg (atBlock m c t lateV) (((Memref.isWhole_whole _).read_unread _).trans ?_)
  rw [← hX]
  obtain ⟨t, ht⟩ := t
  subst hn
  rfl

end Cert.AttnIdeal.Hand
end
-- ==== Proof.AttnRef.lean ====
module

public import proofs.«01_k».proof.Defs
public import proofs.«01_k».proof.Proof.Gen.AttnRefIdeal.Read
public import Idealize.ShloMosaic.Lib.Pointwise
public import Idealize.ShloMosaic.Lib.TwoAxisContraction
public import proofs.«01_k».proof.Proof.Softmax

@[expose] public section

set_option maxRecDepth 16384

noncomputable section

open Idealize.ShloMosaic Idealize.ShloMosaic.TcCoe Idealize.SL.Sem

namespace Cert.AttnRefIdeal.Hand

open Cert.AttnRefIdeal Cert.AttnRefIdeal.Read Cert.Reals

variable (x0 : FVec Ideal S4096x512 .f32) (x1 x2 : FVec Ideal S4096x128 .f32) (x3 : FVec Ideal S8 .f32) (x4 : FVec Ideal S4096x512 .f32)
variable (n : Fin 32) (h : Fin 2) (g : Fin 4) (r : Fin 128) (s : Fin 256)

/-- The scores, the sinks, and the gradients of the weights. -/
abbrev SC : Fin 256 → EReal := fun s => val_main_v72_0 (F := Ideal) x0 x1 (ix5 n h g r s)
abbrev sn : EReal := x3 (ix1 ⟨h.val * 4 + g.val, by omega⟩)
abbrev DP : Fin 256 → EReal := fun s => val_main_v110 (F := Ideal) x2 x4 (ix5 n h g r s)

theorem v75_last : val_main_v75 (F := Ideal) x0 x1 x3 (ix5 n h g r ⟨256, by omega⟩) = sn x3 h g := by
  pointwise [val_main_v75, val_main_v74, val_main_v73]
theorem v75_cast : val_main_v75 (F := Ideal) x0 x1 x3 (ix5 n h g r ⟨s.val, by omega⟩) = SC x0 x1 n h g r s := by
  pointwise [val_main_v75, val_main_v74, val_main_v73]
theorem v76_fold : val_main_v76 (F := Ideal) x0 x1 x3 (ix4 n h g r) = Finset.univ.fold max (Ideal.ofBits FTy.f32 4286578688#32) (fun j : Fin 257 => val_main_v75 (F := Ideal) x0 x1 x3 (ix5 n h g r j)) := by
  pointwise [val_main_v76, val_main_cst_18]
theorem fold_row (y : FVec Ideal S32x2x4x128x257 .f32) (f : Fin 256 → EReal) (a : EReal) (hf : ∀ s : Fin 256, y (ix5 n h g r ⟨s.val, by omega⟩) = f s)
    (ha : y (ix5 n h g r ⟨256, by omega⟩) = a) : Finset.univ.fold max (⊥ : EReal) (fun j : Fin 257 => y (ix5 n h g r j)) = rowMax f a := by
  rw [fold_last]
  unfold rowMax
  rw [← ha]
  simp only [← hf]
  rfl
theorem sum_row (y : FVec Ideal S32x2x4x128x257 .f32) : ∑ j : Fin 257, y (ix5 n h g r j) = ∑ s : Fin 256, y (ix5 n h g r ⟨s.val, by omega⟩) + y (ix5 n h g r ⟨256, by omega⟩) :=
  Fin.sum_univ_castSucc _
theorem v76_at : val_main_v76 (F := Ideal) x0 x1 x3 (ix4 n h g r) = rowMax (SC x0 x1 n h g r) (sn x3 h g) := by
  rw [v76_fold, negInf]
  exact fold_row n h g r _ _ _ (fun s => v75_cast x0 x1 x3 n h g r s) (v75_last x0 x1 x3 n h g r)
theorem max_at {S : Shape} (a y : FVec Ideal S .f32) (i : S.Idx) (hb : a i = (⊥ : EReal)) : maximumf a y i = y i := by
  show max (a i : EReal) (y i) = y i
  rw [hb]
  exact max_eq_right bot_le
theorem v82_at : val_main_v82 (F := Ideal) (ix4 n h g r) = (⊥ : EReal) := by
  rw [← negInf]
  pointwise [val_main_v82, val_main_cst_20]
theorem v83_at : val_main_v83 (F := Ideal) x0 x1 x3 (ix4 n h g r) = val_main_v76 (F := Ideal) x0 x1 x3 (ix4 n h g r) :=
  max_at _ (val_main_v76 (F := Ideal) x0 x1 x3) _ (v82_at n h g r)
theorem v94_at (j : Fin 257) : val_main_v94 (F := Ideal) x0 x1 x3 (ix5 n h g r j) = val_main_v83 (F := Ideal) x0 x1 x3 (ix4 n h g r) := by
  unfold val_main_v94 val_main_v93
  generalize val_main_v83 (F := Ideal) x0 x1 x3 = y
  pointwise
theorem exp_sub_at {S : Shape} (x y : FVec Ideal S .f32) (i : S.Idx) : Host.exp (subf x y) i = Ideal.exp (x i - y i) := rfl
theorem v96_at (j : Fin 257) : val_main_v96 (F := Ideal) x0 x1 x3 (ix5 n h g r j)
    = Ideal.exp (val_main_v75 (F := Ideal) x0 x1 x3 (ix5 n h g r j) - rowMax (SC x0 x1 n h g r) (sn x3 h g)) := by
  rw [← v76_at, ← v83_at, ← v94_at x0 x1 x3 n h g r j]
  unfold val_main_v96 val_main_v95
  generalize val_main_v75 (F := Ideal) x0 x1 x3 = y
  generalize val_main_v94 (F := Ideal) x0 x1 x3 = z
  exact exp_sub_at y z _
theorem v97_sum : val_main_v97 (F := Ideal) x0 x1 x3 (ix4 n h g r) = ∑ j : Fin 257, val_main_v96 (F := Ideal) x0 x1 x3 (ix5 n h g r j) := by
  pointwise [val_main_v97, val_main_cst_26]
theorem v97_at : val_main_v97 (F := Ideal) x0 x1 x3 (ix4 n h g r) = softDen (SC x0 x1 n h g r) (sn x3 h g) := by
  rw [v97_sum, sum_row]
  simp only [v96_at, v75_cast, v75_last]
  rfl
theorem v104_at (hs : ∀ s, SC x0 x1 n h g r s ≠ ⊤) (ha : IsReal (sn x3 h g)) :
    val_main_v104 (F := Ideal) x0 x1 x3 (ix5 n h g r s) = soft (SC x0 x1 n h g r) (sn x3 h g) s := by
  pointwise [val_main_v104, val_main_v100, val_main_v99, val_main_v98]
  rw [v97_at, v96_at, v75_cast, ← soft_div hs ha]
  rfl
/-- The chain of the weights' gradient, before the shares are put together. -/
theorem v125_raw (j : Fin 257) : val_main_v125 (F := Ideal) x0 x1 x2 x3 x4 (ix5 n h g r j)
    = (Ideal.div (if hj : j.val < 256 then val_main_v110 (F := Ideal) x2 x4 (ix5 n h g r ⟨j.val, hj⟩) else 0) (val_main_v97 (F := Ideal) x0 x1 x3 (ix4 n h g r))
      + -(∑ x : Fin 256, val_main_v110 (F := Ideal) x2 x4 (ix5 n h g r x) * Ideal.div 1 (val_main_v97 (F := Ideal) x0 x1 x3 (ix4 n h g r) * val_main_v97 (F := Ideal) x0 x1 x3 (ix4 n h g r))
          * val_main_v96 (F := Ideal) x0 x1 x3 (ix5 n h g r ⟨x.val, by omega⟩))) * val_main_v96 (F := Ideal) x0 x1 x3 (ix5 n h g r j) := by
  pointwise [val_main_v125, val_main_v124, val_main_v123, val_main_v122, val_main_v121, val_main_v120, val_main_v119, val_main_v118, val_main_v117, val_main_v116, val_main_v115, val_main_v114, val_main_v113, val_main_v103, val_main_v102, val_main_v101, val_main_v98, val_main_cst_27, val_main_cst_28, val_main_cst_29, val_main_cst_30]
  simp only [Finset.univ_unique, Finset.sum_singleton, zero_mul, add_zero]
theorem v125_gen (hs : ∀ s, SC x0 x1 n h g r s ≠ ⊤) (ha : IsReal (sn x3 h g)) (hd : ∀ s, IsReal (DP x2 x4 n h g r s)) (j : Fin 257) (x : EReal) (hx : IsReal x)
    (ex : (if hj : j.val < 256 then val_main_v110 (F := Ideal) x2 x4 (ix5 n h g r ⟨j.val, hj⟩) else 0) = x) :
    val_main_v125 (F := Ideal) x0 x1 x2 x3 x4 (ix5 n h g r j)
      = val_main_v96 (F := Ideal) x0 x1 x3 (ix5 n h g r j) * Ideal.div 1 (softDen (SC x0 x1 n h g r) (sn x3 h g))
        * (x - ∑ k, soft (SC x0 x1 n h g r) (sn x3 h g) k * DP x2 x4 n h g r k) := by
  have hm := rowMax_isReal hs ha
  rw [v125_raw, ex, v97_at]
  obtain ⟨z, hz, hzz⟩ := softDen_pos hs ha
  choose e he hee using fun k => exp_sub (hs k) hm
  choose d hdd using hd
  obtain ⟨x, rfl⟩ := hx
  have hE : IsReal (val_main_v96 (F := Ideal) x0 x1 x3 (ix5 n h g r j)) := by
    rw [v96_at]
    rcases Nat.lt_or_ge j.val 256 with h' | h'
    · have := v75_cast x0 x1 x3 n h g r ⟨j.val, h'⟩
      rw [this]; exact ⟨_, hee _⟩
    · rw [show j = ⟨256, by omega⟩ from Fin.ext (by have := j.isLt; show j.val = 256; omega), v75_last]
      obtain ⟨b, -, hb⟩ := exp_sub ha.ne_top hm
      exact ⟨b, hb⟩
  obtain ⟨y, hy⟩ := hE
  have h96 : ∀ k : Fin 256, val_main_v96 (F := Ideal) x0 x1 x3 (ix5 n h g r ⟨k.val, by omega⟩) = (e k : EReal) := fun k => by
    rw [v96_at, v75_cast, hee]
  have hS : ∀ k, soft (SC x0 x1 n h g r) (sn x3 h g) k = (e k : EReal) * Ideal.div 1 (z : EReal) := fun k => by unfold soft; rw [hee, hzz]
  rw [hy, hzz]
  simp only [h96, hS]
  have hdd' : ∀ k, val_main_v110 (F := Ideal) x2 x4 (ix5 n h g r k) = (d k : EReal) := hdd
  simp only [hdd']
  exact soft_bwd e d hz.ne' x y
theorem v125_cast (hs : ∀ s, SC x0 x1 n h g r s ≠ ⊤) (ha : IsReal (sn x3 h g)) (hd : ∀ s, IsReal (DP x2 x4 n h g r s)) :
    val_main_v125 (F := Ideal) x0 x1 x2 x3 x4 (ix5 n h g r ⟨s.val, by omega⟩)
      = soft (SC x0 x1 n h g r) (sn x3 h g) s * (DP x2 x4 n h g r s - ∑ k, soft (SC x0 x1 n h g r) (sn x3 h g) k * DP x2 x4 n h g r k) := by
  rw [v125_gen x0 x1 x2 x3 x4 n h g r hs ha hd _ (DP x2 x4 n h g r s) (hd s) (dif_pos s.isLt), v96_at, v75_cast]
  rfl
theorem v125_last (hs : ∀ s, SC x0 x1 n h g r s ≠ ⊤) (ha : IsReal (sn x3 h g)) (hd : ∀ s, IsReal (DP x2 x4 n h g r s)) :
    val_main_v125 (F := Ideal) x0 x1 x2 x3 x4 (ix5 n h g r ⟨256, by omega⟩)
      = -(softSink (SC x0 x1 n h g r) (sn x3 h g) * ∑ k, soft (SC x0 x1 n h g r) (sn x3 h g) k * DP x2 x4 n h g r k) := by
  rw [v125_gen x0 x1 x2 x3 x4 n h g r hs ha hd _ 0 ⟨0, rfl⟩ (dif_neg (by show ¬ (256 < 256); omega)), v96_at, v75_last, zero_sub, mul_neg]
  rfl
theorem v127_at (k : Fin 32 × Fin 128) : val_main_v127 (F := Ideal) x0 x1 x2 x3 x4 (ix5 k.1 h g k.2 ⟨0, by omega⟩) = val_main_v125 (F := Ideal) x0 x1 x2 x3 x4 (ix5 k.1 h g k.2 ⟨256, by omega⟩) := by
  unfold val_main_v127
  generalize val_main_v125 (F := Ideal) x0 x1 x2 x3 x4 = y
  pointwise
theorem cst31_at : val_main_cst_31 (F := Ideal) (Shape.Idx.first Gen.h_S_) = 0 := by
  pointwise [val_main_cst_31]
theorem v128_at : val_main_v128 (F := Ideal) x0 x1 x2 x3 x4 (ix2 h g) = ∑ k : Fin 32 × Fin 128, val_main_v125 (F := Ideal) x0 x1 x2 x3 x4 (ix5 k.1 h g k.2 ⟨256, by omega⟩) := by
  unfold val_main_v128
  change Ideal.hostReduceAdd Gen.reducesTo_S32x2x4x128x1_S2x4_d0_3_4 (val_main_v127 (F := Ideal) x0 x1 x2 x3 x4) ((val_main_cst_31 (F := Ideal)) (Shape.Idx.first Gen.h_S_)) (ix2 h g) = _
  unfold Ideal.hostReduceAdd
  rw [Finset.sum_filter_eq_sum_of_fiber _ (fun k : Fin 32 × Fin 128 => (ix5 k.1 h g k.2 ⟨0, by omega⟩ : S32x2x4x128x1.Idx))
    (fun _ _ e => Prod.ext (congrFun e 0) (congrFun e 3)) ?_]
  · rw [cst31_at, zero_add]
    exact Finset.sum_congr rfl fun k _ => v127_at x0 x1 x2 x3 x4 h g k
  · intro i
    constructor
    · intro e
      refine ⟨(i 0, i 3), ?_⟩
      funext a; apply Fin.ext
      match a with
      | ⟨0, _⟩ => rfl
      | ⟨1, _⟩ => exact (congrArg Fin.val (congrFun e ⟨0, by decide⟩)).symm
      | ⟨2, _⟩ => exact (congrArg Fin.val (congrFun e ⟨1, by decide⟩)).symm
      | ⟨3, _⟩ => rfl
      | ⟨4, _⟩ => have := (i 4).isLt; change 0 = (i 4).val; change (i 4).val < 1 at this; omega
    · rintro ⟨k, rfl⟩
      funext b; apply Fin.ext
      match b with
      | ⟨0, _⟩ => rfl
      | ⟨1, _⟩ => rfl

/-- The distance from a query to a key of its band, and the mask as the reference writes it. -/
abbrev dist : BitVec 32 := Scalar.subi (Scalar.addi 128#32 (BitVec.ofNat 32 r.val)) (BitVec.ofNat 32 s.val)
abbrev inBand : BitVec 1 := Scalar.cmpi .sge (Scalar.addi (Scalar.muli (Scalar.subi (BitVec.ofNat 32 n.val) 1#32) 128#32) (BitVec.ofNat 32 s.val)) 0#32
abbrev maskBit : BitVec 1 := Scalar.andi (Scalar.andi (Scalar.cmpi .sge (dist r s) 0#32) (Scalar.cmpi .slt (dist r s) 128#32)) (inBand n s)
/-- The slopes of the eight heads. -/
abbrev slopeW : Fin 8 → BitVec 32 :=
  ![0x3F000000#32, 0x3E800000#32, 0x3E000000#32, 0x3D800000#32, 0x3D000000#32, 0x3C800000#32, 0x3C000000#32, 0x3B800000#32]
abbrev hd : Fin 8 := ⟨h.val * 4 + g.val, by omega⟩

theorem v50_at : val_main_v50 (F := Ideal) (ix3 n r s) = maskBit n r s := by
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_c, val_main_c_4, val_main_c_5, val_main_c_6, val_main_c_7, val_main_c_8]
  rfl
theorem v60_at : val_main_v60 (F := Ideal) (ix2 h g) = Ideal.ofBits .f32 (slopeW (hd h g)) := by
  pointwise [val_main_v60, val_main_v59, val_main_v58, val_main_v57, val_main_v56, val_main_v55, val_main_v54, val_main_v53, val_main_v52, val_main_v51, val_main_cst_9, val_main_cst_10, val_main_cst_11, val_main_cst_12, val_main_cst_13, val_main_cst_14, val_main_cst_15, val_main_cst_16]
  fin_cases h <;> fin_cases g <;> simp <;> rfl
theorem v17_at : val_main_v18 (F := Ideal) x0 x1 (ix5 n h g r s) = ∑ x : Fin 64, val_main_v8 (F := Ideal) x1 (ix4 n s h x) * val_main_v0 (F := Ideal) x0 (ix5 n r h g x) := by
  pointwise [val_main_v18, val_main_v17]
theorem v72_at : SC x0 x1 n h g r s = Scalar.select (maskBit n r s)
    ((∑ x : Fin 64, val_main_v8 (F := Ideal) x1 (ix4 n s h x) * val_main_v0 (F := Ideal) x0 (ix5 n r h g x)) * Ideal.ofBits .f32 0x3E000000#32
      + -Ideal.ofBits .f32 (slopeW (hd h g)) * Scalar.sitofp (F := Ideal) .f32 (dist r s)) (⊥ : EReal) := by
  rw [← v50_at, ← v17_at, ← v60_at, ← negInf]
  unfold SC
  pointwise [val_main_v72_0, val_main_v72_1, val_main_v71, val_main_v70, val_main_v69, val_main_v68, val_main_v67, val_main_v66, val_main_v65, val_main_v64, val_main_v63, val_main_v62, val_main_v61, val_main_v29, val_main_v28, val_main_v27, val_main_v26, val_main_v25, val_main_v24, val_main_v23, val_main_v22, val_main_v21, val_main_v20, val_main_v19, val_main_c, val_main_cst_3, val_main_cst_17, val_main_call0_v0, val_main_call0_v2]
  rfl
theorem v0_at (x : FVec Ideal S4096x512 .f32) (d : Fin 64) : val_main_v0 (F := Ideal) x (ix5 n r h g d) = x (ix2 ⟨n.val * 128 + r.val, by omega⟩ ⟨h.val * 256 + g.val * 64 + d.val, by omega⟩) := by
  pointwise [val_main_v0]
theorem v8_at (hb : 128 ≤ n.val * 128 + s.val) (d : Fin 64) : val_main_v8 (F := Ideal) x1 (ix4 n s h d) = x1 (ix2 ⟨n.val * 128 + s.val - 128, by omega⟩ ⟨h.val * 64 + d.val, by omega⟩) := by
  pointwise [val_main_v8, val_main_v7, val_main_v6, val_main_v5, val_main_v3, val_main_v2, val_main_v1, val_main_cst]
  split_ifs <;> first | omega | rfl | simp only [show (1 + n.val) * 128 + (s.val - 128) - 128 = n.val * 128 + s.val - 128 by omega] | exact absurd rfl ‹_›
theorem v16_at (hb : 128 ≤ n.val * 128 + s.val) (d : Fin 64) : val_main_v16 (F := Ideal) x2 (ix4 n s h d) = x2 (ix2 ⟨n.val * 128 + s.val - 128, by omega⟩ ⟨h.val * 64 + d.val, by omega⟩) := by
  pointwise [val_main_v16, val_main_v15, val_main_v14, val_main_v13, val_main_v11, val_main_v10, val_main_v9, val_main_cst_1]
  split_ifs <;> first | omega | rfl | simp only [show (1 + n.val) * 128 + (s.val - 128) - 128 = n.val * 128 + s.val - 128 by omega] | exact absurd rfl ‹_›
theorem v109_at (d : Fin 64) : val_main_v109 (F := Ideal) x4 (ix5 n h d g r) = x4 (ix2 ⟨n.val * 128 + r.val, by omega⟩ ⟨h.val * 256 + g.val * 64 + d.val, by omega⟩) := by
  pointwise [val_main_v109, val_main_v108]
theorem v110_at : val_main_v110 (F := Ideal) x2 x4 (ix5 n h g r s) = ∑ d : Fin 64, x4 (ix2 ⟨n.val * 128 + r.val, by omega⟩ ⟨h.val * 256 + g.val * 64 + d.val, by omega⟩) * val_main_v16 (F := Ideal) x2 (ix4 n s h d) := by
  pointwise [val_main_v110, val_main_v109, val_main_v108]
theorem v111_at (d : Fin 64) : val_main_v111 (F := Ideal) x0 x1 x3 x4 (ix4 n h d s)
    = ∑ g : Fin 4, ∑ r : Fin 128, val_main_v109 (F := Ideal) x4 (ix5 n h d g r) * val_main_v104 (F := Ideal) x0 x1 x3 (ix5 n h g r s) := by
  unfold val_main_v111
  generalize val_main_v109 (F := Ideal) x4 = L
  generalize val_main_v104 (F := Ideal) x0 x1 x3 = R
  let D := dot_S32x2x64x4x128_S32x2x4x128x256_S32x2x64x256_34_23_2_4_01_01
  have hr : D.contr.rank = 2 := rfl
  have c0 : D.contr.size ⟨0, by rw [hr]; omega⟩ = 4 := rfl
  have c1 : D.contr.size ⟨1, by rw [hr]; omega⟩ = 128 := rfl
  unfold Host.dotGeneral
  rw [Ideal.dotGeneral_apply, ← Equiv.sum_comp (ValueIdx.contrEquiv2 D 4 128 hr c0 c1).symm, Fintype.sum_prod_type]
  refine Finset.sum_congr rfl fun ii _ => Finset.sum_congr rfl fun qq _ => ?_
  have h0 := ValueIdx.contrEquiv2_symm_val0 D 4 128 hr c0 c1 (ii, qq)
  have h1 := ValueIdx.contrEquiv2_symm_val1 D 4 128 hr c0 c1 (ii, qq)
  refine congrArg₂ (fun a b => L a * R b) ?_ ?_
  · funext a; apply Fin.ext
    match a with
    | ⟨0, _⟩ => rfl
    | ⟨1, _⟩ => rfl
    | ⟨2, _⟩ => rfl
    | ⟨3, _⟩ => exact h0
    | ⟨4, _⟩ => exact h1
  · funext a; apply Fin.ext
    match a with
    | ⟨0, _⟩ => rfl
    | ⟨1, _⟩ => rfl
    | ⟨2, _⟩ => exact h0
    | ⟨3, _⟩ => exact h1
    | ⟨4, _⟩ => rfl
theorem v137_at (d : Fin 64) : val_main_v137 (F := Ideal) x0 x1 x2 x3 x4 (ix4 n h s d)
    = ∑ r : Fin 128, ∑ g : Fin 4, val_main_v134 (F := Ideal) x0 x1 x2 x3 x4 (ix5 n h s r g) * val_main_v0 (F := Ideal) x0 (ix5 n r h g d) := by
  unfold val_main_v137
  generalize val_main_v134 (F := Ideal) x0 x1 x2 x3 x4 = L
  generalize val_main_v0 (F := Ideal) x0 = R
  let D := dot_S32x2x256x128x4_S32x128x2x4x64_S32x2x256x64_34_13_2_4_01_02
  have hr : D.contr.rank = 2 := rfl
  have c0 : D.contr.size ⟨0, by rw [hr]; omega⟩ = 128 := rfl
  have c1 : D.contr.size ⟨1, by rw [hr]; omega⟩ = 4 := rfl
  unfold Host.dotGeneral
  rw [Ideal.dotGeneral_apply, ← Equiv.sum_comp (ValueIdx.contrEquiv2 D 128 4 hr c0 c1).symm, Fintype.sum_prod_type]
  refine Finset.sum_congr rfl fun ii _ => Finset.sum_congr rfl fun qq _ => ?_
  have h0 := ValueIdx.contrEquiv2_symm_val0 D 128 4 hr c0 c1 (ii, qq)
  have h1 := ValueIdx.contrEquiv2_symm_val1 D 128 4 hr c0 c1 (ii, qq)
  refine congrArg₂ (fun a b => L a * R b) ?_ ?_
  · funext a; apply Fin.ext
    match a with
    | ⟨0, _⟩ => rfl
    | ⟨1, _⟩ => rfl
    | ⟨2, _⟩ => rfl
    | ⟨3, _⟩ => exact h0
    | ⟨4, _⟩ => exact h1
  · funext a; apply Fin.ext
    match a with
    | ⟨0, _⟩ => rfl
    | ⟨1, _⟩ => exact h0
    | ⟨2, _⟩ => rfl
    | ⟨3, _⟩ => exact h1
    | ⟨4, _⟩ => rfl
theorem v133_at : val_main_v133 (F := Ideal) x0 x1 x2 x3 x4 (ix5 n h g r s) = Scalar.select (maskBit n r s) (val_main_v125 (F := Ideal) x0 x1 x2 x3 x4 (ix5 n h g r ⟨s.val, by omega⟩)) (0 : EReal) * Ideal.ofBits .f32 0x3E000000#32 := by
  rw [← v50_at]
  pointwise [val_main_v133, val_main_v132, val_main_v131, val_main_v126, val_main_v72_1, val_main_v68, val_main_call1_v0, val_main_call1_cst, val_main_cst_32]
theorem v134_at : val_main_v134 (F := Ideal) x0 x1 x2 x3 x4 (ix5 n h s r g) = val_main_v133 (F := Ideal) x0 x1 x2 x3 x4 (ix5 n h g r s) := by
  pointwise [val_main_v134]
theorem v157_at (d : Fin 64) : val_main_v157 (F := Ideal) x0 x1 x2 x3 x4 (ix2 ⟨n.val * 128 + r.val, by omega⟩ ⟨h.val * 256 + g.val * 64 + d.val, by omega⟩)
    = ∑ s : Fin 256, val_main_v133 (F := Ideal) x0 x1 x2 x3 x4 (ix5 n h g r s) * val_main_v8 (F := Ideal) x1 (ix4 n s h d) := by
  pointwise [val_main_v157, val_main_v136, val_main_v135, val_main_v134]
/-- Two shares of a key's gradient: the block's own band and the band of the block after. -/
theorem two_shares (y : Fin 32 → Fin 2 → Fin 256 → Fin 64 → EReal) (i : Fin 4096) (j : Fin 128) (d : Fin 64)
    (hi : i.val = n.val * 128 + r.val) (hj : j.val = h.val * 64 + d.val) :
    ((if h : (1 ≤ (128 + i.val) / 128 ∧ (128 + i.val) / 128 - 1 < 32) ∧ (128 + i.val) % 128 < 128 ∧ j.val / 64 < 2 ∧ j.val % 64 < 64 then
        y ⟨(128 + i.val) / 128 - 1, h.1.2⟩ ⟨j.val / 64, h.2.2.1⟩ ⟨128 + (128 + i.val) % 128, by omega⟩ ⟨j.val % 64, h.2.2.2⟩ else 0)
      + if h : (128 + i.val) / 128 < 32 ∧ (128 + i.val) % 128 < 128 ∧ j.val / 64 < 2 ∧ j.val % 64 < 64 then
        y ⟨(128 + i.val) / 128, h.1⟩ ⟨j.val / 64, h.2.2.1⟩ ⟨(128 + i.val) % 128, by omega⟩ ⟨j.val % 64, h.2.2.2⟩ else 0)
    = y n h ⟨128 + r.val, by omega⟩ d + if hn : n.val + 1 < 32 then y ⟨n.val + 1, hn⟩ h ⟨r.val, by omega⟩ d else 0 := by
  have e1 : (128 + i.val) / 128 = n.val + 1 := by omega
  have e2 : (128 + i.val) % 128 = r.val := by omega
  have e3 : j.val / 64 = h.val := by omega
  have e4 : j.val % 64 = d.val := by omega
  refine congrArg₂ (· + ·) ?_ ?_
  · rw [dif_pos (by omega)]
    congr 1 <;> apply Fin.ext <;> simp only [] <;> omega
  · by_cases hn : n.val + 1 < 32
    · rw [dif_pos hn, dif_pos (by omega)]
      congr 1 <;> apply Fin.ext <;> simp only [] <;> omega
    · rw [dif_neg hn, dif_neg (by omega)]
theorem v158_k_raw (i : Fin 4096) (j : Fin 128) : val_main_v158 (F := Ideal) x0 x1 x2 x3 x4 (ix2 i ⟨j.val, by omega⟩)
    = (if h : (1 ≤ (128 + i.val) / 128 ∧ (128 + i.val) / 128 - 1 < 32) ∧ (128 + i.val) % 128 < 128 ∧ j.val / 64 < 2 ∧ j.val % 64 < 64 then
        val_main_v137 (F := Ideal) x0 x1 x2 x3 x4 (ix4 ⟨(128 + i.val) / 128 - 1, h.1.2⟩ ⟨j.val / 64, h.2.2.1⟩ ⟨128 + (128 + i.val) % 128, by omega⟩ ⟨j.val % 64, h.2.2.2⟩) else 0)
      + if h : (128 + i.val) / 128 < 32 ∧ (128 + i.val) % 128 < 128 ∧ j.val / 64 < 2 ∧ j.val % 64 < 64 then
        val_main_v137 (F := Ideal) x0 x1 x2 x3 x4 (ix4 ⟨(128 + i.val) / 128, h.1⟩ ⟨j.val / 64, h.2.2.1⟩ ⟨(128 + i.val) % 128, by omega⟩ ⟨j.val % 64, h.2.2.2⟩) else 0 := by
  pointwise [val_main_v158, val_main_v156, val_main_v155, val_main_v153, val_main_v152, val_main_v151, val_main_v150, val_main_v149, val_main_v148, val_main_v147, val_main_v146, val_main_v144, val_main_v143, val_main_v142, val_main_v141, val_main_v140, val_main_v139, val_main_v138, val_main_v112, val_main_cst_33, val_main_cst_34, val_main_cst_35, val_main_cst_36]
theorem v158_v_raw (i : Fin 4096) (j : Fin 128) : val_main_v158 (F := Ideal) x0 x1 x2 x3 x4 (ix2 i ⟨128 + j.val, by omega⟩)
    = (if h : (1 ≤ (128 + i.val) / 128 ∧ (128 + i.val) / 128 - 1 < 32) ∧ (128 + i.val) % 128 < 128 ∧ j.val / 64 < 2 ∧ j.val % 64 < 64 then
        val_main_v111 (F := Ideal) x0 x1 x3 x4 (ix4 ⟨(128 + i.val) / 128 - 1, h.1.2⟩ ⟨j.val / 64, h.2.2.1⟩ ⟨j.val % 64, h.2.2.2⟩ ⟨128 + (128 + i.val) % 128, by omega⟩) else 0)
      + if h : (128 + i.val) / 128 < 32 ∧ (128 + i.val) % 128 < 128 ∧ j.val / 64 < 2 ∧ j.val % 64 < 64 then
        val_main_v111 (F := Ideal) x0 x1 x3 x4 (ix4 ⟨(128 + i.val) / 128, h.1⟩ ⟨j.val / 64, h.2.2.1⟩ ⟨j.val % 64, h.2.2.2⟩ ⟨(128 + i.val) % 128, by omega⟩) else 0 := by
  pointwise [val_main_v158, val_main_v156, val_main_v155, val_main_v153, val_main_v152, val_main_v151, val_main_v150, val_main_v149, val_main_v148, val_main_v147, val_main_v146, val_main_v144, val_main_v143, val_main_v142, val_main_v141, val_main_v140, val_main_v139, val_main_v138, val_main_v112, val_main_cst_33, val_main_cst_34, val_main_cst_35, val_main_cst_36]
theorem v158_k (d : Fin 64) : val_main_v158 (F := Ideal) x0 x1 x2 x3 x4 (ix2 ⟨n.val * 128 + r.val, by omega⟩ ⟨h.val * 64 + d.val, by omega⟩)
    = val_main_v137 (F := Ideal) x0 x1 x2 x3 x4 (ix4 n h ⟨128 + r.val, by omega⟩ d)
      + if hn : n.val + 1 < 32 then val_main_v137 (F := Ideal) x0 x1 x2 x3 x4 (ix4 ⟨n.val + 1, hn⟩ h ⟨r.val, by omega⟩ d) else 0 :=
  (v158_k_raw x0 x1 x2 x3 x4 ⟨n.val * 128 + r.val, by omega⟩ ⟨h.val * 64 + d.val, by omega⟩).trans
    (two_shares n h r (fun n h s d => val_main_v137 (F := Ideal) x0 x1 x2 x3 x4 (ix4 n h s d)) _ _ d rfl rfl)
theorem v158_v (d : Fin 64) : val_main_v158 (F := Ideal) x0 x1 x2 x3 x4 (ix2 ⟨n.val * 128 + r.val, by omega⟩ ⟨128 + (h.val * 64 + d.val), by omega⟩)
    = val_main_v111 (F := Ideal) x0 x1 x3 x4 (ix4 n h d ⟨128 + r.val, by omega⟩)
      + if hn : n.val + 1 < 32 then val_main_v111 (F := Ideal) x0 x1 x3 x4 (ix4 ⟨n.val + 1, hn⟩ h d ⟨r.val, by omega⟩) else 0 :=
  (v158_v_raw x0 x1 x2 x3 x4 ⟨n.val * 128 + r.val, by omega⟩ ⟨h.val * 64 + d.val, by omega⟩).trans
    (two_shares n h r (fun n h s d => val_main_v111 (F := Ideal) x0 x1 x3 x4 (ix4 n h d s)) _ _ d rfl rfl)
theorem v130_at (z : Fin 8) : val_main_v130 (F := Ideal) x0 x1 x2 x3 x4 (ix1 z) = val_main_v128 (F := Ideal) x0 x1 x2 x3 x4 (ix2 ⟨z.val / 4, by omega⟩ ⟨z.val % 4, by omega⟩) := by
  pointwise [val_main_v130, val_main_v129]

theorem bit_cases (b : BitVec 1) : b = 1#1 ∨ b = 0#1 := by revert b; decide
/-- The weights' gradient of a masked score is zero, so the mask on the way back changes nothing. -/
theorem v133_full (hs : ∀ s, SC x0 x1 n h g r s ≠ ⊤) (ha : IsReal (sn x3 h g)) (hd : ∀ s, IsReal (DP x2 x4 n h g r s)) :
    val_main_v133 (F := Ideal) x0 x1 x2 x3 x4 (ix5 n h g r s)
      = soft (SC x0 x1 n h g r) (sn x3 h g) s * (DP x2 x4 n h g r s - ∑ k, soft (SC x0 x1 n h g r) (sn x3 h g) k * DP x2 x4 n h g r k) * Ideal.ofBits .f32 0x3E000000#32 := by
  rw [v133_at]
  rcases bit_cases (maskBit n r s) with hb | hb
  · rw [hb, v125_cast x0 x1 x2 x3 x4 n h g r s hs ha hd]
    rfl
  · have e : SC x0 x1 n h g r s = ⊥ := by rw [v72_at, hb]; rfl
    rw [hb, soft_masked e, zero_mul]
    rfl
theorem inBand_ge : ∀ (n : Fin 32) (s : Fin 256), inBand n s = 1#1 → 128 ≤ n.val * 128 + s.val := by decide +kernel
theorem mask_ge (hb : maskBit n r s = 1#1) : 128 ≤ n.val * 128 + s.val := by
  refine inBand_ge n s ?_
  revert hb
  show (_ &&& inBand n s) = 1#1 → _
  generalize inBand n s = b
  rcases bit_cases b with rfl | rfl <;> simp
theorem eighth_real : IsReal (Ideal.ofBits .f32 0x3E000000#32) := ⟨_, by simp [Ideal.ofBits, Ideal.ieee, -EReal.coe_mul]; rfl⟩
theorem slope_real (z : Fin 8) : IsReal (Ideal.ofBits .f32 (slopeW z)) := by
  fin_cases z <;> exact ⟨_, by simp [Ideal.ofBits, Ideal.ieee, -EReal.coe_mul]; rfl⟩
theorem sitofp_real (b : BitVec 32) : IsReal (Scalar.sitofp (F := Ideal) .f32 b) := ⟨(b.toInt : ℝ), rfl⟩
theorem sc_real (h0 : ∀ i, IsReal (x0 i)) (h1 : ∀ i, IsReal (x1 i)) : SC x0 x1 n h g r s ≠ ⊤ := by
  rw [v72_at]
  rcases bit_cases (maskBit n r s) with hb | hb
  · have hge := mask_ge n r s hb
    rw [hb]
    refine IsReal.ne_top ?_
    refine IsReal.add (IsReal.mul (IsReal.sum _ fun x => IsReal.mul ?_ ?_) eighth_real) (IsReal.mul (slope_real _).neg (sitofp_real _))
    · rw [v8_at x1 n h s hge]; exact h1 _
    · rw [v0_at n h g r x0]; exact h0 _
  · rw [hb]
    exact bot_ne_top
theorem dsinks_at (h0 : ∀ i, IsReal (x0 i)) (h1 : ∀ i, IsReal (x1 i)) (ha : IsReal (sn x3 h g)) (hd : ∀ n r s, IsReal (DP x2 x4 n h g r s)) :
    val_main_v128 (F := Ideal) x0 x1 x2 x3 x4 (ix2 h g) = ∑ n : Fin 32, ∑ r : Fin 128,
      -(softSink (SC x0 x1 n h g r) (sn x3 h g) * ∑ k, soft (SC x0 x1 n h g r) (sn x3 h g) k * DP x2 x4 n h g r k) := by
  rw [v128_at, Fintype.sum_prod_type]
  exact Finset.sum_congr rfl fun n _ => Finset.sum_congr rfl fun r _ => v125_last x0 x1 x2 x3 x4 n h g r (fun s => sc_real x0 x1 n h g r s h0 h1) ha (hd n r)
theorem v16_real (h2 : ∀ i, IsReal (x2 i)) (n : Fin 32) (s : Fin 256) (h : Fin 2) (d : Fin 64) : IsReal (val_main_v16 (F := Ideal) x2 (ix4 n s h d)) := by
  pointwise [val_main_v16, val_main_v15, val_main_v14, val_main_v13, val_main_v11, val_main_v10, val_main_v9, val_main_cst_1]
  split_ifs <;> first | exact IsReal.zero | exact h2 _
theorem dp_real (h2 : ∀ i, IsReal (x2 i)) (h4 : ∀ i, IsReal (x4 i)) : IsReal (DP x2 x4 n h g r s) := by
  rw [show DP x2 x4 n h g r s = _ from v110_at x2 x4 n h g r s]
  exact IsReal.sum _ fun d => IsReal.mul (h4 _) (v16_real x2 h2 n s h d)
end Cert.AttnRefIdeal.Hand
end
-- ==== Proof.AttnAt.lean ====
module

public import proofs.«01_k».proof.Proof.AttnBlocks
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen Cert.Reals
open Cert.AttnRefIdeal.Hand (SC sn DP hd dist inBand maskBit slopeW)

section
variable (w : BitVec 32) (a : FVec Ideal S8 .f32) (q : FVec Ideal S128x512 .bf16) (p b : FVec Ideal S128x256 .bf16) (o : FVec Ideal S128x512 .f32)
variable (n : Fin 32) (h : Fin 2) (g : Fin 4) (r : Fin 128) (s : Fin 256)

theorem keys_at (d : Fin 64) : keys p b h (ix2 s d) = if hs : s.val < 128 then p (ix2 ⟨s.val, hs⟩ ⟨h.val * 64 + d.val, by omega⟩) else b (ix2 ⟨s.val - 128, by omega⟩ ⟨h.val * 64 + d.val, by omega⟩) := by
  fin_cases h
  · change k0_pay8 (F := Ideal) p b (ix2 s d) = _
    pointwise [k0_pay8, k0_pay5, k0_pay6]
  · change k0_pay10 (F := Ideal) p b (ix2 s d) = _
    pointwise [k0_pay10, k0_pay5, k0_pay6]
theorem vals_at (d : Fin 64) : vals p b h (ix2 s d) = if hs : s.val < 128 then p (ix2 ⟨s.val, hs⟩ ⟨128 + (h.val * 64 + d.val), by omega⟩) else b (ix2 ⟨s.val - 128, by omega⟩ ⟨128 + (h.val * 64 + d.val), by omega⟩) := by
  fin_cases h
  · change k0_pay9 (F := Ideal) p b (ix2 s d) = _
    pointwise [k0_pay9, k0_pay5, k0_pay6]
  · change k0_pay11 (F := Ideal) p b (ix2 s d) = _
    pointwise [k0_pay11, k0_pay5, k0_pay6]
    simp only [← add_assoc]
theorem qks_at : qks q p b (hd h g) (ix2 r s) = ∑ x : Fin 64, q (ix2 r ⟨h.val * 256 + g.val * 64 + x.val, by omega⟩) * keys p b h (ix2 s x) := by
  fin_cases h <;> fin_cases g
  · change k0_pay12 (F := Ideal) q p b (ix2 r s) = ∑ x : Fin 64, q (ix2 r ⟨0 * 256 + 0 * 64 + x.val, _⟩) * k0_pay8 (F := Ideal) p b (ix2 s x)
    pointwise [k0_pay12, k0_pay4]
  · change k0_pay13 (F := Ideal) q p b (ix2 r s) = ∑ x : Fin 64, q (ix2 r ⟨0 * 256 + 1 * 64 + x.val, _⟩) * k0_pay8 (F := Ideal) p b (ix2 s x)
    pointwise [k0_pay13, k0_pay4]
  · change k0_pay14 (F := Ideal) q p b (ix2 r s) = ∑ x : Fin 64, q (ix2 r ⟨0 * 256 + 2 * 64 + x.val, _⟩) * k0_pay8 (F := Ideal) p b (ix2 s x)
    pointwise [k0_pay14, k0_pay4]
  · change k0_pay15 (F := Ideal) q p b (ix2 r s) = ∑ x : Fin 64, q (ix2 r ⟨0 * 256 + 3 * 64 + x.val, _⟩) * k0_pay8 (F := Ideal) p b (ix2 s x)
    pointwise [k0_pay15, k0_pay4]
  · change k0_pay16 (F := Ideal) q p b (ix2 r s) = ∑ x : Fin 64, q (ix2 r ⟨1 * 256 + 0 * 64 + x.val, _⟩) * k0_pay10 (F := Ideal) p b (ix2 s x)
    pointwise [k0_pay16, k0_pay4]
  · change k0_pay17 (F := Ideal) q p b (ix2 r s) = ∑ x : Fin 64, q (ix2 r ⟨1 * 256 + 1 * 64 + x.val, _⟩) * k0_pay10 (F := Ideal) p b (ix2 s x)
    pointwise [k0_pay17, k0_pay4]
  · change k0_pay18 (F := Ideal) q p b (ix2 r s) = ∑ x : Fin 64, q (ix2 r ⟨1 * 256 + 2 * 64 + x.val, _⟩) * k0_pay10 (F := Ideal) p b (ix2 s x)
    pointwise [k0_pay18, k0_pay4]
  · change k0_pay20 (F := Ideal) (k0_pay10 p b) (k0_pay19 q) (constant S128x256 .f32 0x00000000#32) (ix2 r s) = ∑ x : Fin 64, q (ix2 r ⟨1 * 256 + 3 * 64 + x.val, _⟩) * k0_pay10 (F := Ideal) p b (ix2 s x)
    pointwise [k0_pay20, k0_pay19, k0_pay4]
theorem dps_at : dps o p b (hd h g) (ix2 r s) = ∑ x : Fin 64, o (ix2 r ⟨h.val * 256 + g.val * 64 + x.val, by omega⟩) * vals p b h (ix2 s x) := by
  fin_cases h <;> fin_cases g
  · change k0_pay21 (F := Ideal) (k0_pay7 o) (k0_pay9 p b) (ix2 r s) = ∑ x : Fin 64, o (ix2 r ⟨0 * 256 + 0 * 64 + x.val, _⟩) * k0_pay9 (F := Ideal) p b (ix2 s x)
    pointwise [k0_pay21, k0_pay7]
  · change k0_pay22 (F := Ideal) (k0_pay7 o) (k0_pay9 p b) (ix2 r s) = ∑ x : Fin 64, o (ix2 r ⟨0 * 256 + 1 * 64 + x.val, _⟩) * k0_pay9 (F := Ideal) p b (ix2 s x)
    pointwise [k0_pay22, k0_pay7]
  · change k0_pay23 (F := Ideal) (k0_pay7 o) (k0_pay9 p b) (ix2 r s) = ∑ x : Fin 64, o (ix2 r ⟨0 * 256 + 2 * 64 + x.val, _⟩) * k0_pay9 (F := Ideal) p b (ix2 s x)
    pointwise [k0_pay23, k0_pay7]
  · change k0_pay24 (F := Ideal) (k0_pay7 o) (k0_pay9 p b) (ix2 r s) = ∑ x : Fin 64, o (ix2 r ⟨0 * 256 + 3 * 64 + x.val, _⟩) * k0_pay9 (F := Ideal) p b (ix2 s x)
    pointwise [k0_pay24, k0_pay7]
  · change k0_pay25 (F := Ideal) (k0_pay7 o) (k0_pay11 p b) (ix2 r s) = ∑ x : Fin 64, o (ix2 r ⟨1 * 256 + 0 * 64 + x.val, _⟩) * k0_pay11 (F := Ideal) p b (ix2 s x)
    pointwise [k0_pay25, k0_pay7]
  · change k0_pay26 (F := Ideal) (k0_pay7 o) (k0_pay11 p b) (ix2 r s) = ∑ x : Fin 64, o (ix2 r ⟨1 * 256 + 1 * 64 + x.val, _⟩) * k0_pay11 (F := Ideal) p b (ix2 s x)
    pointwise [k0_pay26, k0_pay7]
  · change k0_pay27 (F := Ideal) (k0_pay7 o) (k0_pay11 p b) (ix2 r s) = ∑ x : Fin 64, o (ix2 r ⟨1 * 256 + 2 * 64 + x.val, _⟩) * k0_pay11 (F := Ideal) p b (ix2 s x)
    pointwise [k0_pay27, k0_pay7]
  · change k0_pay28 (F := Ideal) (k0_pay7 o) (k0_pay11 p b) (ix2 r s) = ∑ x : Fin 64, o (ix2 r ⟨1 * 256 + 3 * 64 + x.val, _⟩) * k0_pay11 (F := Ideal) p b (ix2 s x)
    pointwise [k0_pay28, k0_pay7]
theorem sinkB_at : sinkB a (hd h g) = a (ix1 (hd h g)) := by
  fin_cases h <;> fin_cases g
  · change sk a 0 inb_S8_S1_0 = _
    exact congrArg a (funext fun y => Fin.ext (by match y with | ⟨0, _⟩ => simp [Rect.unit]))
  · change sk a 1 inb_S8_S1_1 = _
    exact congrArg a (funext fun y => Fin.ext (by match y with | ⟨0, _⟩ => simp [Rect.unit]))
  · change sk a 2 inb_S8_S1_2 = _
    exact congrArg a (funext fun y => Fin.ext (by match y with | ⟨0, _⟩ => simp [Rect.unit]))
  · change sk a 3 inb_S8_S1_3 = _
    exact congrArg a (funext fun y => Fin.ext (by match y with | ⟨0, _⟩ => simp [Rect.unit]))
  · change sk a 4 inb_S8_S1_4 = _
    exact congrArg a (funext fun y => Fin.ext (by match y with | ⟨0, _⟩ => simp [Rect.unit]))
  · change sk a 5 inb_S8_S1_5 = _
    exact congrArg a (funext fun y => Fin.ext (by match y with | ⟨0, _⟩ => simp [Rect.unit]))
  · change sk a 6 inb_S8_S1_6 = _
    exact congrArg a (funext fun y => Fin.ext (by match y with | ⟨0, _⟩ => simp [Rect.unit]))
  · change sk a 7 inb_S8_S1_7 = _
    exact congrArg a (funext fun y => Fin.ext (by match y with | ⟨0, _⟩ => simp [Rect.unit]))
theorem sc_at (z : Fin 8) : scV w q p b z (ix2 r s)
    = Scalar.select (Scalar.andi (Scalar.andi (Scalar.cmpi .sge (dist r s) 0#32) (Scalar.cmpi .slt (dist r s) 128#32)) (Scalar.ori (Scalar.cmpi .sge (BitVec.ofNat 32 s.val) 128#32) (Scalar.cmpi .sgt w 0#32)))
      (qks q p b z (ix2 r s) * Ideal.ofBits .f32 0x3E000000#32 - Ideal.ofBits .f32 (slopes z) * Scalar.sitofp (F := Ideal) .f32 (dist r s)) (⊥ : EReal) := by
  unfold scV
  have e : Named.named (F := Ideal) κ "mask" (φ := .f32) 0xF149F2CA#32 = (⊥ : EReal) := IdealRules.named_const.ideal_named_scalar _ _ _ _ rfl
  rw [← e]
  pointwise [scores]
  rfl
theorem p_at (z : Fin 8) : pV w a q p b z (ix2 r s) = soft (fun k => scV w q p b z (ix2 r k)) (sinkB a z) s := by
  unfold pV soft softDen rowMax
  rw [← negInf]
  pointwise [k0_pay37, k0_pay34, k0_pay33, k0_pay32, k0_pay31, k0_pay30]
theorem ds_at (z : Fin 8) : dsV w a q p b o z (ix2 r s)
    = pV w a q p b z (ix2 r s) * (dps o p b z (ix2 r s) - ∑ x : Fin 256, pV w a q p b z (ix2 r x) * dps o p b z (ix2 r x)) * Ideal.ofBits .f32 0x3E000000#32 := by
  unfold dsV pV
  pointwise [k0_pay36, k0_pay35, k0_pay37]
theorem dsk_at (z : Fin 8) : dskV w a q p b o z (ix2 0 r)
    = 0 - ∑ r : Fin 128, softSink (fun k => scV w q p b z (ix2 r k)) (sinkB a z) * ∑ x : Fin 256, pV w a q p b z (ix2 r x) * dps o p b z (ix2 r x) := by
  unfold dskV pV softSink softDen rowMax
  rw [← negInf]
  pointwise [k0_pay38, k0_pay37, k0_pay35, k0_pay33, k0_pay32, k0_pay31, k0_pay30]
theorem sinks_at (z : Fin 8) : sinksV w a q p b o (ix3 0 z r) = dskV w a q p b o z (ix2 0 r) := by
  unfold sinksV
  pointwise [k0_pay2]
  fin_cases z <;> simp <;> rfl
theorem dq_at (d : Fin 64) : dqV w a q p b o (hd h g) (ix2 r d) = ∑ s : Fin 256, dsV w a q p b o (hd h g) (ix2 r s) * keys p b h (ix2 s d) := by
  fin_cases h <;> fin_cases g
  · change k0_pay123 (F := Ideal) (keys p b 0) (dsV w a q p b o 0) (ix2 r d) = ∑ s : Fin 256, dsV w a q p b o 0 (ix2 r s) * keys p b 0 (ix2 s d)
    pointwise [k0_pay123]
  · change k0_pay124 (F := Ideal) (keys p b 0) (dsV w a q p b o 1) (ix2 r d) = ∑ s : Fin 256, dsV w a q p b o 1 (ix2 r s) * keys p b 0 (ix2 s d)
    pointwise [k0_pay124]
  · change k0_pay125 (F := Ideal) (keys p b 0) (dsV w a q p b o 2) (ix2 r d) = ∑ s : Fin 256, dsV w a q p b o 2 (ix2 r s) * keys p b 0 (ix2 s d)
    pointwise [k0_pay125]
  · change k0_pay126 (F := Ideal) (keys p b 0) (dsV w a q p b o 3) (ix2 r d) = ∑ s : Fin 256, dsV w a q p b o 3 (ix2 r s) * keys p b 0 (ix2 s d)
    pointwise [k0_pay126]
  · change k0_pay127 (F := Ideal) (keys p b 1) (dsV w a q p b o 4) (ix2 r d) = ∑ s : Fin 256, dsV w a q p b o 4 (ix2 r s) * keys p b 1 (ix2 s d)
    pointwise [k0_pay127]
  · change k0_pay128 (F := Ideal) (keys p b 1) (dsV w a q p b o 5) (ix2 r d) = ∑ s : Fin 256, dsV w a q p b o 5 (ix2 r s) * keys p b 1 (ix2 s d)
    pointwise [k0_pay128]
  · change k0_pay129 (F := Ideal) (keys p b 1) (dsV w a q p b o 6) (ix2 r d) = ∑ s : Fin 256, dsV w a q p b o 6 (ix2 r s) * keys p b 1 (ix2 s d)
    pointwise [k0_pay129]
  · change k0_pay130 (F := Ideal) (keys p b 1) (dsV w a q p b o 7) (ix2 r d) = ∑ s : Fin 256, dsV w a q p b o 7 (ix2 r s) * keys p b 1 (ix2 s d)
    pointwise [k0_pay130]
theorem late_at (x : FVec Ideal S128x256 .f32) (i : Fin 256) : lateV w a q p b o x (ix2 r i) = bandV w a q p b o (ix2 ⟨128 + r.val, by omega⟩ i) + x (ix2 r i) := by
  unfold lateV
  pointwise [k0_pay135]
  rfl
theorem early_at (i : Fin 256) : earlyV w a q p b o (ix2 r i) = bandV w a q p b o (ix2 ⟨r.val, by omega⟩ i) := by
  unfold earlyV
  pointwise [k0_pay1, k0_pay136]
  rfl
theorem band_k (d : Fin 64) : bandV w a q p b o (ix2 s ⟨h.val * 64 + d.val, by omega⟩)
    = ∑ g : Fin 4, ∑ r : Fin 128, dsV w a q p b o (hd h g) (ix2 r s) * q (ix2 r ⟨h.val * 256 + g.val * 64 + d.val, by omega⟩) := by
  rw [Fin.sum_univ_four]
  unfold bandV
  fin_cases h
  · show _ = (∑ r : Fin 128, dsV w a q p b o 0 (ix2 r s) * q (ix2 r ⟨0 * 256 + 0 * 64 + d.val, _⟩)) + (∑ r : Fin 128, dsV w a q p b o 1 (ix2 r s) * q (ix2 r ⟨0 * 256 + 1 * 64 + d.val, _⟩))
      + (∑ r : Fin 128, dsV w a q p b o 2 (ix2 r s) * q (ix2 r ⟨0 * 256 + 2 * 64 + d.val, _⟩)) + (∑ r : Fin 128, dsV w a q p b o 3 (ix2 r s) * q (ix2 r ⟨0 * 256 + 3 * 64 + d.val, _⟩))
    pointwise [k0_pay134, k0_pay131, k0_pay4]
  · show _ = (∑ r : Fin 128, dsV w a q p b o 4 (ix2 r s) * q (ix2 r ⟨1 * 256 + 0 * 64 + d.val, _⟩)) + (∑ r : Fin 128, dsV w a q p b o 5 (ix2 r s) * q (ix2 r ⟨1 * 256 + 1 * 64 + d.val, _⟩))
      + (∑ r : Fin 128, dsV w a q p b o 6 (ix2 r s) * q (ix2 r ⟨1 * 256 + 2 * 64 + d.val, _⟩)) + (∑ r : Fin 128, dsV w a q p b o 7 (ix2 r s) * q (ix2 r ⟨1 * 256 + 3 * 64 + d.val, _⟩))
    pointwise [k0_pay134, k0_pay133, k0_pay4]
theorem band_v (d : Fin 64) : bandV w a q p b o (ix2 s ⟨128 + (h.val * 64 + d.val), by omega⟩)
    = ∑ g : Fin 4, ∑ r : Fin 128, pV w a q p b (hd h g) (ix2 r s) * o (ix2 r ⟨h.val * 256 + g.val * 64 + d.val, by omega⟩) := by
  rw [Fin.sum_univ_four]
  unfold bandV
  fin_cases h
  · show _ = (∑ r : Fin 128, pV w a q p b 0 (ix2 r s) * o (ix2 r ⟨0 * 256 + 0 * 64 + d.val, _⟩)) + (∑ r : Fin 128, pV w a q p b 1 (ix2 r s) * o (ix2 r ⟨0 * 256 + 1 * 64 + d.val, _⟩))
      + (∑ r : Fin 128, pV w a q p b 2 (ix2 r s) * o (ix2 r ⟨0 * 256 + 2 * 64 + d.val, _⟩)) + (∑ r : Fin 128, pV w a q p b 3 (ix2 r s) * o (ix2 r ⟨0 * 256 + 3 * 64 + d.val, _⟩))
    pointwise [k0_pay134, k0_pay132, k0_pay7]
    rw [dif_neg (by omega), dif_neg (by omega), dif_pos (by omega)]
    simp only [show 128 + d.val - 64 - 64 = d.val by omega]
  · show _ = (∑ r : Fin 128, pV w a q p b 4 (ix2 r s) * o (ix2 r ⟨1 * 256 + 0 * 64 + d.val, _⟩)) + (∑ r : Fin 128, pV w a q p b 5 (ix2 r s) * o (ix2 r ⟨1 * 256 + 1 * 64 + d.val, _⟩))
      + (∑ r : Fin 128, pV w a q p b 6 (ix2 r s) * o (ix2 r ⟨1 * 256 + 2 * 64 + d.val, _⟩)) + (∑ r : Fin 128, pV w a q p b 7 (ix2 r s) * o (ix2 r ⟨1 * 256 + 3 * 64 + d.val, _⟩))
    pointwise [k0_pay134, k0_pay7]
    rw [dif_neg (by omega), dif_neg (by omega), dif_neg (by omega)]
    simp only [show 128 + (64 + d.val) - 64 - 64 - 64 = d.val by omega]
end

section
open Cert.AttnRefIdeal.Read
variable {x0 : FVec Ideal Cert.AttnRefIdeal.S4096x512 .f32} {x1 x2 : FVec Ideal Cert.AttnRefIdeal.S4096x128 .f32} {x3 : FVec Ideal Cert.AttnRefIdeal.S8 .f32} {x4 : FVec Ideal Cert.AttnRefIdeal.S4096x512 .f32}
variable {n : Fin 32} {a : FVec Ideal S8 .f32} {q : FVec Ideal S128x512 .bf16} {p b : FVec Ideal S128x256 .bf16} {o : FVec Ideal S128x512 .f32}

/-- What a grid point's operands hold of the arguments: block `n` of the queries and of the cotangent, block `n` of the keys
    and values, and, but for the first block, the block of keys and values before. -/
structure Holds (x0 : FVec Ideal Cert.AttnRefIdeal.S4096x512 .f32) (x1 x2 : FVec Ideal Cert.AttnRefIdeal.S4096x128 .f32) (x3 : FVec Ideal Cert.AttnRefIdeal.S8 .f32) (x4 : FVec Ideal Cert.AttnRefIdeal.S4096x512 .f32)
    (n : Fin 32) (a : FVec Ideal S8 .f32) (q : FVec Ideal S128x512 .bf16) (p b : FVec Ideal S128x256 .bf16) (o : FVec Ideal S128x512 .f32) : Prop where
  a_at : ∀ z : Fin 8, a (ix1 z) = x3 (ix1 z)
  q_at : ∀ (r : Fin 128) (j : Fin 512), q (ix2 r j) = x0 (ix2 ⟨n.val * 128 + r.val, by omega⟩ j)
  o_at : ∀ (r : Fin 128) (j : Fin 512), o (ix2 r j) = x4 (ix2 ⟨n.val * 128 + r.val, by omega⟩ j)
  bk_at : ∀ (r : Fin 128) (j : Fin 128), b (ix2 r ⟨j.val, by omega⟩) = x1 (ix2 ⟨n.val * 128 + r.val, by omega⟩ j)
  bv_at : ∀ (r : Fin 128) (j : Fin 128), b (ix2 r ⟨128 + j.val, by omega⟩) = x2 (ix2 ⟨n.val * 128 + r.val, by omega⟩ j)
  pk_at : ∀ (_ : 0 < n.val) (r : Fin 128) (j : Fin 128), p (ix2 r ⟨j.val, by omega⟩) = x1 (ix2 ⟨n.val * 128 + r.val - 128, by omega⟩ j)
  pv_at : ∀ (_ : 0 < n.val) (r : Fin 128) (j : Fin 128), p (ix2 r ⟨128 + j.val, by omega⟩) = x2 (ix2 ⟨n.val * 128 + r.val - 128, by omega⟩ j)

variable (H : Holds x0 x1 x2 x3 x4 n a q p b o) (h : Fin 2) (g : Fin 4) (r : Fin 128) (s : Fin 256)
include H

theorem keys_eq (hb : 128 ≤ n.val * 128 + s.val) (d : Fin 64) : keys p b h (ix2 s d) = val_main_v8 (F := Ideal) x1 (ix4 n s h d) := by
  rw [keys_at, Cert.AttnRefIdeal.Hand.v8_at x1 n h s hb]
  split_ifs with hs
  · exact H.pk_at (by omega) ⟨s.val, hs⟩ ⟨h.val * 64 + d.val, by omega⟩
  · refine (H.bk_at ⟨s.val - 128, by omega⟩ ⟨h.val * 64 + d.val, by omega⟩).trans ?_
    simp only [show n.val * 128 + (s.val - 128) = n.val * 128 + s.val - 128 by omega]
theorem vals_eq (hb : 128 ≤ n.val * 128 + s.val) (d : Fin 64) : vals p b h (ix2 s d) = val_main_v16 (F := Ideal) x2 (ix4 n s h d) := by
  rw [vals_at, Cert.AttnRefIdeal.Hand.v16_at x2 n h s hb]
  split_ifs with hs
  · exact H.pv_at (by omega) ⟨s.val, hs⟩ ⟨h.val * 64 + d.val, by omega⟩
  · refine (H.bv_at ⟨s.val - 128, by omega⟩ ⟨h.val * 64 + d.val, by omega⟩).trans ?_
    simp only [show n.val * 128 + (s.val - 128) = n.val * 128 + s.val - 128 by omega]

omit H in
/-- The kernel's mask of a band is the reference's. -/
theorem band_bit : ∀ (n : Fin 32) (s : Fin 256), Scalar.ori (Scalar.cmpi .sge (BitVec.ofNat 32 s.val) 128#32) (Scalar.cmpi .sgt (BitVec.ofNat 32 n.val) 0#32) = inBand n s := by
  decide +kernel

theorem sc_eq : scV (BitVec.ofNat 32 n.val) q p b (hd h g) (ix2 r s) = SC x0 x1 n h g r s := by
  rw [sc_at, band_bit, Cert.AttnRefIdeal.Hand.v72_at]
  rcases Cert.AttnRefIdeal.Hand.bit_cases (maskBit n r s) with hb | hb
  · have hge := Cert.AttnRefIdeal.Hand.mask_ge n r s hb
    change Scalar.select (maskBit n r s) _ _ = _
    rw [hb]
    show _ * _ - _ * _ = _ * _ + -_ * _
    rw [qks_at, sub_eq_add_neg, EReal.neg_mul]
    refine congrArg₂ (· + ·) (congrArg₂ (· * ·) (Finset.sum_congr rfl fun x _ => ?_) rfl) rfl
    rw [keys_eq H h s hge, H.q_at, Cert.AttnRefIdeal.Hand.v0_at]
    exact mul_comm _ _
  · change Scalar.select (maskBit n r s) _ _ = _
    rw [hb]
    rfl
theorem sink_eq : sinkB a (hd h g) = sn x3 h g := (sinkB_at a h g).trans (H.a_at _)
theorem p_eq : pV (BitVec.ofNat 32 n.val) a q p b (hd h g) (ix2 r s) = soft (SC x0 x1 n h g r) (sn x3 h g) s := by
  rw [p_at, sink_eq H, funext fun k => sc_eq H h g r k]
/-- A weight times the gradient of the weights: where the band holds other rows, the weight is zero. -/
theorem dp_cases : dps o p b (hd h g) (ix2 r s) = DP x2 x4 n h g r s ∨ soft (SC x0 x1 n h g r) (sn x3 h g) s = 0 := by
  rcases Cert.AttnRefIdeal.Hand.bit_cases (maskBit n r s) with hb | hb
  · have hge := Cert.AttnRefIdeal.Hand.mask_ge n r s hb
    refine .inl ?_
    rw [dps_at, show DP x2 x4 n h g r s = _ from Cert.AttnRefIdeal.Hand.v110_at x2 x4 n h g r s]
    refine Finset.sum_congr rfl fun x _ => ?_
    rw [vals_eq H h s hge, H.o_at]
  · refine .inr (soft_masked ?_)
    rw [Cert.AttnRefIdeal.Hand.v72_at, hb]
    rfl
theorem pd_eq : ∑ x : Fin 256, pV (BitVec.ofNat 32 n.val) a q p b (hd h g) (ix2 r x) * dps o p b (hd h g) (ix2 r x)
    = ∑ k, soft (SC x0 x1 n h g r) (sn x3 h g) k * DP x2 x4 n h g r k := by
  refine Finset.sum_congr rfl fun k _ => ?_
  rw [p_eq H]
  rcases dp_cases H h g r k with e | e
  · rw [e]
  · rw [e, zero_mul, zero_mul]

variable (h0 : ∀ i, IsReal (x0 i)) (h1 : ∀ i, IsReal (x1 i)) (h2 : ∀ i, IsReal (x2 i)) (h3 : ∀ i, IsReal (x3 i)) (h4 : ∀ i, IsReal (x4 i))
include h0 h1 h2 h3 h4

theorem ds_eq : dsV (BitVec.ofNat 32 n.val) a q p b o (hd h g) (ix2 r s) = val_main_v133 (F := Ideal) x0 x1 x2 x3 x4 (ix5 n h g r s) := by
  rw [ds_at, pd_eq H, p_eq H, Cert.AttnRefIdeal.Hand.v133_full x0 x1 x2 x3 x4 n h g r s (fun s => Cert.AttnRefIdeal.Hand.sc_real x0 x1 n h g r s h0 h1) (h3 _)
    (fun s => Cert.AttnRefIdeal.Hand.dp_real x2 x4 n h g r s h2 h4)]
  rcases dp_cases H h g r s with e | e
  · rw [e]
  · rw [e]
    simp only [zero_mul]
theorem dq_eq (d : Fin 64) : dqV (BitVec.ofNat 32 n.val) a q p b o (hd h g) (ix2 r d)
    = val_main_v157 (F := Ideal) x0 x1 x2 x3 x4 (ix2 ⟨n.val * 128 + r.val, by omega⟩ ⟨h.val * 256 + g.val * 64 + d.val, by omega⟩) := by
  rw [dq_at, Cert.AttnRefIdeal.Hand.v157_at]
  refine Finset.sum_congr rfl fun s _ => ?_
  rw [ds_eq H h g r s h0 h1 h2 h3 h4]
  rcases Cert.AttnRefIdeal.Hand.bit_cases (maskBit n r s) with hb | hb
  · rw [keys_eq H h s (Cert.AttnRefIdeal.Hand.mask_ge n r s hb)]
  · have e : val_main_v133 (F := Ideal) x0 x1 x2 x3 x4 (ix5 n h g r s) = (0 : EReal) := by
      rw [Cert.AttnRefIdeal.Hand.v133_at, hb]
      exact zero_mul _
    rw [e, zero_mul, zero_mul]
theorem band_k_eq (d : Fin 64) : bandV (BitVec.ofNat 32 n.val) a q p b o (ix2 s ⟨h.val * 64 + d.val, by omega⟩) = val_main_v137 (F := Ideal) x0 x1 x2 x3 x4 (ix4 n h s d) := by
  rw [band_k, Cert.AttnRefIdeal.Hand.v137_at, Finset.sum_comm]
  refine Finset.sum_congr rfl fun r _ => Finset.sum_congr rfl fun g _ => ?_
  rw [ds_eq H h g r s h0 h1 h2 h3 h4, Cert.AttnRefIdeal.Hand.v134_at, Cert.AttnRefIdeal.Hand.v0_at, H.q_at]
theorem band_v_eq (d : Fin 64) : bandV (BitVec.ofNat 32 n.val) a q p b o (ix2 s ⟨128 + (h.val * 64 + d.val), by omega⟩) = val_main_v111 (F := Ideal) x0 x1 x3 x4 (ix4 n h d s) := by
  rw [band_v, Cert.AttnRefIdeal.Hand.v111_at]
  refine Finset.sum_congr rfl fun g _ => Finset.sum_congr rfl fun r _ => ?_
  rw [p_eq H, Cert.AttnRefIdeal.Hand.v104_at x0 x1 x3 n h g r s (fun s => Cert.AttnRefIdeal.Hand.sc_real x0 x1 n h g r s h0 h1) (h3 _), Cert.AttnRefIdeal.Hand.v109_at, H.o_at]
  exact mul_comm _ _
theorem dsk_eq : dskV (BitVec.ofNat 32 n.val) a q p b o (hd h g) (ix2 0 r)
    = ∑ r : Fin 128, -(softSink (SC x0 x1 n h g r) (sn x3 h g) * ∑ k, soft (SC x0 x1 n h g r) (sn x3 h g) k * DP x2 x4 n h g r k) := by
  have hr : ∀ r, IsReal (softSink (SC x0 x1 n h g r) (sn x3 h g) * ∑ k, soft (SC x0 x1 n h g r) (sn x3 h g) k * DP x2 x4 n h g r k) := fun r =>
    (softSink_isReal (fun s => Cert.AttnRefIdeal.Hand.sc_real x0 x1 n h g r s h0 h1) (h3 _)).mul
      (IsReal.sum _ fun k => (soft_isReal (fun s => Cert.AttnRefIdeal.Hand.sc_real x0 x1 n h g r s h0 h1) (h3 _) k).mul (Cert.AttnRefIdeal.Hand.dp_real x2 x4 n h g r k h2 h4))
  rw [dsk_at, sum_neg_real _ hr, zero_sub]
  refine congrArg Neg.neg (Finset.sum_congr rfl fun r _ => ?_)
  rw [pd_eq H, sink_eq H, funext fun k => sc_eq H h g r k]
end
end Cert.AttnIdeal.Hand
end
-- ==== Proof.Attn.lean ====
module

public import proofs.«01_k».proof.Defs
public import proofs.«01_k».proof.Proof.AttnAt
public import proofs.«01_k».proof.Proof.Gen.AttnRefIdeal.Read
public import proofs.«01_k».proof.Proof.Gen.Pre_attn_finite

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen Cert.Reals Cert.AttnRefIdeal.Read
open Cert.AttnRefIdeal.Hand (SC sn DP hd)

variable (m : (ℓ : Loc nD τ sig) → Buf (Elt Ideal) ℓ)

theorem idx : ∀ t : Fin cfg0.N, win0_0.index t = ![0] ∧ win0_1.index t = ![31 - t.val, 0] ∧ win0_2.index t = ![30 - t.val, 0] ∧ win0_3.index t = ![31 - t.val, 0] ∧ win0_4.index t = ![31 - t.val, 0] ∧ win0_5.index t = ![31 - t.val, 0] ∧ win0_6.index t = ![31 - t.val, 0] ∧ win0_7.index t = ![31 - t.val, 0, 0] :=
  (by decide +kernel : ∀ t : Fin grid0.N, _)

/-- The block of rows of point `t`: the grid goes from the last block to the first. -/
def blkOf (t : Fin cfg0.N) : Fin 32 := ⟨31 - t.val, by omega⟩
/-- The array row of row `i` of the block at point `t`. -/
def row (t : Fin cfg0.N) (i : Fin 128) : Fin 4096 := ⟨(31 - t.val) * 128 + i.val, by omega⟩

theorem word_eq : ∀ t : Fin cfg0.N, word t = BitVec.ofNat 32 (blkOf t).val :=
  (by decide +kernel : ∀ t : Fin grid0.N, _)

/-- The arguments. -/
abbrev x0 (c : Dev nD) : FVec Ideal S4096x512 .f32 := m ((c : Thread nD τ).loc main_arg0)
abbrev x1 (c : Dev nD) : FVec Ideal S4096x128 .f32 := m ((c : Thread nD τ).loc main_arg1)
abbrev x2 (c : Dev nD) : FVec Ideal S4096x128 .f32 := m ((c : Thread nD τ).loc main_arg2)
abbrev x3 (c : Dev nD) : FVec Ideal S8 .f32 := m ((c : Thread nD τ).loc main_arg3)
abbrev x4 (c : Dev nD) : FVec Ideal S4096x512 .f32 := m ((c : Thread nD τ).loc main_arg4)

theorem qIs (c : Dev nD) (r : Fin 4096) (j : Fin 512) : (V m c main_v2 : FVec Ideal S4096x512 .bf16) (ix2 r j) = x0 m c (ix2 r j) := by
  unfold V V0
  simp only [List.flatten_cons, List.flatten_nil, List.append_nil, hostOps0]
  after_results
  pointwise
theorem kIs (c : Dev nD) (r : Fin 4096) (j : Fin 128) : (V m c main_v1 : FVec Ideal S4096x256 .bf16) (ix2 r ⟨j.val, by omega⟩) = x1 m c (ix2 r j) := by
  unfold V V0
  simp only [List.flatten_cons, List.flatten_nil, List.append_nil, hostOps0]
  after_results
  pointwise
theorem vIs (c : Dev nD) (r : Fin 4096) (j : Fin 128) : (V m c main_v1 : FVec Ideal S4096x256 .bf16) (ix2 r ⟨128 + j.val, by omega⟩) = x2 m c (ix2 r j) := by
  unfold V V0
  simp only [List.flatten_cons, List.flatten_nil, List.append_nil, hostOps0]
  after_results
  pointwise

theorem sBlk (c : Dev nD) (t : Fin cfg0.N) (z : Fin 8) : iblk m c 0 t (ix1 z) = x3 m c (ix1 z) := by
  blk_point [iblk, V, idx t]
theorem qBlk (c : Dev nD) (t : Fin cfg0.N) (r : Fin 128) (j : Fin 512) : iblk m c 1 t (ix2 r j) = x0 m c (ix2 (row t r) j) := by
  rw [← qIs m c (row t r) j]
  blk_point [iblk, idx t, row]
theorem oBlk (c : Dev nD) (t : Fin cfg0.N) (r : Fin 128) (j : Fin 512) : iblk m c 4 t (ix2 r j) = x4 m c (ix2 (row t r) j) := by
  blk_point [iblk, V, idx t, row]
theorem bBlk (c : Dev nD) (t : Fin cfg0.N) (r : Fin 128) (j : Fin 256) : iblk m c 3 t (ix2 r j) = (V m c main_v1 : FVec Ideal S4096x256 .bf16) (ix2 (row t r) j) := by
  blk_point [iblk, idx t, row]
theorem pBlk (c : Dev nD) (t : Fin cfg0.N) (r : Fin 128) (j : Fin 256) : iblk m c 2 t (ix2 r j) = (V m c main_v1 : FVec Ideal S4096x256 .bf16) (ix2 ⟨(30 - t.val) * 128 + r.val, by omega⟩ j) := by
  blk_point [iblk, idx t]

theorem holds (c : Dev nD) (t : Fin cfg0.N) : Holds (x0 m c) (x1 m c) (x2 m c) (x3 m c) (x4 m c) (blkOf t)
    (iblk m c 0 t) (iblk m c 1 t) (rdP t (iblk m c 2 t)) (rdB t (iblk m c 3 t)) (iblk m c 4 t) := by
  have hb : ∀ (h0 : 0 < (blkOf t).val) (r : Fin 128), (30 - t.val) * 128 + r.val = (blkOf t).val * 128 + r.val - 128 := fun h0 r => by
    change 0 < 31 - t.val at h0
    change _ = (31 - t.val) * 128 + r.val - 128
    omega
  rw [readP, readB]
  refine ⟨sBlk m c t, qBlk m c t, oBlk m c t, fun r j => ?_, fun r j => ?_, fun h0 r j => ?_, fun h0 r j => ?_⟩
  · exact (bBlk m c t r _).trans (kIs m c _ j)
  · exact (bBlk m c t r _).trans (vIs m c _ j)
  · refine (pBlk m c t r _).trans ((kIs m c _ j).trans ?_)
    exact congrArg (fun i => x1 m c (ix2 i j)) (Fin.ext (hb h0 r))
  · refine (pBlk m c t r _).trans ((vIs m c _ j).trans ?_)
    exact congrArg (fun i => x2 m c (ix2 i j)) (Fin.ext (hb h0 r))

theorem dqCols_at (d : Fin 8 → FVec Ideal S128x64 .f32) (h : Fin 2) (g : Fin 4) (r : Fin 128) (k : Fin 64) :
    dqCols d (ix2 r ⟨h.val * 256 + g.val * 64 + k.val, by omega⟩) = d (hd h g) (ix2 r k) := by
  unfold dqCols
  fin_cases h <;> fin_cases g
  · iterate 7 refine (Cert.Rows.col_skip r _ _ (Or.inl (by dsimp; omega)) _ _).trans ?_
    exact Cert.Rows.col_hit r _ k _ (by dsimp <;> omega) _ _
  · iterate 6 refine (Cert.Rows.col_skip r _ _ (Or.inl (by dsimp; omega)) _ _).trans ?_
    exact Cert.Rows.col_hit r _ k _ (by dsimp <;> omega) _ _
  · iterate 5 refine (Cert.Rows.col_skip r _ _ (Or.inl (by dsimp; omega)) _ _).trans ?_
    exact Cert.Rows.col_hit r _ k _ (by dsimp <;> omega) _ _
  · iterate 4 refine (Cert.Rows.col_skip r _ _ (Or.inl (by dsimp; omega)) _ _).trans ?_
    exact Cert.Rows.col_hit r _ k _ (by dsimp <;> omega) _ _
  · iterate 3 refine (Cert.Rows.col_skip r _ _ (Or.inl (by dsimp; omega)) _ _).trans ?_
    exact Cert.Rows.col_hit r _ k _ (by dsimp <;> omega) _ _
  · iterate 2 refine (Cert.Rows.col_skip r _ _ (Or.inl (by dsimp; omega)) _ _).trans ?_
    exact Cert.Rows.col_hit r _ k _ (by dsimp <;> omega) _ _
  · iterate 1 refine (Cert.Rows.col_skip r _ _ (Or.inl (by dsimp; omega)) _ _).trans ?_
    exact Cert.Rows.col_hit r _ k _ (by dsimp <;> omega) _ _
  · exact Cert.Rows.col_hit r _ k _ (by dsimp <;> omega) _ _

theorem emb5 (t : Fin cfg0.N) (y) (G : FVec Ideal S4096x512 .f32) : G (ix2 (row t (y 0)) (y 1)) = G ((win0_5.blk t).view.emb y) := by
  blk_ext [idx t, row]
theorem final5_of (c : Dev nD) (G : FVec Ideal S4096x512 .f32) (h : ∀ t (i : Fin 128) (k : Fin 512), (outsAt0 m c t.val t.isLt).1 (ix2 i k) = G (ix2 (row t i) k)) :
    (dats m 0 c).arrAt 5 (cfgs 0).N = G := by
  refine (dats m 0 c).arrAt_eq_of_covers 5 _ (by decide +kernel) fun t hf y => ?_
  blk_simp
  rw [after0_5]
  refine Eq.trans ?_ (emb5 t y G)
  idx_vars y
  exact h t y0 y1
theorem emb6 (t : Fin cfg0.N) (y) (G : FVec Ideal S4096x256 .f32) : G (ix2 (row t (y 0)) (y 1)) = G ((win0_6.blk t).view.emb y) := by
  blk_ext [idx t, row]
theorem final6_of (c : Dev nD) (G : FVec Ideal S4096x256 .f32) (h : ∀ t (i : Fin 128) (k : Fin 256), (outsAt0 m c t.val t.isLt).2.1 (ix2 i k) = G (ix2 (row t i) k)) :
    (dats m 0 c).arrAt 6 (cfgs 0).N = G := by
  refine (dats m 0 c).arrAt_eq_of_covers 6 _ (by decide +kernel) fun t hf y => ?_
  blk_simp
  rw [after0_6]
  refine Eq.trans ?_ (emb6 t y G)
  idx_vars y
  exact h t y0 y1
theorem emb7 (t : Fin cfg0.N) (y) (G : FVec Ideal S32x8x128 .f32) : G (ix3 (blkOf t) (y 1) (y 2)) = G ((win0_7.blk t).view.emb y) := by
  blk_ext [idx t, blkOf]
theorem final7_of (c : Dev nD) (G : FVec Ideal S32x8x128 .f32) (h : ∀ t (z : Fin 8) (r : Fin 128), (outsAt0 m c t.val t.isLt).2.2.1 (ix3 0 z r) = G (ix3 (blkOf t) z r)) :
    (dats m 0 c).arrAt 7 (cfgs 0).N = G := by
  refine (dats m 0 c).arrAt_eq_of_covers 7 _ (by decide +kernel) fun t hf y => ?_
  blk_simp
  rw [after0_7]
  refine Eq.trans ?_ (emb7 t y G)
  idx_vars y
  rw [show y0 = 0 from Fin.ext (by have := y0.isLt; omega)]
  exact h t y1 y2

/-- The host's sum of the first lanes over the blocks. -/
theorem cutLane (x : FVec Ideal S32x8x128 .f32) : Host.reduceAdd (shapeCast S32x8 (extractStridedSlice S32x8x1 ![0, 0, 0] x slices_S32x8x128_S32x8x1_0_0_0) shapeCasts_S32x8x1_S32x8)
    (constant S_ .f32 0x00000000#32) reducesTo_S32x8_S8_d0 h_S_ = fun i => ∑ n : Fin 32, x (ix3 n (i 0) 0) := by
  funext i
  idx_vars i
  pointwise

theorem tail6 (c : Dev nD) : Pipeline.afterTail₀ cfgs (dats m) 0 (V0 m) [hostOps1] c main_v6
    = fun i => ∑ n : Fin 32, (show FVec Ideal S32x8x128 .f32 from (dats m 0 c).arrAt 7 (cfgs 0).N) (ix3 n (i 0) 0) := by
  unfold Pipeline.afterTail₀
  simp only [List.flatten_cons, List.flatten_nil, List.append_nil, hostOps1]
  after_results
  have h := (dats m 0 c).withArrays_arrAt (by decide) (V0 m c) (fun w => rfl) 7
  refine Eq.trans ?_ (cutLane (show FVec Ideal S32x8x128 .f32 from (dats m 0 c).arrAt 7 (cfgs 0).N))
  rw [← h]
  funext i
  rfl

theorem pre_real (x0 x1 x2 x3 x4)
    (h : (Cert.Pre_attn_finite.fn (F := Ideal) x0 x1 x2 x3 x4).1 = (fun _ => 1#1)
    ∧ (Cert.Pre_attn_finite.fn (F := Ideal) x0 x1 x2 x3 x4).2.1 = (fun _ => 1#1)
    ∧ (Cert.Pre_attn_finite.fn (F := Ideal) x0 x1 x2 x3 x4).2.2.1 = (fun _ => 1#1)
    ∧ (Cert.Pre_attn_finite.fn (F := Ideal) x0 x1 x2 x3 x4).2.2.2.1 = (fun _ => 1#1)
    ∧ (Cert.Pre_attn_finite.fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) := by
  unfold Cert.Pre_attn_finite.fn Cert.Pre_attn_finite.fn_part1 at h
  dsimp only at h
  exact ⟨real_of x0 _ _ h.1 (fun _ => rfl) (fun _ => rfl), real_of x1 _ _ h.2.1 (fun _ => rfl) (fun _ => rfl), real_of x2 _ _ h.2.2.1 (fun _ => rfl) (fun _ => rfl), real_of x3 _ _ h.2.2.2.1 (fun _ => rfl) (fun _ => rfl), real_of x4 _ _ h.2.2.2.2 (fun _ => rfl) (fun _ => rfl)⟩

section
variable (c : Dev nD) (h0 : ∀ i, IsReal (x0 m c i)) (h1 : ∀ i, IsReal (x1 m c i)) (h2 : ∀ i, IsReal (x2 m c i)) (h3 : ∀ i, IsReal (x3 m c i)) (h4 : ∀ i, IsReal (x4 m c i))
include h0 h1 h2 h3 h4

theorem dq_val (t : Fin cfg0.N) (r : Fin 128) (k : Fin 512) :
    (outsAt0 m c t.val t.isLt).1 (ix2 r k) = val_main_v157 (F := Ideal) (x0 m c) (x1 m c) (x2 m c) (x3 m c) (x4 m c) (ix2 (row t r) k) := by
  have hk : k = ⟨(⟨k.val / 256, by omega⟩ : Fin 2).val * 256 + (⟨k.val / 64 % 4, by omega⟩ : Fin 4).val * 64 + (⟨k.val % 64, by omega⟩ : Fin 64).val, by dsimp; omega⟩ := Fin.ext (by dsimp; omega)
  rw [outQ, hk, dqCols_at]
  unfold atBlock
  rw [word_eq]
  exact dq_eq (holds m c t) _ _ r h0 h1 h2 h3 h4 _

theorem early_k (t : Fin cfg0.N) (r : Fin 128) (h : Fin 2) (d : Fin 64) : atBlock m c t earlyV (ix2 r ⟨h.val * 64 + d.val, by omega⟩)
    = val_main_v137 (F := Ideal) (x0 m c) (x1 m c) (x2 m c) (x3 m c) (x4 m c) (ix4 (blkOf t) h ⟨r.val, by omega⟩ d) := by
  unfold atBlock
  rw [word_eq, early_at]
  exact band_k_eq (holds m c t) h ⟨r.val, by omega⟩ h0 h1 h2 h3 h4 d
theorem early_v (t : Fin cfg0.N) (r : Fin 128) (h : Fin 2) (d : Fin 64) : atBlock m c t earlyV (ix2 r ⟨128 + (h.val * 64 + d.val), by omega⟩)
    = val_main_v111 (F := Ideal) (x0 m c) (x1 m c) (x3 m c) (x4 m c) (ix4 (blkOf t) h d ⟨r.val, by omega⟩) := by
  unfold atBlock
  rw [word_eq, early_at]
  exact band_v_eq (holds m c t) h ⟨r.val, by omega⟩ h0 h1 h2 h3 h4 d
theorem late_k (t : Fin cfg0.N) (x) (r : Fin 128) (h : Fin 2) (d : Fin 64) : atBlock m c t lateV x (ix2 r ⟨h.val * 64 + d.val, by omega⟩)
    = val_main_v137 (F := Ideal) (x0 m c) (x1 m c) (x2 m c) (x3 m c) (x4 m c) (ix4 (blkOf t) h ⟨128 + r.val, by omega⟩ d) + x (ix2 r ⟨h.val * 64 + d.val, by omega⟩) := by
  unfold atBlock
  rw [word_eq, late_at]
  exact congrArg (· + _) (band_k_eq (holds m c t) h ⟨128 + r.val, by omega⟩ h0 h1 h2 h3 h4 d)
theorem late_v (t : Fin cfg0.N) (x) (r : Fin 128) (h : Fin 2) (d : Fin 64) : atBlock m c t lateV x (ix2 r ⟨128 + (h.val * 64 + d.val), by omega⟩)
    = val_main_v111 (F := Ideal) (x0 m c) (x1 m c) (x3 m c) (x4 m c) (ix4 (blkOf t) h d ⟨128 + r.val, by omega⟩) + x (ix2 r ⟨128 + (h.val * 64 + d.val), by omega⟩) := by
  unfold atBlock
  rw [word_eq, late_at]
  exact congrArg (· + _) (band_v_eq (holds m c t) h ⟨128 + r.val, by omega⟩ h0 h1 h2 h3 h4 d)

theorem zeros_at (r : Fin 128) (j : Fin 256) : k0_pay3 (F := Ideal) (ix2 r j) = (0 : EReal) := by
  pointwise [k0_pay3]

theorem blk_next (t : Fin cfg0.N) (n : Nat) (hn : n + 1 = t.val) (hl : n < cfg0.N) : ∃ h : (blkOf t).val + 1 < 32, blkOf ⟨n, hl⟩ = ⟨(blkOf t).val + 1, h⟩ := by
  have hN : cfg0.N = 32 := N_0
  have ht := t.isLt
  refine ⟨?_, Fin.ext ?_⟩
  · change 31 - t.val + 1 < 32
    omega
  · change 31 - n = 31 - t.val + 1
    omega

theorem dkv_val (t : Fin cfg0.N) (r : Fin 128) (k : Fin 256) :
    (outsAt0 m c t.val t.isLt).2.1 (ix2 r k) = val_main_v158 (F := Ideal) (x0 m c) (x1 m c) (x2 m c) (x3 m c) (x4 m c) (ix2 (row t r) k) := by
  have hN : cfg0.N = 32 := N_0
  have ht := t.isLt
  by_cases hk : k.val < 128
  · have e : k = ⟨(⟨k.val / 64, by omega⟩ : Fin 2).val * 64 + (⟨k.val % 64, by omega⟩ : Fin 64).val, by dsimp; omega⟩ := Fin.ext (by dsimp; omega)
    rw [e]
    refine Eq.trans ?_ (Cert.AttnRefIdeal.Hand.v158_k (x0 m c) (x1 m c) (x2 m c) (x3 m c) (x4 m c) (blkOf t) _ r _).symm
    by_cases hz : t.val % 32 = 0
    · rw [outKA m c t hz, late_k m c h0 h1 h2 h3 h4, zeros_at m c h0 h1 h2 h3 h4, dif_neg (by change ¬ (31 - t.val + 1 < 32); omega)]
    · obtain ⟨n, hn⟩ : ∃ n, n + 1 = t.val := ⟨t.val - 1, by omega⟩
      obtain ⟨hb, eb⟩ := blk_next m c h0 h1 h2 h3 h4 t n hn (by omega)
      rw [outKB m c t hz n hn (by omega), late_k m c h0 h1 h2 h3 h4, dif_pos hb, ← eb, outR m c ⟨n, by omega⟩, early_k m c h0 h1 h2 h3 h4]
  · have e : k = ⟨128 + ((⟨(k.val - 128) / 64, by omega⟩ : Fin 2).val * 64 + (⟨k.val % 64, by omega⟩ : Fin 64).val), by dsimp; omega⟩ := Fin.ext (by dsimp; omega)
    rw [e]
    refine Eq.trans ?_ (Cert.AttnRefIdeal.Hand.v158_v (x0 m c) (x1 m c) (x2 m c) (x3 m c) (x4 m c) (blkOf t) _ r _).symm
    by_cases hz : t.val % 32 = 0
    · rw [outKA m c t hz, late_v m c h0 h1 h2 h3 h4, zeros_at m c h0 h1 h2 h3 h4, dif_neg (by change ¬ (31 - t.val + 1 < 32); omega)]
    · obtain ⟨n, hn⟩ : ∃ n, n + 1 = t.val := ⟨t.val - 1, by omega⟩
      obtain ⟨hb, eb⟩ := blk_next m c h0 h1 h2 h3 h4 t n hn (by omega)
      rw [outKB m c t hz n hn (by omega), late_v m c h0 h1 h2 h3 h4, dif_pos hb, ← eb, outR m c ⟨n, by omega⟩, early_v m c h0 h1 h2 h3 h4]

/-- A block's share of a sink's gradient. -/
def share (n : Fin 32) (h : Fin 2) (g : Fin 4) : EReal :=
  ∑ r : Fin 128, -(softSink (SC (x0 m c) (x1 m c) n h g r) (sn (x3 m c) h g) * ∑ k, soft (SC (x0 m c) (x1 m c) n h g r) (sn (x3 m c) h g) k * DP (x2 m c) (x4 m c) n h g r k)

theorem dsk_val (t : Fin cfg0.N) (z : Fin 8) (r : Fin 128) :
    (outsAt0 m c t.val t.isLt).2.2.1 (ix3 0 z r) = share m c (blkOf t) ⟨z.val / 4, by omega⟩ ⟨z.val % 4, by omega⟩ := by
  have hz : z = hd ⟨z.val / 4, by omega⟩ ⟨z.val % 4, by omega⟩ := Fin.ext (by change z.val = z.val / 4 * 4 + z.val % 4; omega)
  rw [outS]
  unfold atBlock
  rw [word_eq, sinks_at]
  conv_lhs => rw [hz]
  exact dsk_eq (holds m c t) _ _ r h0 h1 h2 h3 h4

theorem dsinks_val (z : Fin 8) : val_main_v130 (F := Ideal) (x0 m c) (x1 m c) (x2 m c) (x3 m c) (x4 m c) (ix1 z)
    = ∑ n : Fin 32, share m c n ⟨z.val / 4, by omega⟩ ⟨z.val % 4, by omega⟩ := by
  rw [Cert.AttnRefIdeal.Hand.v130_at, Cert.AttnRefIdeal.Hand.dsinks_at (x0 m c) (x1 m c) (x2 m c) (x3 m c) (x4 m c) _ _ h0 h1 (h3 _)
    (fun n r s => Cert.AttnRefIdeal.Hand.dp_real (x2 m c) (x4 m c) n _ _ r s h2 h4)]
  rfl
end

theorem is157 (c : Dev nD) (hpre : Pre_AttnIdeal_attn_finite m) (y0 : FVec Ideal S4096x512 .f32) (y1 y2 : FVec Ideal S4096x128 .f32) (y3 : FVec Ideal S8 .f32) (y4 : FVec Ideal S4096x512 .f32)
    (e0 : y0 = x0 m c) (e1 : y1 = x1 m c) (e2 : y2 = x2 m c) (e3 : y3 = x3 m c) (e4 : y4 = x4 m c) :
    val_main_v157 (F := Ideal) y0 y1 y2 y3 y4 = (dats m 0 c).arrAt 5 (cfgs 0).N := by
  subst e0 e1 e2 e3 e4
  obtain ⟨h0, h1, h2, h3, h4⟩ := pre_real _ _ _ _ _ (hpre c)
  exact (final5_of m c _ (dq_val m c h0 h1 h2 h3 h4)).symm
theorem is158 (c : Dev nD) (hpre : Pre_AttnIdeal_attn_finite m) (y0 : FVec Ideal S4096x512 .f32) (y1 y2 : FVec Ideal S4096x128 .f32) (y3 : FVec Ideal S8 .f32) (y4 : FVec Ideal S4096x512 .f32)
    (e0 : y0 = x0 m c) (e1 : y1 = x1 m c) (e2 : y2 = x2 m c) (e3 : y3 = x3 m c) (e4 : y4 = x4 m c) :
    val_main_v158 (F := Ideal) y0 y1 y2 y3 y4 = (dats m 0 c).arrAt 6 (cfgs 0).N := by
  subst e0 e1 e2 e3 e4
  obtain ⟨h0, h1, h2, h3, h4⟩ := pre_real _ _ _ _ _ (hpre c)
  exact (final6_of m c _ (dkv_val m c h0 h1 h2 h3 h4)).symm
theorem is130 (c : Dev nD) (hpre : Pre_AttnIdeal_attn_finite m) (y0 : FVec Ideal S4096x512 .f32) (y1 y2 : FVec Ideal S4096x128 .f32) (y3 : FVec Ideal S8 .f32) (y4 : FVec Ideal S4096x512 .f32)
    (e0 : y0 = x0 m c) (e1 : y1 = x1 m c) (e2 : y2 = x2 m c) (e3 : y3 = x3 m c) (e4 : y4 = x4 m c) :
    val_main_v130 (F := Ideal) y0 y1 y2 y3 y4 = Pipeline.afterTail₀ cfgs (dats m) 0 (V0 m) [hostOps1] c main_v6 := by
  subst e0 e1 e2 e3 e4
  obtain ⟨h0, h1, h2, h3, h4⟩ := pre_real _ _ _ _ _ (hpre c)
  rw [tail6, final7_of m c (fun i => share m c (i 0) ⟨(i 1).val / 4, by have := (i 1).isLt; change _ < 8 at this; omega⟩ ⟨(i 1).val % 4, by omega⟩) (dsk_val m c h0 h1 h2 h3 h4)]
  funext i
  idx_vars i
  exact dsinks_val m c h0 h1 h2 h3 h4 i0

theorem preserves : Cert.preserves_Attn_AttnIdeal :=
  IdealRules.named_const.statement Cert.AttnIdeal.κ "mask" .f32 0xF149F2CA#32 ⊥ rfl

set_option maxHeartbeats 2000000 in
theorem algebraic : Cert.algebraic_AttnIdeal_AttnRefIdeal_pre_attn_finite := by
  pair_intro
  · run_from Cert.AttnIdeal.Gen.run_main m g
    exacts [Cert.AttnIdeal.Gen.W_main_arg0 m (dats m) c, Cert.AttnIdeal.Gen.W_main_arg1 m (dats m) c, Cert.AttnIdeal.Gen.W_main_arg2 m (dats m) c]
  · run_from Cert.AttnRefIdeal.Value.run m' g'
    · exact (val_main_v157_eq (StableHlo.launchContents m' c)).trans (is157 m c hpre _ _ _ _ _ (hagree c).1 (hagree c).2.1 (hagree c).2.2.1 (hagree c).2.2.2.1 (hagree c).2.2.2.2)
    · exact (val_main_v158_eq (StableHlo.launchContents m' c)).trans (is158 m c hpre _ _ _ _ _ (hagree c).1 (hagree c).2.1 (hagree c).2.2.1 (hagree c).2.2.2.1 (hagree c).2.2.2.2)
    · exact (val_main_v130_eq (StableHlo.launchContents m' c)).trans (is130 m c hpre _ _ _ _ _ (hagree c).1 (hagree c).2.1 (hagree c).2.2.1 (hagree c).2.2.2.1 (hagree c).2.2.2.2)

end Cert.AttnIdeal.Hand

end
-- ==== Proof.Prep.lean ====
module

public import proofs.«01_k».proof.Defs
public import proofs.«01_k».proof.Proof.Gen.PrepIdeal.Frame
public import proofs.«01_k».proof.Proof.Gen.PrepRefIdeal.Read
public import proofs.«01_k».proof.Proof.Gen.Pre_prep_finite
public import proofs.«01_k».proof.Proof.Reals
public import proofs.«01_k».proof.Proof.Finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Hand

open Cert.PrepIdeal Cert.PrepIdeal.Gen Cert.PrepRefIdeal.Read

/-! ## One state of one channel group: eigenvalue a + ib, time step e, the cotangents p, q of the input's factor and s, t of the decay -/

def mg (a e : EReal) : EReal := Ideal.exp (a * e)
def cs (b e : EReal) : EReal := Ideal.cos (b * e)
def sn (b e : EReal) : EReal := Ideal.sin (b * e)
def dn (a b : EReal) : EReal := a * a + b * b
def ar (a b e : EReal) : EReal := mg a e * cs b e - 1
def ai (a b e : EReal) : EReal := mg a e * sn b e
def ur (a b e : EReal) : EReal := ar a b e * a + ai a b e * b
def ui (a b e : EReal) : EReal := ai a b e * a - ar a b e * b
def fr (a b e : EReal) : EReal := Ideal.div (ur a b e) (dn a b)
def fi (a b e : EReal) : EReal := Ideal.div (ui a b e) (dn a b)
def dd (a b e p q : EReal) : EReal := -(q * Ideal.div 1 (dn a b * dn a b) * ui a b e) + -(p * Ideal.div 1 (dn a b * dn a b) * ur a b e)
def tr (a b p q s : EReal) : EReal := s + -Ideal.div q (dn a b) * b + Ideal.div p (dn a b) * a
def ti (a b p q t : EReal) : EReal := t + Ideal.div q (dn a b) * a + Ideal.div p (dn a b) * b
def gi (a b e p q s t : EReal) : EReal := mg a e * ti a b p q t * cs b e + -(mg a e * tr a b p q s) * sn b e
def ge (a b e p q s t : EReal) : EReal := (ti a b p q t * sn b e + tr a b p q s * cs b e) * mg a e
def dli (a b e p q s t : EReal) : EReal :=
  ar a b e * -Ideal.div q (dn a b) + ai a b e * Ideal.div p (dn a b) + b * dd a b e p q + dd a b e p q * b + gi a b e p q s t * e
def dlr (a b e p q s t : EReal) : EReal :=
  ai a b e * Ideal.div q (dn a b) + ar a b e * Ideal.div p (dn a b) + a * dd a b e p q + dd a b e p q * a + ge a b e p q s t * e

section Reference
variable (x0 x1 : FVec Ideal S4x32x64 .f32) (x2 : FVec Ideal S4x32 .f32) (x3 x4 : FVec Ideal S4x32x64x16 .f32)
  (x5 x6 : FVec Ideal S4x32x64 .f32) (x7 x8 : FVec Ideal S4x32x64x16 .f32) (l : Fin 4) (g : Fin 32) (n : Fin 64)

/-- The cotangents of the two parts of the input's factor. -/
def P : EReal := (∑ j : Fin 16, x8 (ix4 l g n j) * x4 (ix4 l g n j)) + ∑ j : Fin 16, x7 (ix4 l g n j) * x3 (ix4 l g n j)
def Q : EReal := (∑ j : Fin 16, x8 (ix4 l g n j) * x3 (ix4 l g n j)) + ∑ j : Fin 16, -x7 (ix4 l g n j) * x4 (ix4 l g n j)

/-- The time step. -/
def E : EReal := Ideal.exp (x2 (ix2 l g))

theorem v1_at : val_main_v1 (F := Ideal) x2 (ix3 l g 0) = E x2 l g := by pointwise [val_main_v1, val_main_v0, E]
theorem v4_at : val_main_v4 (F := Ideal) x0 x2 (ix3 l g n) = mg (x0 (ix3 l g n)) (E x2 l g) := by
  pointwise [val_main_v4, val_main_v3, val_main_v2, val_main_v1, val_main_v0, E, mg]
theorem v7_at : val_main_v7 (F := Ideal) x1 x2 (ix3 l g n) = cs (x1 (ix3 l g n)) (E x2 l g) := by
  pointwise [val_main_v7, val_main_v6, val_main_v5, val_main_v1, val_main_v0, E, cs]
theorem v8_at : val_main_v8 (F := Ideal) x1 x2 (ix3 l g n) = sn (x1 (ix3 l g n)) (E x2 l g) := by
  pointwise [val_main_v8, val_main_v6, val_main_v5, val_main_v1, val_main_v0, E, sn]
theorem v10_at : val_main_v10 (F := Ideal) x1 x2 (ix3 l g n) = sn (x1 (ix3 l g n)) (E x2 l g) := v8_at x1 x2 l g n
theorem v11_at : val_main_v11 (F := Ideal) x1 x2 (ix3 l g n) = cs (x1 (ix3 l g n)) (E x2 l g) := v7_at x1 x2 l g n
theorem v12_at : val_main_v12 (F := Ideal) x0 x1 x2 (ix3 l g n) = ai (x0 (ix3 l g n)) (x1 (ix3 l g n)) (E x2 l g) := by
  pointwise [val_main_v12]
  rw [v4_at, v10_at, ai]
theorem v14_at : val_main_v14 (F := Ideal) x0 x1 x2 (ix3 l g n) = ar (x0 (ix3 l g n)) (x1 (ix3 l g n)) (E x2 l g) := by
  pointwise [val_main_v14, val_main_v9, val_main_v13, val_main_cst]
  rw [v4_at, v7_at, ar]
theorem v17_at : val_main_v17 (F := Ideal) x0 x1 (ix3 l g n) = dn (x0 (ix3 l g n)) (x1 (ix3 l g n)) := by
  pointwise [val_main_v17, val_main_v16, val_main_v15, dn]
theorem v20_at : val_main_v20 (F := Ideal) x0 x1 x2 (ix3 l g n) = ur (x0 (ix3 l g n)) (x1 (ix3 l g n)) (E x2 l g) := by
  pointwise [val_main_v20, val_main_v19, val_main_v18]
  rw [v14_at, v12_at, ur]
theorem v27_at : val_main_v27 (F := Ideal) x0 x1 x2 (ix3 l g n) = ui (x0 (ix3 l g n)) (x1 (ix3 l g n)) (E x2 l g) := by
  pointwise [val_main_v27, val_main_v26, val_main_v25]
  rw [v14_at, v12_at, ui]
theorem v21_at : val_main_v21 (F := Ideal) x0 x1 x2 (ix3 l g n) = fr (x0 (ix3 l g n)) (x1 (ix3 l g n)) (E x2 l g) := by
  pointwise [val_main_v21]
  rw [v20_at, v17_at, fr]
theorem v28_at : val_main_v28 (F := Ideal) x0 x1 x2 (ix3 l g n) = fi (x0 (ix3 l g n)) (x1 (ix3 l g n)) (E x2 l g) := by
  pointwise [val_main_v28]
  rw [v27_at, v17_at, fi]
theorem v69_at : val_main_v69 (F := Ideal) x3 x4 x7 x8 (ix3 l g n) = Q x3 x4 x7 x8 l g n := by
  pointwise [val_main_v69, val_main_v53, val_main_v52, val_main_v51, val_main_v50, val_main_v47, val_main_v68, val_main_v67, val_main_v66, val_main_v65, val_main_v61, val_main_cst_2, val_main_cst_3, val_main_cst_6, val_main_cst_7, Q]
  simp only [Fin.sum_univ_one]
theorem v77_at : val_main_v77 (F := Ideal) x3 x4 x7 x8 (ix3 l g n) = P x3 x4 x7 x8 l g n := by
  pointwise [val_main_v77, val_main_v59, val_main_v58, val_main_v57, val_main_v56, val_main_v46, val_main_v76, val_main_v75, val_main_v74, val_main_v73, val_main_v60, val_main_cst_4, val_main_cst_5, val_main_cst_8, val_main_cst_9, P]
  simp only [Fin.sum_univ_one]
theorem v92_at : val_main_v92 (F := Ideal) x0 x1 x2 x3 x4 x7 x8 (ix3 l g n)
    = dd (x0 (ix3 l g n)) (x1 (ix3 l g n)) (E x2 l g) (P x3 x4 x7 x8 l g n) (Q x3 x4 x7 x8 l g n) := by
  pointwise [val_main_v92, val_main_v91, val_main_v90, val_main_v89, val_main_v80, val_main_v79, val_main_v78, val_main_v31, val_main_v30, val_main_v29, val_main_v24, val_main_v23, val_main_v22, val_main_cst_0, val_main_cst_1]
  rw [v69_at, v77_at, v17_at, v20_at, v27_at, dd]
theorem v101_at : val_main_v101 (F := Ideal) x0 x1 x3 x4 x5 x7 x8 (ix3 l g n)
    = tr (x0 (ix3 l g n)) (x1 (ix3 l g n)) (P x3 x4 x7 x8 l g n) (Q x3 x4 x7 x8 l g n) (x5 (ix3 l g n)) := by
  pointwise [val_main_v101, val_main_v100, val_main_v93, val_main_v85, val_main_v84, val_main_v82, val_main_v81]
  rw [v69_at, v77_at, v17_at, tr]
theorem v97_at : val_main_v97 (F := Ideal) x0 x1 x3 x4 x6 x7 x8 (ix3 l g n)
    = ti (x0 (ix3 l g n)) (x1 (ix3 l g n)) (P x3 x4 x7 x8 l g n) (Q x3 x4 x7 x8 l g n) (x6 (ix3 l g n)) := by
  pointwise [val_main_v97, val_main_v96, val_main_v93, val_main_v88, val_main_v87, val_main_v81]
  rw [v69_at, v77_at, v17_at, ti]
theorem v118_at : val_main_v118 (F := Ideal) x0 x1 x2 x3 x4 x5 x6 x7 x8 (ix3 l g n)
    = gi (x0 (ix3 l g n)) (x1 (ix3 l g n)) (E x2 l g) (P x3 x4 x7 x8 l g n) (Q x3 x4 x7 x8 l g n) (x5 (ix3 l g n)) (x6 (ix3 l g n)) := by
  pointwise [val_main_v118, val_main_v117, val_main_v116, val_main_v113, val_main_v112, val_main_v110]
  rw [v101_at, v97_at, v4_at, v11_at, v8_at, gi]
theorem v125_at : val_main_v125 (F := Ideal) x0 x1 x2 x3 x4 x5 x6 x7 x8 (ix3 l g n)
    = ge (x0 (ix3 l g n)) (x1 (ix3 l g n)) (E x2 l g) (P x3 x4 x7 x8 l g n) (Q x3 x4 x7 x8 l g n) (x5 (ix3 l g n)) (x6 (ix3 l g n)) := by
  pointwise [val_main_v125, val_main_v115, val_main_v114, val_main_v111]
  rw [v101_at, v97_at, v4_at, v7_at, v10_at, ge]
theorem v124_at : val_main_v124 (F := Ideal) x0 x1 x2 x3 x4 x5 x6 x7 x8 (ix3 l g n)
    = dli (x0 (ix3 l g n)) (x1 (ix3 l g n)) (E x2 l g) (P x3 x4 x7 x8 l g n) (Q x3 x4 x7 x8 l g n) (x5 (ix3 l g n)) (x6 (ix3 l g n)) := by
  pointwise [val_main_v124, val_main_v123, val_main_v122, val_main_v105, val_main_v104, val_main_v103, val_main_v102, val_main_v95, val_main_v94, val_main_v93, val_main_v83, val_main_v82, val_main_v81]
  rw [v118_at, v92_at, v69_at, v77_at, v17_at, v14_at, v12_at, v1_at, dli]
theorem v132_at : val_main_v132 (F := Ideal) x0 x1 x2 x3 x4 x5 x6 x7 x8 (ix3 l g n)
    = dlr (x0 (ix3 l g n)) (x1 (ix3 l g n)) (E x2 l g) (P x3 x4 x7 x8 l g n) (Q x3 x4 x7 x8 l g n) (x5 (ix3 l g n)) (x6 (ix3 l g n)) := by
  pointwise [val_main_v132, val_main_v131, val_main_v130, val_main_v109, val_main_v108, val_main_v107, val_main_v106, val_main_v99, val_main_v98, val_main_v93, val_main_v86, val_main_v81]
  rw [v125_at, v92_at, v69_at, v77_at, v17_at, v14_at, v12_at, v1_at, dlr]
theorem v134_at : val_main_v134 (F := Ideal) x0 x1 x2 x3 x4 x5 x6 x7 x8 (ix2 l g)
    = ((∑ n : Fin 64, x1 (ix3 l g n) * gi (x0 (ix3 l g n)) (x1 (ix3 l g n)) (E x2 l g) (P x3 x4 x7 x8 l g n) (Q x3 x4 x7 x8 l g n) (x5 (ix3 l g n)) (x6 (ix3 l g n)))
      + ∑ n : Fin 64, x0 (ix3 l g n) * ge (x0 (ix3 l g n)) (x1 (ix3 l g n)) (E x2 l g) (P x3 x4 x7 x8 l g n) (Q x3 x4 x7 x8 l g n) (x5 (ix3 l g n)) (x6 (ix3 l g n))) * E x2 l g := by
  pointwise [val_main_v134, val_main_v133, val_main_v129, val_main_v128, val_main_v127, val_main_v126, val_main_v121, val_main_v120, val_main_v119, val_main_cst_10, val_main_cst_11, val_main_cst_12, val_main_v0]
  simp only [v118_at, v125_at, Fin.sum_univ_one]
  rfl
theorem v64_at (j : Fin 16) : val_main_v64 (F := Ideal) x0 x1 x2 x7 x8 (ix4 l g n j)
    = fr (x0 (ix3 l g n)) (x1 (ix3 l g n)) (E x2 l g) * x8 (ix4 l g n j) + fi (x0 (ix3 l g n)) (x1 (ix3 l g n)) (E x2 l g) * -x7 (ix4 l g n j) := by
  pointwise [val_main_v64, val_main_v63, val_main_v62, val_main_v61, val_main_v55, val_main_v54, val_main_v46, val_main_v39, val_main_v35]
  rw [v21_at, v28_at]
theorem v72_at (j : Fin 16) : val_main_v72 (F := Ideal) x0 x1 x2 x7 x8 (ix4 l g n j)
    = fi (x0 (ix3 l g n)) (x1 (ix3 l g n)) (E x2 l g) * x8 (ix4 l g n j) + fr (x0 (ix3 l g n)) (x1 (ix3 l g n)) (E x2 l g) * x7 (ix4 l g n j) := by
  pointwise [val_main_v72, val_main_v71, val_main_v70, val_main_v60, val_main_v49, val_main_v48, val_main_v47, val_main_v42, val_main_v32]
  rw [v21_at, v28_at]
end Reference

section Kernel
variable (x0 x1 x2 : FVec Ideal S2048x1 .f32) (x3 x4 : FVec Ideal S2048x16 .f32) (x5 x6 : FVec Ideal S2048x1 .f32) (x7 x8 : FVec Ideal S2048x16 .f32) (r : Fin 2048)

def kP : EReal := (∑ j : Fin 16, x8 (ix2 r j) * x4 (ix2 r j)) + ∑ j : Fin 16, x7 (ix2 r j) * x3 (ix2 r j)
def kQ : EReal := (∑ j : Fin 16, x8 (ix2 r j) * x3 (ix2 r j)) + ∑ j : Fin 16, -x7 (ix2 r j) * x4 (ix2 r j)

theorem k26_at : k0_pay26 (F := Ideal) x3 x4 (View.ld x7 r0_1) (View.ld x8 r0_1) (ix2 r 0) = kQ x3 x4 x7 x8 r := by
  pointwise [k0_pay26, k0_pay23, k0_pay24, k0_pay22, kQ]
  simp only [zero_sub]
theorem k26r_at : k0_pay26 (F := Ideal) x3 x4 x7 x8 (ix2 r 0) = kQ x3 x4 x7 x8 r := by
  pointwise [k0_pay26, k0_pay23, k0_pay24, k0_pay22, kQ]
  simp only [zero_sub]
theorem k28_at : k0_pay28 (F := Ideal) x3 x4 (View.ld x7 r0_1) (View.ld x8 r0_1) (ix2 r 0) = kP x3 x4 x7 x8 r := by
  pointwise [k0_pay28, k0_pay23, k0_pay22, kP]
theorem k46_at : k0_pay46 (F := Ideal) x0 x1 x2 x3 x4 x5 x6 x7 x8 (ix2 r 0) = x0 (ix2 r 0) := by
  pointwise [k0_pay46, k0_pay1]
theorem k47_at : k0_pay47 (F := Ideal) x0 x1 x2 x3 x4 x5 x6 x7 x8 (ix2 r 0) = x1 (ix2 r 0) := by
  pointwise [k0_pay47, k0_pay2]
theorem k48_at : k0_pay48 (F := Ideal) x0 x1 x2 x3 x4 x5 x6 x7 x8 = x3 := by
  funext i
  pointwise [k0_pay48, k0_pay3]
theorem k49_at : k0_pay49 (F := Ideal) x0 x1 x2 x3 x4 x5 x6 x7 x8 = x4 := by
  funext i
  pointwise [k0_pay49, k0_pay4]
theorem k50_at : k0_pay50 (F := Ideal) x0 x1 x2 x3 x4 x5 x6 x7 x8 (ix2 r 0) = Ideal.exp (x2 (ix2 r 0)) := by
  pointwise [k0_pay50, k0_pay5]
theorem k51_at : k0_pay51 (F := Ideal) x0 x1 x2 x3 x4 x5 x6 x7 x8 (ix2 r 0) = mg (x0 (ix2 r 0)) (Ideal.exp (x2 (ix2 r 0))) := by
  pointwise [k0_pay51, k0_pay6, k0_pay5, k0_pay1, mg]
theorem k52_at : k0_pay52 (F := Ideal) x0 x1 x2 x3 x4 x5 x6 x7 x8 (ix2 r 0) = cs (x1 (ix2 r 0)) (Ideal.exp (x2 (ix2 r 0))) := by
  pointwise [k0_pay52, k0_pay8, k0_pay7, k0_pay5, k0_pay2, cs]
theorem k53_at : k0_pay53 (F := Ideal) x0 x1 x2 x3 x4 x5 x6 x7 x8 (ix2 r 0) = sn (x1 (ix2 r 0)) (Ideal.exp (x2 (ix2 r 0))) := by
  pointwise [k0_pay53, k0_pay9, k0_pay7, k0_pay5, k0_pay2, sn]
theorem k54_at : k0_pay54 (F := Ideal) x0 x1 x2 x3 x4 x5 x6 x7 x8 (ix2 r 0) = sn (x1 (ix2 r 0)) (Ideal.exp (x2 (ix2 r 0))) := by
  pointwise [k0_pay54, k0_pay10, k0_pay7, k0_pay5, k0_pay2, sn]
theorem k55_at : k0_pay55 (F := Ideal) x0 x1 x2 x3 x4 x5 x6 x7 x8 (ix2 r 0) = cs (x1 (ix2 r 0)) (Ideal.exp (x2 (ix2 r 0))) := by
  pointwise [k0_pay55, k0_pay11, k0_pay7, k0_pay5, k0_pay2, cs]
theorem k56_at : k0_pay56 (F := Ideal) x0 x1 x2 x3 x4 x5 x6 x7 x8 (ix2 r 0) = ai (x0 (ix2 r 0)) (x1 (ix2 r 0)) (Ideal.exp (x2 (ix2 r 0))) := by
  pointwise [k0_pay56, k0_pay12, k0_pay6, k0_pay10, k0_pay7, k0_pay5, k0_pay2, k0_pay1, ai, mg, sn]
theorem k57_at : k0_pay57 (F := Ideal) x0 x1 x2 x3 x4 x5 x6 x7 x8 (ix2 r 0) = ar (x0 (ix2 r 0)) (x1 (ix2 r 0)) (Ideal.exp (x2 (ix2 r 0))) := by
  pointwise [k0_pay57, k0_pay13, k0_pay6, k0_pay8, k0_pay7, k0_pay5, k0_pay2, k0_pay1, ar, mg, cs]
theorem k58_at : k0_pay58 (F := Ideal) x0 x1 x2 x3 x4 x5 x6 x7 x8 (ix2 r 0) = dn (x0 (ix2 r 0)) (x1 (ix2 r 0)) := by
  pointwise [k0_pay58, k0_pay14, k0_pay2, k0_pay1, dn]
theorem k59_at : k0_pay59 (F := Ideal) x0 x1 x2 x3 x4 x5 x6 x7 x8 (ix2 r 0) = fr (x0 (ix2 r 0)) (x1 (ix2 r 0)) (Ideal.exp (x2 (ix2 r 0))) := by
  pointwise [k0_pay59, k0_pay16, k0_pay15, fr, ur, k0_pay12, k0_pay13, k0_pay14, k0_pay6, k0_pay8, k0_pay10, k0_pay7, k0_pay5, k0_pay2, k0_pay1, ai, ar, mg, sn, cs, dn]
theorem k60_at : k0_pay60 (F := Ideal) x0 x1 x2 x3 x4 x5 x6 x7 x8 (ix2 r 0) = fi (x0 (ix2 r 0)) (x1 (ix2 r 0)) (Ideal.exp (x2 (ix2 r 0))) := by
  pointwise [k0_pay60, k0_pay19, k0_pay18, fi, ui, k0_pay12, k0_pay13, k0_pay14, k0_pay6, k0_pay8, k0_pay10, k0_pay7, k0_pay5, k0_pay2, k0_pay1, ai, ar, mg, sn, cs, dn]
theorem k61_at : k0_pay61 (F := Ideal) x0 x1 x2 x3 x4 x5 x6 x7 x8 (ix2 r 0) = kP x3 x4 x7 x8 r := by
  unfold k0_pay61
  rw [k48_at, k49_at, k28_at]
theorem k62_at : k0_pay62 (F := Ideal) x0 x1 x2 x3 x4 x5 x6 x7 x8 (ix2 r 0) = -(kQ x3 x4 x7 x8 r * Ideal.div 1 (dn (x0 (ix2 r 0)) (x1 (ix2 r 0)) * dn (x0 (ix2 r 0)) (x1 (ix2 r 0))) * ui (x0 (ix2 r 0)) (x1 (ix2 r 0)) (Ideal.exp (x2 (ix2 r 0)))) := by
  unfold k0_pay62
  rw [k48_at, k49_at]
  pointwise [k0_pay29, k0_pay18, k0_pay20, ui, k0_pay12, k0_pay13, k0_pay14, k0_pay6, k0_pay8, k0_pay10, k0_pay7, k0_pay5, k0_pay2, k0_pay1, ai, ar, mg, sn, cs, dn]
  rw [k26_at, zero_sub]
theorem k65_at : k0_pay65 (F := Ideal) x0 x1 x2 x3 x4 x5 x6 x7 x8 (ix2 r 0) = -(kP x3 x4 x7 x8 r * Ideal.div 1 (dn (x0 (ix2 r 0)) (x1 (ix2 r 0)) * dn (x0 (ix2 r 0)) (x1 (ix2 r 0))) * ur (x0 (ix2 r 0)) (x1 (ix2 r 0)) (Ideal.exp (x2 (ix2 r 0)))) := by
  unfold k0_pay65
  rw [k48_at, k49_at]
  pointwise [k0_pay36, k0_pay15, k0_pay17, ur, k0_pay12, k0_pay13, k0_pay14, k0_pay6, k0_pay8, k0_pay10, k0_pay7, k0_pay5, k0_pay2, k0_pay1, ai, ar, mg, sn, cs, dn]
  rw [k28_at, zero_sub]
theorem k63_at : k0_pay63 (F := Ideal) x0 x1 x2 x3 x4 x5 x6 x7 x8 (ix2 r 0) = x5 (ix2 r 0) + -Ideal.div (kQ x3 x4 x7 x8 r) (dn (x0 (ix2 r 0)) (x1 (ix2 r 0))) * x1 (ix2 r 0) := by
  unfold k0_pay63
  rw [k48_at, k49_at]
  pointwise [k0_pay33, k0_pay31, k0_pay30, k0_pay21]
  rw [k26_at, zero_sub, k58_at, k47_at]
theorem k64_at : k0_pay64 (F := Ideal) x0 x1 x2 x3 x4 x5 x6 x7 x8 (ix2 r 0) = x6 (ix2 r 0) + Ideal.div (kQ x3 x4 x7 x8 r) (dn (x0 (ix2 r 0)) (x1 (ix2 r 0))) * x0 (ix2 r 0) := by
  unfold k0_pay64
  rw [k48_at, k49_at]
  pointwise [k0_pay35, k0_pay30]
  rw [k26_at, k58_at, k46_at]
end Kernel

theorem out9 (x0 x1 x2 : FVec Ideal S2048x1 .f32) (x3 x4 : FVec Ideal S2048x16 .f32) (x5 x6 : FVec Ideal S2048x1 .f32) (x7 x8 : FVec Ideal S2048x16 .f32) (r : Fin 2048) (i : S2048x1.Idx) (hi : i = ix2 r 0) : k0_pay44 (F := Ideal) (k0_pay46 x0 x1 x2 x3 x4 x5 x6 x7 x8) (k0_pay47 x0 x1 x2 x3 x4 x5 x6 x7 x8) (k0_pay50 x0 x1 x2 x3 x4 x5 x6 x7 x8) (k0_pay51 x0 x1 x2 x3 x4 x5 x6 x7 x8) (k0_pay52 x0 x1 x2 x3 x4 x5 x6 x7 x8) (k0_pay54 x0 x1 x2 x3 x4 x5 x6 x7 x8) (k0_pay57 x0 x1 x2 x3 x4 x5 x6 x7 x8) (k0_pay58 x0 x1 x2 x3 x4 x5 x6 x7 x8) (k0_pay61 x0 x1 x2 x3 x4 x5 x6 x7 x8) (k0_pay62 x0 x1 x2 x3 x4 x5 x6 x7 x8) (k0_pay63 x0 x1 x2 x3 x4 x5 x6 x7 x8) (k0_pay34 (k0_pay48 x0 x1 x2 x3 x4 x5 x6 x7 x8) (k0_pay49 x0 x1 x2 x3 x4 x5 x6 x7 x8) (k0_pay56 x0 x1 x2 x3 x4 x5 x6 x7 x8) (k0_pay58 x0 x1 x2 x3 x4 x5 x6 x7 x8) x7 x8) (k0_pay64 x0 x1 x2 x3 x4 x5 x6 x7 x8) (k0_pay65 x0 x1 x2 x3 x4 x5 x6 x7 x8) i = dlr (x0 (ix2 r 0)) (x1 (ix2 r 0)) (Ideal.exp (x2 (ix2 r 0))) (kP x3 x4 x7 x8 r) (kQ x3 x4 x7 x8 r) (x5 (ix2 r 0)) (x6 (ix2 r 0)) := by
  subst hi
  rw [k48_at, k49_at]
  pointwise [k0_pay44, k0_pay43, k0_pay40, k0_pay39, k0_pay38, k0_pay37, k0_pay34, k0_pay30]
  simp only [k26r_at, k46_at, k47_at, k50_at, k51_at, k52_at, k53_at, k54_at, k55_at, k56_at, k57_at, k58_at, k61_at, k62_at, k63_at, k64_at, k65_at]
  rfl
theorem out10 (x0 x1 x2 : FVec Ideal S2048x1 .f32) (x3 x4 : FVec Ideal S2048x16 .f32) (x5 x6 : FVec Ideal S2048x1 .f32) (x7 x8 : FVec Ideal S2048x16 .f32) (r : Fin 2048) (i : S2048x1.Idx) (hi : i = ix2 r 0) : k0_pay42 (F := Ideal) (k0_pay46 x0 x1 x2 x3 x4 x5 x6 x7 x8) (k0_pay47 x0 x1 x2 x3 x4 x5 x6 x7 x8) (k0_pay50 x0 x1 x2 x3 x4 x5 x6 x7 x8) (k0_pay51 x0 x1 x2 x3 x4 x5 x6 x7 x8) (k0_pay53 x0 x1 x2 x3 x4 x5 x6 x7 x8) (k0_pay55 x0 x1 x2 x3 x4 x5 x6 x7 x8) (k0_pay56 x0 x1 x2 x3 x4 x5 x6 x7 x8) (k0_pay58 x0 x1 x2 x3 x4 x5 x6 x7 x8) (k0_pay61 x0 x1 x2 x3 x4 x5 x6 x7 x8) (k0_pay62 x0 x1 x2 x3 x4 x5 x6 x7 x8) (k0_pay32 (k0_pay48 x0 x1 x2 x3 x4 x5 x6 x7 x8) (k0_pay49 x0 x1 x2 x3 x4 x5 x6 x7 x8) (k0_pay57 x0 x1 x2 x3 x4 x5 x6 x7 x8) (k0_pay58 x0 x1 x2 x3 x4 x5 x6 x7 x8) x7 x8) (k0_pay63 x0 x1 x2 x3 x4 x5 x6 x7 x8) (k0_pay64 x0 x1 x2 x3 x4 x5 x6 x7 x8) (k0_pay65 x0 x1 x2 x3 x4 x5 x6 x7 x8) i = dli (x0 (ix2 r 0)) (x1 (ix2 r 0)) (Ideal.exp (x2 (ix2 r 0))) (kP x3 x4 x7 x8 r) (kQ x3 x4 x7 x8 r) (x5 (ix2 r 0)) (x6 (ix2 r 0)) := by
  subst hi
  rw [k48_at, k49_at]
  pointwise [k0_pay42, k0_pay41, k0_pay40, k0_pay39, k0_pay38, k0_pay37, k0_pay32, k0_pay31, k0_pay30]
  simp only [k26r_at, zero_sub, k46_at, k47_at, k50_at, k51_at, k52_at, k53_at, k54_at, k55_at, k56_at, k57_at, k58_at, k61_at, k62_at, k63_at, k64_at, k65_at]
  rfl
theorem out11 (x0 x1 x2 : FVec Ideal S2048x1 .f32) (x3 x4 : FVec Ideal S2048x16 .f32) (x5 x6 : FVec Ideal S2048x1 .f32) (x7 x8 : FVec Ideal S2048x16 .f32) (r : Fin 2048) (i : S2048x1.Idx) (hi : i = ix2 r 0) : k0_pay45 (F := Ideal) (k0_pay46 x0 x1 x2 x3 x4 x5 x6 x7 x8) (k0_pay47 x0 x1 x2 x3 x4 x5 x6 x7 x8) (k0_pay50 x0 x1 x2 x3 x4 x5 x6 x7 x8) (k0_pay51 x0 x1 x2 x3 x4 x5 x6 x7 x8) (k0_pay52 x0 x1 x2 x3 x4 x5 x6 x7 x8) (k0_pay53 x0 x1 x2 x3 x4 x5 x6 x7 x8) (k0_pay54 x0 x1 x2 x3 x4 x5 x6 x7 x8) (k0_pay55 x0 x1 x2 x3 x4 x5 x6 x7 x8) (k0_pay58 x0 x1 x2 x3 x4 x5 x6 x7 x8) (k0_pay61 x0 x1 x2 x3 x4 x5 x6 x7 x8) (k0_pay63 x0 x1 x2 x3 x4 x5 x6 x7 x8) (k0_pay64 x0 x1 x2 x3 x4 x5 x6 x7 x8) i = (x1 (ix2 r 0) * gi (x0 (ix2 r 0)) (x1 (ix2 r 0)) (Ideal.exp (x2 (ix2 r 0))) (kP x3 x4 x7 x8 r) (kQ x3 x4 x7 x8 r) (x5 (ix2 r 0)) (x6 (ix2 r 0)) + x0 (ix2 r 0) * ge (x0 (ix2 r 0)) (x1 (ix2 r 0)) (Ideal.exp (x2 (ix2 r 0))) (kP x3 x4 x7 x8 r) (kQ x3 x4 x7 x8 r) (x5 (ix2 r 0)) (x6 (ix2 r 0))) * Ideal.exp (x2 (ix2 r 0)) := by
  subst hi
  pointwise [k0_pay45, k0_pay43, k0_pay41, k0_pay40, k0_pay39, k0_pay38]
  simp only [zero_sub, k46_at, k47_at, k50_at, k51_at, k52_at, k53_at, k54_at, k55_at, k56_at, k57_at, k58_at, k61_at, k62_at, k63_at, k64_at, k65_at]
  rfl
theorem out12 (x0 x1 x2 : FVec Ideal S2048x1 .f32) (x3 x4 : FVec Ideal S2048x16 .f32) (x5 x6 : FVec Ideal S2048x1 .f32) (x7 x8 : FVec Ideal S2048x16 .f32) (r : Fin 2048) (j : Fin 16) : k0_pay27 (F := Ideal) (k0_pay59 x0 x1 x2 x3 x4 x5 x6 x7 x8) (k0_pay60 x0 x1 x2 x3 x4 x5 x6 x7 x8) x7 x8 (ix2 r j) = fi (x0 (ix2 r 0)) (x1 (ix2 r 0)) (Ideal.exp (x2 (ix2 r 0))) * x8 (ix2 r j) + fr (x0 (ix2 r 0)) (x1 (ix2 r 0)) (Ideal.exp (x2 (ix2 r 0))) * x7 (ix2 r j) := by
  pointwise [k0_pay27, k0_pay22, k0_pay23]
  simp only [k59_at, k60_at]
theorem out13 (x0 x1 x2 : FVec Ideal S2048x1 .f32) (x3 x4 : FVec Ideal S2048x16 .f32) (x5 x6 : FVec Ideal S2048x1 .f32) (x7 x8 : FVec Ideal S2048x16 .f32) (r : Fin 2048) (j : Fin 16) : k0_pay25 (F := Ideal) (k0_pay59 x0 x1 x2 x3 x4 x5 x6 x7 x8) (k0_pay60 x0 x1 x2 x3 x4 x5 x6 x7 x8) x7 x8 (ix2 r j) = fr (x0 (ix2 r 0)) (x1 (ix2 r 0)) (Ideal.exp (x2 (ix2 r 0))) * x8 (ix2 r j) + fi (x0 (ix2 r 0)) (x1 (ix2 r 0)) (Ideal.exp (x2 (ix2 r 0))) * -x7 (ix2 r j) := by
  pointwise [k0_pay25, k0_pay24, k0_pay22, k0_pay23]
  simp only [k59_at, k60_at, zero_sub]
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem points (t : Fin cfg0.N) : t.val < 4 := t.isLt

/-- The layer, the channel group and the state of a row of the stacked arrays. -/
def lay (i : Fin 8192) : Fin 4 := ⟨i.val / 2048, by omega⟩
def grp (i : Fin 8192) : Fin 32 := ⟨i.val / 64 % 32, by omega⟩
def st (i : Fin 8192) : Fin 64 := ⟨i.val % 64, by omega⟩
/-- The stacked row of row `r` of the block at point `t`. -/
def row (t : Fin cfg0.N) (r : Fin 2048) : Fin 8192 := ⟨t.val * 2048 + r.val, by have := points t; omega⟩

abbrev y0 (c : Dev nD) : FVec Ideal S4x32x64 .f32 := m ((c : Thread nD τ).loc main_arg0)
abbrev y1 (c : Dev nD) : FVec Ideal S4x32x64 .f32 := m ((c : Thread nD τ).loc main_arg1)
abbrev y2 (c : Dev nD) : FVec Ideal S4x32 .f32 := m ((c : Thread nD τ).loc main_arg2)
abbrev y3 (c : Dev nD) : FVec Ideal S4x32x64x16 .f32 := m ((c : Thread nD τ).loc main_arg3)
abbrev y4 (c : Dev nD) : FVec Ideal S4x32x64x16 .f32 := m ((c : Thread nD τ).loc main_arg4)
abbrev y5 (c : Dev nD) : FVec Ideal S4x32x64 .f32 := m ((c : Thread nD τ).loc main_arg5)
abbrev y6 (c : Dev nD) : FVec Ideal S4x32x64 .f32 := m ((c : Thread nD τ).loc main_arg6)
abbrev y7 (c : Dev nD) : FVec Ideal S4x32x64x16 .f32 := m ((c : Thread nD τ).loc main_arg7)
abbrev y8 (c : Dev nD) : FVec Ideal S4x32x64x16 .f32 := m ((c : Thread nD τ).loc main_arg8)
theorem a0 (c : Dev nD) (i : Fin 8192) : (V m c main_v0 : FVec Ideal S8192x1 .f32) (ix2 i 0) = y0 m c (ix3 (lay i) (grp i) (st i)) := by
  unfold V V0
  simp only [List.flatten_cons, List.flatten_nil, List.append_nil, hostOps0]
  after_results
  pointwise
  rfl
theorem b0 (c : Dev nD) (t : Fin cfg0.N) (r : Fin 2048) : iblk m c 0 t (ix2 r 0) = y0 m c (ix3 (lay (row t r)) (grp (row t r)) (st (row t r))) := by
  rw [← a0 m c (row t r)]
  blk_point [iblk, idx t, row]
theorem a1 (c : Dev nD) (i : Fin 8192) : (V m c main_v1 : FVec Ideal S8192x1 .f32) (ix2 i 0) = y1 m c (ix3 (lay i) (grp i) (st i)) := by
  unfold V V0
  simp only [List.flatten_cons, List.flatten_nil, List.append_nil, hostOps0]
  after_results
  pointwise
  rfl
theorem b1 (c : Dev nD) (t : Fin cfg0.N) (r : Fin 2048) : iblk m c 1 t (ix2 r 0) = y1 m c (ix3 (lay (row t r)) (grp (row t r)) (st (row t r))) := by
  rw [← a1 m c (row t r)]
  blk_point [iblk, idx t, row]
theorem a2 (c : Dev nD) (i : Fin 8192) : (V m c main_v4 : FVec Ideal S8192x1 .f32) (ix2 i 0) = y2 m c (ix2 (lay i) (grp i)) := by
  unfold V V0
  simp only [List.flatten_cons, List.flatten_nil, List.append_nil, hostOps0]
  after_results
  pointwise
  rfl
theorem b2 (c : Dev nD) (t : Fin cfg0.N) (r : Fin 2048) : iblk m c 2 t (ix2 r 0) = y2 m c (ix2 (lay (row t r)) (grp (row t r))) := by
  rw [← a2 m c (row t r)]
  blk_point [iblk, idx t, row]
theorem a3 (c : Dev nD) (i : Fin 8192) (j : Fin 16) : (V m c main_v5 : FVec Ideal S8192x16 .f32) (ix2 i j) = y3 m c (ix4 (lay i) (grp i) (st i) j) := by
  unfold V V0
  simp only [List.flatten_cons, List.flatten_nil, List.append_nil, hostOps0]
  after_results
  pointwise
  rfl
theorem b3 (c : Dev nD) (t : Fin cfg0.N) (r : Fin 2048) (j : Fin 16) : iblk m c 3 t (ix2 r j) = y3 m c (ix4 (lay (row t r)) (grp (row t r)) (st (row t r)) j) := by
  rw [← a3 m c (row t r) j]
  blk_point [iblk, idx t, row]
theorem a4 (c : Dev nD) (i : Fin 8192) (j : Fin 16) : (V m c main_v6 : FVec Ideal S8192x16 .f32) (ix2 i j) = y4 m c (ix4 (lay i) (grp i) (st i) j) := by
  unfold V V0
  simp only [List.flatten_cons, List.flatten_nil, List.append_nil, hostOps0]
  after_results
  pointwise
  rfl
theorem b4 (c : Dev nD) (t : Fin cfg0.N) (r : Fin 2048) (j : Fin 16) : iblk m c 4 t (ix2 r j) = y4 m c (ix4 (lay (row t r)) (grp (row t r)) (st (row t r)) j) := by
  rw [← a4 m c (row t r) j]
  blk_point [iblk, idx t, row]
theorem a5 (c : Dev nD) (i : Fin 8192) : (V m c main_v7 : FVec Ideal S8192x1 .f32) (ix2 i 0) = y5 m c (ix3 (lay i) (grp i) (st i)) := by
  unfold V V0
  simp only [List.flatten_cons, List.flatten_nil, List.append_nil, hostOps0]
  after_results
  pointwise
  rfl
theorem b5 (c : Dev nD) (t : Fin cfg0.N) (r : Fin 2048) : iblk m c 5 t (ix2 r 0) = y5 m c (ix3 (lay (row t r)) (grp (row t r)) (st (row t r))) := by
  rw [← a5 m c (row t r)]
  blk_point [iblk, idx t, row]
theorem a6 (c : Dev nD) (i : Fin 8192) : (V m c main_v8 : FVec Ideal S8192x1 .f32) (ix2 i 0) = y6 m c (ix3 (lay i) (grp i) (st i)) := by
  unfold V V0
  simp only [List.flatten_cons, List.flatten_nil, List.append_nil, hostOps0]
  after_results
  pointwise
  rfl
theorem b6 (c : Dev nD) (t : Fin cfg0.N) (r : Fin 2048) : iblk m c 6 t (ix2 r 0) = y6 m c (ix3 (lay (row t r)) (grp (row t r)) (st (row t r))) := by
  rw [← a6 m c (row t r)]
  blk_point [iblk, idx t, row]
theorem a7 (c : Dev nD) (i : Fin 8192) (j : Fin 16) : (V m c main_v9 : FVec Ideal S8192x16 .f32) (ix2 i j) = y7 m c (ix4 (lay i) (grp i) (st i) j) := by
  unfold V V0
  simp only [List.flatten_cons, List.flatten_nil, List.append_nil, hostOps0]
  after_results
  pointwise
  rfl
theorem b7 (c : Dev nD) (t : Fin cfg0.N) (r : Fin 2048) (j : Fin 16) : iblk m c 7 t (ix2 r j) = y7 m c (ix4 (lay (row t r)) (grp (row t r)) (st (row t r)) j) := by
  rw [← a7 m c (row t r) j]
  blk_point [iblk, idx t, row]
theorem a8 (c : Dev nD) (i : Fin 8192) (j : Fin 16) : (V m c main_v10 : FVec Ideal S8192x16 .f32) (ix2 i j) = y8 m c (ix4 (lay i) (grp i) (st i) j) := by
  unfold V V0
  simp only [List.flatten_cons, List.flatten_nil, List.append_nil, hostOps0]
  after_results
  pointwise
  rfl
theorem b8 (c : Dev nD) (t : Fin cfg0.N) (r : Fin 2048) (j : Fin 16) : iblk m c 8 t (ix2 r j) = y8 m c (ix4 (lay (row t r)) (grp (row t r)) (st (row t r)) j) := by
  rw [← a8 m c (row t r) j]
  blk_point [iblk, idx t, row]
theorem kP_eq (c : Dev nD) (t : Fin cfg0.N) (r : Fin 2048) : kP (iblk m c 3 t) (iblk m c 4 t) (iblk m c 7 t) (iblk m c 8 t) r
    = P (y3 m c) (y4 m c) (y7 m c) (y8 m c) (lay (row t r)) (grp (row t r)) (st (row t r)) := by
  unfold kP P
  simp only [b3, b4, b7, b8]
theorem kQ_eq (c : Dev nD) (t : Fin cfg0.N) (r : Fin 2048) : kQ (iblk m c 3 t) (iblk m c 4 t) (iblk m c 7 t) (iblk m c 8 t) r
    = Q (y3 m c) (y4 m c) (y7 m c) (y8 m c) (lay (row t r)) (grp (row t r)) (st (row t r)) := by
  unfold kQ Q
  simp only [b3, b4, b7, b8]

/-- The gradient of the time step's logarithm in one state. -/
def dt (x0 x1 : FVec Ideal S4x32x64 .f32) (x2 : FVec Ideal S4x32 .f32) (x3 x4 : FVec Ideal S4x32x64x16 .f32)
    (x5 x6 : FVec Ideal S4x32x64 .f32) (x7 x8 : FVec Ideal S4x32x64x16 .f32) (l : Fin 4) (g : Fin 32) (n : Fin 64) : EReal :=
  (x1 (ix3 l g n) * gi (x0 (ix3 l g n)) (x1 (ix3 l g n)) (E x2 l g) (P x3 x4 x7 x8 l g n) (Q x3 x4 x7 x8 l g n) (x5 (ix3 l g n)) (x6 (ix3 l g n))
    + x0 (ix3 l g n) * ge (x0 (ix3 l g n)) (x1 (ix3 l g n)) (E x2 l g) (P x3 x4 x7 x8 l g n) (Q x3 x4 x7 x8 l g n) (x5 (ix3 l g n)) (x6 (ix3 l g n))) * E x2 l g
def dre (x0 x1 : FVec Ideal S4x32x64 .f32) (x2 : FVec Ideal S4x32 .f32) (x3 x4 : FVec Ideal S4x32x64x16 .f32)
  (x5 x6 : FVec Ideal S4x32x64 .f32) (x7 x8 : FVec Ideal S4x32x64x16 .f32) (l : Fin 4) (g : Fin 32) (n : Fin 64) : EReal := dlr (x0 (ix3 l g n)) (x1 (ix3 l g n)) (E x2 l g) (P x3 x4 x7 x8 l g n) (Q x3 x4 x7 x8 l g n) (x5 (ix3 l g n)) (x6 (ix3 l g n))
def dim (x0 x1 : FVec Ideal S4x32x64 .f32) (x2 : FVec Ideal S4x32 .f32) (x3 x4 : FVec Ideal S4x32x64x16 .f32)
  (x5 x6 : FVec Ideal S4x32x64 .f32) (x7 x8 : FVec Ideal S4x32x64x16 .f32) (l : Fin 4) (g : Fin 32) (n : Fin 64) : EReal := dli (x0 (ix3 l g n)) (x1 (ix3 l g n)) (E x2 l g) (P x3 x4 x7 x8 l g n) (Q x3 x4 x7 x8 l g n) (x5 (ix3 l g n)) (x6 (ix3 l g n))
def dbr (x0 x1 : FVec Ideal S4x32x64 .f32) (x2 : FVec Ideal S4x32 .f32) (x3 x4 : FVec Ideal S4x32x64x16 .f32)
  (x5 x6 : FVec Ideal S4x32x64 .f32) (x7 x8 : FVec Ideal S4x32x64x16 .f32) (l : Fin 4) (g : Fin 32) (n : Fin 64) (j : Fin 16) : EReal := fi (x0 (ix3 l g n)) (x1 (ix3 l g n)) (E x2 l g) * x8 (ix4 l g n j) + fr (x0 (ix3 l g n)) (x1 (ix3 l g n)) (E x2 l g) * x7 (ix4 l g n j)
def dbi (x0 x1 : FVec Ideal S4x32x64 .f32) (x2 : FVec Ideal S4x32 .f32) (x3 x4 : FVec Ideal S4x32x64x16 .f32)
  (x5 x6 : FVec Ideal S4x32x64 .f32) (x7 x8 : FVec Ideal S4x32x64x16 .f32) (l : Fin 4) (g : Fin 32) (n : Fin 64) (j : Fin 16) : EReal := fr (x0 (ix3 l g n)) (x1 (ix3 l g n)) (E x2 l g) * x8 (ix4 l g n j) + fi (x0 (ix3 l g n)) (x1 (ix3 l g n)) (E x2 l g) * -x7 (ix4 l g n j)

theorem emb9 (t : Fin cfg0.N) (y) (G : FVec Ideal S8192x1 .f32) : G (ix2 (row t (y 0)) (y 1)) = G ((win0_9.blk t).view.emb y) := by
  blk_ext [idx t, row]
theorem emb10 (t : Fin cfg0.N) (y) (G : FVec Ideal S8192x1 .f32) : G (ix2 (row t (y 0)) (y 1)) = G ((win0_10.blk t).view.emb y) := by
  blk_ext [idx t, row]
theorem emb11 (t : Fin cfg0.N) (y) (G : FVec Ideal S8192x1 .f32) : G (ix2 (row t (y 0)) (y 1)) = G ((win0_11.blk t).view.emb y) := by
  blk_ext [idx t, row]
theorem emb12 (t : Fin cfg0.N) (y) (G : FVec Ideal S8192x16 .f32) : G (ix2 (row t (y 0)) (y 1)) = G ((win0_12.blk t).view.emb y) := by
  blk_ext [idx t, row]
theorem emb13 (t : Fin cfg0.N) (y) (G : FVec Ideal S8192x16 .f32) : G (ix2 (row t (y 0)) (y 1)) = G ((win0_13.blk t).view.emb y) := by
  blk_ext [idx t, row]
def g9 (c : Dev nD) : FVec Ideal S8192x1 .f32 := fun i => dre (y0 m c) (y1 m c) (y2 m c) (y3 m c) (y4 m c) (y5 m c) (y6 m c) (y7 m c) (y8 m c) (lay (i 0)) (grp (i 0)) (st (i 0))
theorem g9_at (c : Dev nD) (i : Fin 8192) (j : Fin 1) : g9 m c (ix2 i j) = dre (y0 m c) (y1 m c) (y2 m c) (y3 m c) (y4 m c) (y5 m c) (y6 m c) (y7 m c) (y8 m c) (lay i) (grp i) (st i) := rfl
theorem final9 (c : Dev nD) : (dats m 0 c).arrAt 9 (cfgs 0).N = g9 m c := by
  refine (dats m 0 c).arrAt_eq_of_covers 9 _ (by decide +kernel) fun t hf y => ?_
  blk_simp
  rw [after0_9]
  frame_out
  refine Eq.trans ?_ (emb9 t y (g9 m c))
  idx_vars y
  refine (out9 (iblk m c 0 t) (iblk m c 1 t) (iblk m c 2 t) (iblk m c 3 t) (iblk m c 4 t) (iblk m c 5 t) (iblk m c 6 t) (iblk m c 7 t) (iblk m c 8 t) y0 _ (congrArg (ix2 y0) (Subsingleton.elim y1 0))).trans ?_
  rw [g9_at]
  simp only [b0, b1, b2, b5, b6, kP_eq, kQ_eq, dre, E]
def g10 (c : Dev nD) : FVec Ideal S8192x1 .f32 := fun i => dim (y0 m c) (y1 m c) (y2 m c) (y3 m c) (y4 m c) (y5 m c) (y6 m c) (y7 m c) (y8 m c) (lay (i 0)) (grp (i 0)) (st (i 0))
theorem g10_at (c : Dev nD) (i : Fin 8192) (j : Fin 1) : g10 m c (ix2 i j) = dim (y0 m c) (y1 m c) (y2 m c) (y3 m c) (y4 m c) (y5 m c) (y6 m c) (y7 m c) (y8 m c) (lay i) (grp i) (st i) := rfl
theorem final10 (c : Dev nD) : (dats m 0 c).arrAt 10 (cfgs 0).N = g10 m c := by
  refine (dats m 0 c).arrAt_eq_of_covers 10 _ (by decide +kernel) fun t hf y => ?_
  blk_simp
  rw [after0_10]
  frame_out
  refine Eq.trans ?_ (emb10 t y (g10 m c))
  idx_vars y
  refine (out10 (iblk m c 0 t) (iblk m c 1 t) (iblk m c 2 t) (iblk m c 3 t) (iblk m c 4 t) (iblk m c 5 t) (iblk m c 6 t) (iblk m c 7 t) (iblk m c 8 t) y0 _ (congrArg (ix2 y0) (Subsingleton.elim y1 0))).trans ?_
  rw [g10_at]
  simp only [b0, b1, b2, b5, b6, kP_eq, kQ_eq, dim, E]
def g11 (c : Dev nD) : FVec Ideal S8192x1 .f32 := fun i => dt (y0 m c) (y1 m c) (y2 m c) (y3 m c) (y4 m c) (y5 m c) (y6 m c) (y7 m c) (y8 m c) (lay (i 0)) (grp (i 0)) (st (i 0))
theorem g11_at (c : Dev nD) (i : Fin 8192) (j : Fin 1) : g11 m c (ix2 i j) = dt (y0 m c) (y1 m c) (y2 m c) (y3 m c) (y4 m c) (y5 m c) (y6 m c) (y7 m c) (y8 m c) (lay i) (grp i) (st i) := rfl
theorem final11 (c : Dev nD) : (dats m 0 c).arrAt 11 (cfgs 0).N = g11 m c := by
  refine (dats m 0 c).arrAt_eq_of_covers 11 _ (by decide +kernel) fun t hf y => ?_
  blk_simp
  rw [after0_11]
  frame_out
  refine Eq.trans ?_ (emb11 t y (g11 m c))
  idx_vars y
  refine (out11 (iblk m c 0 t) (iblk m c 1 t) (iblk m c 2 t) (iblk m c 3 t) (iblk m c 4 t) (iblk m c 5 t) (iblk m c 6 t) (iblk m c 7 t) (iblk m c 8 t) y0 _ (congrArg (ix2 y0) (Subsingleton.elim y1 0))).trans ?_
  rw [g11_at]
  simp only [b0, b1, b2, b5, b6, kP_eq, kQ_eq, dt, E]
def g12 (c : Dev nD) : FVec Ideal S8192x16 .f32 := fun i => dbr (y0 m c) (y1 m c) (y2 m c) (y3 m c) (y4 m c) (y5 m c) (y6 m c) (y7 m c) (y8 m c) (lay (i 0)) (grp (i 0)) (st (i 0)) (i 1)
theorem g12_at (c : Dev nD) (i : Fin 8192) (j : Fin 16) : g12 m c (ix2 i j) = dbr (y0 m c) (y1 m c) (y2 m c) (y3 m c) (y4 m c) (y5 m c) (y6 m c) (y7 m c) (y8 m c) (lay i) (grp i) (st i) j := rfl
theorem final12 (c : Dev nD) : (dats m 0 c).arrAt 12 (cfgs 0).N = g12 m c := by
  refine (dats m 0 c).arrAt_eq_of_covers 12 _ (by decide +kernel) fun t hf y => ?_
  blk_simp
  rw [after0_12]
  frame_out
  refine Eq.trans ?_ (emb12 t y (g12 m c))
  idx_vars y
  refine (out12 (iblk m c 0 t) (iblk m c 1 t) (iblk m c 2 t) (iblk m c 3 t) (iblk m c 4 t) (iblk m c 5 t) (iblk m c 6 t) (iblk m c 7 t) (iblk m c 8 t) y0 y1).trans ?_
  rw [g12_at]
  simp only [b0, b1, b2, b7, b8, dbr, E]
def g13 (c : Dev nD) : FVec Ideal S8192x16 .f32 := fun i => dbi (y0 m c) (y1 m c) (y2 m c) (y3 m c) (y4 m c) (y5 m c) (y6 m c) (y7 m c) (y8 m c) (lay (i 0)) (grp (i 0)) (st (i 0)) (i 1)
theorem g13_at (c : Dev nD) (i : Fin 8192) (j : Fin 16) : g13 m c (ix2 i j) = dbi (y0 m c) (y1 m c) (y2 m c) (y3 m c) (y4 m c) (y5 m c) (y6 m c) (y7 m c) (y8 m c) (lay i) (grp i) (st i) j := rfl
theorem final13 (c : Dev nD) : (dats m 0 c).arrAt 13 (cfgs 0).N = g13 m c := by
  refine (dats m 0 c).arrAt_eq_of_covers 13 _ (by decide +kernel) fun t hf y => ?_
  blk_simp
  rw [after0_13]
  frame_out
  refine Eq.trans ?_ (emb13 t y (g13 m c))
  idx_vars y
  refine (out13 (iblk m c 0 t) (iblk m c 1 t) (iblk m c 2 t) (iblk m c 3 t) (iblk m c 4 t) (iblk m c 5 t) (iblk m c 6 t) (iblk m c 7 t) (iblk m c 8 t) y0 y1).trans ?_
  rw [g13_at]
  simp only [b0, b1, b2, b7, b8, dbi, E]

/-- The stacked rows, cut back into layers, groups and states. -/
theorem cut3 (x : FVec Ideal S8192x1 .f32) (l : Fin 4) (g : Fin 32) (n : Fin 64) :
    shapeCast S4x32x64 x shapeCasts_S8192x1_S4x32x64 (ix3 l g n) = x (ix2 ⟨l.val * 2048 + g.val * 64 + n.val, by omega⟩ 0) := by
  pointwise
theorem cut4 (x : FVec Ideal S8192x16 .f32) (l : Fin 4) (g : Fin 32) (n : Fin 64) (j : Fin 16) :
    shapeCast S4x32x64x16 x shapeCasts_S8192x16_S4x32x64x16 (ix4 l g n j) = x (ix2 ⟨l.val * 2048 + g.val * 64 + n.val, by omega⟩ j) := by
  pointwise
theorem cutSum (x : FVec Ideal S8192x1 .f32) (l : Fin 4) (g : Fin 32) :
    Host.reduceAdd (shapeCast S4x32x64 x shapeCasts_S8192x1_S4x32x64) (constant S_ FTy.f32 0#32) reducesTo_S4x32x64_S4x32_d2 h_S_ (ix2 l g)
      = ∑ n : Fin 64, x (ix2 ⟨l.val * 2048 + g.val * 64 + n.val, by omega⟩ 0) := by
  pointwise
theorem tail12 (c : Dev nD) : Pipeline.afterTail₀ cfgs (dats m) 0 (V0 m) [hostOps1] c main_v12 = (shapeCast S4x32x64 (g9 m c) shapeCasts_S8192x1_S4x32x64) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 9).trans (final9 m c)
  rw [← h]
  rfl
theorem tail13 (c : Dev nD) : Pipeline.afterTail₀ cfgs (dats m) 0 (V0 m) [hostOps1] c main_v13 = (shapeCast S4x32x64 (g10 m c) shapeCasts_S8192x1_S4x32x64) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 10).trans (final10 m c)
  rw [← h]
  rfl
theorem tail15 (c : Dev nD) : Pipeline.afterTail₀ cfgs (dats m) 0 (V0 m) [hostOps1] c main_v15 = (Host.reduceAdd (shapeCast S4x32x64 (g11 m c) shapeCasts_S8192x1_S4x32x64) (constant S_ FTy.f32 0#32) reducesTo_S4x32x64_S4x32_d2 h_S_) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 11).trans (final11 m c)
  rw [← h]
  rfl
theorem tail16 (c : Dev nD) : Pipeline.afterTail₀ cfgs (dats m) 0 (V0 m) [hostOps1] c main_v16 = (shapeCast S4x32x64x16 (g12 m c) shapeCasts_S8192x16_S4x32x64x16) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 12).trans (final12 m c)
  rw [← h]
  rfl
theorem tail17 (c : Dev nD) : Pipeline.afterTail₀ cfgs (dats m) 0 (V0 m) [hostOps1] c main_v17 = (shapeCast S4x32x64x16 (g13 m c) shapeCasts_S8192x16_S4x32x64x16) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 13).trans (final13 m c)
  rw [← h]
  rfl

theorem lay_at (l : Fin 4) (g : Fin 32) (n : Fin 64) (h) : lay ⟨l.val * 2048 + g.val * 64 + n.val, h⟩ = l := Fin.ext (by dsimp [lay]; omega)
theorem grp_at (l : Fin 4) (g : Fin 32) (n : Fin 64) (h) : grp ⟨l.val * 2048 + g.val * 64 + n.val, h⟩ = g := Fin.ext (by dsimp [grp]; omega)
theorem st_at (l : Fin 4) (g : Fin 32) (n : Fin 64) (h) : st ⟨l.val * 2048 + g.val * 64 + n.val, h⟩ = n := Fin.ext (by dsimp [st]; omega)

theorem pre_real (x0 x1 x2 x3 x4 x5 x6 x7 x8) (h : Cert.Pre_prep_finite.fn (F := Ideal) x0 x1 x2 x3 x4 x5 x6 x7 x8 = (fun _ => 1#1)) :
    ∀ i, Cert.Reals.IsReal (x2 i) := by
  unfold Cert.Pre_prep_finite.fn at h
  dsimp only at h
  exact Cert.Reals.real_of x2 _ _ h (fun _ => rfl) (fun _ => rfl)

theorem is132 (c : Dev nD) (z0 : FVec Ideal S4x32x64 .f32) (z1 : FVec Ideal S4x32x64 .f32) (z2 : FVec Ideal S4x32 .f32) (z3 : FVec Ideal S4x32x64x16 .f32) (z4 : FVec Ideal S4x32x64x16 .f32) (z5 : FVec Ideal S4x32x64 .f32) (z6 : FVec Ideal S4x32x64 .f32) (z7 : FVec Ideal S4x32x64x16 .f32) (z8 : FVec Ideal S4x32x64x16 .f32)
    (e0 : z0 = y0 m c) (e1 : z1 = y1 m c) (e2 : z2 = y2 m c) (e3 : z3 = y3 m c) (e4 : z4 = y4 m c) (e5 : z5 = y5 m c) (e6 : z6 = y6 m c) (e7 : z7 = y7 m c) (e8 : z8 = y8 m c) :
    val_main_v132 (F := Ideal) z0 z1 z2 z3 z4 z5 z6 z7 z8 = Pipeline.afterTail₀ cfgs (dats m) 0 (V0 m) [hostOps1] c main_v12 := by
  subst e0 e1 e2 e3 e4 e5 e6 e7 e8
  rw [tail12]
  funext i
  idx_vars i
  rw [cut3, g9_at, lay_at, grp_at, st_at]
  exact v132_at _ _ _ _ _ _ _ _ _ i0 i1 i2
theorem is124 (c : Dev nD) (z0 : FVec Ideal S4x32x64 .f32) (z1 : FVec Ideal S4x32x64 .f32) (z2 : FVec Ideal S4x32 .f32) (z3 : FVec Ideal S4x32x64x16 .f32) (z4 : FVec Ideal S4x32x64x16 .f32) (z5 : FVec Ideal S4x32x64 .f32) (z6 : FVec Ideal S4x32x64 .f32) (z7 : FVec Ideal S4x32x64x16 .f32) (z8 : FVec Ideal S4x32x64x16 .f32)
    (e0 : z0 = y0 m c) (e1 : z1 = y1 m c) (e2 : z2 = y2 m c) (e3 : z3 = y3 m c) (e4 : z4 = y4 m c) (e5 : z5 = y5 m c) (e6 : z6 = y6 m c) (e7 : z7 = y7 m c) (e8 : z8 = y8 m c) :
    val_main_v124 (F := Ideal) z0 z1 z2 z3 z4 z5 z6 z7 z8 = Pipeline.afterTail₀ cfgs (dats m) 0 (V0 m) [hostOps1] c main_v13 := by
  subst e0 e1 e2 e3 e4 e5 e6 e7 e8
  rw [tail13]
  funext i
  idx_vars i
  rw [cut3, g10_at, lay_at, grp_at, st_at]
  exact v124_at _ _ _ _ _ _ _ _ _ i0 i1 i2
theorem is134 (c : Dev nD) (hpre : Pre_PrepIdeal_prep_finite m) (z0 : FVec Ideal S4x32x64 .f32) (z1 : FVec Ideal S4x32x64 .f32) (z2 : FVec Ideal S4x32 .f32) (z3 : FVec Ideal S4x32x64x16 .f32) (z4 : FVec Ideal S4x32x64x16 .f32) (z5 : FVec Ideal S4x32x64 .f32) (z6 : FVec Ideal S4x32x64 .f32) (z7 : FVec Ideal S4x32x64x16 .f32) (z8 : FVec Ideal S4x32x64x16 .f32)
    (e0 : z0 = y0 m c) (e1 : z1 = y1 m c) (e2 : z2 = y2 m c) (e3 : z3 = y3 m c) (e4 : z4 = y4 m c) (e5 : z5 = y5 m c) (e6 : z6 = y6 m c) (e7 : z7 = y7 m c) (e8 : z8 = y8 m c) :
    val_main_v134 (F := Ideal) z0 z1 z2 z3 z4 z5 z6 z7 z8 = Pipeline.afterTail₀ cfgs (dats m) 0 (V0 m) [hostOps1] c main_v15 := by
  subst e0 e1 e2 e3 e4 e5 e6 e7 e8
  rw [tail15]
  funext i
  idx_vars i
  rw [cutSum, v134_at]
  obtain ⟨d, hd⟩ := pre_real _ _ _ _ _ _ _ _ _ (hpre c) (ix2 i0 i1)
  have hE : E (y2 m c) i0 i1 = ((Real.exp d : ℝ) : EReal) := (congrArg Ideal.exp hd).trans (Ideal.exp_coe d)
  simp only [g11_at, lay_at, grp_at, st_at, dt]
  rw [← Finset.sum_add_distrib, hE, Cert.Reals.mul_sum _ _ _ (Real.exp_pos d).le]
theorem is72 (c : Dev nD) (z0 : FVec Ideal S4x32x64 .f32) (z1 : FVec Ideal S4x32x64 .f32) (z2 : FVec Ideal S4x32 .f32) (z7 : FVec Ideal S4x32x64x16 .f32) (z8 : FVec Ideal S4x32x64x16 .f32)
    (e0 : z0 = y0 m c) (e1 : z1 = y1 m c) (e2 : z2 = y2 m c) (e7 : z7 = y7 m c) (e8 : z8 = y8 m c) :
    val_main_v72 (F := Ideal) z0 z1 z2 z7 z8 = Pipeline.afterTail₀ cfgs (dats m) 0 (V0 m) [hostOps1] c main_v16 := by
  subst e0 e1 e2 e7 e8
  rw [tail16]
  funext i
  idx_vars i
  rw [cut4, g12_at, lay_at, grp_at, st_at]
  exact v72_at _ _ _ _ _ i0 i1 i2 i3
theorem is64 (c : Dev nD) (z0 : FVec Ideal S4x32x64 .f32) (z1 : FVec Ideal S4x32x64 .f32) (z2 : FVec Ideal S4x32 .f32) (z7 : FVec Ideal S4x32x64x16 .f32) (z8 : FVec Ideal S4x32x64x16 .f32)
    (e0 : z0 = y0 m c) (e1 : z1 = y1 m c) (e2 : z2 = y2 m c) (e7 : z7 = y7 m c) (e8 : z8 = y8 m c) :
    val_main_v64 (F := Ideal) z0 z1 z2 z7 z8 = Pipeline.afterTail₀ cfgs (dats m) 0 (V0 m) [hostOps1] c main_v17 := by
  subst e0 e1 e2 e7 e8
  rw [tail17]
  funext i
  idx_vars i
  rw [cut4, g13_at, lay_at, grp_at, st_at]
  exact v64_at _ _ _ _ _ i0 i1 i2 i3

set_option maxHeartbeats 2000000 in
theorem algebraic : Cert.algebraic_PrepIdeal_PrepRefIdeal_pre_prep_finite := by
  pair_intro
  · run_from Cert.PrepIdeal.Gen.run_main m g
    exacts [Cert.PrepIdeal.Gen.W_main_arg0 m (dats m) c, Cert.PrepIdeal.Gen.W_main_arg1 m (dats m) c, Cert.PrepIdeal.Gen.W_main_arg2 m (dats m) c, Cert.PrepIdeal.Gen.W_main_arg3 m (dats m) c, Cert.PrepIdeal.Gen.W_main_arg4 m (dats m) c, Cert.PrepIdeal.Gen.W_main_arg5 m (dats m) c, Cert.PrepIdeal.Gen.W_main_arg6 m (dats m) c, Cert.PrepIdeal.Gen.W_main_arg7 m (dats m) c, Cert.PrepIdeal.Gen.W_main_arg8 m (dats m) c]
  · run_from Cert.PrepRefIdeal.Value.run m' g'
    · exact (val_main_v132_eq m' c).trans (is132 m c _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2)
    · exact (val_main_v124_eq m' c).trans (is124 m c _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2)
    · exact (val_main_v134_eq m' c).trans (is134 m c hpre _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2)
    · exact (val_main_v72_eq _ _ _ _ _).trans (is72 m c _ _ _ _ _ rfl rfl rfl rfl rfl)
    · exact (val_main_v64_eq _ _ _ _ _).trans (is64 m c _ _ _ _ _ rfl rfl rfl rfl rfl)

end Cert.PrepIdeal.Hand

end
-- ==== Proof.MlpFwd.lean ====
module

public import proofs.«01_k».proof.Defs
public import proofs.«01_k».proof.Proof.Gen.MlpFwdIdeal.Frame
public import proofs.«01_k».proof.Proof.Gen.MlpFwdRefIdeal.Read
public import Idealize.ShloMosaic.Lib.Pipeline.ValueKit
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpFwdIdeal.Hand

open Cert.MlpFwdIdeal Cert.MlpFwdIdeal.Gen

variable (m : (ℓ : Loc nD τ sig) → Buf (Elt Ideal) ℓ)

theorem idx : ∀ t : Fin cfg0.N, win0_0.index t = ![t.val, 0] ∧ win0_1.index t = ![1, 0, 0] ∧ win0_2.index t = ![t.val, 0] ∧ win0_3.index t = ![t.val, 0] ∧ win0_4.index t = ![t.val, 0] :=
  (by decide +kernel : ∀ t : Fin grid0.N, _)

/-- The array row of row `i` of the block at point `t`. -/
def row (t : Fin cfg0.N) (i : Fin 256) : Fin 4096 :=
  ⟨t.val * 256 + i.val, by have := t.isLt; have h : cfg0.N = 16 := N_0; omega⟩

/-- The arguments the results depend on. -/
abbrev x0 (c : Dev nD) : FVec Ideal S4096x1024 .f32 := m ((c : Thread nD τ).loc main_arg0)
abbrev x1 (c : Dev nD) : FVec Ideal S4x6144 .f32 := m ((c : Thread nD τ).loc main_arg1)
abbrev x4 (c : Dev nD) : FVec Ideal S4x1024 .f32 := m ((c : Thread nD τ).loc main_arg4)
abbrev x5 (c : Dev nD) : FVec Ideal S4x1024 .f32 := m ((c : Thread nD τ).loc main_arg5)
abbrev x6 (c : Dev nD) : FVec Ideal S1024x4096 .f32 := m ((c : Thread nD τ).loc main_arg6)
abbrev x7 (c : Dev nD) : FVec Ideal S4096x1024 .f32 := m ((c : Thread nD τ).loc main_arg7)

theorem vec3 (c : Dev nD) (i : Fin 4) (k : Fin 1024) : (V m c main_v6 : FVec Ideal S4x16x1024 .f32) (ix3 i 3 k)
    = x1 m c (ix2 i ⟨3072 + k.val, by omega⟩) := by
  unfold V
  simp only [List.flatten_cons, List.flatten_nil, List.append_nil, List.cons_append, List.nil_append, hostOps0]
  after_results
  pointwise
  after_results_loop
  pointwise

theorem vec4 (c : Dev nD) (i : Fin 4) (k : Fin 1024) : (V m c main_v6 : FVec Ideal S4x16x1024 .f32) (ix3 i 4 k)
    = x1 m c (ix2 i ⟨4096 + k.val, by omega⟩) := by
  unfold V
  simp only [List.flatten_cons, List.flatten_nil, List.append_nil, List.cons_append, List.nil_append, hostOps0]
  after_results
  pointwise
  after_results_loop
  pointwise

theorem vec5 (c : Dev nD) (i : Fin 4) (k : Fin 1024) : (V m c main_v6 : FVec Ideal S4x16x1024 .f32) (ix3 i 5 k)
    = x1 m c (ix2 i ⟨5120 + k.val, by omega⟩) := by
  unfold V
  simp only [List.flatten_cons, List.flatten_nil, List.append_nil, List.cons_append, List.nil_append, hostOps0]
  after_results
  pointwise
  after_results_loop
  pointwise

theorem vec8 (c : Dev nD) (i : Fin 4) (k : Fin 1024) : (V m c main_v6 : FVec Ideal S4x16x1024 .f32) (ix3 i 8 k)
    = x4 m c (ix2 i k) := by
  unfold V
  simp only [List.flatten_cons, List.flatten_nil, List.append_nil, List.cons_append, List.nil_append, hostOps0]
  after_results
  pointwise
  after_results_loop
  pointwise

theorem vec9 (c : Dev nD) (i : Fin 4) (k : Fin 1024) : (V m c main_v6 : FVec Ideal S4x16x1024 .f32) (ix3 i 9 k)
    = x5 m c (ix2 i k) := by
  unfold V
  simp only [List.flatten_cons, List.flatten_nil, List.append_nil, List.cons_append, List.nil_append, hostOps0]
  after_results
  pointwise
  after_results_loop
  pointwise

/-- The weights the kernel is given. -/
def wi (c : Dev nD) : FVec Ideal S4096x1024 .bf16 := V m c main_v8
def wo (c : Dev nD) : FVec Ideal S4096x1024 .bf16 := V m c main_v9
theorem wIn (c : Dev nD) (j : Fin 4096) (k : Fin 1024) : wi m c (ix2 j k) = x6 m c (ix2 k j) := by
  unfold wi
  unfold V
  simp only [List.flatten_cons, List.flatten_nil, List.append_nil, List.cons_append, List.nil_append, hostOps0]
  after_results
  pointwise
theorem wOut (c : Dev nD) (j : Fin 4096) (k : Fin 1024) : wo m c (ix2 j k) = x7 m c (ix2 j k) := by
  unfold wo
  unfold V
  simp only [List.flatten_cons, List.flatten_nil, List.append_nil, List.cons_append, List.nil_append, hostOps0]
  after_results
  pointwise

theorem shift (c : Dev nD) (t : Fin cfg0.N) (k : Fin 1024) : iblk m c 1 t (ix3 0 3 k) = x1 m c (ix2 1 ⟨3072 + k.val, by omega⟩) := by
  rw [← vec3 m c 1 k]
  blk_point [iblk, idx t]

theorem scale (c : Dev nD) (t : Fin cfg0.N) (k : Fin 1024) : iblk m c 1 t (ix3 0 4 k) = x1 m c (ix2 1 ⟨4096 + k.val, by omega⟩) := by
  rw [← vec4 m c 1 k]
  blk_point [iblk, idx t]

theorem gate (c : Dev nD) (t : Fin cfg0.N) (k : Fin 1024) : iblk m c 1 t (ix3 0 5 k) = x1 m c (ix2 1 ⟨5120 + k.val, by omega⟩) := by
  rw [← vec5 m c 1 k]
  blk_point [iblk, idx t]

theorem gainPre (c : Dev nD) (t : Fin cfg0.N) (k : Fin 1024) : iblk m c 1 t (ix3 0 8 k) = x4 m c (ix2 1 k) := by
  rw [← vec8 m c 1 k]
  blk_point [iblk, idx t]

theorem gainPost (c : Dev nD) (t : Fin cfg0.N) (k : Fin 1024) : iblk m c 1 t (ix3 0 9 k) = x5 m c (ix2 1 k) := by
  rw [← vec9 m c 1 k]
  blk_point [iblk, idx t]
theorem xRow (c : Dev nD) (t : Fin cfg0.N) (i : Fin 256) (k : Fin 1024) : iblk m c 0 t (ix2 i k) = x0 m c (ix2 (row t i) k) := by
  blk_point [iblk, V, idx t, row]

/-- The weights in the kernel's own buffers: copied at the first point, kept afterwards. -/
theorem kept (c : Dev nD) : ∀ (n : Nat) (h : n < cfg0.N), (outsAt0 m c n h).2.2.2.1 = V m c main_v8 ∧ (outsAt0 m c n h).2.2.2.2 = V m c main_v9
  | 0, h => by
    have e := outsAt0_A m c ⟨0, h⟩ rfl
    rw [show outsAt0 m c 0 h = _ from e]
    dsimp only
    frame_out
    exact ⟨Cert.Rows.canon_all _, Cert.Rows.canon_all _⟩
  | n + 1, h => by
    have hn : ¬ (n + 1) % 16 = 0 := by have hN : cfg0.N = 16 := N_0; omega
    have e := outsAt0_B m c ⟨n + 1, h⟩ hn
    rw [show outsAt0 m c (n + 1) h = _ from e]
    exact kept c n (Nat.lt_of_succ_lt h)

/-- The square, the second product and the result of the block at point `t`. -/
def rB (c : Dev nD) (t : Fin cfg0.N) : FVec Ideal S256x4096 .bf16 := k0_pay3 (iblk m c 0 t) (View.ld (iblk m c 1 t) (Rect.unit ![0, 8, 0] ![1, 1, 1024] inb_S1x16x1024_S1x1x1024_0_8_0)) (View.ld (iblk m c 1 t) (Rect.unit ![0, 4, 0] ![1, 1, 1024] inb_S1x16x1024_S1x1x1024_0_4_0)) (View.ld (iblk m c 1 t) (Rect.unit ![0, 3, 0] ![1, 1, 1024] inb_S1x16x1024_S1x1x1024_0_3_0)) (wi m c)
def fB (c : Dev nD) (t : Fin cfg0.N) : FVec Ideal S256x1024 .f32 := k0_pay1 (rB m c t) (wo m c)
def xB (c : Dev nD) (t : Fin cfg0.N) : FVec Ideal S256x1024 .f32 := k0_pay2 (iblk m c 0 t) (rB m c t) (wo m c) (View.ld (iblk m c 1 t) (Rect.unit ![0, 9, 0] ![1, 1, 1024] inb_S1x16x1024_S1x1x1024_0_9_0)) (View.ld (iblk m c 1 t) (Rect.unit ![0, 5, 0] ![1, 1, 1024] inb_S1x16x1024_S1x1x1024_0_5_0))

open Cert.MlpFwdRefIdeal.Read

theorem r_at (c : Dev nD) (t : Fin cfg0.N) (i : Fin 256) (k : Fin 4096) : rB m c t (ix2 i k) = val_main_v54 (F := Ideal) (x0 m c) (x1 m c) (x4 m c) (x6 m c) (ix2 (row t i) k) := by
  unfold rB
  pointwise [k0_pay3, val_main_v54, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v1, val_main_v0, val_main_call0_v0, val_main_call0_cst, val_main_cst, val_main_cst_0, val_main_cst_1, val_main_cst_2]
  simp only [xRow, wIn, shift, scale, gainPre]
theorem f_at (c : Dev nD) (t : Fin cfg0.N) (i : Fin 256) (k : Fin 1024) : fB m c t (ix2 i k) = val_main_v34 (F := Ideal) (x0 m c) (x1 m c) (x4 m c) (x6 m c) (x7 m c) (ix2 (row t i) k) := by
  have h : fB m c t (ix2 i k) = ∑ j : Fin 4096, rB m c t (ix2 i j) * wo m c (ix2 j k) := by
    unfold fB
    pointwise [k0_pay1]
  have h' : val_main_v34 (F := Ideal) (x0 m c) (x1 m c) (x4 m c) (x6 m c) (x7 m c) (ix2 (row t i) k) = ∑ j : Fin 4096, val_main_v54 (F := Ideal) (x0 m c) (x1 m c) (x4 m c) (x6 m c) (ix2 (row t i) j) * x7 m c (ix2 j k) := by
    pointwise [val_main_v34, val_main_v54]
  rw [h, h']
  exact Finset.sum_congr rfl fun j _ => by rw [r_at, wOut]
abbrev bx (c : Dev nD) (t : Fin cfg0.N) : FVec Ideal S256x1024 .f32 := iblk m c 0 t
abbrev bv (c : Dev nD) (t : Fin cfg0.N) : FVec Ideal S1x16x1024 .f32 := iblk m c 1 t
theorem x_at (c : Dev nD) (t : Fin cfg0.N) (i : Fin 256) (k : Fin 1024) : xB m c t (ix2 i k) = val_main_v53 (F := Ideal) (x0 m c) (x1 m c) (x4 m c) (x5 m c) (x6 m c) (x7 m c) (ix2 (row t i) k) := by
  have h : xB m c t (ix2 i k) = bx m c t (ix2 i k) + bv m c t (ix3 0 5 k) * (fB m c t (ix2 i k)
      * Ideal.rsqrt (Ideal.div (∑ j : Fin 1024, fB m c t (ix2 i j) * fB m c t (ix2 i j)) (Ideal.ofBits .f32 0x44800000#32) + Ideal.ofBits .f32 0x358637BD#32) * bv m c t (ix3 0 9 k)) := by
    unfold xB fB
    pointwise [k0_pay2]
  rw [h]
  dsimp only [bx, bv]
  simp only [xRow, f_at, gate, gainPost]
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v7, val_main_v1, val_main_v0, val_main_cst_3, val_main_cst_4, val_main_cst_5]

/-- What the kernel reads from its own buffers. -/
theorem readOut (c : Dev nD) : (View.whole cc0_scratch1).readCov (Val := Elt Ideal)
    [⟨Rect.whole S4096x1024, ReadAs.same.apply (View.read (Elt Ideal) (View.whole main_v9) (V m c main_v9))⟩]
    (Rect.unit ![0, 0] ![4096, 1024] inb_S4096x1024_S4096x1024_0_0).toLoadRect = wo m c := Cert.Rows.readCov_all _ _ _
theorem readIn (c : Dev nD) : (View.whole cc0_scratch0).readCov (Val := Elt Ideal)
    [⟨Rect.whole S4096x1024, ReadAs.same.apply (View.read (Elt Ideal) (View.whole main_v8) (V m c main_v8))⟩]
    (Rect.unit ![0, 0] ![4096, 1024] inb_S4096x1024_S4096x1024_0_0).toLoadRect = wi m c := Cert.Rows.readCov_all _ _ _
theorem againOut (c : Dev nD) (n : Nat) (hn : n < cfg0.N) (hw : (Memref.whole cc0_scratch1).IsWhole) :
    View.read (Elt Ideal) (View.whole cc0_scratch1) (hw.unread (outsAt0 m c n hn).2.2.2.2) = wo m c :=
  (hw.read_unread _).trans (kept m c n hn).2
theorem againIn (c : Dev nD) (n : Nat) (hn : n < cfg0.N) (hw : (Memref.whole cc0_scratch0).IsWhole) :
    View.read (Elt Ideal) (View.whole cc0_scratch0) (hw.unread (outsAt0 m c n hn).2.2.2.1) = wi m c :=
  (hw.read_unread _).trans (kept m c n hn).1

theorem outX (c : Dev nD) (t : Fin cfg0.N) : (outsAt0 m c t.val t.isLt).1 = xB m c t := by
  by_cases h : t.val % 16 = 0
  · rw [outsAt0_A m c t h]
    dsimp only
    frame_out
    rw [readOut, readIn]
    rfl
  · rw [outsAt0_B m c t h]
    dsimp only
    frame_out
    rw [againOut, againIn]
    rfl

theorem outR (c : Dev nD) (t : Fin cfg0.N) : (outsAt0 m c t.val t.isLt).2.1 = rB m c t := by
  by_cases h : t.val % 16 = 0
  · rw [outsAt0_A m c t h]
    dsimp only
    frame_out
    rw [readIn]
    rfl
  · rw [outsAt0_B m c t h]
    dsimp only
    frame_out
    rw [againIn]
    rfl

theorem outF (c : Dev nD) (t : Fin cfg0.N) : (outsAt0 m c t.val t.isLt).2.2.1 = fB m c t := by
  by_cases h : t.val % 16 = 0
  · rw [outsAt0_A m c t h]
    dsimp only
    frame_out
    rw [readOut, readIn]
    rfl
  · rw [outsAt0_B m c t h]
    dsimp only
    frame_out
    rw [againOut, againIn]
    rfl

theorem emb2 (t : Fin cfg0.N) (y) (G : FVec Ideal S4096x1024 .f32) : G (ix2 (row t (y 0)) (y 1)) = G ((win0_2.blk t).view.emb y) := by
  blk_ext [idx t, row]
theorem final2 (c : Dev nD) : (dats m 0 c).arrAt 2 (cfgs 0).N = val_main_v53 (F := Ideal) (x0 m c) (x1 m c) (x4 m c) (x5 m c) (x6 m c) (x7 m c) := by
  refine (dats m 0 c).arrAt_eq_of_covers 2 _ (by decide +kernel) fun t hf y => ?_
  blk_simp
  rw [after0_2, outX]
  refine Eq.trans ?_ (emb2 t y (val_main_v53 (F := Ideal) (x0 m c) (x1 m c) (x4 m c) (x5 m c) (x6 m c) (x7 m c)))
  idx_vars y
  exact x_at m c t y0 y1
theorem is53 (c : Dev nD) (y0 : FVec Ideal S4096x1024 .f32) (y1 : FVec Ideal S4x6144 .f32) (y4 : FVec Ideal S4x1024 .f32) (y5 : FVec Ideal S4x1024 .f32) (y6 : FVec Ideal S1024x4096 .f32) (y7 : FVec Ideal S4096x1024 .f32) (e0 : y0 = x0 m c) (e1 : y1 = x1 m c) (e4 : y4 = x4 m c) (e5 : y5 = x5 m c) (e6 : y6 = x6 m c) (e7 : y7 = x7 m c) :
    val_main_v53 (F := Ideal) y0 y1 y4 y5 y6 y7 = (dats m 0 c).arrAt 2 (cfgs 0).N := by
  subst e0 e1 e4 e5 e6 e7
  exact (final2 m c).symm

theorem emb3 (t : Fin cfg0.N) (y) (G : FVec Ideal S4096x4096 .bf16) : G (ix2 (row t (y 0)) (y 1)) = G ((win0_3.blk t).view.emb y) := by
  blk_ext [idx t, row]
theorem final3 (c : Dev nD) : (dats m 0 c).arrAt 3 (cfgs 0).N = val_main_v54 (F := Ideal) (x0 m c) (x1 m c) (x4 m c) (x6 m c) := by
  refine (dats m 0 c).arrAt_eq_of_covers 3 _ (by decide +kernel) fun t hf y => ?_
  blk_simp
  rw [after0_3, outR]
  refine Eq.trans ?_ (emb3 t y (val_main_v54 (F := Ideal) (x0 m c) (x1 m c) (x4 m c) (x6 m c)))
  idx_vars y
  exact r_at m c t y0 y1
theorem is54 (c : Dev nD) (y0 : FVec Ideal S4096x1024 .f32) (y1 : FVec Ideal S4x6144 .f32) (y4 : FVec Ideal S4x1024 .f32) (y6 : FVec Ideal S1024x4096 .f32) (e0 : y0 = x0 m c) (e1 : y1 = x1 m c) (e4 : y4 = x4 m c) (e6 : y6 = x6 m c) :
    val_main_v54 (F := Ideal) y0 y1 y4 y6 = (dats m 0 c).arrAt 3 (cfgs 0).N := by
  subst e0 e1 e4 e6
  exact (final3 m c).symm

theorem emb4 (t : Fin cfg0.N) (y) (G : FVec Ideal S4096x1024 .f32) : G (ix2 (row t (y 0)) (y 1)) = G ((win0_4.blk t).view.emb y) := by
  blk_ext [idx t, row]
theorem final4 (c : Dev nD) : (dats m 0 c).arrAt 4 (cfgs 0).N = val_main_v34 (F := Ideal) (x0 m c) (x1 m c) (x4 m c) (x6 m c) (x7 m c) := by
  refine (dats m 0 c).arrAt_eq_of_covers 4 _ (by decide +kernel) fun t hf y => ?_
  blk_simp
  rw [after0_4, outF]
  refine Eq.trans ?_ (emb4 t y (val_main_v34 (F := Ideal) (x0 m c) (x1 m c) (x4 m c) (x6 m c) (x7 m c)))
  idx_vars y
  exact f_at m c t y0 y1
theorem is34 (c : Dev nD) (y0 : FVec Ideal S4096x1024 .f32) (y1 : FVec Ideal S4x6144 .f32) (y4 : FVec Ideal S4x1024 .f32) (y6 : FVec Ideal S1024x4096 .f32) (y7 : FVec Ideal S4096x1024 .f32) (e0 : y0 = x0 m c) (e1 : y1 = x1 m c) (e4 : y4 = x4 m c) (e6 : y6 = x6 m c) (e7 : y7 = x7 m c) :
    val_main_v34 (F := Ideal) y0 y1 y4 y6 y7 = (dats m 0 c).arrAt 4 (cfgs 0).N := by
  subst e0 e1 e4 e6 e7
  exact (final4 m c).symm

theorem algebraic : Cert.algebraic_MlpFwdIdeal_MlpFwdRefIdeal := by
  pair_intro
  · run_from Cert.MlpFwdIdeal.Gen.run_main m g
  · run_from Cert.MlpFwdRefIdeal.Value.run m' g'
    · exact (val_main_v53_eq m' c).trans (is53 m c _ _ _ _ _ _ (hagree c).1 (hagree c).2.1 (hagree c).2.2.2.2.1 (hagree c).2.2.2.2.2.1 (hagree c).2.2.2.2.2.2.1 (hagree c).2.2.2.2.2.2.2)
    · exact (val_main_v54_eq _ _ _ _).trans (is54 m c _ _ _ _ rfl rfl rfl rfl)
    · exact (val_main_v34_eq _ _ _ _ _).trans (is34 m c _ _ _ _ _ rfl rfl rfl rfl rfl)

end Cert.MlpFwdIdeal.Hand

end
-- ==== Proof.AttnFwdRef.lean ====
module

public import proofs.«01_k».proof.Defs
public import proofs.«01_k».proof.Proof.Gen.AttnFwdRefIdeal.Read
public import Idealize.ShloMosaic.Lib.Pointwise
public import Idealize.ShloMosaic.Lib.TwoAxisContraction
public import proofs.«01_k».proof.Proof.Softmax

@[expose] public section

set_option maxRecDepth 16384

noncomputable section

open Idealize.ShloMosaic Idealize.ShloMosaic.TcCoe Idealize.SL.Sem

namespace Cert.AttnFwdRefIdeal.Hand

open Cert.AttnFwdRefIdeal Cert.AttnFwdRefIdeal.Read Cert.Reals

variable (x0 : FVec Ideal S4096x512 .f32) (x1 x2 : FVec Ideal S4096x128 .f32) (x3 : FVec Ideal S8 .f32) (x4 : FVec Ideal S4096x512 .f32)
variable (n : Fin 32) (h : Fin 2) (g : Fin 4) (r : Fin 128) (s : Fin 256)

/-- The scores, the sinks. -/
abbrev SC : Fin 256 → EReal := fun s => val_main_v70 (F := Ideal) x0 x1 (ix5 n h g r s)
abbrev sn : EReal := x3 (ix1 ⟨h.val * 4 + g.val, by omega⟩)

theorem v73_last : val_main_v73 (F := Ideal) x0 x1 x3 (ix5 n h g r ⟨256, by omega⟩) = sn x3 h g := by
  pointwise [val_main_v73, val_main_v72, val_main_v71]
theorem v73_cast : val_main_v73 (F := Ideal) x0 x1 x3 (ix5 n h g r ⟨s.val, by omega⟩) = SC x0 x1 n h g r s := by
  pointwise [val_main_v73, val_main_v72, val_main_v71]
theorem v74_fold : val_main_v74 (F := Ideal) x0 x1 x3 (ix4 n h g r) = Finset.univ.fold max (Ideal.ofBits FTy.f32 4286578688#32) (fun j : Fin 257 => val_main_v73 (F := Ideal) x0 x1 x3 (ix5 n h g r j)) := by
  pointwise [val_main_v74, val_main_cst_16]
theorem fold_row (y : FVec Ideal S32x2x4x128x257 .f32) (f : Fin 256 → EReal) (a : EReal) (hf : ∀ s : Fin 256, y (ix5 n h g r ⟨s.val, by omega⟩) = f s)
    (ha : y (ix5 n h g r ⟨256, by omega⟩) = a) : Finset.univ.fold max (⊥ : EReal) (fun j : Fin 257 => y (ix5 n h g r j)) = rowMax f a := by
  rw [fold_last]
  unfold rowMax
  rw [← ha]
  simp only [← hf]
  rfl
theorem sum_row (y : FVec Ideal S32x2x4x128x257 .f32) : ∑ j : Fin 257, y (ix5 n h g r j) = ∑ s : Fin 256, y (ix5 n h g r ⟨s.val, by omega⟩) + y (ix5 n h g r ⟨256, by omega⟩) :=
  Fin.sum_univ_castSucc _
theorem v74_at : val_main_v74 (F := Ideal) x0 x1 x3 (ix4 n h g r) = rowMax (SC x0 x1 n h g r) (sn x3 h g) := by
  rw [v74_fold, negInf]
  exact fold_row n h g r _ _ _ (fun s => v73_cast x0 x1 x3 n h g r s) (v73_last x0 x1 x3 n h g r)
theorem max_at {S : Shape} (a y : FVec Ideal S .f32) (i : S.Idx) (hb : a i = (⊥ : EReal)) : maximumf a y i = y i := by
  show max (a i : EReal) (y i) = y i
  rw [hb]
  exact max_eq_right bot_le
theorem v75_at : val_main_v75 (F := Ideal) (ix4 n h g r) = (⊥ : EReal) := by
  rw [← negInf]
  pointwise [val_main_v75, val_main_cst_17]
theorem v76_at : val_main_v76 (F := Ideal) x0 x1 x3 (ix4 n h g r) = val_main_v74 (F := Ideal) x0 x1 x3 (ix4 n h g r) :=
  max_at _ (val_main_v74 (F := Ideal) x0 x1 x3) _ (v75_at n h g r)
theorem v78_at (j : Fin 257) : val_main_v78 (F := Ideal) x0 x1 x3 (ix5 n h g r j) = val_main_v76 (F := Ideal) x0 x1 x3 (ix4 n h g r) := by
  unfold val_main_v78 val_main_v77
  generalize val_main_v76 (F := Ideal) x0 x1 x3 = y
  pointwise
theorem exp_sub_at {S : Shape} (x y : FVec Ideal S .f32) (i : S.Idx) : Host.exp (subf x y) i = Ideal.exp (x i - y i) := rfl
theorem v80_at (j : Fin 257) : val_main_v80 (F := Ideal) x0 x1 x3 (ix5 n h g r j)
    = Ideal.exp (val_main_v73 (F := Ideal) x0 x1 x3 (ix5 n h g r j) - rowMax (SC x0 x1 n h g r) (sn x3 h g)) := by
  rw [← v74_at, ← v76_at, ← v78_at x0 x1 x3 n h g r j]
  unfold val_main_v80 val_main_v79
  generalize val_main_v73 (F := Ideal) x0 x1 x3 = y
  generalize val_main_v78 (F := Ideal) x0 x1 x3 = z
  exact exp_sub_at y z _
theorem v81_sum : val_main_v81 (F := Ideal) x0 x1 x3 (ix4 n h g r) = ∑ j : Fin 257, val_main_v80 (F := Ideal) x0 x1 x3 (ix5 n h g r j) := by
  pointwise [val_main_v81, val_main_cst_18]
theorem v81_at : val_main_v81 (F := Ideal) x0 x1 x3 (ix4 n h g r) = softDen (SC x0 x1 n h g r) (sn x3 h g) := by
  rw [v81_sum, sum_row]
  simp only [v80_at, v73_cast, v73_last]
  rfl
theorem v85_at (hs : ∀ s, SC x0 x1 n h g r s ≠ ⊤) (ha : IsReal (sn x3 h g)) :
    val_main_v85 (F := Ideal) x0 x1 x3 (ix5 n h g r s) = soft (SC x0 x1 n h g r) (sn x3 h g) s := by
  pointwise [val_main_v85, val_main_v84, val_main_v83, val_main_v82]
  rw [v81_at, v80_at, v73_cast, ← soft_div hs ha]
  rfl
/-- The distance from a query to a key of its band, and the mask as the reference writes it. -/
abbrev dist : BitVec 32 := Scalar.subi (Scalar.addi 128#32 (BitVec.ofNat 32 r.val)) (BitVec.ofNat 32 s.val)
abbrev inBand : BitVec 1 := Scalar.cmpi .sge (Scalar.addi (Scalar.muli (Scalar.subi (BitVec.ofNat 32 n.val) 1#32) 128#32) (BitVec.ofNat 32 s.val)) 0#32
abbrev maskBit : BitVec 1 := Scalar.andi (Scalar.andi (Scalar.cmpi .sge (dist r s) 0#32) (Scalar.cmpi .slt (dist r s) 128#32)) (inBand n s)
/-- The slopes of the eight heads. -/
abbrev slopeW : Fin 8 → BitVec 32 :=
  ![0x3F000000#32, 0x3E800000#32, 0x3E000000#32, 0x3D800000#32, 0x3D000000#32, 0x3C800000#32, 0x3C000000#32, 0x3B800000#32]
abbrev hd : Fin 8 := ⟨h.val * 4 + g.val, by omega⟩

theorem v48_at : val_main_v48 (F := Ideal) (ix3 n r s) = maskBit n r s := by
  pointwise [val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_c, val_main_c_2, val_main_c_3, val_main_c_4, val_main_c_5, val_main_c_6]
  rfl
theorem v58_at : val_main_v58 (F := Ideal) (ix2 h g) = Ideal.ofBits .f32 (slopeW (hd h g)) := by
  pointwise [val_main_v58, val_main_v57, val_main_v56, val_main_v55, val_main_v54, val_main_v53, val_main_v52, val_main_v51, val_main_v50, val_main_v49, val_main_cst_7, val_main_cst_8, val_main_cst_9, val_main_cst_10, val_main_cst_11, val_main_cst_12, val_main_cst_13, val_main_cst_14]
  fin_cases h <;> fin_cases g <;> simp <;> rfl
theorem v15_at : val_main_v16 (F := Ideal) x0 x1 (ix5 n h g r s) = ∑ x : Fin 64, val_main_v7 (F := Ideal) x1 (ix4 n s h x) * val_main_v0 (F := Ideal) x0 (ix5 n r h g x) := by
  pointwise [val_main_v16, val_main_v15]
theorem v70_at : SC x0 x1 n h g r s = Scalar.select (maskBit n r s)
    ((∑ x : Fin 64, val_main_v7 (F := Ideal) x1 (ix4 n s h x) * val_main_v0 (F := Ideal) x0 (ix5 n r h g x)) * Ideal.ofBits .f32 0x3E000000#32
      + -Ideal.ofBits .f32 (slopeW (hd h g)) * Scalar.sitofp (F := Ideal) .f32 (dist r s)) (⊥ : EReal) := by
  rw [← v48_at, ← v15_at, ← v58_at, ← negInf]
  unfold SC
  pointwise [val_main_v70, val_main_v69, val_main_v68, val_main_v67, val_main_v66, val_main_v65, val_main_v64, val_main_v63, val_main_v62, val_main_v61, val_main_v27, val_main_v26, val_main_v25, val_main_v24, val_main_v23, val_main_v22, val_main_v21, val_main_v20, val_main_v19, val_main_v18, val_main_v17, val_main_c, val_main_cst_1, val_main_cst_15, val_main_call0_v0, val_main_call0_v1, val_main_call0_v2]
  rfl
theorem v0_at (x : FVec Ideal S4096x512 .f32) (d : Fin 64) : val_main_v0 (F := Ideal) x (ix5 n r h g d) = x (ix2 ⟨n.val * 128 + r.val, by omega⟩ ⟨h.val * 256 + g.val * 64 + d.val, by omega⟩) := by
  pointwise [val_main_v0]
theorem v7_at (hb : 128 ≤ n.val * 128 + s.val) (d : Fin 64) : val_main_v7 (F := Ideal) x1 (ix4 n s h d) = x1 (ix2 ⟨n.val * 128 + s.val - 128, by omega⟩ ⟨h.val * 64 + d.val, by omega⟩) := by
  pointwise [val_main_v7, val_main_v6, val_main_v5, val_main_v4, val_main_v3, val_main_v2, val_main_v1, val_main_cst]
  split_ifs <;> first | omega | rfl | simp only [show (1 + n.val) * 128 + (s.val - 128) - 128 = n.val * 128 + s.val - 128 by omega] | exact absurd rfl ‹_›
theorem v14_at (hb : 128 ≤ n.val * 128 + s.val) (d : Fin 64) : val_main_v14 (F := Ideal) x2 (ix4 n s h d) = x2 (ix2 ⟨n.val * 128 + s.val - 128, by omega⟩ ⟨h.val * 64 + d.val, by omega⟩) := by
  pointwise [val_main_v14, val_main_v13, val_main_v12, val_main_v11, val_main_v10, val_main_v9, val_main_v8, val_main_cst_0]
  split_ifs <;> first | omega | rfl | simp only [show (1 + n.val) * 128 + (s.val - 128) - 128 = n.val * 128 + s.val - 128 by omega] | exact absurd rfl ‹_›
theorem bit_cases (b : BitVec 1) : b = 1#1 ∨ b = 0#1 := by revert b; decide
theorem inBand_ge : ∀ (n : Fin 32) (s : Fin 256), inBand n s = 1#1 → 128 ≤ n.val * 128 + s.val := by decide +kernel
theorem mask_ge (hb : maskBit n r s = 1#1) : 128 ≤ n.val * 128 + s.val := by
  refine inBand_ge n s ?_
  revert hb
  show (_ &&& inBand n s) = 1#1 → _
  generalize inBand n s = b
  rcases bit_cases b with rfl | rfl <;> simp
theorem eighth_real : IsReal (Ideal.ofBits .f32 0x3E000000#32) := ⟨_, by simp [Ideal.ofBits, Ideal.ieee, -EReal.coe_mul]; rfl⟩
theorem slope_real (z : Fin 8) : IsReal (Ideal.ofBits .f32 (slopeW z)) := by
  fin_cases z <;> exact ⟨_, by simp [Ideal.ofBits, Ideal.ieee, -EReal.coe_mul]; rfl⟩
theorem sitofp_real (b : BitVec 32) : IsReal (Scalar.sitofp (F := Ideal) .f32 b) := ⟨(b.toInt : ℝ), rfl⟩
theorem sc_real (h0 : ∀ i, IsReal (x0 i)) (h1 : ∀ i, IsReal (x1 i)) : SC x0 x1 n h g r s ≠ ⊤ := by
  rw [v70_at]
  rcases bit_cases (maskBit n r s) with hb | hb
  · have hge := mask_ge n r s hb
    rw [hb]
    refine IsReal.ne_top ?_
    refine IsReal.add (IsReal.mul (IsReal.sum _ fun x => IsReal.mul ?_ ?_) eighth_real) (IsReal.mul (slope_real _).neg (sitofp_real _))
    · rw [v7_at x1 n h s hge]; exact h1 _
    · rw [v0_at n h g r x0]; exact h0 _
  · rw [hb]
    exact bot_ne_top
theorem v88_at (d : Fin 64) : val_main_v88 (F := Ideal) x0 x1 x2 x3 (ix2 ⟨n.val * 128 + r.val, by omega⟩ ⟨h.val * 256 + g.val * 64 + d.val, by omega⟩)
    = ∑ s : Fin 256, val_main_v14 (F := Ideal) x2 (ix4 n s h d) * val_main_v85 (F := Ideal) x0 x1 x3 (ix5 n h g r s) := by
  pointwise [val_main_v88, val_main_v87, val_main_v86]
end Cert.AttnFwdRefIdeal.Hand
end
-- ==== Proof.AttnFwdAt.lean ====
module

public import proofs.«01_k».proof.Defs
public import proofs.«01_k».proof.Proof.Gen.AttnFwdIdeal.Frame
public import proofs.«01_k».proof.Proof.Gen.AttnFwdRefIdeal.Read
public import proofs.«01_k».proof.Proof.Gen.Pre_attn_fwd_finite
public import Idealize.ShloMosaic.Lib.Pipeline.ValueKit
public import Idealize.ShloMosaic.Lib.Pointwise
public import Idealize.ShloMosaic.Lib.TwoAxisContraction
public import proofs.«01_k».proof.Proof.AttnFwdRef
public import proofs.«01_k».proof.Proof.Finite
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnFwdIdeal.Hand

open Cert.AttnFwdIdeal Cert.AttnFwdIdeal.Gen Cert.Reals
open Cert.AttnFwdRefIdeal.Hand (SC sn hd dist inBand maskBit slopeW)

variable (m : (ℓ : Loc nD τ sig) → Buf (Elt Ideal) ℓ)

/-- The word the kernel names a block of queries by. -/
abbrev word (t : Fin cfg0.N) : BitVec 32 := BitVec.ofNat 32 ((grid0.coords t 0 : Fin _) : Nat)

/-- The scores of one head: scaled products less the slope times the distance, with the mask. -/
def scores (w : BitVec 32) (slope : BitVec 32) (qk : FVec Ideal S128x256 .f32) : FVec Ideal S128x256 .f32 :=
  let d : IVec S128x256 32 := subi (addi (broadcast S128x256 128#32) (iota .tc S128x256 32 [0] iota_S128x256_d0_w32)) (iota .tc S128x256 32 [1] iota_S128x256_d1_w32)
  select
    (andi (andi (cmpi .sge d (broadcast S128x256 0#32)) (cmpi .slt d (broadcast S128x256 128#32)))
      (ori (cmpi .sge (iota .tc S128x256 32 [1] iota_S128x256_d1_w32) (broadcast S128x256 128#32)) (broadcast S128x256 (Scalar.cmpi .sgt w 0#32))))
    (subf (mulf qk (broadcast S128x256 (Scalar.ofBits (F := Ideal) .f32 0x3E000000#32))) (mulf (broadcast S128x256 (Scalar.ofBits (F := Ideal) .f32 slope)) (sitofp .f32 d)))
    (broadcast S128x256 (Named.named (F := Ideal) κ "mask" (φ := .f32) 0xF149F2CA#32))

/-- The slopes of the eight heads. -/
abbrev slopes : Fin 8 → BitVec 32 :=
  ![0x3F000000#32, 0x3E800000#32, 0x3E000000#32, 0x3D800000#32, 0x3D000000#32, 0x3C800000#32, 0x3C000000#32, 0x3B800000#32]

/-- The bands of keys and values of the two groups of heads, from the block before and the block itself. -/
def keys (p b : FVec Ideal S128x256 .bf16) : Fin 2 → FVec Ideal S256x64 .bf16 := ![k0_pay5 p b, k0_pay7 p b]
def vals (p b : FVec Ideal S128x256 .bf16) : Fin 2 → FVec Ideal S256x64 .bf16 := ![k0_pay6 p b, k0_pay8 p b]

/-- The products of the queries with the keys, head by head. -/
def qks (q : FVec Ideal S128x512 .bf16) (p b : FVec Ideal S128x256 .bf16) : Fin 8 → FVec Ideal S128x256 .f32 :=
  ![k0_pay9 q p b, k0_pay10 q p b, k0_pay11 q p b, k0_pay12 q p b, k0_pay13 q p b, k0_pay14 q p b, k0_pay15 q p b, k0_pay16 q p b]

/-- The sink of a head, read from the first operand. -/
abbrev sk (a : FVec Ideal S8 .f32) (o : Nat) (inb : ∀ x, (![o] : Fin 1 → Nat) x + S1.size x ≤ S8.size x) : Ideal .f32 :=
  View.ld (show S8.Idx → Elt Ideal .f32 from a) (Rect.unit (s := S8) ![o] S1.size inb) (Shape.Idx.first (s := S1) (by decide))
def sinkB (a : FVec Ideal S8 .f32) : Fin 8 → Ideal .f32 :=
  ![sk a 0 inb_S8_S1_0, sk a 1 inb_S8_S1_1, sk a 2 inb_S8_S1_2, sk a 3 inb_S8_S1_3, sk a 4 inb_S8_S1_4, sk a 5 inb_S8_S1_5, sk a 6 inb_S8_S1_6, sk a 7 inb_S8_S1_7]

/-- The weights of a row of scores beside a sink. -/
def weights (a : Ideal .f32) (S : FVec Ideal S128x256 .f32) : FVec Ideal S128x256 .bf16 :=
  k0_pay38 a S (multiReduction .maximumf [1] S128 S 0xFF800000#32 reduces_S128x256_S128 (.inl rfl) rfl)

section
variable (w : BitVec 32) (a : FVec Ideal S8 .f32) (q : FVec Ideal S128x512 .bf16) (p b : FVec Ideal S128x256 .bf16)

/-- The scores and the weights of one block, head by head. -/
def scV (n : Fin 8) : FVec Ideal S128x256 .f32 := scores w (slopes n) (qks q p b n)
def pV (n : Fin 8) : FVec Ideal S128x256 .bf16 := weights (sinkB a n) (scV w q p b n)
/-- The weights as the kernel's body forms them. -/
def w0 : FVec Ideal S128x256 .bf16 := k0_pay19 w (k0_pay9 q p b) (sk a 0 inb_S8_S1_0) (iota .tc S128x256 32 [1] iota_S128x256_d1_w32) k0_pay17 k0_pay18
def w1 : FVec Ideal S128x256 .bf16 := k0_pay22 w (k0_pay10 q p b) (sk a 1 inb_S8_S1_1) (iota .tc S128x256 32 [1] iota_S128x256_d1_w32) k0_pay20 k0_pay21 128#32
def w2 : FVec Ideal S128x256 .bf16 := k0_pay27 (k0_pay11 q p b) (sk a 2 inb_S8_S1_2) k0_pay23 k0_pay24 k0_pay25 (k0_pay26 w)
def w3 : FVec Ideal S128x256 .bf16 := k0_pay31 (sk a 3 inb_S8_S1_3) k0_pay28 (k0_pay29 w) (k0_pay30 (k0_pay12 q p b))
def w4 : FVec Ideal S128x256 .bf16 := k0_pay35 (sk a 4 inb_S8_S1_4) (k0_pay33 w) (k0_pay34 (k0_pay13 q p b))
def w5 : FVec Ideal S128x256 .bf16 := k0_pay38 (sk a 5 inb_S8_S1_5) (k0_pay36 w (k0_pay14 q p b)) (k0_pay37 w (k0_pay14 q p b))
def w6 : FVec Ideal S128x256 .bf16 := k0_pay42 (sk a 6 inb_S8_S1_6) (k0_pay40 w (k0_pay15 q p b) (sk a 6 inb_S8_S1_6)) (k0_pay41 w (k0_pay15 q p b) (sk a 6 inb_S8_S1_6))
def w7 : FVec Ideal S128x256 .bf16 := k0_pay47 (k0_pay45 w (k0_pay16 q p b) (sk a 7 inb_S8_S1_7)) (k0_pay46 w (k0_pay16 q p b) (sk a 7 inb_S8_S1_7))
theorem w0_eq : w0 w a q p b = pV w a q p b 0 := rfl
theorem w1_eq : w1 w a q p b = pV w a q p b 1 := rfl
theorem w2_eq : w2 w a q p b = pV w a q p b 2 := rfl
theorem w3_eq : w3 w a q p b = pV w a q p b 3 := rfl
theorem w4_eq : w4 w a q p b = pV w a q p b 4 := rfl
theorem w5_eq : w5 w a q p b = pV w a q p b 5 := rfl
theorem w6_eq : w6 w a q p b = pV w a q p b 6 := rfl
theorem w7_eq : w7 w a q p b = pV w a q p b 7 := rfl
/-- The columns of the eight heads. -/
def oV : Fin 8 → FVec Ideal S128x64 .f32 :=
  ![k0_pay48 (k0_pay6 p b) (w0 w a q p b), k0_pay49 (k0_pay6 p b) (w1 w a q p b), k0_pay50 (k0_pay6 p b) (w2 w a q p b), k0_pay51 (k0_pay6 p b) (w3 w a q p b), k0_pay52 (k0_pay8 p b) (w4 w a q p b), k0_pay53 (k0_pay8 p b) (w5 w a q p b), k0_pay54 (k0_pay8 p b) (w6 w a q p b), k0_pay1 (k0_pay8 p b) (w7 w a q p b) (constant S128x64 .f32 0x00000000#32)]
end

/-- The columns, stored head by head. -/
def oCols (d : Fin 8 → FVec Ideal S128x64 .f32) : FVec Ideal S128x512 .f32 :=
  View.canon (Val := Elt Ideal) (s := S128x512) (e := .f32)
    [⟨Rect.unit (s := S128x512) ![0, 448] S128x64.size inb_S128x512_S128x64_0_448, d 7⟩, ⟨Rect.unit (s := S128x512) ![0, 384] S128x64.size inb_S128x512_S128x64_0_384, d 6⟩,
     ⟨Rect.unit (s := S128x512) ![0, 320] S128x64.size inb_S128x512_S128x64_0_320, d 5⟩, ⟨Rect.unit (s := S128x512) ![0, 256] S128x64.size inb_S128x512_S128x64_0_256, d 4⟩,
     ⟨Rect.unit (s := S128x512) ![0, 192] S128x64.size inb_S128x512_S128x64_0_192, d 3⟩, ⟨Rect.unit (s := S128x512) ![0, 128] S128x64.size inb_S128x512_S128x64_0_128, d 2⟩,
     ⟨Rect.unit (s := S128x512) ![0, 64] S128x64.size inb_S128x512_S128x64_0_64, d 1⟩, ⟨Rect.unit (s := S128x512) ![0, 0] S128x64.size inb_S128x512_S128x64_0_0, d 0⟩]

theorem oCols_at (d : Fin 8 → FVec Ideal S128x64 .f32) (h : Fin 2) (g : Fin 4) (r : Fin 128) (k : Fin 64) :
    oCols d (ix2 r ⟨h.val * 256 + g.val * 64 + k.val, by omega⟩) = d (hd h g) (ix2 r k) := by
  unfold oCols
  fin_cases h <;> fin_cases g
  · iterate 7 refine (Cert.Rows.col_skip r _ _ (Or.inl (by dsimp; omega)) _ _).trans ?_
    exact Cert.Rows.col_hit r _ k _ (by dsimp <;> omega) _ _
  · iterate 6 refine (Cert.Rows.col_skip r _ _ (Or.inl (by dsimp; omega)) _ _).trans ?_
    exact Cert.Rows.col_hit r _ k _ (by dsimp <;> omega) _ _
  · iterate 5 refine (Cert.Rows.col_skip r _ _ (Or.inl (by dsimp; omega)) _ _).trans ?_
    exact Cert.Rows.col_hit r _ k _ (by dsimp <;> omega) _ _
  · iterate 4 refine (Cert.Rows.col_skip r _ _ (Or.inl (by dsimp; omega)) _ _).trans ?_
    exact Cert.Rows.col_hit r _ k _ (by dsimp <;> omega) _ _
  · iterate 3 refine (Cert.Rows.col_skip r _ _ (Or.inl (by dsimp; omega)) _ _).trans ?_
    exact Cert.Rows.col_hit r _ k _ (by dsimp <;> omega) _ _
  · iterate 2 refine (Cert.Rows.col_skip r _ _ (Or.inl (by dsimp; omega)) _ _).trans ?_
    exact Cert.Rows.col_hit r _ k _ (by dsimp <;> omega) _ _
  · iterate 1 refine (Cert.Rows.col_skip r _ _ (Or.inl (by dsimp; omega)) _ _).trans ?_
    exact Cert.Rows.col_hit r _ k _ (by dsimp <;> omega) _ _
  · exact Cert.Rows.col_hit r _ k _ (by dsimp <;> omega) _ _

section
variable (w : BitVec 32) (a : FVec Ideal S8 .f32) (q : FVec Ideal S128x512 .bf16) (p b : FVec Ideal S128x256 .bf16)
variable (n : Fin 32) (h : Fin 2) (g : Fin 4) (r : Fin 128) (s : Fin 256)

theorem keys_at (d : Fin 64) : keys p b h (ix2 s d) = if hs : s.val < 128 then p (ix2 ⟨s.val, hs⟩ ⟨h.val * 64 + d.val, by omega⟩) else b (ix2 ⟨s.val - 128, by omega⟩ ⟨h.val * 64 + d.val, by omega⟩) := by
  fin_cases h
  · change k0_pay5 (F := Ideal) p b (ix2 s d) = _
    pointwise [k0_pay5, k0_pay3, k0_pay4]
  · change k0_pay7 (F := Ideal) p b (ix2 s d) = _
    pointwise [k0_pay7, k0_pay3, k0_pay4]
theorem vals_at (d : Fin 64) : vals p b h (ix2 s d) = if hs : s.val < 128 then p (ix2 ⟨s.val, hs⟩ ⟨128 + (h.val * 64 + d.val), by omega⟩) else b (ix2 ⟨s.val - 128, by omega⟩ ⟨128 + (h.val * 64 + d.val), by omega⟩) := by
  fin_cases h
  · change k0_pay6 (F := Ideal) p b (ix2 s d) = _
    pointwise [k0_pay6, k0_pay3, k0_pay4]
  · change k0_pay8 (F := Ideal) p b (ix2 s d) = _
    pointwise [k0_pay8, k0_pay3, k0_pay4]
    simp only [← add_assoc]
theorem qks_at : qks q p b (hd h g) (ix2 r s) = ∑ x : Fin 64, q (ix2 r ⟨h.val * 256 + g.val * 64 + x.val, by omega⟩) * keys p b h (ix2 s x) := by
  fin_cases h <;> fin_cases g
  · change k0_pay9 (F := Ideal) q p b (ix2 r s) = ∑ x : Fin 64, q (ix2 r ⟨0 * 256 + 0 * 64 + x.val, _⟩) * k0_pay5 (F := Ideal) p b (ix2 s x)
    pointwise [k0_pay9, k0_pay2]
  · change k0_pay10 (F := Ideal) q p b (ix2 r s) = ∑ x : Fin 64, q (ix2 r ⟨0 * 256 + 1 * 64 + x.val, _⟩) * k0_pay5 (F := Ideal) p b (ix2 s x)
    pointwise [k0_pay10, k0_pay2]
  · change k0_pay11 (F := Ideal) q p b (ix2 r s) = ∑ x : Fin 64, q (ix2 r ⟨0 * 256 + 2 * 64 + x.val, _⟩) * k0_pay5 (F := Ideal) p b (ix2 s x)
    pointwise [k0_pay11, k0_pay2]
  · change k0_pay12 (F := Ideal) q p b (ix2 r s) = ∑ x : Fin 64, q (ix2 r ⟨0 * 256 + 3 * 64 + x.val, _⟩) * k0_pay5 (F := Ideal) p b (ix2 s x)
    pointwise [k0_pay12, k0_pay2]
  · change k0_pay13 (F := Ideal) q p b (ix2 r s) = ∑ x : Fin 64, q (ix2 r ⟨1 * 256 + 0 * 64 + x.val, _⟩) * k0_pay7 (F := Ideal) p b (ix2 s x)
    pointwise [k0_pay13, k0_pay2]
  · change k0_pay14 (F := Ideal) q p b (ix2 r s) = ∑ x : Fin 64, q (ix2 r ⟨1 * 256 + 1 * 64 + x.val, _⟩) * k0_pay7 (F := Ideal) p b (ix2 s x)
    pointwise [k0_pay14, k0_pay2]
  · change k0_pay15 (F := Ideal) q p b (ix2 r s) = ∑ x : Fin 64, q (ix2 r ⟨1 * 256 + 2 * 64 + x.val, _⟩) * k0_pay7 (F := Ideal) p b (ix2 s x)
    pointwise [k0_pay15, k0_pay2]
  · change k0_pay16 (F := Ideal) q p b (ix2 r s) = ∑ x : Fin 64, q (ix2 r ⟨1 * 256 + 3 * 64 + x.val, _⟩) * k0_pay7 (F := Ideal) p b (ix2 s x)
    pointwise [k0_pay16, k0_pay2]
theorem sinkB_at : sinkB a (hd h g) = a (ix1 (hd h g)) := by
  fin_cases h <;> fin_cases g
  · change sk a 0 inb_S8_S1_0 = _
    exact congrArg a (funext fun y => Fin.ext (by match y with | ⟨0, _⟩ => simp [Rect.unit]))
  · change sk a 1 inb_S8_S1_1 = _
    exact congrArg a (funext fun y => Fin.ext (by match y with | ⟨0, _⟩ => simp [Rect.unit]))
  · change sk a 2 inb_S8_S1_2 = _
    exact congrArg a (funext fun y => Fin.ext (by match y with | ⟨0, _⟩ => simp [Rect.unit]))
  · change sk a 3 inb_S8_S1_3 = _
    exact congrArg a (funext fun y => Fin.ext (by match y with | ⟨0, _⟩ => simp [Rect.unit]))
  · change sk a 4 inb_S8_S1_4 = _
    exact congrArg a (funext fun y => Fin.ext (by match y with | ⟨0, _⟩ => simp [Rect.unit]))
  · change sk a 5 inb_S8_S1_5 = _
    exact congrArg a (funext fun y => Fin.ext (by match y with | ⟨0, _⟩ => simp [Rect.unit]))
  · change sk a 6 inb_S8_S1_6 = _
    exact congrArg a (funext fun y => Fin.ext (by match y with | ⟨0, _⟩ => simp [Rect.unit]))
  · change sk a 7 inb_S8_S1_7 = _
    exact congrArg a (funext fun y => Fin.ext (by match y with | ⟨0, _⟩ => simp [Rect.unit]))
theorem sc_at (z : Fin 8) : scV w q p b z (ix2 r s)
    = Scalar.select (Scalar.andi (Scalar.andi (Scalar.cmpi .sge (dist r s) 0#32) (Scalar.cmpi .slt (dist r s) 128#32)) (Scalar.ori (Scalar.cmpi .sge (BitVec.ofNat 32 s.val) 128#32) (Scalar.cmpi .sgt w 0#32)))
      (qks q p b z (ix2 r s) * Ideal.ofBits .f32 0x3E000000#32 - Ideal.ofBits .f32 (slopes z) * Scalar.sitofp (F := Ideal) .f32 (dist r s)) (⊥ : EReal) := by
  unfold scV
  have e : Named.named (F := Ideal) κ "mask" (φ := .f32) 0xF149F2CA#32 = (⊥ : EReal) := IdealRules.named_const.ideal_named_scalar _ _ _ _ rfl
  rw [← e]
  pointwise [scores]
  rfl
theorem p_at (z : Fin 8) : pV w a q p b z (ix2 r s) = soft (fun k => scV w q p b z (ix2 r k)) (sinkB a z) s := by
  unfold pV weights soft softDen rowMax
  rw [← negInf]
  pointwise [k0_pay38]
theorem o_at (d : Fin 64) : oV w a q p b (hd h g) (ix2 r d) = ∑ s : Fin 256, pV w a q p b (hd h g) (ix2 r s) * vals p b h (ix2 s d) := by
  fin_cases h <;> fin_cases g
  · change k0_pay48 (F := Ideal) (k0_pay6 p b) (w0 w a q p b) (ix2 r d) = ∑ s : Fin 256, pV w a q p b 0 (ix2 r s) * k0_pay6 (F := Ideal) p b (ix2 s d)
    rw [w0_eq]
    pointwise [k0_pay48]
  · change k0_pay49 (F := Ideal) (k0_pay6 p b) (w1 w a q p b) (ix2 r d) = ∑ s : Fin 256, pV w a q p b 1 (ix2 r s) * k0_pay6 (F := Ideal) p b (ix2 s d)
    rw [w1_eq]
    pointwise [k0_pay49]
  · change k0_pay50 (F := Ideal) (k0_pay6 p b) (w2 w a q p b) (ix2 r d) = ∑ s : Fin 256, pV w a q p b 2 (ix2 r s) * k0_pay6 (F := Ideal) p b (ix2 s d)
    rw [w2_eq]
    pointwise [k0_pay50]
  · change k0_pay51 (F := Ideal) (k0_pay6 p b) (w3 w a q p b) (ix2 r d) = ∑ s : Fin 256, pV w a q p b 3 (ix2 r s) * k0_pay6 (F := Ideal) p b (ix2 s d)
    rw [w3_eq]
    pointwise [k0_pay51]
  · change k0_pay52 (F := Ideal) (k0_pay8 p b) (w4 w a q p b) (ix2 r d) = ∑ s : Fin 256, pV w a q p b 4 (ix2 r s) * k0_pay8 (F := Ideal) p b (ix2 s d)
    rw [w4_eq]
    pointwise [k0_pay52]
  · change k0_pay53 (F := Ideal) (k0_pay8 p b) (w5 w a q p b) (ix2 r d) = ∑ s : Fin 256, pV w a q p b 5 (ix2 r s) * k0_pay8 (F := Ideal) p b (ix2 s d)
    rw [w5_eq]
    pointwise [k0_pay53]
  · change k0_pay54 (F := Ideal) (k0_pay8 p b) (w6 w a q p b) (ix2 r d) = ∑ s : Fin 256, pV w a q p b 6 (ix2 r s) * k0_pay8 (F := Ideal) p b (ix2 s d)
    rw [w6_eq]
    pointwise [k0_pay54]
  · change k0_pay1 (F := Ideal) (k0_pay8 p b) (w7 w a q p b) (constant S128x64 .f32 0x00000000#32) (ix2 r d) = ∑ s : Fin 256, pV w a q p b 7 (ix2 r s) * k0_pay8 (F := Ideal) p b (ix2 s d)
    rw [w7_eq]
    pointwise [k0_pay1]
end

section
open Cert.AttnFwdRefIdeal.Read
variable {x0 : FVec Ideal Cert.AttnFwdRefIdeal.S4096x512 .f32} {x1 x2 : FVec Ideal Cert.AttnFwdRefIdeal.S4096x128 .f32} {x3 : FVec Ideal Cert.AttnFwdRefIdeal.S8 .f32}
variable {n : Fin 32} {a : FVec Ideal S8 .f32} {q : FVec Ideal S128x512 .bf16} {p b : FVec Ideal S128x256 .bf16}

/-- What a grid point's operands hold of the arguments: block `n` of the queries, block `n` of the keys
    and values, and, but for the first block, the block of keys and values before. -/
structure Holds (x0 : FVec Ideal Cert.AttnFwdRefIdeal.S4096x512 .f32) (x1 x2 : FVec Ideal Cert.AttnFwdRefIdeal.S4096x128 .f32) (x3 : FVec Ideal Cert.AttnFwdRefIdeal.S8 .f32)
    (n : Fin 32) (a : FVec Ideal S8 .f32) (q : FVec Ideal S128x512 .bf16) (p b : FVec Ideal S128x256 .bf16) : Prop where
  a_at : ∀ z : Fin 8, a (ix1 z) = x3 (ix1 z)
  q_at : ∀ (r : Fin 128) (j : Fin 512), q (ix2 r j) = x0 (ix2 ⟨n.val * 128 + r.val, by omega⟩ j)
  bk_at : ∀ (r : Fin 128) (j : Fin 128), b (ix2 r ⟨j.val, by omega⟩) = x1 (ix2 ⟨n.val * 128 + r.val, by omega⟩ j)
  bv_at : ∀ (r : Fin 128) (j : Fin 128), b (ix2 r ⟨128 + j.val, by omega⟩) = x2 (ix2 ⟨n.val * 128 + r.val, by omega⟩ j)
  pk_at : ∀ (_ : 0 < n.val) (r : Fin 128) (j : Fin 128), p (ix2 r ⟨j.val, by omega⟩) = x1 (ix2 ⟨n.val * 128 + r.val - 128, by omega⟩ j)
  pv_at : ∀ (_ : 0 < n.val) (r : Fin 128) (j : Fin 128), p (ix2 r ⟨128 + j.val, by omega⟩) = x2 (ix2 ⟨n.val * 128 + r.val - 128, by omega⟩ j)

variable (H : Holds x0 x1 x2 x3 n a q p b) (h : Fin 2) (g : Fin 4) (r : Fin 128) (s : Fin 256)
include H

theorem keys_eq (hb : 128 ≤ n.val * 128 + s.val) (d : Fin 64) : keys p b h (ix2 s d) = val_main_v7 (F := Ideal) x1 (ix4 n s h d) := by
  rw [keys_at, Cert.AttnFwdRefIdeal.Hand.v7_at x1 n h s hb]
  split_ifs with hs
  · exact H.pk_at (by omega) ⟨s.val, hs⟩ ⟨h.val * 64 + d.val, by omega⟩
  · refine (H.bk_at ⟨s.val - 128, by omega⟩ ⟨h.val * 64 + d.val, by omega⟩).trans ?_
    simp only [show n.val * 128 + (s.val - 128) = n.val * 128 + s.val - 128 by omega]
theorem vals_eq (hb : 128 ≤ n.val * 128 + s.val) (d : Fin 64) : vals p b h (ix2 s d) = val_main_v14 (F := Ideal) x2 (ix4 n s h d) := by
  rw [vals_at, Cert.AttnFwdRefIdeal.Hand.v14_at x2 n h s hb]
  split_ifs with hs
  · exact H.pv_at (by omega) ⟨s.val, hs⟩ ⟨h.val * 64 + d.val, by omega⟩
  · refine (H.bv_at ⟨s.val - 128, by omega⟩ ⟨h.val * 64 + d.val, by omega⟩).trans ?_
    simp only [show n.val * 128 + (s.val - 128) = n.val * 128 + s.val - 128 by omega]

omit H in
/-- The kernel's mask of a band is the reference's. -/
theorem band_bit : ∀ (n : Fin 32) (s : Fin 256), Scalar.ori (Scalar.cmpi .sge (BitVec.ofNat 32 s.val) 128#32) (Scalar.cmpi .sgt (BitVec.ofNat 32 n.val) 0#32) = inBand n s := by
  decide +kernel

theorem sc_eq : scV (BitVec.ofNat 32 n.val) q p b (hd h g) (ix2 r s) = SC x0 x1 n h g r s := by
  rw [sc_at, band_bit, Cert.AttnFwdRefIdeal.Hand.v70_at]
  rcases Cert.AttnFwdRefIdeal.Hand.bit_cases (maskBit n r s) with hb | hb
  · have hge := Cert.AttnFwdRefIdeal.Hand.mask_ge n r s hb
    change Scalar.select (maskBit n r s) _ _ = _
    rw [hb]
    show _ * _ - _ * _ = _ * _ + -_ * _
    rw [qks_at, sub_eq_add_neg, EReal.neg_mul]
    refine congrArg₂ (· + ·) (congrArg₂ (· * ·) (Finset.sum_congr rfl fun x _ => ?_) rfl) rfl
    rw [keys_eq H h s hge, H.q_at, Cert.AttnFwdRefIdeal.Hand.v0_at]
    exact mul_comm _ _
  · change Scalar.select (maskBit n r s) _ _ = _
    rw [hb]
    rfl
theorem sink_eq : sinkB a (hd h g) = sn x3 h g := (sinkB_at a h g).trans (H.a_at _)
theorem p_eq : pV (BitVec.ofNat 32 n.val) a q p b (hd h g) (ix2 r s) = soft (SC x0 x1 n h g r) (sn x3 h g) s := by
  rw [p_at, sink_eq H, funext fun k => sc_eq H h g r k]

variable (h0 : ∀ i, IsReal (x0 i)) (h1 : ∀ i, IsReal (x1 i)) (h3 : ∀ i, IsReal (x3 i))
include h0 h1 h3

/-- Where the band holds other rows than the reference's, the weight is zero. -/
theorem o_eq (d : Fin 64) : oV (BitVec.ofNat 32 n.val) a q p b (hd h g) (ix2 r d)
    = val_main_v88 (F := Ideal) x0 x1 x2 x3 (ix2 ⟨n.val * 128 + r.val, by omega⟩ ⟨h.val * 256 + g.val * 64 + d.val, by omega⟩) := by
  rw [o_at, Cert.AttnFwdRefIdeal.Hand.v88_at]
  refine Finset.sum_congr rfl fun s _ => ?_
  rw [p_eq H, Cert.AttnFwdRefIdeal.Hand.v85_at x0 x1 x3 n h g r s (fun s => Cert.AttnFwdRefIdeal.Hand.sc_real x0 x1 n h g r s h0 h1) (h3 _), mul_comm]
  rcases Cert.AttnFwdRefIdeal.Hand.bit_cases (maskBit n r s) with hb | hb
  · rw [vals_eq H h s (Cert.AttnFwdRefIdeal.Hand.mask_ge n r s hb)]
  · have e : SC x0 x1 n h g r s = ⊥ := by rw [Cert.AttnFwdRefIdeal.Hand.v70_at, hb]; rfl
    rw [soft_masked e, mul_zero, mul_zero]
end
end Cert.AttnFwdIdeal.Hand
end
-- ==== Proof.AttnFwd.lean ====
module

public import proofs.«01_k».proof.Defs
public import proofs.«01_k».proof.Proof.AttnFwdAt
public import proofs.«01_k».proof.Proof.Gen.AttnFwdRefIdeal.Read
public import proofs.«01_k».proof.Proof.Gen.Pre_attn_fwd_finite

@[expose] public section

set_option maxRecDepth 16384

noncomputable section

open Idealize.ShloMosaic Idealize.ShloMosaic.TcCoe Idealize.SL.Sem
open Idealize.ShloMosaic.Pipeline (Dat)

namespace Cert.AttnFwdIdeal.Hand

open Cert.AttnFwdIdeal Cert.AttnFwdIdeal.Gen Cert.Reals Cert.AttnFwdRefIdeal.Read
open Cert.AttnFwdRefIdeal.Hand (SC sn hd)

variable (m : (ℓ : Loc nD τ sig) → Buf (Elt Ideal) ℓ)

theorem idx : ∀ t : Fin cfg0.N, win0_0.index t = ![0] ∧ win0_1.index t = ![t.val, 0] ∧ win0_2.index t = ![t.val - 1, 0] ∧ win0_3.index t = ![t.val, 0] ∧ win0_4.index t = ![t.val, 0] :=
  (by decide +kernel : ∀ t : Fin grid0.N, _)

/-- The block of rows of point `t`. -/
def blkOf (t : Fin cfg0.N) : Fin 32 := ⟨t.val, t.isLt⟩
/-- The array row of row `i` of the block at point `t`. -/
def row (t : Fin cfg0.N) (i : Fin 128) : Fin 4096 := ⟨t.val * 128 + i.val, by have := t.isLt; have hN : cfg0.N = 32 := N_0; omega⟩

theorem word_eq : ∀ t : Fin cfg0.N, word t = BitVec.ofNat 32 (blkOf t).val :=
  (by decide +kernel : ∀ t : Fin grid0.N, _)

/-- The arguments. -/
abbrev x0 (c : Dev nD) : FVec Ideal S4096x512 .f32 := m ((c : Thread nD τ).loc main_arg0)
abbrev x1 (c : Dev nD) : FVec Ideal S4096x128 .f32 := m ((c : Thread nD τ).loc main_arg1)
abbrev x2 (c : Dev nD) : FVec Ideal S4096x128 .f32 := m ((c : Thread nD τ).loc main_arg2)
abbrev x3 (c : Dev nD) : FVec Ideal S8 .f32 := m ((c : Thread nD τ).loc main_arg3)

theorem qIs (c : Dev nD) (r : Fin 4096) (j : Fin 512) : (V m c main_v0 : FVec Ideal S4096x512 .bf16) (ix2 r j) = x0 m c (ix2 r j) := by
  unfold V
  simp only [List.flatten_cons, List.flatten_nil, List.append_nil, hostOps0]
  after_results
  pointwise
theorem kIs (c : Dev nD) (r : Fin 4096) (j : Fin 128) : (V m c main_v2 : FVec Ideal S4096x256 .bf16) (ix2 r ⟨j.val, by omega⟩) = x1 m c (ix2 r j) := by
  unfold V
  simp only [List.flatten_cons, List.flatten_nil, List.append_nil, hostOps0]
  after_results
  pointwise
theorem vIs (c : Dev nD) (r : Fin 4096) (j : Fin 128) : (V m c main_v2 : FVec Ideal S4096x256 .bf16) (ix2 r ⟨128 + j.val, by omega⟩) = x2 m c (ix2 r j) := by
  unfold V
  simp only [List.flatten_cons, List.flatten_nil, List.append_nil, hostOps0]
  after_results
  pointwise

section
variable (t : Fin cfg0.N)
/-- The two blocks of keys and values, read whole. -/
abbrev rdP (x : FVec Ideal S128x256 .bf16) : FVec Ideal S128x256 .bf16 :=
  View.ld (View.read (Elt Ideal) (ms0_2 t).view ((hs0_2 t).unread x)) (Rect.unit (s := S128x256) ![0, 0] ![128, 256] inb_S128x256_S128x256_0_0)
abbrev rdB (x : FVec Ideal S128x256 .bf16) : FVec Ideal S128x256 .bf16 :=
  View.ld (View.read (Elt Ideal) (ms0_3 t).view ((hs0_3 t).unread x)) (Rect.unit (s := S128x256) ![0, 0] ![128, 256] inb_S128x256_S128x256_0_0)

theorem ld_all {e : EltTy} (x : S128x256.Idx → Elt Ideal e) (inb : ∀ i, (![0, 0] : Fin 2 → Nat) i + (![128, 256] : Fin 2 → Nat) i ≤ S128x256.size i) : View.ld x (Rect.unit (s := S128x256) ![0, 0] ![128, 256] inb) = x := by
  funext y
  refine congrArg x ?_
  funext i
  refine Fin.ext ?_
  match i with
  | ⟨0, _⟩ => simp [Rect.unit]
  | ⟨1, _⟩ => simp [Rect.unit]
theorem readP (x : FVec Ideal S128x256 .bf16) : rdP t x = x := by
  unfold rdP
  rw [(hs0_2 t).read_unread]
  exact ld_all (show S128x256.Idx → Elt Ideal .bf16 from x) _
theorem readB (x : FVec Ideal S128x256 .bf16) : rdB t x = x := by
  unfold rdB
  rw [(hs0_3 t).read_unread]
  exact ld_all (show S128x256.Idx → Elt Ideal .bf16 from x) _

end

theorem sBlk (c : Dev nD) (t : Fin cfg0.N) (z : Fin 8) : iblk m c 0 t (ix1 z) = x3 m c (ix1 z) := by
  blk_point [iblk, V, idx t]
theorem qBlk (c : Dev nD) (t : Fin cfg0.N) (r : Fin 128) (j : Fin 512) : iblk m c 1 t (ix2 r j) = x0 m c (ix2 (row t r) j) := by
  rw [← qIs m c (row t r) j]
  blk_point [iblk, idx t, row]
theorem bBlk (c : Dev nD) (t : Fin cfg0.N) (r : Fin 128) (j : Fin 256) : iblk m c 3 t (ix2 r j) = (V m c main_v2 : FVec Ideal S4096x256 .bf16) (ix2 (row t r) j) := by
  blk_point [iblk, idx t, row]
theorem pBlk (c : Dev nD) (t : Fin cfg0.N) (r : Fin 128) (j : Fin 256) : iblk m c 2 t (ix2 r j) = (V m c main_v2 : FVec Ideal S4096x256 .bf16) (ix2 ⟨(t.val - 1) * 128 + r.val, by have := t.isLt; have hN : cfg0.N = 32 := N_0; omega⟩ j) := by
  blk_point [iblk, idx t]

theorem holds (c : Dev nD) (t : Fin cfg0.N) : Holds (x0 m c) (x1 m c) (x2 m c) (x3 m c) (blkOf t)
    (iblk m c 0 t) (iblk m c 1 t) (rdP t (iblk m c 2 t)) (rdB t (iblk m c 3 t)) := by
  have hb : ∀ (h0 : 0 < (blkOf t).val) (r : Fin 128), (t.val - 1) * 128 + r.val = (blkOf t).val * 128 + r.val - 128 := fun h0 r => by
    change 0 < t.val at h0
    change _ = (t.val) * 128 + r.val - 128
    omega
  rw [readP, readB]
  refine ⟨sBlk m c t, qBlk m c t, fun r j => ?_, fun r j => ?_, fun h0 r j => ?_, fun h0 r j => ?_⟩
  · exact (bBlk m c t r _).trans (kIs m c _ j)
  · exact (bBlk m c t r _).trans (vIs m c _ j)
  · refine (pBlk m c t r _).trans ((kIs m c _ j).trans ?_)
    exact congrArg (fun i => x1 m c (ix2 i j)) (Fin.ext (hb h0 r))
  · refine (pBlk m c t r _).trans ((vIs m c _ j).trans ?_)
    exact congrArg (fun i => x2 m c (ix2 i j)) (Fin.ext (hb h0 r))

/-- The columns of the block at point `t`. -/
abbrev oB (c : Dev nD) (t : Fin cfg0.N) : Fin 8 → FVec Ideal S128x64 .f32 := oV (word t) (iblk m c 0 t) (iblk m c 1 t) (rdP t (iblk m c 2 t)) (rdB t (iblk m c 3 t))

set_option maxHeartbeats 2000000 in
theorem outO (c : Dev nD) (t : Fin cfg0.N) : outsAt0 m c t = oCols (oB m c t) := by
  generalize hX : oCols (oB m c t) = X
  unfold outsAt0 out0_A_4
  dsimp only
  frame_out
  exact hX

theorem emb4 (t : Fin cfg0.N) (y) (G : FVec Ideal S4096x512 .f32) : G (ix2 (row t (y 0)) (y 1)) = G ((win0_4.blk t).view.emb y) := by
  blk_ext [idx t, row]
theorem final4_of (c : Dev nD) (G : FVec Ideal S4096x512 .f32) (h : ∀ t (i : Fin 128) (k : Fin 512), outsAt0 m c t (ix2 i k) = G (ix2 (row t i) k)) :
    (dats m 0 c).arrAt 4 (cfgs 0).N = G := by
  refine (dats m 0 c).arrAt_eq_of_covers 4 _ (by decide +kernel) fun t hf y => ?_
  blk_simp
  rw [after0_4]
  refine Eq.trans ?_ (emb4 t y G)
  idx_vars y
  exact h t y0 y1

theorem pre_real (x0 x1 x2 x3)
    (h : (Cert.Pre_attn_fwd_finite.fn (F := Ideal) x0 x1 x2 x3).1 = (fun _ => 1#1)
    ∧ (Cert.Pre_attn_fwd_finite.fn (F := Ideal) x0 x1 x2 x3).2.1 = (fun _ => 1#1)
    ∧ (Cert.Pre_attn_fwd_finite.fn (F := Ideal) x0 x1 x2 x3).2.2 = (fun _ => 1#1)) :
    (∀ i, IsReal (x0 i)) ∧ (∀ i, IsReal (x1 i)) ∧ (∀ i, IsReal (x3 i)) := by
  unfold Cert.Pre_attn_fwd_finite.fn at h
  dsimp only at h
  exact ⟨real_of x0 _ _ h.1 (fun _ => rfl) (fun _ => rfl), real_of x1 _ _ h.2.1 (fun _ => rfl) (fun _ => rfl), real_of x3 _ _ h.2.2 (fun _ => rfl) (fun _ => rfl)⟩

theorem o_val (c : Dev nD) (h0 : ∀ i, IsReal (x0 m c i)) (h1 : ∀ i, IsReal (x1 m c i)) (h3 : ∀ i, IsReal (x3 m c i)) (t : Fin cfg0.N) (r : Fin 128) (k : Fin 512) :
    outsAt0 m c t (ix2 r k) = val_main_v88 (F := Ideal) (x0 m c) (x1 m c) (x2 m c) (x3 m c) (ix2 (row t r) k) := by
  have hk : k = ⟨(⟨k.val / 256, by omega⟩ : Fin 2).val * 256 + (⟨k.val / 64 % 4, by omega⟩ : Fin 4).val * 64 + (⟨k.val % 64, by omega⟩ : Fin 64).val, by dsimp; omega⟩ := Fin.ext (by dsimp; omega)
  rw [outO, hk, oCols_at]
  unfold oB
  rw [word_eq]
  exact o_eq (holds m c t) _ _ r h0 h1 h3 _

theorem is88 (c : Dev nD) (hpre : Pre_AttnFwdIdeal_attn_fwd_finite m) (y0 : FVec Ideal S4096x512 .f32) (y1 y2 : FVec Ideal S4096x128 .f32) (y3 : FVec Ideal S8 .f32)
    (e0 : y0 = x0 m c) (e1 : y1 = x1 m c) (e2 : y2 = x2 m c) (e3 : y3 = x3 m c) :
    val_main_v88 (F := Ideal) y0 y1 y2 y3 = (dats m 0 c).arrAt 4 (cfgs 0).N := by
  subst e0 e1 e2 e3
  obtain ⟨h0, h1, h3⟩ := pre_real _ _ _ _ (hpre c)
  exact (final4_of m c _ (o_val m c h0 h1 h3)).symm

theorem preserves : Cert.preserves_AttnFwd_AttnFwdIdeal :=
  IdealRules.named_const.statement Cert.AttnFwdIdeal.κ "mask" .f32 0xF149F2CA#32 ⊥ rfl

set_option maxHeartbeats 2000000 in
theorem algebraic : Cert.algebraic_AttnFwdIdeal_AttnFwdRefIdeal_pre_attn_fwd_finite := by
  pair_intro
  · run_from Cert.AttnFwdIdeal.Gen.run_main m g
  · run_from Cert.AttnFwdRefIdeal.Value.run m' g'
    exact (val_main_v88_eq m' c).trans (is88 m c hpre _ _ _ _ (hagree c).1 (hagree c).2.1 (hagree c).2.2.1 (hagree c).2.2.2)

end Cert.AttnFwdIdeal.Hand

end
-- ==== Proof.OutFwd.lean ====
module

public import proofs.«01_k».proof.Defs
public import proofs.«01_k».proof.Proof.Gen.OutFwdIdeal.Frame
public import proofs.«01_k».proof.Proof.Gen.OutFwdRefIdeal.Read
public import Idealize.ShloMosaic.Lib.Pipeline.ValueKit
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutFwdIdeal.Hand

open Cert.OutFwdIdeal Cert.OutFwdIdeal.Gen Cert.OutFwdRefIdeal.Read

variable (m : (ℓ : Loc nD τ sig) → Buf (Elt Ideal) ℓ)

theorem idx : ∀ t : Fin cfg0.N, win0_0.index t = ![t.val, 0] ∧ win0_1.index t = ![t.val, 0] ∧ win0_2.index t = ![0, t.val, 0] ∧ win0_3.index t = ![1, 0, 0] ∧ win0_4.index t = ![1, 0, 0] ∧ win0_5.index t = ![0, 0] ∧ win0_6.index t = ![t.val, 0] :=
  (by decide +kernel : ∀ t : Fin grid0.N, _)

/-- The array row of row `i` of the block at point `t`. -/
def row (t : Fin cfg0.N) (i : Fin 512) : Fin 4096 :=
  ⟨t.val * 512 + i.val, by have := t.isLt; have h : cfg0.N = 8 := N_0; omega⟩

/-- The arguments the result depends on. -/
abbrev x0 (c : Dev nD) : FVec Ideal S4096x1024 .f32 := m ((c : Thread nD τ).loc main_arg0)
abbrev x1 (c : Dev nD) : FVec Ideal S4096x512 .f32 := m ((c : Thread nD τ).loc main_arg1)
abbrev x2 (c : Dev nD) : FVec Ideal S4096x512 .f32 := m ((c : Thread nD τ).loc main_arg2)
abbrev x3 (c : Dev nD) : FVec Ideal S4x6144 .f32 := m ((c : Thread nD τ).loc main_arg3)
abbrev x5 (c : Dev nD) : FVec Ideal S4x1024 .f32 := m ((c : Thread nD τ).loc main_arg5)
abbrev x8 (c : Dev nD) : FVec Ideal S4x512 .f32 := m ((c : Thread nD τ).loc main_arg8)
abbrev x9 (c : Dev nD) : FVec Ideal S4x512 .f32 := m ((c : Thread nD τ).loc main_arg9)
abbrev x12 (c : Dev nD) : FVec Ideal S1024x1024 .f32 := m ((c : Thread nD τ).loc main_arg12)

theorem vec2 (c : Dev nD) (i : Fin 4) (k : Fin 1024) : (V m c main_v8 : FVec Ideal S4x16x1024 .f32) (ix3 i 2 k)
    = x3 m c (ix2 i ⟨2048 + k.val, by omega⟩) := by
  unfold V
  simp only [List.flatten_cons, List.flatten_nil, List.append_nil, List.cons_append, List.nil_append, hostOps0]
  after_results
  pointwise
  after_results_loop
  pointwise

theorem vec7 (c : Dev nD) (i : Fin 4) (k : Fin 1024) : (V m c main_v8 : FVec Ideal S4x16x1024 .f32) (ix3 i 7 k)
    = x5 m c (ix2 i k) := by
  unfold V
  simp only [List.flatten_cons, List.flatten_nil, List.append_nil, List.cons_append, List.nil_append, hostOps0]
  after_results
  pointwise
  after_results_loop
  pointwise

theorem vecA (c : Dev nD) (i : Fin 4) (k : Fin 512) : (V m c main_v14 : FVec Ideal S4x8x512 .f32) (ix3 i 0 k)
    = x8 m c (ix2 i k) := by
  unfold V
  simp only [List.flatten_cons, List.flatten_nil, List.append_nil, List.cons_append, List.nil_append, hostOps0]
  after_results
  pointwise
  after_results_loop
  pointwise

theorem vecS (c : Dev nD) (i : Fin 4) (k : Fin 512) : (V m c main_v14 : FVec Ideal S4x8x512 .f32) (ix3 i 1 k)
    = x9 m c (ix2 i k) := by
  unfold V
  simp only [List.flatten_cons, List.flatten_nil, List.append_nil, List.cons_append, List.nil_append, hostOps0]
  after_results
  pointwise
  after_results_loop
  pointwise

theorem wIs (c : Dev nD) (j k : Fin 1024) : (V m c main_v15 : FVec Ideal S1024x1024 .bf16) (ix2 j k)
    = x12 m c (ix2 j k) := by
  unfold V
  simp only [List.flatten_cons, List.flatten_nil, List.append_nil, List.cons_append, List.nil_append, hostOps0]
  after_results
  pointwise

theorem sIs (c : Dev nD) (a : Fin 4) (r : Fin 4096) (j : Fin 128) : (V m c main_v1 : FVec Ideal S4x4096x128 .f32) (ix3 a r j)
    = x2 m c (ix2 r ⟨a.val * 128 + j.val, by omega⟩) := by
  unfold V
  simp only [List.flatten_cons, List.flatten_nil, List.append_nil, List.cons_append, List.nil_append, hostOps0]
  after_results
  pointwise

theorem gate (c : Dev nD) (t : Fin cfg0.N) (k : Fin 1024) : iblk m c 3 t (ix3 0 2 k) = x3 m c (ix2 1 ⟨2048 + k.val, by omega⟩) := by
  rw [← vec2 m c 1 k]
  blk_point [iblk, idx t]

theorem gain (c : Dev nD) (t : Fin cfg0.N) (k : Fin 1024) : iblk m c 3 t (ix3 0 7 k) = x5 m c (ix2 1 k) := by
  rw [← vec7 m c 1 k]
  blk_point [iblk, idx t]

theorem gainA (c : Dev nD) (t : Fin cfg0.N) (k : Fin 512) : iblk m c 4 t (ix3 0 0 k) = x8 m c (ix2 1 k) := by
  rw [← vecA m c 1 k]
  blk_point [iblk, idx t]

theorem gainS (c : Dev nD) (t : Fin cfg0.N) (k : Fin 512) : iblk m c 4 t (ix3 0 1 k) = x9 m c (ix2 1 k) := by
  rw [← vecS m c 1 k]
  blk_point [iblk, idx t]

theorem weight (c : Dev nD) (t : Fin cfg0.N) (j k : Fin 1024) : iblk m c 5 t (ix2 j k) = x12 m c (ix2 j k) := by
  rw [← wIs m c j k]
  blk_point [iblk, idx t]

theorem xRow (c : Dev nD) (t : Fin cfg0.N) (i : Fin 512) (k : Fin 1024) : iblk m c 0 t (ix2 i k) = x0 m c (ix2 (row t i) k) := by
  blk_point [iblk, V, idx t, row]

theorem aRow (c : Dev nD) (t : Fin cfg0.N) (i : Fin 512) (k : Fin 512) : iblk m c 1 t (ix2 i k) = x1 m c (ix2 (row t i) k) := by
  blk_point [iblk, V, idx t, row]

theorem sRow (c : Dev nD) (t : Fin cfg0.N) (a : Fin 4) (i : Fin 512) (j : Fin 128) : iblk m c 2 t (ix3 a i j)
    = x2 m c (ix2 (row t i) ⟨a.val * 128 + j.val, by omega⟩) := by
  rw [← sIs m c a (row t i) j]
  blk_point [iblk, idx t, row]

/-- Four column groups of a row, read one after the other. -/
theorem slabs (D : Fin 512 → EReal) (j : Fin 512) :
    (if h : j.val < 128 then D ⟨0 * 128 + j.val, by omega⟩
      else if h : j.val - 128 < 128 then D ⟨1 * 128 + (j.val - 128), by omega⟩
      else if h : j.val - 128 - 128 < 128 then D ⟨2 * 128 + (j.val - 128 - 128), by omega⟩
      else D ⟨3 * 128 + (j.val - 128 - 128 - 128), by omega⟩) = D j := by
  have e : ∀ (a : Fin 512), a.val = j.val → D a = D j := fun a h => congrArg D (Fin.ext h)
  split_ifs <;> exact e _ (by simp <;> omega)

/-- The rows, gains and stages of the block at point `t`. -/
def sB (c : Dev nD) (t : Fin cfg0.N) : FVec Ideal S512x512 .f32 :=
  k0_pay3 (View.ld (iblk m c 2 t) (Rect.unit ![0, 0, 0] ![1, 512, 128] inb_S4x512x128_S1x512x128_0_0_0))
    (View.ld (iblk m c 2 t) (Rect.unit ![1, 0, 0] ![1, 512, 128] inb_S4x512x128_S1x512x128_1_0_0))
    (View.ld (iblk m c 2 t) (Rect.unit ![2, 0, 0] ![1, 512, 128] inb_S4x512x128_S1x512x128_2_0_0))
    (View.ld (iblk m c 2 t) (Rect.unit ![3, 0, 0] ![1, 512, 128] inb_S4x512x128_S1x512x128_3_0_0))
def sSq (c : Dev nD) (t : Fin cfg0.N) : FVec Ideal S512x1 .f32 :=
  k0_pay5 (View.ld (iblk m c 2 t) (Rect.unit ![0, 0, 0] ![1, 512, 128] inb_S4x512x128_S1x512x128_0_0_0))
    (View.ld (iblk m c 2 t) (Rect.unit ![1, 0, 0] ![1, 512, 128] inb_S4x512x128_S1x512x128_1_0_0))
    (View.ld (iblk m c 2 t) (Rect.unit ![2, 0, 0] ![1, 512, 128] inb_S4x512x128_S1x512x128_2_0_0))
    (View.ld (iblk m c 2 t) (Rect.unit ![3, 0, 0] ![1, 512, 128] inb_S4x512x128_S1x512x128_3_0_0))
def gsB (c : Dev nD) (t : Fin cfg0.N) : FVec Ideal S1x512 .f32 :=
  k0_pay2 (View.ld (iblk m c 4 t) (Rect.unit ![0, 1, 0] ![1, 1, 512] inb_S1x8x512_S1x1x512_0_1_0))
def hB (c : Dev nD) (t : Fin cfg0.N) : FVec Ideal S512x512 .f32 :=
  k0_pay4 (View.ld (iblk m c 4 t) (Rect.unit ![0, 0, 0] ![1, 1, 512] inb_S1x8x512_S1x1x512_0_0_0)) (iblk m c 1 t)
def gmL (c : Dev nD) (t : Fin cfg0.N) : FVec Ideal S1x1x1024 .f32 :=
  View.ld (iblk m c 3 t) (Rect.unit ![0, 7, 0] ![1, 1, 1024] inb_S1x16x1024_S1x1x1024_0_7_0)
def g1L (c : Dev nD) (t : Fin cfg0.N) : FVec Ideal S1x1x1024 .f32 :=
  View.ld (iblk m c 3 t) (Rect.unit ![0, 2, 0] ![1, 1, 1024] inb_S1x16x1024_S1x1x1024_0_2_0)
def xB (c : Dev nD) (t : Fin cfg0.N) : FVec Ideal S512x1024 .f32 := k0_pay1 (gsB m c t) (sB m c t) (hB m c t) (sSq m c t) (iblk m c 5 t) (gmL m c t) (iblk m c 0 t) (g1L m c t)

theorem s_at (c : Dev nD) (t : Fin cfg0.N) (i : Fin 512) (j : Fin 512) : sB m c t (ix2 i j) = x2 m c (ix2 (row t i) j) := by
  unfold sB
  pointwise [k0_pay3]
  simp only [sRow]
  exact slabs (fun q => x2 m c (ix2 (row t i) q)) j

theorem sSq_at (c : Dev nD) (t : Fin cfg0.N) (i : Fin 512) (z : Fin 1) : sSq m c t (ix2 i z)
    = Ideal.div (∑ j : Fin 512, x2 m c (ix2 (row t i) j) * x2 m c (ix2 (row t i) j)) (Ideal.ofBits .f32 0x44000000#32) + Ideal.ofBits .f32 0x358637BD#32 := by
  have h : sSq m c t (ix2 i z) = Ideal.div (∑ j : Fin 512, sB m c t (ix2 i j) * sB m c t (ix2 i j)) (Ideal.ofBits .f32 0x44000000#32) + Ideal.ofBits .f32 0x358637BD#32 := by
    unfold sSq sB
    pointwise [k0_pay5]
  rw [h]
  simp only [s_at]

theorem gs_at (c : Dev nD) (t : Fin cfg0.N) (z : Fin 1) (j : Fin 512) : gsB m c t (ix2 z j) = x9 m c (ix2 1 j) := by
  unfold gsB
  pointwise [k0_pay2]
  exact gainS m c t j
theorem gm_at (c : Dev nD) (t : Fin cfg0.N) (j : Fin 1024) : gmL m c t (ix3 0 0 j) = x5 m c (ix2 1 j) := by
  unfold gmL
  pointwise
  exact gain m c t j
theorem g1_at (c : Dev nD) (t : Fin cfg0.N) (j : Fin 1024) : g1L m c t (ix3 0 0 j) = x3 m c (ix2 1 ⟨2048 + j.val, by omega⟩) := by
  unfold g1L
  pointwise
  exact gate m c t j

/-- The normalized heads, side by side, and their product with the weights. -/
def headsB (c : Dev nD) (t : Fin cfg0.N) : FVec Ideal S512x1024 .f32 := concatenate S512x1024 1 [⟨S512x512, hB m c t⟩, ⟨S512x512,
  mulf (mulf (sB m c t) (broadcastTo S512x512 (rsqrt (sSq m c t)) broadcasts_S512x1_S512x512)) (broadcastTo S512x512 (gsB m c t) broadcasts_S1x512_S512x512)⟩] concatenates_S512x512_S512x512_S512x1024_d1
def mixedB (c : Dev nD) (t : Fin cfg0.N) (i : Fin 512) (k : Fin 1024) : EReal := ∑ j : Fin 1024, headsB m c t (ix2 i j) * x12 m c (ix2 j k)

theorem heads_at (c : Dev nD) (t : Fin cfg0.N) (i : Fin 512) (k : Fin 1024) : headsB m c t (ix2 i k) = val_main_v38 (F := Ideal) (x1 m c) (x2 m c) (x8 m c) (x9 m c) (ix2 (row t i) k) := by
  unfold headsB hB
  pointwise [k0_pay4, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, val_main_cst_2, val_main_cst_3, val_main_cst_4]
  simp only [s_at, sSq_at, gs_at, gainA, aRow]

theorem mixed_at (c : Dev nD) (t : Fin cfg0.N) (i : Fin 512) (k : Fin 1024) : mixedB m c t i k = val_main_v39 (F := Ideal) (x1 m c) (x2 m c) (x8 m c) (x9 m c) (x12 m c) (ix2 (row t i) k) := by
  unfold mixedB
  pointwise [val_main_v39]
  simp only [heads_at]

abbrev bx (c : Dev nD) (t : Fin cfg0.N) : FVec Ideal S512x1024 .f32 := iblk m c 0 t
theorem x_at (c : Dev nD) (t : Fin cfg0.N) (i : Fin 512) (k : Fin 1024) : xB m c t (ix2 i k) = val_main_v58 (F := Ideal) (x0 m c) (x1 m c) (x2 m c) (x3 m c) (x5 m c) (x8 m c) (x9 m c) (x12 m c) (ix2 (row t i) k) := by
  have h : xB m c t (ix2 i k) = bx m c t (ix2 i k) + g1L m c t (ix3 0 0 k) * (mixedB m c t i k
      * Ideal.rsqrt (Ideal.div (∑ j : Fin 1024, mixedB m c t i j * mixedB m c t i j) (Ideal.ofBits .f32 0x44800000#32) + Ideal.ofBits .f32 0x358637BD#32) * gmL m c t (ix3 0 0 k)) := by
    unfold xB mixedB headsB
    pointwise [k0_pay1]
    simp only [weight]
  rw [h]
  dsimp only [bx]
  simp only [xRow, mixed_at, gm_at, g1_at]
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v4, val_main_v1, val_main_v0, val_main_cst_5, val_main_cst_6, val_main_cst_7]

theorem emb6 (t : Fin cfg0.N) (y) (G : FVec Ideal S4096x1024 .f32) : G (ix2 (row t (y 0)) (y 1)) = G ((win0_6.blk t).view.emb y) := by
  blk_ext [idx t, row]
theorem out6 (c : Dev nD) (t : Fin cfg0.N) : (dats m 0 c).after 6 t = xB m c t := by
  rw [after0_6]
  frame_out
  rfl
theorem final (c : Dev nD) : (dats m 0 c).arrAt 6 (cfgs 0).N = val_main_v58 (F := Ideal) (x0 m c) (x1 m c) (x2 m c) (x3 m c) (x5 m c) (x8 m c) (x9 m c) (x12 m c) := by
  refine (dats m 0 c).arrAt_eq_of_covers 6 _ (by decide +kernel) fun t hf y => ?_
  blk_simp
  rw [out6]
  refine Eq.trans ?_ (emb6 t y (val_main_v58 (F := Ideal) (x0 m c) (x1 m c) (x2 m c) (x3 m c) (x5 m c) (x8 m c) (x9 m c) (x12 m c)))
  idx_vars y
  exact x_at m c t y0 y1
theorem is58 (c : Dev nD) (y0 : FVec Ideal S4096x1024 .f32) (y1 : FVec Ideal S4096x512 .f32) (y2 : FVec Ideal S4096x512 .f32) (y3 : FVec Ideal S4x6144 .f32) (y5 : FVec Ideal S4x1024 .f32) (y8 : FVec Ideal S4x512 .f32) (y9 : FVec Ideal S4x512 .f32) (y12 : FVec Ideal S1024x1024 .f32) (e0 : y0 = x0 m c) (e1 : y1 = x1 m c) (e2 : y2 = x2 m c) (e3 : y3 = x3 m c) (e5 : y5 = x5 m c) (e8 : y8 = x8 m c) (e9 : y9 = x9 m c) (e12 : y12 = x12 m c) :
    val_main_v58 (F := Ideal) y0 y1 y2 y3 y5 y8 y9 y12 = (dats m 0 c).arrAt 6 (cfgs 0).N := by
  subst e0 e1 e2 e3 e5 e8 e9 e12
  exact (final m c).symm

theorem algebraic : Cert.algebraic_OutFwdIdeal_OutFwdRefIdeal := by
  pair_intro
  · run_from Cert.OutFwdIdeal.Gen.run_main m g
  · run_from Cert.OutFwdRefIdeal.Value.run m' g'
    exact (val_main_v58_eq m' c).trans (is58 m c _ _ _ _ _ _ _ _ (hagree c).1 (hagree c).2.1 (hagree c).2.2.1 (hagree c).2.2.2.1 (hagree c).2.2.2.2.2.1 (hagree c).2.2.2.2.2.2.2.2.1 (hagree c).2.2.2.2.2.2.2.2.2.1 (hagree c).2.2.2.2.2.2.2.2.2.2.2.2)

end Cert.OutFwdIdeal.Hand

end
-- ==== Proof.InFwd.lean ====
module

public import proofs.«01_k».proof.Defs
public import proofs.«01_k».proof.Proof.Gen.InFwdIdeal.Frame
public import proofs.«01_k».proof.Proof.Gen.InFwdRefIdeal.Read
public import Idealize.ShloMosaic.Lib.Pipeline.ValueKit
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InFwdIdeal.Hand

open Cert.InFwdIdeal Cert.InFwdIdeal.Gen Cert.InFwdRefIdeal.Read

variable (m : (ℓ : Loc nD τ sig) → Buf (Elt Ideal) ℓ)

theorem idx : ∀ t : Fin cfg0.N, win0_0.index t = ![t.val, 0] ∧ win0_1.index t = ![1, 0, 0] ∧ win0_2.index t = ![0, 0] ∧ win0_3.index t = ![t.val, 0] ∧ win0_4.index t = ![t.val, 0] ∧ win0_5.index t = ![0, t.val, 0] ∧ win0_6.index t = ![t.val, 0] :=
  (by decide +kernel : ∀ t : Fin grid0.N, _)

/-- The array row of row `i` of the block at point `t`. -/
def row (t : Fin cfg0.N) (i : Fin 512) : Fin 4096 :=
  ⟨t.val * 512 + i.val, by have := t.isLt; have h : cfg0.N = 8 := N_0; omega⟩

/-- The arguments the results depend on. -/
abbrev x0 (c : Dev nD) : FVec Ideal S4096x1024 .f32 := m ((c : Thread nD τ).loc main_arg0)
abbrev x1 (c : Dev nD) : FVec Ideal S4x6144 .f32 := m ((c : Thread nD τ).loc main_arg1)
abbrev x2 (c : Dev nD) : FVec Ideal S4x1024 .f32 := m ((c : Thread nD τ).loc main_arg2)
abbrev x6 (c : Dev nD) : FVec Ideal S1024x1280 .f32 := m ((c : Thread nD τ).loc main_arg6)

theorem vec0 (c : Dev nD) (i : Fin 4) (k : Fin 1024) : (V m c main_v6 : FVec Ideal S4x16x1024 .f32) (ix3 i 0 k)
    = x1 m c (ix2 i ⟨k.val, by omega⟩) := by
  unfold V V0
  simp only [List.flatten_cons, List.flatten_nil, List.append_nil, List.cons_append, List.nil_append, hostOps0]
  after_results
  pointwise
  after_results_loop
  pointwise

theorem vec1 (c : Dev nD) (i : Fin 4) (k : Fin 1024) : (V m c main_v6 : FVec Ideal S4x16x1024 .f32) (ix3 i 1 k)
    = x1 m c (ix2 i ⟨1024 + k.val, by omega⟩) := by
  unfold V V0
  simp only [List.flatten_cons, List.flatten_nil, List.append_nil, List.cons_append, List.nil_append, hostOps0]
  after_results
  pointwise
  after_results_loop
  pointwise

theorem vec6 (c : Dev nD) (i : Fin 4) (k : Fin 1024) : (V m c main_v6 : FVec Ideal S4x16x1024 .f32) (ix3 i 6 k)
    = x2 m c (ix2 i k) := by
  unfold V V0
  simp only [List.flatten_cons, List.flatten_nil, List.append_nil, List.cons_append, List.nil_append, hostOps0]
  after_results
  pointwise
  after_results_loop
  pointwise

theorem wIs (c : Dev nD) (j : Fin 1280) (k : Fin 1024) : (V m c main_v8 : FVec Ideal S1280x1024 .bf16) (ix2 j k)
    = x6 m c (ix2 k j) := by
  unfold V V0
  simp only [List.flatten_cons, List.flatten_nil, List.append_nil, List.cons_append, List.nil_append, hostOps0]
  after_results
  pointwise

theorem shift (c : Dev nD) (t : Fin cfg0.N) (k : Fin 1024) : iblk m c 1 t (ix3 0 0 k) = x1 m c (ix2 1 ⟨k.val, by omega⟩) := by
  rw [← vec0 m c 1 k]
  blk_point [iblk, idx t]

theorem scale (c : Dev nD) (t : Fin cfg0.N) (k : Fin 1024) : iblk m c 1 t (ix3 0 1 k) = x1 m c (ix2 1 ⟨1024 + k.val, by omega⟩) := by
  rw [← vec1 m c 1 k]
  blk_point [iblk, idx t]

theorem gain (c : Dev nD) (t : Fin cfg0.N) (k : Fin 1024) : iblk m c 1 t (ix3 0 6 k) = x2 m c (ix2 1 k) := by
  rw [← vec6 m c 1 k]
  blk_point [iblk, idx t]

theorem weight (c : Dev nD) (t : Fin cfg0.N) (j : Fin 1280) (k : Fin 1024) : iblk m c 2 t (ix2 j k) = x6 m c (ix2 k j) := by
  rw [← wIs m c j k]
  blk_point [iblk, idx t]

theorem xRow (c : Dev nD) (t : Fin cfg0.N) (i : Fin 512) (k : Fin 1024) : iblk m c 0 t (ix2 i k) = x0 m c (ix2 (row t i) k) := by
  blk_point [iblk, V, idx t, row]

/-- The modulated rows and the projection of the block at point `t`. -/
def hB (c : Dev nD) (t : Fin cfg0.N) : FVec Ideal S512x1024 .bf16 := k0_pay5 (iblk m c 0 t) (View.ld (iblk m c 1 t) (Rect.unit ![0, 6, 0] ![1, 1, 1024] inb_S1x16x1024_S1x1x1024_0_6_0)) (View.ld (iblk m c 1 t) (Rect.unit ![0, 1, 0] ![1, 1, 1024] inb_S1x16x1024_S1x1x1024_0_1_0)) (View.ld (iblk m c 1 t) (Rect.unit ![0, 0, 0] ![1, 1, 1024] inb_S1x16x1024_S1x1x1024_0_0_0))
def pB (c : Dev nD) (t : Fin cfg0.N) : FVec Ideal S512x1280 .f32 := k0_pay9 (iblk m c 0 t) (iblk m c 1 t) (iblk m c 2 t)
theorem pay9 (x0 : FVec Ideal S512x1024 .f32) (x1 : FVec Ideal S1x16x1024 .f32) (x2 : FVec Ideal S1280x1024 .bf16) : k0_pay9 (F := Ideal) x0 x1 x2
    = k0_pay6 x0 (View.ld (Val := Elt Ideal) (e' := .f32) x1 r0_1) (View.ld (Val := Elt Ideal) (e' := .f32) x1 r0_2) (View.ld (Val := Elt Ideal) (e' := .f32) x1 r0_3) x2 := by
  have h0 : View.ld (Val := Elt Ideal) (e' := .f32) x0 r0_0 = x0 := View.ld_unit_lit (Val := Elt Ideal) (e := .f32) (S := S512x1024) inb_S512x1024_S512x1024_0_0 x0 (by decide)
  have h2 : View.ld (Val := Elt Ideal) (e' := .bf16) x2 r0_4 = x2 := View.ld_unit_lit (Val := Elt Ideal) (e := .bf16) (S := S1280x1024) inb_S1280x1024_S1280x1024_0_0 x2 (by decide)
  unfold k0_pay9
  rw [h0, h2]
theorem pB_eq (c : Dev nD) (t : Fin cfg0.N) : pB m c t = k0_pay6 (iblk m c 0 t) (View.ld (iblk m c 1 t) (Rect.unit ![0, 6, 0] ![1, 1, 1024] inb_S1x16x1024_S1x1x1024_0_6_0)) (View.ld (iblk m c 1 t) (Rect.unit ![0, 1, 0] ![1, 1, 1024] inb_S1x16x1024_S1x1x1024_0_1_0)) (View.ld (iblk m c 1 t) (Rect.unit ![0, 0, 0] ![1, 1, 1024] inb_S1x16x1024_S1x1x1024_0_0_0)) (iblk m c 2 t) :=
  pay9 (iblk m c 0 t) (iblk m c 1 t) (iblk m c 2 t)
def qB (c : Dev nD) (t : Fin cfg0.N) : FVec Ideal S512x512 .bf16 := k0_pay7 (iblk m c 0 t) (View.ld (iblk m c 1 t) (Rect.unit ![0, 6, 0] ![1, 1, 1024] inb_S1x16x1024_S1x1x1024_0_6_0)) (View.ld (iblk m c 1 t) (Rect.unit ![0, 1, 0] ![1, 1, 1024] inb_S1x16x1024_S1x1x1024_0_1_0)) (View.ld (iblk m c 1 t) (Rect.unit ![0, 0, 0] ![1, 1, 1024] inb_S1x16x1024_S1x1x1024_0_0_0)) (iblk m c 2 t)
def kvB (c : Dev nD) (t : Fin cfg0.N) : FVec Ideal S512x256 .bf16 := k0_pay8 (iblk m c 0 t) (View.ld (iblk m c 1 t) (Rect.unit ![0, 6, 0] ![1, 1, 1024] inb_S1x16x1024_S1x1x1024_0_6_0)) (View.ld (iblk m c 1 t) (Rect.unit ![0, 1, 0] ![1, 1, 1024] inb_S1x16x1024_S1x1x1024_0_1_0)) (View.ld (iblk m c 1 t) (Rect.unit ![0, 0, 0] ![1, 1, 1024] inb_S1x16x1024_S1x1x1024_0_0_0)) (iblk m c 2 t)

/-- The stages of the reference at the arguments. -/
abbrev rows (c : Dev nD) := val_main_v39 (F := Ideal) (x0 m c) (x1 m c) (x2 m c)
abbrev proj (c : Dev nD) := val_main_v31 (F := Ideal) (x0 m c) (x1 m c) (x2 m c) (x6 m c)

theorem h_at (c : Dev nD) (t : Fin cfg0.N) (i : Fin 512) (k : Fin 1024) : hB m c t (ix2 i k) = rows m c (ix2 (row t i) k) := by
  unfold hB
  pointwise [k0_pay5, val_main_v39, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v3, val_main_v2, val_main_v1, val_main_v0, val_main_cst, val_main_cst_0, val_main_cst_1, val_main_cst_2]
  simp only [xRow, shift, scale, gain]
theorem p_at (c : Dev nD) (t : Fin cfg0.N) (i : Fin 512) (k : Fin 1280) : pB m c t (ix2 i k) = proj m c (ix2 (row t i) k) := by
  have h : pB m c t (ix2 i k) = ∑ j : Fin 1024, hB m c t (ix2 i j) * x6 m c (ix2 j k) := by
    rw [pB_eq]
    unfold hB
    pointwise [k0_pay6]
    simp only [weight]
  have h' : proj m c (ix2 (row t i) k) = ∑ j : Fin 1024, rows m c (ix2 (row t i) j) * x6 m c (ix2 j k) := by
    pointwise [val_main_v31, val_main_v39]
  rw [h, h']
  exact Finset.sum_congr rfl fun j _ => by rw [h_at]
theorem q_at (c : Dev nD) (t : Fin cfg0.N) (i : Fin 512) (k : Fin 512) : qB m c t (ix2 i k) = val_main_v36 (F := Ideal) (x0 m c) (x1 m c) (x2 m c) (x6 m c) (ix2 (row t i) k) := by
  have h : qB m c t (ix2 i k) = pB m c t (ix2 i ⟨k.val, by omega⟩) := by
    rw [pB_eq]
    unfold qB
    pointwise [k0_pay7]
  rw [h, p_at]
  pointwise [val_main_v36, val_main_v32]
theorem kv_at (c : Dev nD) (t : Fin cfg0.N) (i : Fin 512) (k : Fin 256) : kvB m c t (ix2 i k) = val_main_v38 (F := Ideal) (x0 m c) (x1 m c) (x2 m c) (x6 m c) (ix2 (row t i) k) := by
  have h : kvB m c t (ix2 i k) = pB m c t (ix2 i ⟨512 + k.val, by omega⟩) := by
    rw [pB_eq]
    unfold kvB
    pointwise [k0_pay8]
  rw [h, p_at]
  pointwise [val_main_v38, val_main_v37, val_main_v34, val_main_v33]
  split_ifs with hk
  all_goals first | rfl | exact congrArg (proj m c) (congrArg (ix2 (row t i)) (Fin.ext (by dsimp <;> omega)))

open Cert.Rows

/-- Four slabs written one after the other are the four column groups of a matrix. -/
theorem stack (D : FVec Ideal S512x512 .f32) (w0 w1 w2 w3 : FVec Ideal S1x512x128 .f32)
    (h0 : ∀ i (j : Fin 128), w0 (ix3 0 i j) = D (ix2 i ⟨0 * 128 + j.val, by omega⟩)) (h1 : ∀ i (j : Fin 128), w1 (ix3 0 i j) = D (ix2 i ⟨1 * 128 + j.val, by omega⟩))
    (h2 : ∀ i (j : Fin 128), w2 (ix3 0 i j) = D (ix2 i ⟨2 * 128 + j.val, by omega⟩)) (h3 : ∀ i (j : Fin 128), w3 (ix3 0 i j) = D (ix2 i ⟨3 * 128 + j.val, by omega⟩))
    (a : Fin 4) (i : Fin 512) (j : Fin 128) :
    View.canon (Val := Elt Ideal) (e := .f32) [⟨slabRect 4 512 128 3 inb_S4x512x128_S1x512x128_3_0_0, w3⟩, ⟨slabRect 4 512 128 2 inb_S4x512x128_S1x512x128_2_0_0, w2⟩,
      ⟨slabRect 4 512 128 1 inb_S4x512x128_S1x512x128_1_0_0, w1⟩, ⟨slabRect 4 512 128 0 inb_S4x512x128_S1x512x128_0_0_0, w0⟩] (ix3 a i j)
      = D (ix2 i ⟨a.val * 128 + j.val, by omega⟩) := by
  match a with
  | ⟨0, _⟩ => rw [slab_skip _ _ (by simp), slab_skip _ _ (by simp), slab_skip _ _ (by simp), slab_hit _ _ (by simp)]; exact h0 i j
  | ⟨1, _⟩ => rw [slab_skip _ _ (by simp), slab_skip _ _ (by simp), slab_hit _ _ (by simp)]; exact h1 i j
  | ⟨2, _⟩ => rw [slab_skip _ _ (by simp), slab_hit _ _ (by simp)]; exact h2 i j
  | ⟨3, _⟩ => rw [slab_hit _ _ (by simp)]; exact h3 i j

/-- The channels' columns of the projection. -/
def uB (c : Dev nD) (t : Fin cfg0.N) : FVec Ideal S512x512 .f32 := fun z => pB m c t (ix2 (z 0) ⟨768 + (z 1).val, by have := (z 1).isLt; change _ < 512 at this; omega⟩)

theorem cut0 (c : Dev nD) (t : Fin cfg0.N) (i : Fin 512) (j : Fin 128) : k0_pay1 (pB m c t) (ix3 0 i j) = uB m c t (ix2 i ⟨0 * 128 + j.val, by omega⟩) := by
  pointwise [k0_pay1, uB]
  try exact congrArg (pB m c t) (congrArg (ix2 i) (Fin.ext (by dsimp <;> omega)))
theorem cut1 (c : Dev nD) (t : Fin cfg0.N) (i : Fin 512) (j : Fin 128) : k0_pay2 (pB m c t) (ix3 0 i j) = uB m c t (ix2 i ⟨1 * 128 + j.val, by omega⟩) := by
  pointwise [k0_pay2, uB]
  try exact congrArg (pB m c t) (congrArg (ix2 i) (Fin.ext (by dsimp <;> omega)))
theorem cut2 (c : Dev nD) (t : Fin cfg0.N) (i : Fin 512) (j : Fin 128) : k0_pay3 (pB m c t) (ix3 0 i j) = uB m c t (ix2 i ⟨2 * 128 + j.val, by omega⟩) := by
  pointwise [k0_pay3, uB]
  try exact congrArg (pB m c t) (congrArg (ix2 i) (Fin.ext (by dsimp <;> omega)))
theorem cut3 (c : Dev nD) (t : Fin cfg0.N) (i : Fin 512) (j : Fin 128) : k0_pay4 (pB m c t) (ix3 0 i j) = uB m c t (ix2 i ⟨3 * 128 + j.val, by omega⟩) := by
  pointwise [k0_pay4, uB]
  try exact congrArg (pB m c t) (congrArg (ix2 i) (Fin.ext (by dsimp <;> omega)))

theorem out3 (c : Dev nD) (t : Fin cfg0.N) : (dats m 0 c).after 3 t = qB m c t := by
  rw [after0_3]
  frame_out
  rfl
theorem out4 (c : Dev nD) (t : Fin cfg0.N) : (dats m 0 c).after 4 t = kvB m c t := by
  rw [after0_4]
  frame_out
  rfl
theorem out6 (c : Dev nD) (t : Fin cfg0.N) : (dats m 0 c).after 6 t = hB m c t := by
  rw [after0_6]
  frame_out
  rfl
theorem out5 (c : Dev nD) (t : Fin cfg0.N) (a : Fin 4) (i : Fin 512) (j : Fin 128) : (show FVec Ideal S4x512x128 .f32 from (dats m 0 c).after 5 t) (ix3 a i j)
    = uB m c t (ix2 i ⟨a.val * 128 + j.val, by omega⟩) := by
  rw [after0_5]
  frame_out
  exact stack (uB m c t) (k0_pay1 (pB m c t)) (k0_pay2 (pB m c t)) (k0_pay3 (pB m c t)) (k0_pay4 (pB m c t)) (cut0 m c t) (cut1 m c t) (cut2 m c t) (cut3 m c t) a i j

theorem emb3 (t : Fin cfg0.N) (y) (G : FVec Ideal S4096x512 .bf16) : G (ix2 (row t (y 0)) (y 1)) = G ((win0_3.blk t).view.emb y) := by
  blk_ext [idx t, row]
theorem final3 (c : Dev nD) : (dats m 0 c).arrAt 3 (cfgs 0).N = val_main_v36 (F := Ideal) (x0 m c) (x1 m c) (x2 m c) (x6 m c) := by
  refine (dats m 0 c).arrAt_eq_of_covers 3 _ (by decide +kernel) fun t hf y => ?_
  blk_simp
  rw [out3]
  refine Eq.trans ?_ (emb3 t y (val_main_v36 (F := Ideal) (x0 m c) (x1 m c) (x2 m c) (x6 m c)))
  idx_vars y
  exact q_at m c t y0 y1
theorem emb4 (t : Fin cfg0.N) (y) (G : FVec Ideal S4096x256 .bf16) : G (ix2 (row t (y 0)) (y 1)) = G ((win0_4.blk t).view.emb y) := by
  blk_ext [idx t, row]
theorem final4 (c : Dev nD) : (dats m 0 c).arrAt 4 (cfgs 0).N = val_main_v38 (F := Ideal) (x0 m c) (x1 m c) (x2 m c) (x6 m c) := by
  refine (dats m 0 c).arrAt_eq_of_covers 4 _ (by decide +kernel) fun t hf y => ?_
  blk_simp
  rw [out4]
  refine Eq.trans ?_ (emb4 t y (val_main_v38 (F := Ideal) (x0 m c) (x1 m c) (x2 m c) (x6 m c)))
  idx_vars y
  exact kv_at m c t y0 y1
theorem emb6 (t : Fin cfg0.N) (y) (G : FVec Ideal S4096x1024 .bf16) : G (ix2 (row t (y 0)) (y 1)) = G ((win0_6.blk t).view.emb y) := by
  blk_ext [idx t, row]
theorem final6 (c : Dev nD) : (dats m 0 c).arrAt 6 (cfgs 0).N = val_main_v39 (F := Ideal) (x0 m c) (x1 m c) (x2 m c) := by
  refine (dats m 0 c).arrAt_eq_of_covers 6 _ (by decide +kernel) fun t hf y => ?_
  blk_simp
  rw [out6]
  refine Eq.trans ?_ (emb6 t y (val_main_v39 (F := Ideal) (x0 m c) (x1 m c) (x2 m c)))
  idx_vars y
  exact h_at m c t y0 y1
theorem emb5 (t : Fin cfg0.N) (y) (G : FVec Ideal S4x4096x128 .f32) : G (ix3 (y 0) (row t (y 1)) (y 2)) = G ((win0_5.blk t).view.emb y) := by
  blk_ext [idx t, row]
/-- The channels' columns of the whole projection, and the same in four groups. -/
abbrev chan (c : Dev nD) := val_main_v35 (F := Ideal) (x0 m c) (x1 m c) (x2 m c) (x6 m c)
def chan4 (c : Dev nD) : FVec Ideal S4x4096x128 .f32 := fun i => chan m c (ix2 (i 1) ⟨(i 0).val * 128 + (i 2).val, by have h0 := (i 0).isLt; have h2 := (i 2).isLt; change _ < 4 at h0; change _ < 128 at h2; omega⟩)
theorem u_at (c : Dev nD) (t : Fin cfg0.N) (i : Fin 512) (k : Fin 512) : uB m c t (ix2 i k) = chan m c (ix2 (row t i) k) := by
  have h : uB m c t (ix2 i k) = pB m c t (ix2 i ⟨768 + k.val, by omega⟩) := rfl
  rw [h, p_at]
  pointwise [val_main_v35]
theorem final5 (c : Dev nD) : (dats m 0 c).arrAt 5 (cfgs 0).N = chan4 m c := by
  refine (dats m 0 c).arrAt_eq_of_covers 5 _ (by decide +kernel) fun t hf y => ?_
  blk_simp
  refine Eq.trans ?_ (emb5 t y (chan4 m c))
  idx_vars y
  exact (out5 m c t y0 y1 y2).trans (u_at m c t y1 _)

theorem joinSlabs (x : FVec Ideal S4x4096x128 .f32) :
    shapeCast S4096x512 (transpose S4096x4x128 [1, 0, 2] x transposes_S4x4096x128_S4096x4x128_1_0_2) shapeCasts_S4096x4x128_S4096x512
      = fun i => x (ix3 ⟨(i 1).val / 128, by have := (i 1).isLt; change _ < 512 at this; omega⟩ (i 0) ⟨(i 1).val % 128, by omega⟩) := by
  funext i
  idx_vars i
  pointwise

theorem tail11 (c : Dev nD) : Pipeline.afterTail₀ cfgs (dats m) 0 (V0 m) [hostOps1] c main_v11
    = shapeCast S4096x512 (transpose S4096x4x128 [1, 0, 2] (chan4 m c) transposes_S4x4096x128_S4096x4x128_1_0_2) shapeCasts_S4096x4x128_S4096x512 := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 5).trans (final5 m c)
  rw [← h]
  rfl

theorem chan_eq (c : Dev nD) : chan m c = Pipeline.afterTail₀ cfgs (dats m) 0 (V0 m) [hostOps1] c main_v11 := by
  rw [tail11, joinSlabs]
  funext i
  idx_vars i
  exact congrArg (chan m c) (congrArg (ix2 i0) (Fin.ext (by dsimp <;> omega)))

theorem is36 (c : Dev nD) (y0 : FVec Ideal S4096x1024 .f32) (y1 : FVec Ideal S4x6144 .f32) (y2 : FVec Ideal S4x1024 .f32) (y6 : FVec Ideal S1024x1280 .f32) (e0 : y0 = x0 m c) (e1 : y1 = x1 m c) (e2 : y2 = x2 m c) (e6 : y6 = x6 m c) :
    val_main_v36 (F := Ideal) y0 y1 y2 y6 = (dats m 0 c).arrAt 3 (cfgs 0).N := by
  subst e0 e1 e2 e6
  exact (final3 m c).symm
theorem is38 (c : Dev nD) (y0 : FVec Ideal S4096x1024 .f32) (y1 : FVec Ideal S4x6144 .f32) (y2 : FVec Ideal S4x1024 .f32) (y6 : FVec Ideal S1024x1280 .f32) (e0 : y0 = x0 m c) (e1 : y1 = x1 m c) (e2 : y2 = x2 m c) (e6 : y6 = x6 m c) :
    val_main_v38 (F := Ideal) y0 y1 y2 y6 = (dats m 0 c).arrAt 4 (cfgs 0).N := by
  subst e0 e1 e2 e6
  exact (final4 m c).symm
theorem is35 (c : Dev nD) (y0 : FVec Ideal S4096x1024 .f32) (y1 : FVec Ideal S4x6144 .f32) (y2 : FVec Ideal S4x1024 .f32) (y6 : FVec Ideal S1024x1280 .f32) (e0 : y0 = x0 m c) (e1 : y1 = x1 m c) (e2 : y2 = x2 m c) (e6 : y6 = x6 m c) :
    val_main_v35 (F := Ideal) y0 y1 y2 y6 = Pipeline.afterTail₀ cfgs (dats m) 0 (V0 m) [hostOps1] c main_v11 := by
  subst e0 e1 e2 e6
  exact chan_eq m c
theorem is39 (c : Dev nD) (y0 : FVec Ideal S4096x1024 .f32) (y1 : FVec Ideal S4x6144 .f32) (y2 : FVec Ideal S4x1024 .f32) (e0 : y0 = x0 m c) (e1 : y1 = x1 m c) (e2 : y2 = x2 m c) :
    val_main_v39 (F := Ideal) y0 y1 y2 = (dats m 0 c).arrAt 6 (cfgs 0).N := by
  subst e0 e1 e2
  exact (final6 m c).symm

theorem algebraic : Cert.algebraic_InFwdIdeal_InFwdRefIdeal := by
  pair_intro
  · run_from Cert.InFwdIdeal.Gen.run_main m g
    exacts [Cert.InFwdIdeal.Gen.W_main_arg1 m (dats m) c, Cert.InFwdIdeal.Gen.W_main_arg2 m (dats m) c, Cert.InFwdIdeal.Gen.W_main_arg3 m (dats m) c, Cert.InFwdIdeal.Gen.W_main_arg4 m (dats m) c, Cert.InFwdIdeal.Gen.W_main_arg5 m (dats m) c, Cert.InFwdIdeal.Gen.W_main_arg6 m (dats m) c]
  · run_from Cert.InFwdRefIdeal.Value.run m' g'
    · refine (val_main_v36_eq _ _ _ _).trans (is36 m c _ _ _ _ ?_ ?_ ?_ ?_) <;> first | rfl | exact (hagree c).1 | exact (hagree c).2.1 | exact (hagree c).2.2.1 | exact (hagree c).2.2.2.2.2.2
    · refine (val_main_v38_eq _ _ _ _).trans (is38 m c _ _ _ _ ?_ ?_ ?_ ?_) <;> first | rfl | exact (hagree c).1 | exact (hagree c).2.1 | exact (hagree c).2.2.1 | exact (hagree c).2.2.2.2.2.2
    · refine (val_main_v35_eq _ _ _ _).trans (is35 m c _ _ _ _ ?_ ?_ ?_ ?_) <;> first | rfl | exact (hagree c).1 | exact (hagree c).2.1 | exact (hagree c).2.2.1 | exact (hagree c).2.2.2.2.2.2
    · refine (val_main_v39_eq _ _ _).trans (is39 m c _ _ _ ?_ ?_ ?_) <;> first | rfl | exact (hagree c).1 | exact (hagree c).2.1 | exact (hagree c).2.2.1

end Cert.InFwdIdeal.Hand

end
-- ==== Proof.PrepFwd.lean ====
module

public import proofs.«01_k».proof.Defs
public import proofs.«01_k».proof.Proof.Gen.PrepFwdIdeal.Frame
public import proofs.«01_k».proof.Proof.Gen.PrepFwdRefIdeal.Read
public import Idealize.ShloMosaic.Lib.Pipeline.ValueKit
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepFwdIdeal.Hand

open Cert.PrepFwdIdeal Cert.PrepFwdIdeal.Gen Cert.PrepFwdRefIdeal.Read

variable (m : (ℓ : Loc nD τ sig) → Buf (Elt Ideal) ℓ)

/-! ## One state of one channel group: eigenvalue a + ib, time step e -/

def mg (a e : EReal) : EReal := Ideal.exp (a * e)
def cs (b e : EReal) : EReal := Ideal.cos (b * e)
def sn (b e : EReal) : EReal := Ideal.sin (b * e)
def ar (a b e : EReal) : EReal := mg a e * cs b e
def ai (a b e : EReal) : EReal := mg a e * sn b e
def dn (a b : EReal) : EReal := a * a + b * b
def fr (a b e : EReal) : EReal := Ideal.div ((ar a b e - 1) * a + ai a b e * b) (dn a b)
def fi (a b e : EReal) : EReal := Ideal.div (ai a b e * a - (ar a b e - 1) * b) (dn a b)

section Reference
variable (x0 x1 : FVec Ideal S4x32x64 .f32) (x2 : FVec Ideal S4x32 .f32) (x3 x4 : FVec Ideal S4x32x64x16 .f32) (l : Fin 4) (g : Fin 32) (n : Fin 64)

/-- The time step. -/
def E : EReal := Ideal.exp (x2 (ix2 l g))

theorem v8_at : val_main_v8 (F := Ideal) x0 x1 x2 (ix3 l g n) = ar (x0 (ix3 l g n)) (x1 (ix3 l g n)) (E x2 l g) := by
  pointwise [val_main_v8, val_main_v7, val_main_v6, val_main_v5, val_main_v4, val_main_v3, val_main_v2, val_main_v1, val_main_v0, E, ar, mg, cs]
theorem v10_at : val_main_v10 (F := Ideal) x0 x1 x2 (ix3 l g n) = ai (x0 (ix3 l g n)) (x1 (ix3 l g n)) (E x2 l g) := by
  pointwise [val_main_v10, val_main_v9, val_main_v6, val_main_v5, val_main_v4, val_main_v3, val_main_v2, val_main_v1, val_main_v0, E, ai, mg, sn]
theorem v12_at : val_main_v12 (F := Ideal) x0 x1 x2 (ix3 l g n) = ar (x0 (ix3 l g n)) (x1 (ix3 l g n)) (E x2 l g) - 1 := by
  pointwise [val_main_v12, val_main_v11, val_main_cst]
  rw [v8_at]
theorem v19_at : val_main_v19 (F := Ideal) x0 x1 x2 (ix3 l g n) = fr (x0 (ix3 l g n)) (x1 (ix3 l g n)) (E x2 l g) := by
  pointwise [val_main_v19, val_main_v18, val_main_v17, val_main_v16, val_main_v15, val_main_v14, val_main_v13]
  rw [v12_at, v10_at, fr, dn]
theorem v23_at : val_main_v23 (F := Ideal) x0 x1 x2 (ix3 l g n) = fi (x0 (ix3 l g n)) (x1 (ix3 l g n)) (E x2 l g) := by
  pointwise [val_main_v23, val_main_v22, val_main_v21, val_main_v20, val_main_v15, val_main_v14, val_main_v13]
  rw [v12_at, v10_at, fi, dn]
theorem v30_at (j : Fin 16) : val_main_v30 (F := Ideal) x0 x1 x2 x3 x4 (ix4 l g n j)
    = fr (x0 (ix3 l g n)) (x1 (ix3 l g n)) (E x2 l g) * x3 (ix4 l g n j) - fi (x0 (ix3 l g n)) (x1 (ix3 l g n)) (E x2 l g) * x4 (ix4 l g n j) := by
  pointwise [val_main_v30, val_main_v29, val_main_v28, val_main_v27, val_main_v26, val_main_v25, val_main_v24]
  rw [v19_at, v23_at]
theorem v37_at (j : Fin 16) : val_main_v37 (F := Ideal) x0 x1 x2 x3 x4 (ix4 l g n j)
    = fr (x0 (ix3 l g n)) (x1 (ix3 l g n)) (E x2 l g) * x4 (ix4 l g n j) + fi (x0 (ix3 l g n)) (x1 (ix3 l g n)) (E x2 l g) * x3 (ix4 l g n j) := by
  pointwise [val_main_v37, val_main_v36, val_main_v35, val_main_v34, val_main_v33, val_main_v32, val_main_v31]
  rw [v19_at, v23_at]
end Reference

section Kernel
variable (z0 z1 z2 : FVec Ideal S2048x1 .f32) (z3 z4 : FVec Ideal S2048x16 .f32) (r : Fin 2048)

theorem k8_at : k0_pay8 (F := Ideal) z0 z1 z2 (ix2 r 0) = ar (z0 (ix2 r 0)) (z1 (ix2 r 0)) (Ideal.exp (z2 (ix2 r 0))) := by
  pointwise [k0_pay8, k0_pay7, k0_pay6, k0_pay5, k0_pay2, k0_pay1, ar, mg, cs]
theorem k9_at : k0_pay9 (F := Ideal) z0 z1 z2 (ix2 r 0) = ai (z0 (ix2 r 0)) (z1 (ix2 r 0)) (Ideal.exp (z2 (ix2 r 0))) := by
  pointwise [k0_pay9, k0_pay7, k0_pay6, k0_pay5, k0_pay2, k0_pay1, ai, mg, sn]
theorem k12_at : k0_pay12 (F := Ideal) z0 z1 z2 (ix2 r 0) = fr (z0 (ix2 r 0)) (z1 (ix2 r 0)) (Ideal.exp (z2 (ix2 r 0))) := by
  pointwise [k0_pay12, k0_pay11, k0_pay10, k0_pay2, k0_pay1]
  rw [k8_at, k9_at, fr, dn]
theorem k13_at : k0_pay13 (F := Ideal) z0 z1 z2 (ix2 r 0) = fi (z0 (ix2 r 0)) (z1 (ix2 r 0)) (Ideal.exp (z2 (ix2 r 0))) := by
  pointwise [k0_pay13, k0_pay11, k0_pay10, k0_pay2, k0_pay1]
  rw [k8_at, k9_at, fi, dn]
theorem k14_at (j : Fin 16) : k0_pay14 (F := Ideal) z0 z1 z2 z3 z4 (ix2 r j)
    = fr (z0 (ix2 r 0)) (z1 (ix2 r 0)) (Ideal.exp (z2 (ix2 r 0))) * z3 (ix2 r j) - fi (z0 (ix2 r 0)) (z1 (ix2 r 0)) (Ideal.exp (z2 (ix2 r 0))) * z4 (ix2 r j) := by
  pointwise [k0_pay14, k0_pay3, k0_pay4]
  rw [k12_at, k13_at]
theorem k15_at (j : Fin 16) : k0_pay15 (F := Ideal) z0 z1 z2 z3 z4 (ix2 r j)
    = fr (z0 (ix2 r 0)) (z1 (ix2 r 0)) (Ideal.exp (z2 (ix2 r 0))) * z4 (ix2 r j) + fi (z0 (ix2 r 0)) (z1 (ix2 r 0)) (Ideal.exp (z2 (ix2 r 0))) * z3 (ix2 r j) := by
  pointwise [k0_pay15, k0_pay3, k0_pay4]
  rw [k12_at, k13_at]
end Kernel

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem points (t : Fin cfg0.N) : t.val < 4 := t.isLt

/-- The layer, the channel group and the state of a row of the stacked arrays. -/
def lay (i : Fin 8192) : Fin 4 := ⟨i.val / 2048, by omega⟩
def grp (i : Fin 8192) : Fin 32 := ⟨i.val / 64 % 32, by omega⟩
def st (i : Fin 8192) : Fin 64 := ⟨i.val % 64, by omega⟩
/-- The stacked row of row `r` of the block at point `t`. -/
def row (t : Fin cfg0.N) (r : Fin 2048) : Fin 8192 := ⟨t.val * 2048 + r.val, by have := points t; omega⟩

abbrev y0 (c : Dev nD) : FVec Ideal S4x32x64 .f32 := m ((c : Thread nD τ).loc main_arg0)
abbrev y1 (c : Dev nD) : FVec Ideal S4x32x64 .f32 := m ((c : Thread nD τ).loc main_arg1)
abbrev y2 (c : Dev nD) : FVec Ideal S4x32 .f32 := m ((c : Thread nD τ).loc main_arg2)
abbrev y3 (c : Dev nD) : FVec Ideal S4x32x64x16 .f32 := m ((c : Thread nD τ).loc main_arg3)
abbrev y4 (c : Dev nD) : FVec Ideal S4x32x64x16 .f32 := m ((c : Thread nD τ).loc main_arg4)
theorem a0 (c : Dev nD) (i : Fin 8192) : (V m c main_v0 : FVec Ideal S8192x1 .f32) (ix2 i 0) = y0 m c (ix3 (lay i) (grp i) (st i)) := by
  unfold V V0
  simp only [List.flatten_cons, List.flatten_nil, List.append_nil, hostOps0]
  after_results
  pointwise
  rfl
theorem b0 (c : Dev nD) (t : Fin cfg0.N) (r : Fin 2048) : iblk m c 0 t (ix2 r 0) = y0 m c (ix3 (lay (row t r)) (grp (row t r)) (st (row t r))) := by
  rw [← a0 m c (row t r)]
  blk_point [iblk, idx t, row]
theorem a1 (c : Dev nD) (i : Fin 8192) : (V m c main_v1 : FVec Ideal S8192x1 .f32) (ix2 i 0) = y1 m c (ix3 (lay i) (grp i) (st i)) := by
  unfold V V0
  simp only [List.flatten_cons, List.flatten_nil, List.append_nil, hostOps0]
  after_results
  pointwise
  rfl
theorem b1 (c : Dev nD) (t : Fin cfg0.N) (r : Fin 2048) : iblk m c 1 t (ix2 r 0) = y1 m c (ix3 (lay (row t r)) (grp (row t r)) (st (row t r))) := by
  rw [← a1 m c (row t r)]
  blk_point [iblk, idx t, row]
theorem a2 (c : Dev nD) (i : Fin 8192) : (V m c main_v4 : FVec Ideal S8192x1 .f32) (ix2 i 0) = y2 m c (ix2 (lay i) (grp i)) := by
  unfold V V0
  simp only [List.flatten_cons, List.flatten_nil, List.append_nil, hostOps0]
  after_results
  pointwise
  rfl
theorem b2 (c : Dev nD) (t : Fin cfg0.N) (r : Fin 2048) : iblk m c 2 t (ix2 r 0) = y2 m c (ix2 (lay (row t r)) (grp (row t r))) := by
  rw [← a2 m c (row t r)]
  blk_point [iblk, idx t, row]
theorem a3 (c : Dev nD) (i : Fin 8192) (j : Fin 16) : (V m c main_v5 : FVec Ideal S8192x16 .f32) (ix2 i j) = y3 m c (ix4 (lay i) (grp i) (st i) j) := by
  unfold V V0
  simp only [List.flatten_cons, List.flatten_nil, List.append_nil, hostOps0]
  after_results
  pointwise
  rfl
theorem b3 (c : Dev nD) (t : Fin cfg0.N) (r : Fin 2048) (j : Fin 16) : iblk m c 3 t (ix2 r j) = y3 m c (ix4 (lay (row t r)) (grp (row t r)) (st (row t r)) j) := by
  rw [← a3 m c (row t r) j]
  blk_point [iblk, idx t, row]
theorem a4 (c : Dev nD) (i : Fin 8192) (j : Fin 16) : (V m c main_v6 : FVec Ideal S8192x16 .f32) (ix2 i j) = y4 m c (ix4 (lay i) (grp i) (st i) j) := by
  unfold V V0
  simp only [List.flatten_cons, List.flatten_nil, List.append_nil, hostOps0]
  after_results
  pointwise
  rfl
theorem b4 (c : Dev nD) (t : Fin cfg0.N) (r : Fin 2048) (j : Fin 16) : iblk m c 4 t (ix2 r j) = y4 m c (ix4 (lay (row t r)) (grp (row t r)) (st (row t r)) j) := by
  rw [← a4 m c (row t r) j]
  blk_point [iblk, idx t, row]

theorem emb5 (t : Fin cfg0.N) (y) (G : FVec Ideal S8192x1 .f32) : G (ix2 (row t (y 0)) (y 1)) = G ((win0_5.blk t).view.emb y) := by
  blk_ext [idx t, row]
def g5 (c : Dev nD) : FVec Ideal S8192x1 .f32 := fun i => val_main_v8 (F := Ideal) (y0 m c) (y1 m c) (y2 m c) (ix3 (lay (i 0)) (grp (i 0)) (st (i 0)))
theorem g5_at (c : Dev nD) (i : Fin 8192) (j : Fin 1) : g5 m c (ix2 i j) = val_main_v8 (F := Ideal) (y0 m c) (y1 m c) (y2 m c) (ix3 (lay i) (grp i) (st i)) := rfl
theorem final5 (c : Dev nD) : (dats m 0 c).arrAt 5 (cfgs 0).N = g5 m c := by
  refine (dats m 0 c).arrAt_eq_of_covers 5 _ (by decide +kernel) fun t hf y => ?_
  blk_simp
  rw [after0_5]
  frame_out
  refine Eq.trans ?_ (emb5 t y (g5 m c))
  idx_vars y
  obtain rfl : y1 = 0 := Subsingleton.elim y1 0
  refine (k8_at (iblk m c 0 t) (iblk m c 1 t) (iblk m c 2 t) y0).trans ?_
  rw [g5_at, v8_at]
  simp only [b0, b1, b2, E]
theorem emb6 (t : Fin cfg0.N) (y) (G : FVec Ideal S8192x1 .f32) : G (ix2 (row t (y 0)) (y 1)) = G ((win0_6.blk t).view.emb y) := by
  blk_ext [idx t, row]
def g6 (c : Dev nD) : FVec Ideal S8192x1 .f32 := fun i => val_main_v10 (F := Ideal) (y0 m c) (y1 m c) (y2 m c) (ix3 (lay (i 0)) (grp (i 0)) (st (i 0)))
theorem g6_at (c : Dev nD) (i : Fin 8192) (j : Fin 1) : g6 m c (ix2 i j) = val_main_v10 (F := Ideal) (y0 m c) (y1 m c) (y2 m c) (ix3 (lay i) (grp i) (st i)) := rfl
theorem final6 (c : Dev nD) : (dats m 0 c).arrAt 6 (cfgs 0).N = g6 m c := by
  refine (dats m 0 c).arrAt_eq_of_covers 6 _ (by decide +kernel) fun t hf y => ?_
  blk_simp
  rw [after0_6]
  frame_out
  refine Eq.trans ?_ (emb6 t y (g6 m c))
  idx_vars y
  obtain rfl : y1 = 0 := Subsingleton.elim y1 0
  refine (k9_at (iblk m c 0 t) (iblk m c 1 t) (iblk m c 2 t) y0).trans ?_
  rw [g6_at, v10_at]
  simp only [b0, b1, b2, E]
theorem emb7 (t : Fin cfg0.N) (y) (G : FVec Ideal S8192x16 .f32) : G (ix2 (row t (y 0)) (y 1)) = G ((win0_7.blk t).view.emb y) := by
  blk_ext [idx t, row]
def g7 (c : Dev nD) : FVec Ideal S8192x16 .f32 := fun i => val_main_v30 (F := Ideal) (y0 m c) (y1 m c) (y2 m c) (y3 m c) (y4 m c) (ix4 (lay (i 0)) (grp (i 0)) (st (i 0)) (i 1))
theorem g7_at (c : Dev nD) (i : Fin 8192) (j : Fin 16) : g7 m c (ix2 i j) = val_main_v30 (F := Ideal) (y0 m c) (y1 m c) (y2 m c) (y3 m c) (y4 m c) (ix4 (lay i) (grp i) (st i) j) := rfl
theorem final7 (c : Dev nD) : (dats m 0 c).arrAt 7 (cfgs 0).N = g7 m c := by
  refine (dats m 0 c).arrAt_eq_of_covers 7 _ (by decide +kernel) fun t hf y => ?_
  blk_simp
  rw [after0_7]
  frame_out
  refine Eq.trans ?_ (emb7 t y (g7 m c))
  idx_vars y
  refine (k14_at (iblk m c 0 t) (iblk m c 1 t) (iblk m c 2 t) (iblk m c 3 t) (iblk m c 4 t) y0 y1).trans ?_
  rw [g7_at, v30_at]
  simp only [b0, b1, b2, b3, b4, E]
theorem emb8 (t : Fin cfg0.N) (y) (G : FVec Ideal S8192x16 .f32) : G (ix2 (row t (y 0)) (y 1)) = G ((win0_8.blk t).view.emb y) := by
  blk_ext [idx t, row]
def g8 (c : Dev nD) : FVec Ideal S8192x16 .f32 := fun i => val_main_v37 (F := Ideal) (y0 m c) (y1 m c) (y2 m c) (y3 m c) (y4 m c) (ix4 (lay (i 0)) (grp (i 0)) (st (i 0)) (i 1))
theorem g8_at (c : Dev nD) (i : Fin 8192) (j : Fin 16) : g8 m c (ix2 i j) = val_main_v37 (F := Ideal) (y0 m c) (y1 m c) (y2 m c) (y3 m c) (y4 m c) (ix4 (lay i) (grp i) (st i) j) := rfl
theorem final8 (c : Dev nD) : (dats m 0 c).arrAt 8 (cfgs 0).N = g8 m c := by
  refine (dats m 0 c).arrAt_eq_of_covers 8 _ (by decide +kernel) fun t hf y => ?_
  blk_simp
  rw [after0_8]
  frame_out
  refine Eq.trans ?_ (emb8 t y (g8 m c))
  idx_vars y
  refine (k15_at (iblk m c 0 t) (iblk m c 1 t) (iblk m c 2 t) (iblk m c 3 t) (iblk m c 4 t) y0 y1).trans ?_
  rw [g8_at, v37_at]
  simp only [b0, b1, b2, b3, b4, E]

/-- The stacked rows, cut back into layers, groups and states. -/
theorem cut3 (x : FVec Ideal S8192x1 .f32) (l : Fin 4) (g : Fin 32) (n : Fin 64) :
    shapeCast S4x32x64 x shapeCasts_S8192x1_S4x32x64 (ix3 l g n) = x (ix2 ⟨l.val * 2048 + g.val * 64 + n.val, by omega⟩ 0) := by
  pointwise
theorem cut4 (x : FVec Ideal S8192x16 .f32) (l : Fin 4) (g : Fin 32) (n : Fin 64) (j : Fin 16) :
    shapeCast S4x32x64x16 x shapeCasts_S8192x16_S4x32x64x16 (ix4 l g n j) = x (ix2 ⟨l.val * 2048 + g.val * 64 + n.val, by omega⟩ j) := by
  pointwise
theorem tail8 (c : Dev nD) : Pipeline.afterTail₀ cfgs (dats m) 0 (V0 m) [hostOps1] c main_v8 = (shapeCast S4x32x64 (g5 m c) shapeCasts_S8192x1_S4x32x64) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 5).trans (final5 m c)
  rw [← h]
  rfl
theorem tail9 (c : Dev nD) : Pipeline.afterTail₀ cfgs (dats m) 0 (V0 m) [hostOps1] c main_v9 = (shapeCast S4x32x64 (g6 m c) shapeCasts_S8192x1_S4x32x64) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 6).trans (final6 m c)
  rw [← h]
  rfl
theorem tail10 (c : Dev nD) : Pipeline.afterTail₀ cfgs (dats m) 0 (V0 m) [hostOps1] c main_v10 = (shapeCast S4x32x64x16 (g7 m c) shapeCasts_S8192x16_S4x32x64x16) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 7).trans (final7 m c)
  rw [← h]
  rfl
theorem tail11 (c : Dev nD) : Pipeline.afterTail₀ cfgs (dats m) 0 (V0 m) [hostOps1] c main_v11 = (shapeCast S4x32x64x16 (g8 m c) shapeCasts_S8192x16_S4x32x64x16) := by
  unfold Pipeline.afterTail₀
  simp only [List.flatten_cons, List.flatten_nil, List.append_nil, hostOps1]
  after_results
  have h := (Pipeline.withArrays_arr spec0 launch0.win.arr_inj c (V0 m c) (fun w => (dats m 0 c).arrAt w (cfgs 0).N) 8).trans (final8 m c)
  rw [← h]
  rfl
theorem lay_at (l : Fin 4) (g : Fin 32) (n : Fin 64) (h) : lay ⟨l.val * 2048 + g.val * 64 + n.val, h⟩ = l := Fin.ext (by dsimp [lay]; omega)
theorem grp_at (l : Fin 4) (g : Fin 32) (n : Fin 64) (h) : grp ⟨l.val * 2048 + g.val * 64 + n.val, h⟩ = g := Fin.ext (by dsimp [grp]; omega)
theorem st_at (l : Fin 4) (g : Fin 32) (n : Fin 64) (h) : st ⟨l.val * 2048 + g.val * 64 + n.val, h⟩ = n := Fin.ext (by dsimp [st]; omega)

theorem is8 (c : Dev nD) (z0 : FVec Ideal S4x32x64 .f32) (z1 : FVec Ideal S4x32x64 .f32) (z2 : FVec Ideal S4x32 .f32) (e0 : z0 = y0 m c) (e1 : z1 = y1 m c) (e2 : z2 = y2 m c) :
    val_main_v8 (F := Ideal) z0 z1 z2 = Pipeline.afterTail₀ cfgs (dats m) 0 (V0 m) [hostOps1] c main_v8 := by
  subst e0 e1 e2
  rw [tail8]
  funext i
  idx_vars i
  rw [cut3, g5_at, lay_at, grp_at, st_at]
theorem is10 (c : Dev nD) (z0 : FVec Ideal S4x32x64 .f32) (z1 : FVec Ideal S4x32x64 .f32) (z2 : FVec Ideal S4x32 .f32) (e0 : z0 = y0 m c) (e1 : z1 = y1 m c) (e2 : z2 = y2 m c) :
    val_main_v10 (F := Ideal) z0 z1 z2 = Pipeline.afterTail₀ cfgs (dats m) 0 (V0 m) [hostOps1] c main_v9 := by
  subst e0 e1 e2
  rw [tail9]
  funext i
  idx_vars i
  rw [cut3, g6_at, lay_at, grp_at, st_at]
theorem is30 (c : Dev nD) (z0 : FVec Ideal S4x32x64 .f32) (z1 : FVec Ideal S4x32x64 .f32) (z2 : FVec Ideal S4x32 .f32) (z3 : FVec Ideal S4x32x64x16 .f32) (z4 : FVec Ideal S4x32x64x16 .f32) (e0 : z0 = y0 m c) (e1 : z1 = y1 m c) (e2 : z2 = y2 m c) (e3 : z3 = y3 m c) (e4 : z4 = y4 m c) :
    val_main_v30 (F := Ideal) z0 z1 z2 z3 z4 = Pipeline.afterTail₀ cfgs (dats m) 0 (V0 m) [hostOps1] c main_v10 := by
  subst e0 e1 e2 e3 e4
  rw [tail10]
  funext i
  idx_vars i
  rw [cut4, g7_at, lay_at, grp_at, st_at]
theorem is37 (c : Dev nD) (z0 : FVec Ideal S4x32x64 .f32) (z1 : FVec Ideal S4x32x64 .f32) (z2 : FVec Ideal S4x32 .f32) (z3 : FVec Ideal S4x32x64x16 .f32) (z4 : FVec Ideal S4x32x64x16 .f32) (e0 : z0 = y0 m c) (e1 : z1 = y1 m c) (e2 : z2 = y2 m c) (e3 : z3 = y3 m c) (e4 : z4 = y4 m c) :
    val_main_v37 (F := Ideal) z0 z1 z2 z3 z4 = Pipeline.afterTail₀ cfgs (dats m) 0 (V0 m) [hostOps1] c main_v11 := by
  subst e0 e1 e2 e3 e4
  rw [tail11]
  funext i
  idx_vars i
  rw [cut4, g8_at, lay_at, grp_at, st_at]

theorem algebraic : Cert.algebraic_PrepFwdIdeal_PrepFwdRefIdeal := by
  pair_intro
  · run_from Cert.PrepFwdIdeal.Gen.run_main m g
    exacts [Cert.PrepFwdIdeal.Gen.W_main_arg0 m (dats m) c, Cert.PrepFwdIdeal.Gen.W_main_arg1 m (dats m) c, Cert.PrepFwdIdeal.Gen.W_main_arg2 m (dats m) c, Cert.PrepFwdIdeal.Gen.W_main_arg3 m (dats m) c, Cert.PrepFwdIdeal.Gen.W_main_arg4 m (dats m) c]
  · run_from Cert.PrepFwdRefIdeal.Value.run m' g'
    · refine (val_main_v8_eq _ _ _).trans (is8 m c _ _ _ ?_ ?_ ?_) <;> first | rfl | exact (hagree c).1 | exact (hagree c).2.1 | exact (hagree c).2.2.1
    · refine (val_main_v10_eq _ _ _).trans (is10 m c _ _ _ ?_ ?_ ?_) <;> first | rfl | exact (hagree c).1 | exact (hagree c).2.1 | exact (hagree c).2.2.1
    · refine (val_main_v30_eq _ _ _ _ _).trans (is30 m c _ _ _ _ _ ?_ ?_ ?_ ?_ ?_) <;> first | rfl | exact (hagree c).1 | exact (hagree c).2.1 | exact (hagree c).2.2.1 | exact (hagree c).2.2.2.1 | exact (hagree c).2.2.2.2
    · refine (val_main_v37_eq _ _ _ _ _).trans (is37 m c _ _ _ _ _ ?_ ?_ ?_ ?_ ?_) <;> first | rfl | exact (hagree c).1 | exact (hagree c).2.1 | exact (hagree c).2.2.1 | exact (hagree c).2.2.2.1 | exact (hagree c).2.2.2.2

end Cert.PrepFwdIdeal.Hand

end
-- ==== Proof.AdaFwd.lean ====
module

public import proofs.«01_k».proof.Defs
public import proofs.«01_k».proof.Proof.Gen.AdaFwdIdeal.Frame
public import proofs.«01_k».proof.Proof.Gen.AdaFwdRefIdeal.Read
public import Idealize.ShloMosaic.Lib.Pipeline.ValueKit
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaFwdIdeal.Hand

open Cert.AdaFwdIdeal Cert.AdaFwdIdeal.Gen Cert.AdaFwdRefIdeal.Read

variable (m : (ℓ : Loc nD τ sig) → Buf (Elt Ideal) ℓ)

/-- The modulation: silu of the conditioning times the weights, and the bias. -/
def modul (c : FVec Ideal S8x1024 .f32) (w : FVec Ideal S4x1024x1536 .f32) (b : FVec Ideal S4x1536 .f32) : FVec Ideal S4x8x1536 .f32 := fun i =>
  (∑ k : Fin 1024, c (ix2 (i 1) k) * Ideal.logistic (c (ix2 (i 1) k)) * w (ix3 (i 0) k (i 2))) + b (ix2 (i 0) (i 2))

theorem idx : ∀ t : Fin cfg0.N, win0_0.index t = ![0, 0] ∧ win0_1.index t = ![t.val / 3, 0, t.val % 3] ∧ win0_2.index t = ![t.val / 3, 0, t.val % 3] ∧ win0_3.index t = ![t.val / 3, 0, t.val % 3] :=
  (by decide +kernel : ∀ t : Fin grid0.N, _)

abbrev x0 (c : Dev nD) : FVec Ideal S8x1024 .f32 := m ((c : Thread nD τ).loc main_arg0)
abbrev x1 (c : Dev nD) : FVec Ideal S4x1024x1536 .f32 := m ((c : Thread nD τ).loc main_arg1)
abbrev x2 (c : Dev nD) : FVec Ideal S4x1536 .f32 := m ((c : Thread nD τ).loc main_arg2)
theorem bias (c : Dev nD) (l : Fin 4) (j : Fin 1536) : (V m c main_v0 : FVec Ideal S4x1x1536 .f32) (ix3 l 0 j)
    = x2 m c (ix2 l j) := by
  unfold V
  simp only [List.flatten_cons, List.flatten_nil, List.append_nil, List.cons_append, List.nil_append, hostOps0]
  after_results
  pointwise

/-- The layer and the column of column `j` of the block at point `t`. -/
def lay (t : Fin cfg0.N) : Fin 4 := ⟨t.val / 3, by have := t.isLt; have h : cfg0.N = 12 := N_0; omega⟩
def col (t : Fin cfg0.N) (j : Fin 512) : Fin 1536 := ⟨t.val % 3 * 512 + j.val, by omega⟩

theorem cB (c : Dev nD) (t : Fin cfg0.N) (i : Fin 8) (k : Fin 1024) : iblk m c 0 t (ix2 i k) = x0 m c (ix2 i k) := by
  blk_point [iblk, V, idx t]
theorem wB (c : Dev nD) (t : Fin cfg0.N) (k : Fin 1024) (j : Fin 512) : iblk m c 1 t (ix3 0 k j) = x1 m c (ix3 (lay t) k (col t j)) := by
  blk_point [iblk, V, idx t, lay, col]
theorem bB (c : Dev nD) (t : Fin cfg0.N) (j : Fin 512) : iblk m c 2 t (ix3 0 0 j) = x2 m c (ix2 (lay t) (col t j)) := by
  rw [← bias m c (lay t) (col t j)]
  blk_point [iblk, idx t, lay, col]

theorem point (c : Dev nD) (t : Fin cfg0.N) (z : Fin 1) (i : Fin 8) (j : Fin 512) : k0_pay1 (iblk m c 0 t) (iblk m c 1 t) (iblk m c 2 t) (ix3 z i j)
    = modul (x0 m c) (x1 m c) (x2 m c) (ix3 (lay t) i (col t j)) := by
  pointwise [k0_pay1, modul]
  simp only [cB, wB, bB]

theorem emb3 (t : Fin cfg0.N) (y) (G : FVec Ideal S4x8x1536 .f32) : G (ix3 (lay t) (y 1) (col t (y 2))) = G ((win0_3.blk t).view.emb y) := by
  blk_ext [idx t, lay, col]
theorem final (c : Dev nD) : (dats m 0 c).arrAt 3 (cfgs 0).N = modul (x0 m c) (x1 m c) (x2 m c) := by
  refine (dats m 0 c).arrAt_eq_of_covers 3 _ (by decide +kernel) fun t _ y => ?_
  blk_simp
  rw [after0_3]
  frame_out
  refine Eq.trans ?_ (emb3 t y (modul (x0 m c) (x1 m c) (x2 m c)))
  idx_vars y
  exact point m c t y0 y1 y2

theorem refIs (c : FVec Ideal S8x1024 .f32) (w : FVec Ideal S4x1024x1536 .f32) (b : FVec Ideal S4x1536 .f32) : val_main_v5 (F := Ideal) c w b = modul c w b := by
  funext i
  pointwise [val_main_v5, val_main_v4, val_main_v3, val_main_v2, val_main_v1, val_main_v0, val_main_call0_v0, val_main_call0_v1, val_main_call0_cst, val_main_call0_v2, val_main_call0_v3, val_main_call0_cst_0, val_main_call0_v4, val_main_call0_v5, modul]
  rfl

theorem algebraic : Cert.algebraic_AdaFwdIdeal_AdaFwdRefIdeal := by
  pair_intro
  · run_from Cert.AdaFwdIdeal.Gen.run_main m g
  · run_from Cert.AdaFwdRefIdeal.Value.run m' g'
    rw [final m c]
    exact refIs _ _ _

end Cert.AdaFwdIdeal.Hand

end
-- ==== Proof.Adam.lean ====
module

public import proofs.«01_k».proof.Defs
public import proofs.«01_k».proof.Proof.Gen.AdamIdeal.Frame
public import proofs.«01_k».proof.Proof.Gen.AdamRefIdeal.Read
public import Idealize.ShloMosaic.Lib.Pipeline.ValueKit
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamIdeal.Hand

open Cert.AdamIdeal Cert.AdamIdeal.Gen Cert.AdamRefIdeal.Read

variable (m : (ℓ : Loc nD τ sig) → Buf (Elt Ideal) ℓ)

theorem idx : ∀ t : Fin cfg0.N, win0_0.index t = ![t.val / 8, 0, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] :=
  (by decide +kernel : ∀ t : Fin grid0.N, _)

abbrev x0 (c : Dev nD) : FVec Ideal S4x1024x1536 .f32 := m ((c : Thread nD τ).loc main_arg0)
abbrev x1 (c : Dev nD) : FVec Ideal S4x1024x1536 .f32 := m ((c : Thread nD τ).loc main_arg1)
abbrev x2 (c : Dev nD) : FVec Ideal S4x1024x1536 .f32 := m ((c : Thread nD τ).loc main_arg2)
abbrev x3 (c : Dev nD) : FVec Ideal S4x1024x1536 .f32 := m ((c : Thread nD τ).loc main_arg3)
theorem gIs (c : Dev nD) (l : Fin 4) (z : Fin 1) (i : Fin 1024) (j : Fin 1536) : (V m c main_v0 : FVec Ideal S4x1x1024x1536 .f32) (ix4 l z i j)
    = x0 m c (ix3 l i j) := by
  unfold V
  simp only [List.flatten_cons, List.flatten_nil, List.append_nil, List.cons_append, List.nil_append, hostOps0]
  after_results
  pointwise

/-- The layer and the row of row `i` of the block at point `t`. -/
def lay (t : Fin cfg0.N) : Fin 4 := ⟨t.val / 8, by have := t.isLt; have h : cfg0.N = 32 := N_0; omega⟩
def row (t : Fin cfg0.N) (i : Fin 128) : Fin 1024 := ⟨t.val % 8 * 128 + i.val, by omega⟩

theorem gB (c : Dev nD) (t : Fin cfg0.N) (i : Fin 128) (j : Fin 1536) : iblk m c 0 t (ix4 0 0 i j) = x0 m c (ix3 (lay t) (row t i) j) := by
  rw [← gIs m c (lay t) 0 (row t i) j]
  blk_point [iblk, idx t, lay, row]
theorem wB (c : Dev nD) (t : Fin cfg0.N) (i : Fin 128) (j : Fin 1536) : iblk m c 1 t (ix3 0 i j) = x1 m c (ix3 (lay t) (row t i) j) := by
  blk_point [iblk, V, idx t, lay, row]
theorem mB (c : Dev nD) (t : Fin cfg0.N) (i : Fin 128) (j : Fin 1536) : iblk m c 2 t (ix3 0 i j) = x2 m c (ix3 (lay t) (row t i) j) := by
  blk_point [iblk, V, idx t, lay, row]
theorem vB (c : Dev nD) (t : Fin cfg0.N) (i : Fin 128) (j : Fin 1536) : iblk m c 3 t (ix3 0 i j) = x3 m c (ix3 (lay t) (row t i) j) := by
  blk_point [iblk, V, idx t, lay, row]

theorem point4 (c : Dev nD) (t : Fin cfg0.N) (z : Fin 1) (i : Fin 128) (j : Fin 1536) : k0_pay1 (k0_pay5 (iblk m c 0 t)) (ix3 z i j)
    = (x0 m c) (ix3 (lay t) (row t i) j) := by
  pointwise [k0_pay1, k0_pay5]
  simp only [gB, wB, mB, vB]
theorem emb4 (t : Fin cfg0.N) (y) (G : FVec Ideal S4x1024x1536 .f32) : G (ix3 (lay t) (row t (y 1)) (y 2)) = G ((win0_4.blk t).view.emb y) := by
  blk_ext [idx t, lay, row]
theorem final4 (c : Dev nD) : (dats m 0 c).arrAt 4 (cfgs 0).N = x0 m c := by
  refine (dats m 0 c).arrAt_eq_of_covers 4 _ (by decide +kernel) fun t _ y => ?_
  blk_simp
  rw [after0_4]
  frame_out
  refine Eq.trans ?_ (emb4 t y (x0 m c))
  idx_vars y
  exact point4 m c t y0 y1 y2

theorem point5 (c : Dev nD) (t : Fin cfg0.N) (z : Fin 1) (i : Fin 128) (j : Fin 1536) : k0_pay2 (k0_pay8 (iblk m c 0 t) (iblk m c 1 t) (iblk m c 2 t) (iblk m c 3 t)) (ix3 z i j)
    = (val_main_v23 (F := Ideal) (x0 m c) (x1 m c) (x2 m c) (x3 m c)) (ix3 (lay t) (row t i) j) := by
  pointwise [k0_pay2, k0_pay8, k0_pay7, k0_pay6, k0_pay5, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [gB, wB, mB, vB]
theorem emb5 (t : Fin cfg0.N) (y) (G : FVec Ideal S4x1024x1536 .f32) : G (ix3 (lay t) (row t (y 1)) (y 2)) = G ((win0_5.blk t).view.emb y) := by
  blk_ext [idx t, lay, row]
theorem final5 (c : Dev nD) : (dats m 0 c).arrAt 5 (cfgs 0).N = val_main_v23 (F := Ideal) (x0 m c) (x1 m c) (x2 m c) (x3 m c) := by
  refine (dats m 0 c).arrAt_eq_of_covers 5 _ (by decide +kernel) fun t _ y => ?_
  blk_simp
  rw [after0_5]
  frame_out
  refine Eq.trans ?_ (emb5 t y (val_main_v23 (F := Ideal) (x0 m c) (x1 m c) (x2 m c) (x3 m c)))
  idx_vars y
  exact point5 m c t y0 y1 y2

theorem point6 (c : Dev nD) (t : Fin cfg0.N) (z : Fin 1) (i : Fin 128) (j : Fin 1536) : k0_pay3 (k0_pay6 (iblk m c 0 t) (iblk m c 2 t)) (ix3 z i j)
    = (val_main_v4 (F := Ideal) (x0 m c) (x2 m c)) (ix3 (lay t) (row t i) j) := by
  pointwise [k0_pay3, k0_pay6, k0_pay5, val_main_v4, val_main_v3, val_main_v2, val_main_v1, val_main_v0, val_main_cst, val_main_cst_0]
  simp only [gB, wB, mB, vB]
theorem emb6 (t : Fin cfg0.N) (y) (G : FVec Ideal S4x1024x1536 .f32) : G (ix3 (lay t) (row t (y 1)) (y 2)) = G ((win0_6.blk t).view.emb y) := by
  blk_ext [idx t, lay, row]
theorem final6 (c : Dev nD) : (dats m 0 c).arrAt 6 (cfgs 0).N = val_main_v4 (F := Ideal) (x0 m c) (x2 m c) := by
  refine (dats m 0 c).arrAt_eq_of_covers 6 _ (by decide +kernel) fun t _ y => ?_
  blk_simp
  rw [after0_6]
  frame_out
  refine Eq.trans ?_ (emb6 t y (val_main_v4 (F := Ideal) (x0 m c) (x2 m c)))
  idx_vars y
  exact point6 m c t y0 y1 y2

theorem point7 (c : Dev nD) (t : Fin cfg0.N) (z : Fin 1) (i : Fin 128) (j : Fin 1536) : k0_pay4 (k0_pay7 (iblk m c 0 t) (iblk m c 3 t)) (ix3 z i j)
    = (val_main_v10 (F := Ideal) (x0 m c) (x3 m c)) (ix3 (lay t) (row t i) j) := by
  pointwise [k0_pay4, k0_pay7, k0_pay5, val_main_v10, val_main_v9, val_main_v8, val_main_v7, val_main_v6, val_main_v5, val_main_cst_1, val_main_cst_2]
  simp only [gB, wB, mB, vB]
theorem emb7 (t : Fin cfg0.N) (y) (G : FVec Ideal S4x1024x1536 .f32) : G (ix3 (lay t) (row t (y 1)) (y 2)) = G ((win0_7.blk t).view.emb y) := by
  blk_ext [idx t, lay, row]
theorem final7 (c : Dev nD) : (dats m 0 c).arrAt 7 (cfgs 0).N = val_main_v10 (F := Ideal) (x0 m c) (x3 m c) := by
  refine (dats m 0 c).arrAt_eq_of_covers 7 _ (by decide +kernel) fun t _ y => ?_
  blk_simp
  rw [after0_7]
  frame_out
  refine Eq.trans ?_ (emb7 t y (val_main_v10 (F := Ideal) (x0 m c) (x3 m c)))
  idx_vars y
  exact point7 m c t y0 y1 y2

theorem isG (c : Dev nD) (y0 : FVec Ideal S4x1024x1536 .f32) (e0 : y0 = x0 m c) :
    y0 = (dats m 0 c).arrAt 4 (cfgs 0).N := by
  subst e0
  exact (final4 m c).symm
theorem is23 (c : Dev nD) (y0 : FVec Ideal S4x1024x1536 .f32) (y1 : FVec Ideal S4x1024x1536 .f32) (y2 : FVec Ideal S4x1024x1536 .f32) (y3 : FVec Ideal S4x1024x1536 .f32) (e0 : y0 = x0 m c) (e1 : y1 = x1 m c) (e2 : y2 = x2 m c) (e3 : y3 = x3 m c) :
    val_main_v23 (F := Ideal) y0 y1 y2 y3 = (dats m 0 c).arrAt 5 (cfgs 0).N := by
  subst e0 e1 e2 e3
  exact (final5 m c).symm
theorem is4 (c : Dev nD) (y0 : FVec Ideal S4x1024x1536 .f32) (y2 : FVec Ideal S4x1024x1536 .f32) (e0 : y0 = x0 m c) (e2 : y2 = x2 m c) :
    val_main_v4 (F := Ideal) y0 y2 = (dats m 0 c).arrAt 6 (cfgs 0).N := by
  subst e0 e2
  exact (final6 m c).symm
theorem is10 (c : Dev nD) (y0 : FVec Ideal S4x1024x1536 .f32) (y3 : FVec Ideal S4x1024x1536 .f32) (e0 : y0 = x0 m c) (e3 : y3 = x3 m c) :
    val_main_v10 (F := Ideal) y0 y3 = (dats m 0 c).arrAt 7 (cfgs 0).N := by
  subst e0 e3
  exact (final7 m c).symm

theorem algebraic : Cert.algebraic_AdamIdeal_AdamRefIdeal := by
  pair_intro
  · run_from Cert.AdamIdeal.Gen.run_main m g
  · run_from Cert.AdamRefIdeal.Value.run m' g'
    · refine isG m c _ ?_ <;> first | rfl | exact (hagree c).1
    · refine (val_main_v23_eq _ _ _ _).trans (is23 m c _ _ _ _ ?_ ?_ ?_ ?_) <;> first | rfl | exact (hagree c).1 | exact (hagree c).2.1 | exact (hagree c).2.2.1 | exact (hagree c).2.2.2
    · refine (val_main_v4_eq _ _).trans (is4 m c _ _ ?_ ?_) <;> first | rfl | exact (hagree c).1 | exact (hagree c).2.2.1
    · refine (val_main_v10_eq _ _).trans (is10 m c _ _ ?_ ?_) <;> first | rfl | exact (hagree c).1 | exact (hagree c).2.2.2

end Cert.AdamIdeal.Hand

end
-- ==== Proof.Dw.lean ====
module

public import proofs.«01_k».proof.Defs
public import proofs.«01_k».proof.Proof.Gen.DwIdeal.Frame
public import proofs.«01_k».proof.Proof.Gen.DwRefIdeal.Read
public import Idealize.ShloMosaic.Lib.Pipeline.ValueKit
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwIdeal.Hand

open Cert.DwIdeal Cert.DwIdeal.Gen Cert.DwRefIdeal.Read

variable (m : (ℓ : Loc nD τ sig) → Buf (Elt Ideal) ℓ)

/-- The gradient: over all tokens, the product of the value and the cotangent. -/
def dw (a : FVec Ideal S4096x4096 .bf16) (b : FVec Ideal S4096x1024 .bf16) : FVec Ideal S4096x1024 .bf16 := fun i =>
  ∑ x : Fin 4096, a (ix2 x (i 0)) * b (ix2 x (i 1))

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

abbrev x0 (c : Dev nD) : FVec Ideal S4096x4096 .bf16 := m ((c : Thread nD τ).loc main_arg0)
abbrev x1 (c : Dev nD) : FVec Ideal S4096x1024 .bf16 := m ((c : Thread nD τ).loc main_arg1)

/-- The token of row `x`, and the row of the gradient, of the blocks at point `t`. -/
def tok (t : Fin cfg0.N) (x : Fin 2048) : Fin 4096 := ⟨t.val % 2 * 2048 + x.val, by omega⟩
def row (t : Fin cfg0.N) (i : Fin 512) : Fin 4096 := ⟨t.val / 2 * 512 + i.val, by have := t.isLt; have h : cfg0.N = 16 := N_0; omega⟩

theorem aB (c : Dev nD) (t : Fin cfg0.N) (x : Fin 2048) (i : Fin 512) : iblk m c 0 t (ix2 x i) = x0 m c (ix2 (tok t x) (row t i)) := by
  blk_point [iblk, V, idx t, tok, row]
theorem bB (c : Dev nD) (t : Fin cfg0.N) (x : Fin 2048) (k : Fin 1024) : iblk m c 1 t (ix2 x k) = x1 m c (ix2 (tok t x) k) := by
  blk_point [iblk, V, idx t, tok]

/-- A sum over all tokens is the sum over the first half and the sum over the second. -/
theorem halves (f : Fin 4096 → EReal) : ∑ x, f x = (∑ x : Fin 2048, f ⟨x.val, by omega⟩) + ∑ x : Fin 2048, f ⟨2048 + x.val, by omega⟩ :=
  Fin.sum_univ_add (a := 2048) (b := 2048) f

theorem step_at (z : FVec Ideal S512x1024 .f32) (c : Dev nD) (t : Fin cfg0.N) (i : Fin 512) (k : Fin 1024) : k0_pay2 z (iblk m c 0 t) (iblk m c 1 t) (ix2 i k)
    = z (ix2 i k) + ∑ x : Fin 2048, x0 m c (ix2 (tok t x) (row t i)) * x1 m c (ix2 (tok t x) k) := by
  pointwise [k0_pay2]
  simp only [aB, bB]

theorem acc_at (c : Dev nD) (t : Fin cfg0.N) (h : t.val % 2 = 0) (i : Fin 512) (k : Fin 1024) : (outsAt0 m c t.val t.isLt).2 (ix2 i k)
    = ∑ x : Fin 2048, x0 m c (ix2 (tok t x) (row t i)) * x1 m c (ix2 (tok t x) k) := by
  rw [outsAt0_A m c t h (by omega)]
  dsimp only
  frame_out
  refine (step_at m _ c t i k).trans ?_
  pointwise [k0_pay1]
  try exact zero_add _

theorem out_at (c : Dev nD) (t : Fin cfg0.N) (h : t.val % 2 = 1) (i : Fin 512) (k : Fin 1024) : (outsAt0 m c t.val t.isLt).1 (ix2 i k)
    = dw (x0 m c) (x1 m c) (ix2 (row t i) k) := by
  have hN : cfg0.N = 16 := N_0
  have hl := t.isLt
  have e := acc_at m c ⟨t.val - 1, by omega⟩ (by dsimp only; omega) i k
  have hr : row ⟨t.val - 1, by omega⟩ i = row t i := Fin.ext (by simp only [row]; omega)
  have h0 : ∀ x : Fin 2048, tok ⟨t.val - 1, by omega⟩ x = ⟨x.val, by omega⟩ := fun x => Fin.ext (by simp only [tok]; omega)
  have h1 : ∀ x : Fin 2048, tok t x = ⟨2048 + x.val, by omega⟩ := fun x => Fin.ext (by simp only [tok]; omega)
  rw [outsAt0_B m c t (by omega) h]
  dsimp only
  frame_out
  refine Eq.trans (?_ : _ = k0_pay2 (outsAt0 m c (t.val - 1) (by omega)).2 (iblk m c 0 t) (iblk m c 1 t) (ix2 i k)) ?_
  · pointwise [k0_pay3]
    exact congrArg (fun z => k0_pay2 z (iblk m c 0 t) (iblk m c 1 t) (ix2 i k)) ((Memref.isWhole_whole _).read_unread _)
  · rw [step_at, e, hr]
    simp only [h0, h1]
    exact (halves fun x => x0 m c (ix2 x (row t i)) * x1 m c (ix2 x k)).symm

theorem emb2 (t : Fin cfg0.N) (y) (G : FVec Ideal S4096x1024 .bf16) : G (ix2 (row t (y 0)) (y 1)) = G ((win0_2.blk t).view.emb y) := by
  blk_ext [idx t, row]
theorem final (c : Dev nD) : (dats m 0 c).arrAt 2 (cfgs 0).N = dw (x0 m c) (x1 m c) := by
  refine (dats m 0 c).arrAt_eq_of_covers 2 _ (by decide +kernel) fun t hf y => ?_
  have h : t.val % 2 = 1 := (flush0_2 t).mp hf
  blk_simp
  rw [after0_2]
  refine Eq.trans ?_ (emb2 t y (dw (x0 m c) (x1 m c)))
  idx_vars y
  exact out_at m c t h y0 y1

theorem refIs (a : FVec Ideal S4096x4096 .bf16) (b : FVec Ideal S4096x1024 .bf16) : val_main_v6 (F := Ideal) a b = dw a b := by
  funext i
  idx_vars i
  pointwise [val_main_v6, val_main_v5, val_main_v4, val_main_v3, val_main_v1, dw]
  exact Finset.sum_congr rfl fun x _ => mul_comm _ _

theorem algebraic : Cert.algebraic_DwIdeal_DwRefIdeal := by
  pair_intro
  · run_from Cert.DwIdeal.Gen.run_main m g
  · run_from Cert.DwRefIdeal.Value.run m' g'
    rw [final m c]
    exact refIs _ _

end Cert.DwIdeal.Hand

end
-- ==== Proof.lean ====
/- The proof of the claim of `proofs.«01_k».proof.Defs`: the facts of the programs first, then each conjunct in its order. -/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Read
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdRefIdeal
public import proofs.«01_k».proof.Proof.Gen.MlpFwdRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.OutFwdRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.InFwdRefIdeal.Read
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.PrepFwdIdeal
public import proofs.«01_k».proof.Proof.Gen.PrepFwdIdeal.Skeleton
public import proofs.«01_k».proof.Proof.Gen.PrepFwdIdeal.Launch
public import proofs.«01_k».proof.Proof.Gen.PrepFwdIdeal.Points
public import proofs.«01_k».proof.Proof.Gen.PrepFwdIdeal.Frame
public import proofs.«01_k».proof.Proof.Gen.PrepFwdRefIdeal
public import proofs.«01_k».proof.Proof.Gen.PrepFwdRefIdeal.Read
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdRefIdeal
public import proofs.«01_k».proof.Proof.Gen.AdaFwdRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamRefIdeal.Read
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Read
public import proofs.«01_k».proof.Proof.Gen.Pre_in_finite
public import proofs.«01_k».proof.Proof.Gen.Pre_out_finite
public import proofs.«01_k».proof.Proof.Gen.Pre_mlp_finite
public import proofs.«01_k».proof.Proof.Gen.Pre_attn_finite
public import proofs.«01_k».proof.Proof.Gen.Pre_prep_finite
public import proofs.«01_k».proof.Proof.Gen.Pre_attn_fwd_finite
public import proofs.«01_k».proof.Proof.Loss
public import proofs.«01_k».proof.Proof.Ada
public import proofs.«01_k».proof.Proof.In
public import proofs.«01_k».proof.Proof.Out
public import proofs.«01_k».proof.Proof.Mlp
public import proofs.«01_k».proof.Proof.Attn
public import proofs.«01_k».proof.Proof.Prep
public import proofs.«01_k».proof.Proof.MlpFwd
public import proofs.«01_k».proof.Proof.AttnFwd
public import proofs.«01_k».proof.Proof.OutFwd
public import proofs.«01_k».proof.Proof.InFwd
public import proofs.«01_k».proof.Proof.PrepFwd
public import proofs.«01_k».proof.Proof.AdaFwd
public import proofs.«01_k».proof.Proof.Adam
public import proofs.«01_k».proof.Proof.Dw
public import Idealize.ShloMosaic.Adequacy
public import Idealize.ShloMosaic.Init

@[expose] public section

noncomputable section

namespace Cert.Proof

open Idealize.ShloMosaic Idealize.SL.Sem

theorem claim : Cert.Claim :=
  ⟨Cert.Loss.Gen.facts, Cert.LossIdeal.Gen.facts, Cert.LossRefIdeal.Gen.facts, Cert.Ada.Gen.facts, Cert.AdaIdeal.Gen.facts, Cert.AdaRefIdeal.Gen.facts, Cert.In.Gen.facts, Cert.InIdeal.Gen.facts, Cert.InRefIdeal.Gen.facts, Cert.Out.Gen.facts, Cert.OutIdeal.Gen.facts, Cert.OutRefIdeal.Gen.facts, Cert.Mlp.Gen.facts, Cert.MlpIdeal.Gen.facts, Cert.MlpRefIdeal.Gen.facts, Cert.Attn.Gen.facts, Cert.AttnIdeal.Gen.facts, Cert.AttnRefIdeal.Gen.facts, Cert.Prep.Gen.facts, Cert.PrepIdeal.Gen.facts, Cert.PrepRefIdeal.Gen.facts, Cert.MlpFwd.Gen.facts, Cert.MlpFwdIdeal.Gen.facts, Cert.MlpFwdRefIdeal.Gen.facts, Cert.AttnFwd.Gen.facts, Cert.AttnFwdIdeal.Gen.facts, Cert.AttnFwdRefIdeal.Gen.facts, Cert.OutFwd.Gen.facts, Cert.OutFwdIdeal.Gen.facts, Cert.OutFwdRefIdeal.Gen.facts, Cert.InFwd.Gen.facts, Cert.InFwdIdeal.Gen.facts, Cert.InFwdRefIdeal.Gen.facts, Cert.PrepFwd.Gen.facts, Cert.PrepFwdIdeal.Gen.facts, Cert.PrepFwdRefIdeal.Gen.facts, Cert.AdaFwd.Gen.facts, Cert.AdaFwdIdeal.Gen.facts, Cert.AdaFwdRefIdeal.Gen.facts, Cert.Adam.Gen.facts, Cert.AdamIdeal.Gen.facts, Cert.AdamRefIdeal.Gen.facts, Cert.Dw.Gen.facts, Cert.DwIdeal.Gen.facts, Cert.DwRefIdeal.Gen.facts, Cert.Pre_in_finite.Gen.facts, Cert.Pre_out_finite.Gen.facts, Cert.Pre_mlp_finite.Gen.facts, Cert.Pre_attn_finite.Gen.facts, Cert.Pre_prep_finite.Gen.facts, Cert.Pre_attn_fwd_finite.Gen.facts,
    fun m ρ _ => Cert.Loss.Gen.frame m ρ,
    fun m ρ _ => Cert.LossIdeal.Gen.frame m ρ,
    fun m g _ => (θ_run _ _ _).mono (fun r h => ⟨fun c => (h c).2.2, sem_eq_zero_of_no_sems rfl r.2⟩) (Cert.LossRefIdeal.Value.run m g),
    fun m ρ _ => Cert.Ada.Gen.frame m ρ,
    fun m ρ _ => Cert.AdaIdeal.Gen.frame m ρ,
    fun m g _ => (θ_run _ _ _).mono (fun r h => ⟨fun c => (h c).2, sem_eq_zero_of_no_sems rfl r.2⟩) (Cert.AdaRefIdeal.Value.run m g),
    fun m ρ _ => Cert.In.Gen.frame m ρ,
    fun m ρ _ => Cert.InIdeal.Gen.frame m ρ,
    fun m ρ _ => Cert.InIdeal.Gen.frame m ρ,
    fun m g _ => (θ_run _ _ _).mono (fun r h => ⟨fun c => (h c).2.2.2.2.2, sem_eq_zero_of_no_sems rfl r.2⟩) (Cert.InRefIdeal.Value.run m g),
    fun m g _ => (θ_run _ _ _).mono (fun r h => ⟨fun c => (h c).2.2.2.2.2, sem_eq_zero_of_no_sems rfl r.2⟩) (Cert.InRefIdeal.Value.run m g),
    fun m ρ _ => Cert.Out.Gen.frame m ρ,
    fun m ρ _ => Cert.OutIdeal.Gen.frame m ρ,
    fun m ρ _ => Cert.OutIdeal.Gen.frame m ρ,
    fun m g _ => (θ_run _ _ _).mono (fun r h => ⟨fun c => (h c).2.2.2.2.2.2.2.2, sem_eq_zero_of_no_sems rfl r.2⟩) (Cert.OutRefIdeal.Value.run m g),
    fun m g _ => (θ_run _ _ _).mono (fun r h => ⟨fun c => (h c).2.2.2.2.2.2.2.2, sem_eq_zero_of_no_sems rfl r.2⟩) (Cert.OutRefIdeal.Value.run m g),
    fun m ρ _ => Cert.Mlp.Gen.frame m ρ,
    fun m ρ _ => Cert.MlpIdeal.Gen.frame m ρ,
    fun m ρ _ => Cert.MlpIdeal.Gen.frame m ρ,
    fun m g _ => (θ_run _ _ _).mono (fun r h => ⟨fun c => (h c).2.2.2.2.2.2.2.2.2, sem_eq_zero_of_no_sems rfl r.2⟩) (Cert.MlpRefIdeal.Value.run m g),
    fun m g _ => (θ_run _ _ _).mono (fun r h => ⟨fun c => (h c).2.2.2.2.2.2.2.2.2, sem_eq_zero_of_no_sems rfl r.2⟩) (Cert.MlpRefIdeal.Value.run m g),
    fun m ρ _ => Cert.Attn.Gen.frame m ρ,
    fun m ρ _ => Cert.AttnIdeal.Gen.frame m ρ,
    fun m ρ _ => Cert.AttnIdeal.Gen.frame m ρ,
    fun m g _ => (θ_run _ _ _).mono (fun r h => ⟨fun c => (h c).2.2.2, sem_eq_zero_of_no_sems rfl r.2⟩) (Cert.AttnRefIdeal.Value.run m g),
    fun m g _ => (θ_run _ _ _).mono (fun r h => ⟨fun c => (h c).2.2.2, sem_eq_zero_of_no_sems rfl r.2⟩) (Cert.AttnRefIdeal.Value.run m g),
    fun m ρ _ => Cert.Prep.Gen.frame m ρ,
    fun m ρ _ => Cert.PrepIdeal.Gen.frame m ρ,
    fun m ρ _ => Cert.PrepIdeal.Gen.frame m ρ,
    fun m g _ => (θ_run _ _ _).mono (fun r h => ⟨fun c => (h c).2.2.2.2.2, sem_eq_zero_of_no_sems rfl r.2⟩) (Cert.PrepRefIdeal.Value.run m g),
    fun m g _ => (θ_run _ _ _).mono (fun r h => ⟨fun c => (h c).2.2.2.2.2, sem_eq_zero_of_no_sems rfl r.2⟩) (Cert.PrepRefIdeal.Value.run m g),
    fun m ρ _ => Cert.MlpFwd.Gen.frame m ρ,
    fun m ρ _ => Cert.MlpFwdIdeal.Gen.frame m ρ,
    fun m g _ => (θ_run _ _ _).mono (fun r h => ⟨fun c => (h c).2.2.2, sem_eq_zero_of_no_sems rfl r.2⟩) (Cert.MlpFwdRefIdeal.Value.run m g),
    fun m ρ _ => Cert.AttnFwd.Gen.frame m ρ,
    fun m ρ _ => Cert.AttnFwdIdeal.Gen.frame m ρ,
    fun m ρ _ => Cert.AttnFwdIdeal.Gen.frame m ρ,
    fun m g _ => (θ_run _ _ _).mono (fun r h => ⟨fun c => (h c).2, sem_eq_zero_of_no_sems rfl r.2⟩) (Cert.AttnFwdRefIdeal.Value.run m g),
    fun m g _ => (θ_run _ _ _).mono (fun r h => ⟨fun c => (h c).2, sem_eq_zero_of_no_sems rfl r.2⟩) (Cert.AttnFwdRefIdeal.Value.run m g),
    fun m ρ _ => Cert.OutFwd.Gen.frame m ρ,
    fun m ρ _ => Cert.OutFwdIdeal.Gen.frame m ρ,
    fun m g _ => (θ_run _ _ _).mono (fun r h => ⟨fun c => (h c).2, sem_eq_zero_of_no_sems rfl r.2⟩) (Cert.OutFwdRefIdeal.Value.run m g),
    fun m ρ _ => Cert.InFwd.Gen.frame m ρ,
    fun m ρ _ => Cert.InFwdIdeal.Gen.frame m ρ,
    fun m g _ => (θ_run _ _ _).mono (fun r h => ⟨fun c => (h c).2.2.2.2, sem_eq_zero_of_no_sems rfl r.2⟩) (Cert.InFwdRefIdeal.Value.run m g),
    fun m ρ _ => Cert.PrepFwd.Gen.frame m ρ,
    fun m ρ _ => Cert.PrepFwdIdeal.Gen.frame m ρ,
    fun m g _ => (θ_run _ _ _).mono (fun r h => ⟨fun c => (h c).2.2.2.2, sem_eq_zero_of_no_sems rfl r.2⟩) (Cert.PrepFwdRefIdeal.Value.run m g),
    fun m ρ _ => Cert.AdaFwd.Gen.frame m ρ,
    fun m ρ _ => Cert.AdaFwdIdeal.Gen.frame m ρ,
    fun m g _ => (θ_run _ _ _).mono (fun r h => ⟨fun c => (h c).2, sem_eq_zero_of_no_sems rfl r.2⟩) (Cert.AdaFwdRefIdeal.Value.run m g),
    fun m ρ _ => Cert.Adam.Gen.frame m ρ,
    fun m ρ _ => Cert.AdamIdeal.Gen.frame m ρ,
    fun m g _ => (θ_run _ _ _).mono (fun r h => ⟨fun c => (h c).2.2.2.2, sem_eq_zero_of_no_sems rfl r.2⟩) (Cert.AdamRefIdeal.Value.run m g),
    fun m ρ _ => Cert.Dw.Gen.frame m ρ,
    fun m ρ _ => Cert.DwIdeal.Gen.frame m ρ,
    fun m g _ => (θ_run _ _ _).mono (fun r h => ⟨fun c => (h c).2, sem_eq_zero_of_no_sems rfl r.2⟩) (Cert.DwRefIdeal.Value.run m g),
    trivial,
    Cert.LossIdeal.Hand.algebraic,
    trivial,
    Cert.AdaIdeal.Hand.algebraic,
    trivial,
    Cert.InIdeal.Hand.algebraic,
    trivial,
    Cert.OutIdeal.Hand.algebraic,
    trivial,
    Cert.MlpIdeal.Hand.algebraic,
    Cert.AttnIdeal.Hand.preserves,
    Cert.AttnIdeal.Hand.algebraic,
    trivial,
    Cert.PrepIdeal.Hand.algebraic,
    trivial,
    Cert.MlpFwdIdeal.Hand.algebraic,
    Cert.AttnFwdIdeal.Hand.preserves,
    Cert.AttnFwdIdeal.Hand.algebraic,
    trivial,
    Cert.OutFwdIdeal.Hand.algebraic,
    trivial,
    Cert.InFwdIdeal.Hand.algebraic,
    trivial,
    Cert.PrepFwdIdeal.Hand.algebraic,
    trivial,
    Cert.AdaFwdIdeal.Hand.algebraic,
    trivial,
    Cert.AdamIdeal.Hand.algebraic,
    trivial,
    Cert.DwIdeal.Hand.algebraic⟩

end Cert.Proof

end
